-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v57_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)) →
    ∃ (v0 : (c : Dev Cert.TailIdeal.nD) → Buf (Elt Ideal) ((c.tc : Thread Cert.TailIdeal.nD Cert.TailIdeal.τ).loc Cert.TailIdeal.main_v22)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v22) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v120) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v43) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_In_InIdeal : Prop :=
  IdealRules.named_const.Statement Cert.InIdeal.κ "scale" .f32 0x3E38AA3B#32 (((1 / 8) * (Real.log 2)⁻¹ : ℝ) : EReal)

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v32_0)) (v1 : (c : Dev Cert.InIdeal.nD) → Buf (Elt Ideal) ((c.tc : Thread Cert.InIdeal.nD Cert.InIdeal.τ).loc Cert.InIdeal.main_v32_1)) (v2 : (c : Dev Cert.InIdeal.nD) → Buf (Elt Ideal) ((c.tc : Thread Cert.InIdeal.nD Cert.InIdeal.τ).loc Cert.InIdeal.main_v32_2)) (v3 : (c : Dev Cert.InIdeal.nD) → Buf (Elt Ideal) ((c.tc : Thread Cert.InIdeal.nD Cert.InIdeal.τ).loc Cert.InIdeal.main_v32_3)) (v4 : (c : Dev Cert.InIdeal.nD) → Buf (Elt Ideal) ((c.tc : Thread Cert.InIdeal.nD Cert.InIdeal.τ).loc Cert.InIdeal.main_v32_4)) (v5 : (c : Dev Cert.InIdeal.nD) → Buf (Elt Ideal) ((c.tc : Thread Cert.InIdeal.nD Cert.InIdeal.τ).loc Cert.InIdeal.main_v32_5)) (v6 : (c : Dev Cert.InIdeal.nD) → Buf (Elt Ideal) ((c.tc : Thread Cert.InIdeal.nD Cert.InIdeal.τ).loc Cert.InIdeal.main_v32_6)) (v7 : (c : Dev Cert.InIdeal.nD) → Buf (Elt Ideal) ((c.tc : Thread Cert.InIdeal.nD Cert.InIdeal.τ).loc Cert.InIdeal.main_v32_7)) (v8 : (c : Dev Cert.InIdeal.nD) → Buf (Elt Ideal) ((c.tc : Thread Cert.InIdeal.nD Cert.InIdeal.τ).loc Cert.InIdeal.main_v32_8)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v32_0) = v0 c
          ∧ r.2.mem ((c.tc : Thread Cert.InIdeal.nD Cert.InIdeal.τ).loc Cert.InIdeal.main_v32_1) = v1 c
          ∧ r.2.mem ((c.tc : Thread Cert.InIdeal.nD Cert.InIdeal.τ).loc Cert.InIdeal.main_v32_2) = v2 c
          ∧ r.2.mem ((c.tc : Thread Cert.InIdeal.nD Cert.InIdeal.τ).loc Cert.InIdeal.main_v32_3) = v3 c
          ∧ r.2.mem ((c.tc : Thread Cert.InIdeal.nD Cert.InIdeal.τ).loc Cert.InIdeal.main_v32_4) = v4 c
          ∧ r.2.mem ((c.tc : Thread Cert.InIdeal.nD Cert.InIdeal.τ).loc Cert.InIdeal.main_v32_5) = v5 c
          ∧ r.2.mem ((c.tc : Thread Cert.InIdeal.nD Cert.InIdeal.τ).loc Cert.InIdeal.main_v32_6) = v6 c
          ∧ r.2.mem ((c.tc : Thread Cert.InIdeal.nD Cert.InIdeal.τ).loc Cert.InIdeal.main_v32_7) = v7 c
          ∧ r.2.mem ((c.tc : Thread Cert.InIdeal.nD Cert.InIdeal.τ).loc Cert.InIdeal.main_v32_8) = v8 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v6) = v0 c
          ∧ r.2.mem ((c.tc : Thread Cert.InRefIdeal.nD Cert.InRefIdeal.τ).loc Cert.InRefIdeal.main_v7) = v1 c
          ∧ r.2.mem ((c.tc : Thread Cert.InRefIdeal.nD Cert.InRefIdeal.τ).loc Cert.InRefIdeal.main_v5) = v2 c
          ∧ r.2.mem ((c.tc : Thread Cert.InRefIdeal.nD Cert.InRefIdeal.τ).loc Cert.InRefIdeal.main_v45) = v3 c
          ∧ r.2.mem ((c.tc : Thread Cert.InRefIdeal.nD Cert.InRefIdeal.τ).loc Cert.InRefIdeal.main_v46) = v4 c
          ∧ r.2.mem ((c.tc : Thread Cert.InRefIdeal.nD Cert.InRefIdeal.τ).loc Cert.InRefIdeal.main_v18) = v5 c
          ∧ r.2.mem ((c.tc : Thread Cert.InRefIdeal.nD Cert.InRefIdeal.τ).loc Cert.InRefIdeal.main_v20) = v6 c
          ∧ r.2.mem ((c.tc : Thread Cert.InRefIdeal.nD Cert.InRefIdeal.τ).loc Cert.InRefIdeal.main_v22) = v7 c
          ∧ r.2.mem ((c.tc : Thread Cert.InRefIdeal.nD Cert.InRefIdeal.τ).loc Cert.InRefIdeal.main_v47) = v8 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def Claim : Prop :=
  ∃ (hKernel : Cert.Kernel.Facts) (hKernelIdeal : Cert.KernelIdeal.Facts) (hReferenceIdeal : Cert.ReferenceIdeal.Facts) (hTail : Cert.Tail.Facts) (hTailIdeal : Cert.TailIdeal.Facts) (hTailRefIdeal : Cert.TailRefIdeal.Facts) (hFfn : Cert.Ffn.Facts) (hFfnIdeal : Cert.FfnIdeal.Facts) (hFfnRefIdeal : Cert.FfnRefIdeal.Facts) (hIn : Cert.In.Facts) (hInIdeal : Cert.InIdeal.Facts) (hInRefIdeal : Cert.InRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Tail (hTail := hTail)
    ∧ quiescent_TailIdeal (hTailIdeal := hTailIdeal)
    ∧ quiescent_TailRefIdeal (hTailRefIdeal := hTailRefIdeal)
    ∧ quiescent_Ffn (hFfn := hFfn)
    ∧ quiescent_FfnIdeal (hFfnIdeal := hFfnIdeal)
    ∧ quiescent_FfnRefIdeal (hFfnRefIdeal := hFfnRefIdeal)
    ∧ quiescent_In (hIn := hIn)
    ∧ quiescent_InIdeal (hInIdeal := hInIdeal)
    ∧ quiescent_InRefIdeal (hInRefIdeal := hInRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Tail_TailIdeal
    ∧ algebraic_TailIdeal_TailRefIdeal (hTailIdeal := hTailIdeal) (hTailRefIdeal := hTailRefIdeal)
    ∧ preserves_Ffn_FfnIdeal
    ∧ algebraic_FfnIdeal_FfnRefIdeal (hFfnIdeal := hFfnIdeal) (hFfnRefIdeal := hFfnRefIdeal)
    ∧ preserves_In_InIdeal
    ∧ algebraic_InIdeal_InRefIdeal (hInIdeal := hInIdeal) (hInRefIdeal := hInRefIdeal)
-- ==== Pre_finite_scores.lean ====
abbrev S4x2x4x8192x64 : Shape := ⟨5, ![4, 2, 4, 8192, 64]⟩
abbrev S4x2x511x64 : Shape := ⟨4, ![4, 2, 511, 64]⟩
abbrev S_ : Shape := ⟨0, ![]⟩

class Facts : Prop where
  bcast_S_S4x2x4x8192x64 : S_.BroadcastsInDim S4x2x4x8192x64 (![] : Fin 0 → Fin S4x2x4x8192x64.rank)
  reducesTo_S4x2x4x8192x64_S_d0_1_2_3_4 : S4x2x4x8192x64.ReducesTo [0, 1, 2, 3, 4] S_
  h_S_ : 0 < S_.numel
  bcast_S_S4x2x511x64 : S_.BroadcastsInDim S4x2x511x64 (![] : Fin 0 → Fin S4x2x511x64.rank)
  reducesTo_S4x2x511x64_S_d0_1_2_3 : S4x2x511x64.ReducesTo [0, 1, 2, 3] S_

variable [Facts]

def fn {F : FTy → Type} [FloatOps F] (main_arg0 : FVec F S4x2x4x8192x64 .f32) (main_arg1 : FVec F S4x2x511x64 .f32) (main_arg2 : FVec F S4x2x511x64 .f32) : IVec S_ 1 :=
  let main_v0 : FVec F S4x2x4x8192x64 .f32 := Host.absf main_arg0
  let main_cst : FVec F S_ .f32 := constant S_ .f32 0x7F800000#32
  let main_v1 : FVec F S4x2x4x8192x64 .f32 := broadcastInDim S4x2x4x8192x64 ![] bcast_S_S4x2x4x8192x64 main_cst
  let main_v2 : IVec S4x2x4x8192x64 1 := cmpf .olt main_v0 main_v1
  let main_c : IVec S_ 1 := constantI S_ 1 1#1
  let main_v3 : IVec S_ 1 := (fun x v => Host.reduce IntOp.andi x v reducesTo_S4x2x4x8192x64_S_d0_1_2_3_4 h_S_) main_v2 main_c
  let main_v4 : FVec F S4x2x511x64 .f32 := Host.absf main_arg1
  let main_cst_0 : FVec F S_ .f32 := constant S_ .f32 0x7F800000#32
  let main_v5 : FVec F S4x2x511x64 .f32 := broadcastInDim S4x2x511x64 ![] bcast_S_S4x2x511x64 main_cst_0
  let main_v6 : IVec S4x2x511x64 1 := cmpf .olt main_v4 main_v5
  let main_c_1 : IVec S_ 1 := constantI S_ 1 1#1
  let main_v7 : IVec S_ 1 := (fun x v => Host.reduce IntOp.andi x v reducesTo_S4x2x511x64_S_d0_1_2_3 h_S_) main_v6 main_c_1
  let main_v8 : IVec S_ 1 := andi main_v3 main_v7
  main_v8
-- ==== Kernel.lean ====
abbrev S4x2x4x8192x64 : Shape := ⟨5, ![4, 2, 4, 8192, 64]⟩
abbrev S4x2x511x64 : Shape := ⟨4, ![4, 2, 511, 64]⟩
abbrev S4x2x4x64x8192 : Shape := ⟨5, ![4, 2, 4, 64, 8192]⟩
abbrev S4x512x8192 : Shape := ⟨3, ![4, 512, 8192]⟩
abbrev S_ : Shape := ⟨0, ![]⟩
abbrev S4x2x512x64 : Shape := ⟨4, ![4, 2, 512, 64]⟩
abbrev S4x2x64x512 : Shape := ⟨4, ![4, 2, 64, 512]⟩
abbrev S4x2x16x512 : Shape := ⟨4, ![4, 2, 16, 512]⟩
abbrev S4x2x80x512 : Shape := ⟨4, ![4, 2, 80, 512]⟩
abbrev S512 : Shape := ⟨1, ![512]⟩
abbrev S128 : Shape := ⟨1, ![128]⟩
abbrev S1x512 : Shape := ⟨2, ![1, 512]⟩
abbrev S128x1 : Shape := ⟨2, ![128, 1]⟩
abbrev S128x512 : Shape := ⟨2, ![128, 512]⟩
abbrev S1024 : Shape := ⟨1, ![1024]⟩
abbrev S1024x1 : Shape := ⟨2, ![1024, 1]⟩
abbrev S1x128 : Shape := ⟨2, ![1, 128]⟩
abbrev S1024x128 : Shape := ⟨2, ![1024, 128]⟩
abbrev S4x8x64x8192 : Shape := ⟨4, ![4, 8, 64, 8192]⟩
abbrev S4x2x128x8192 : Shape := ⟨4, ![4, 2, 128, 8192]⟩
abbrev S1x256x1024 : Shape := ⟨3, ![1, 256, 1024]⟩
abbrev S1x1x512x64 : Shape := ⟨4, ![1, 1, 512, 64]⟩
abbrev S1x1x80x512 : Shape := ⟨4, ![1, 1, 80, 512]⟩
abbrev S1x4x64x1024 : Shape := ⟨4, ![1, 4, 64, 1024]⟩
abbrev S1x1x128x1024 : Shape := ⟨4, ![1, 1, 128, 1024]⟩
abbrev S128x1024 : Shape := ⟨2, ![128, 1024]⟩
abbrev S512x64 : Shape := ⟨2, ![512, 64]⟩
abbrev S80x512 : Shape := ⟨2, ![80, 512]⟩
abbrev S208x512 : Shape := ⟨2, ![208, 512]⟩
abbrev S1x256x128 : Shape := ⟨3, ![1, 256, 128]⟩
abbrev S256x128 : Shape := ⟨2, ![256, 128]⟩
abbrev S64x128 : Shape := ⟨2, ![64, 128]⟩
abbrev S64x512 : Shape := ⟨2, ![64, 512]⟩
abbrev S512x512 : Shape := ⟨2, ![512, 512]⟩
abbrev S512x128 : Shape := ⟨2, ![512, 128]⟩
abbrev S128x128 : Shape := ⟨2, ![128, 128]⟩
abbrev S1x1x64x128 : Shape := ⟨4, ![1, 1, 64, 128]⟩
abbrev S128x256 : Shape := ⟨2, ![128, 256]⟩
abbrev S256 : Shape := ⟨1, ![256]⟩
abbrev S1x256 : Shape := ⟨2, ![1, 256]⟩
abbrev S1x1x128x256 : Shape := ⟨4, ![1, 1, 128, 256]⟩
abbrev S1x1x384x64 : Shape := ⟨4, ![1, 1, 384, 64]⟩
abbrev S384x64 : Shape := ⟨2, ![384, 64]⟩
abbrev S128x384 : Shape := ⟨2, ![128, 384]⟩
abbrev S1x1x80x384 : Shape := ⟨4, ![1, 1, 80, 384]⟩
abbrev S80x384 : Shape := ⟨2, ![80, 384]⟩
abbrev S208x384 : Shape := ⟨2, ![208, 384]⟩
abbrev S384x512 : Shape := ⟨2, ![384, 512]⟩
abbrev S384x128 : Shape := ⟨2, ![384, 128]⟩
abbrev S1x1x256x64 : Shape := ⟨4, ![1, 1, 256, 64]⟩
abbrev S256x64 : Shape := ⟨2, ![256, 64]⟩
abbrev S1x1x80x256 : Shape := ⟨4, ![1, 1, 80, 256]⟩
abbrev S80x256 : Shape := ⟨2, ![80, 256]⟩
abbrev S208x256 : Shape := ⟨2, ![208, 256]⟩
abbrev S256x512 : Shape := ⟨2, ![256, 512]⟩
abbrev S1x1x128x64 : Shape := ⟨4, ![1, 1, 128, 64]⟩
abbrev S128x64 : Shape := ⟨2, ![128, 64]⟩
abbrev S1x1x80x128 : Shape := ⟨4, ![1, 1, 80, 128]⟩
abbrev S80x128 : Shape := ⟨2, ![80, 128]⟩
abbrev S208x128 : Shape := ⟨2, ![208, 128]⟩

abbrev nBuf : Space → Nat
  | .hbm => 85
  | .vmem => 13
  | .smem => 0
  | _ => 0

abbrev bufTy : (tb : Table) → Fin (tcTables nBuf tb) → BufTy
  | .hbm, ⟨0, _⟩ => ⟨S4x2x4x8192x64, .f32⟩
  | .hbm, ⟨1, _⟩ => ⟨S4x2x511x64, .f32⟩
  | .hbm, ⟨2, _⟩ => ⟨S4x2x511x64, .f32⟩
  | .hbm, ⟨3, _⟩ => ⟨S4x2x4x64x8192, .f32⟩
  | .hbm, ⟨4, _⟩ => ⟨S4x512x8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x512x8192, .f32⟩
  | .hbm, ⟨10, _⟩ => ⟨S4x512x8192, .f32⟩
  | .hbm, ⟨11, _⟩ => ⟨S4x512x8192, .bf16⟩
  | .hbm, ⟨12, _⟩ => ⟨S_, .i32⟩
  | .hbm, ⟨13, _⟩ => ⟨S_, .f32⟩
  | .hbm, ⟨14, _⟩ => ⟨S4x2x512x64, .f32⟩
  | .hbm, ⟨15, _⟩ => ⟨S4x2x512x64, .bf16⟩
  | .hbm, ⟨16, _⟩ => ⟨S_, .i32⟩
  | .hbm, ⟨17, _⟩ => ⟨S_, .f32⟩
  | .hbm, ⟨18, _⟩ => ⟨S4x2x512x64, .f32⟩
  | .hbm, ⟨19, _⟩ => ⟨S4x2x64x512, .f32⟩
  | .hbm, ⟨20, _⟩ => ⟨S4x2x64x512, .bf16⟩
  | .hbm, ⟨21, _⟩ => ⟨S_, .bf16⟩
  | .hbm, ⟨22, _⟩ => ⟨S4x2x16x512, .bf16⟩
  | .hbm, ⟨23, _⟩ => ⟨S4x2x80x512, .bf16⟩
  | .hbm, ⟨24, _⟩ => ⟨S512, .i32⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S128, .i32⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S1x512, .i32⟩
  | .hbm, ⟨33, _⟩ => ⟨S_, .i32⟩
  | .hbm, ⟨34, _⟩ => ⟨S1x512, .i32⟩
  | .hbm, ⟨35, _⟩ => ⟨S1x512, .i32⟩
  | .hbm, ⟨36, _⟩ => ⟨S128x1, .i32⟩
  | .hbm, ⟨37, _⟩ => ⟨S_, .i32⟩
  | .hbm, ⟨38, _⟩ => ⟨S128x1, .i32⟩
  | .hbm, ⟨39, _⟩ => ⟨S128x1, .i32⟩
  | .hbm, ⟨40, _⟩ => ⟨S128x512, .i32⟩
  | .hbm, ⟨41, _⟩ => ⟨S128x512, .i32⟩
  | .hbm, ⟨42, _⟩ => ⟨S128x512, .i32⟩
  | .hbm, ⟨43, _⟩ => ⟨S1x512, .i32⟩
  | .hbm, ⟨44, _⟩ => ⟨S128x1, .i32⟩
  | .hbm, ⟨45, _⟩ => ⟨S128x512, .i32⟩
  | .hbm, ⟨46, _⟩ => ⟨S128x512, .i32⟩
  | .hbm, ⟨47, _⟩ => ⟨S128x512, .i32⟩
  | .hbm, ⟨48, _⟩ => ⟨S128x512, .i32⟩
  | .hbm, ⟨49, _⟩ => ⟨S_, .i32⟩
  | .hbm, ⟨50, _⟩ => ⟨S_, .i32⟩
  | .hbm, ⟨51, _⟩ => ⟨S128x512, .i32⟩
  | .hbm, ⟨52, _⟩ => ⟨S128x512, .i32⟩
  | .hbm, ⟨53, _⟩ => ⟨S128x512, .f32⟩
  | .hbm, ⟨54, _⟩ => ⟨S_, .f32⟩
  | .hbm, ⟨55, _⟩ => ⟨S128x512, .f32⟩
  | .hbm, ⟨56, _⟩ => ⟨S128x512, .f32⟩
  | .hbm, ⟨57, _⟩ => ⟨S128x512, .bf16⟩
  | .hbm, ⟨58, _⟩ => ⟨S1024, .i32⟩
  | .hbm, ⟨59, _⟩ => ⟨S1024x1, .i32⟩
  | .hbm, ⟨60, _⟩ => ⟨S_, .i32⟩
  | .hbm, ⟨61, _⟩ => ⟨S1024x1, .i32⟩
  | .hbm, ⟨62, _⟩ => ⟨S1024x1, .i32⟩
  | .hbm, ⟨63, _⟩ => ⟨S_, .i32⟩
  | .hbm, ⟨64, _⟩ => ⟨S1024x1, .i32⟩
  | .hbm, ⟨65, _⟩ => ⟨S1024x1, .i32⟩
  | .hbm, ⟨66, _⟩ => ⟨S_, .i32⟩
  | .hbm, ⟨67, _⟩ => ⟨S1024x1, .i32⟩
  | .hbm, ⟨68, _⟩ => ⟨S1024x1, .i32⟩
  | .hbm, ⟨69, _⟩ => ⟨S_, .i32⟩
  | .hbm, ⟨70, _⟩ => ⟨S1024x1, .i32⟩
  | .hbm, ⟨71, _⟩ => ⟨S1024x1, .i32⟩
  | .hbm, ⟨72, _⟩ => ⟨S128, .i32⟩
  | .hbm, ⟨73, _⟩ => ⟨S1x128, .i32⟩
  | .hbm, ⟨74, _⟩ => ⟨S1024x128, .i32⟩
  | .hbm, ⟨75, _⟩ => ⟨S1024x128, .i32⟩
  | .hbm, ⟨76, _⟩ => ⟨S1024x128, .i1⟩
  | .hbm, ⟨77, _⟩ => ⟨S_, .f32⟩
  | .hbm, ⟨78, _⟩ => ⟨S_, .f32⟩
  | .hbm, ⟨79, _⟩ => ⟨S1024x128, .f32⟩
  | .hbm, ⟨80, _⟩ => ⟨S1024x128, .f32⟩
  | .hbm, ⟨81, _⟩ => ⟨S1024x128, .f32⟩
  | .hbm, ⟨82, _⟩ => ⟨S1024x128, .f32⟩
  | .hbm, ⟨83, _⟩ => ⟨S4x8x64x8192, .f32⟩
  | .hbm, ⟨84, _⟩ => ⟨S4x2x128x8192, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x1x512x64, .bf16⟩
  | .local _ .vmem, ⟨3, _⟩ => ⟨S1x1x512x64, .bf16⟩
  | .local _ .vmem, ⟨4, _⟩ => ⟨S1x1x80x512, .bf16⟩
  | .local _ .vmem, ⟨5, _⟩ => ⟨S1x1x80x512, .bf16⟩
  | .local _ .vmem, ⟨6, _⟩ => ⟨S128x512, .bf16⟩
  | .local _ .vmem, ⟨7, _⟩ => ⟨S1024x128, .f32⟩
  | .local _ .vmem, ⟨8, _⟩ => ⟨S1x4x64x1024, .f32⟩
  | .local _ .vmem, ⟨9, _⟩ => ⟨S1x4x64x1024, .f32⟩
  | .local _ .vmem, ⟨10, _⟩ => ⟨S1x1x128x1024, .bf16⟩
  | .local _ .vmem, ⟨11, _⟩ => ⟨S1x1x128x1024, .bf16⟩
  | .local _ .vmem, ⟨12, _⟩ => ⟨S128x1024, .f32⟩
  | _, _ => ⟨S4x2x4x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_7 : Ref sig .tc := ⟨.hbm, 49, rfl⟩
abbrev main_call2_v0 : Ref sig .tc := ⟨.hbm, 50, rfl⟩
abbrev main_call2_v1 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_9 : Ref sig .tc := ⟨.hbm, 60, rfl⟩
abbrev main_v42 : Ref sig .tc := ⟨.hbm, 61, rfl⟩
abbrev main_v43 : Ref sig .tc := ⟨.hbm, 62, rfl⟩
abbrev main_c_10 : Ref sig .tc := ⟨.hbm, 63, rfl⟩
abbrev main_v44 : Ref sig .tc := ⟨.hbm, 64, rfl⟩
abbrev main_v45 : Ref sig .tc := ⟨.hbm, 65, rfl⟩
abbrev main_c_11 : Ref sig .tc := ⟨.hbm, 66, rfl⟩
abbrev main_v46 : Ref sig .tc := ⟨.hbm, 67, rfl⟩
abbrev main_v47 : Ref sig .tc := ⟨.hbm, 68, rfl⟩
abbrev main_c_12 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_cst_14 : Ref sig .tc := ⟨.hbm, 78, rfl⟩
abbrev main_call3_v0 : Ref sig .tc := ⟨.hbm, 79, rfl⟩
abbrev main_call3_v1 : Ref sig .tc := ⟨.hbm, 80, rfl⟩
abbrev main_v55 : Ref sig .tc := ⟨.hbm, 81, rfl⟩
abbrev main_v56 : Ref sig .tc := ⟨.hbm, 82, rfl⟩
abbrev main_v57_0 : Ref sig .tc := ⟨.hbm, 83, rfl⟩
abbrev main_v57_1 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 2, 8], ![false, false, false]⟩

def k0_cond1 (i : grid0.Coords) : BitVec 1 :=
  let arg2 : BitVec 32 := BitVec.ofNat 32 (i 2).val
  let c1_i32 : BitVec 32 := 1#32
  let v0 : BitVec 32 := Scalar.addi arg2 c1_i32
  let c8_i32 : BitVec 32 := 8#32
  let v1 : BitVec 32 := Scalar.muli v0 c8_i32
  let c128_i32 : BitVec 32 := 128#32
  let v2 : BitVec 32 := Scalar.muli v1 c128_i32
  let c32_i32 : BitVec 32 := 32#32
  let v3 : BitVec 32 := Scalar.subi v2 c32_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c16_i32 : BitVec 32 := 16#32
  let c0_i32_1 : BitVec 32 := 0#32
  let v10 : BitVec 1 := Scalar.cmpi .sgt c16_i32 c0_i32_1
  let v11 : BitVec 32 := Scalar.extui v10
  let c0_i32_2 : BitVec 32 := 0#32
  let v12 : BitVec 1 := Scalar.cmpi .slt c16_i32 c0_i32_2
  let v13 : BitVec 32 := Scalar.extui v12
  let v14 : BitVec 32 := Scalar.subi v11 v13
  let v15 : BitVec 1 := Scalar.cmpi .ne v9 v14
  let v16 : BitVec 32 := Scalar.remsi v3 c16_i32
  let c0_i32_3 : BitVec 32 := 0#32
  let v17 : BitVec 1 := Scalar.cmpi .ne v16 c0_i32_3
  let v18 : BitVec 1 := Scalar.andi v15 v17
  let v4 : BitVec 32 := Scalar.divsi v3 c16_i32
  let c1_i32_4 : BitVec 32 := 1#32
  let v19 : BitVec 32 := Scalar.subi v4 c1_i32_4
  let v20 : BitVec 32 := Scalar.select v18 v19 v4
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c128_i32_5 : BitVec 32 := 128#32
  let c0_i32_8 : BitVec 32 := 0#32
  let v27 : BitVec 1 := Scalar.cmpi .sgt c128_i32_5 c0_i32_8
  let v28 : BitVec 32 := Scalar.extui v27
  let c0_i32_9 : BitVec 32 := 0#32
  let v29 : BitVec 1 := Scalar.cmpi .slt c128_i32_5 c0_i32_9
  let v30 : BitVec 32 := Scalar.extui v29
  let v31 : BitVec 32 := Scalar.subi v28 v30
  let v32 : BitVec 1 := Scalar.cmpi .ne v26 v31
  let v33 : BitVec 32 := Scalar.remsi v20 c128_i32_5
  let c0_i32_10 : BitVec 32 := 0#32
  let v34 : BitVec 1 := Scalar.cmpi .ne v33 c0_i32_10
  let v35 : BitVec 1 := Scalar.andi v32 v34
  let v21 : BitVec 32 := Scalar.divsi v20 c128_i32_5
  let c1_i32_11 : BitVec 32 := 1#32
  let v36 : BitVec 32 := Scalar.subi v21 c1_i32_11
  let v37 : BitVec 32 := Scalar.select v35 v36 v21
  let c3_i32 : BitVec 32 := 3#32
  let v38 : BitVec 32 := Scalar.minsi v37 c3_i32
  let c0_i32_12 : BitVec 32 := 0#32
  let v39 : BitVec 32 := Scalar.maxsi v38 c0_i32_12
  let c3_i32_13 : BitVec 32 := 3#32
  let v40 : BitVec 32 := Scalar.minsi v39 c3_i32_13
  let c0_i32_14 : BitVec 32 := 0#32
  let v41 : BitVec 1 := Scalar.cmpi .ne v40 c0_i32_14
  v41

def k0_cond2 (i : grid0.Coords) : BitVec 1 :=
  let arg2 : BitVec 32 := BitVec.ofNat 32 (i 2).val
  let c1_i32 : BitVec 32 := 1#32
  let v0 : BitVec 32 := Scalar.addi arg2 c1_i32
  let c8_i32 : BitVec 32 := 8#32
  let v1 : BitVec 32 := Scalar.muli v0 c8_i32
  let c128_i32 : BitVec 32 := 128#32
  let v2 : BitVec 32 := Scalar.muli v1 c128_i32
  let c32_i32 : BitVec 32 := 32#32
  let v3 : BitVec 32 := Scalar.subi v2 c32_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c16_i32 : BitVec 32 := 16#32
  let c0_i32_1 : BitVec 32 := 0#32
  let v10 : BitVec 1 := Scalar.cmpi .sgt c16_i32 c0_i32_1
  let v11 : BitVec 32 := Scalar.extui v10
  let c0_i32_2 : BitVec 32 := 0#32
  let v12 : BitVec 1 := Scalar.cmpi .slt c16_i32 c0_i32_2
  let v13 : BitVec 32 := Scalar.extui v12
  let v14 : BitVec 32 := Scalar.subi v11 v13
  let v15 : BitVec 1 := Scalar.cmpi .ne v9 v14
  let v16 : BitVec 32 := Scalar.remsi v3 c16_i32
  let c0_i32_3 : BitVec 32 := 0#32
  let v17 : BitVec 1 := Scalar.cmpi .ne v16 c0_i32_3
  let v18 : BitVec 1 := Scalar.andi v15 v17
  let v4 : BitVec 32 := Scalar.divsi v3 c16_i32
  let c1_i32_4 : BitVec 32 := 1#32
  let v19 : BitVec 32 := Scalar.subi v4 c1_i32_4
  let v20 : BitVec 32 := Scalar.select v18 v19 v4
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c128_i32_5 : BitVec 32 := 128#32
  let c0_i32_8 : BitVec 32 := 0#32
  let v27 : BitVec 1 := Scalar.cmpi .sgt c128_i32_5 c0_i32_8
  let v28 : BitVec 32 := Scalar.extui v27
  let c0_i32_9 : BitVec 32 := 0#32
  let v29 : BitVec 1 := Scalar.cmpi .slt c128_i32_5 c0_i32_9
  let v30 : BitVec 32 := Scalar.extui v29
  let v31 : BitVec 32 := Scalar.subi v28 v30
  let v32 : BitVec 1 := Scalar.cmpi .ne v26 v31
  let v33 : BitVec 32 := Scalar.remsi v20 c128_i32_5
  let c0_i32_10 : BitVec 32 := 0#32
  let v34 : BitVec 1 := Scalar.cmpi .ne v33 c0_i32_10
  let v35 : BitVec 1 := Scalar.andi v32 v34
  let v21 : BitVec 32 := Scalar.divsi v20 c128_i32_5
  let c1_i32_11 : BitVec 32 := 1#32
  let v36 : BitVec 32 := Scalar.subi v21 c1_i32_11
  let v37 : BitVec 32 := Scalar.select v35 v36 v21
  let c3_i32 : BitVec 32 := 3#32
  let v38 : BitVec 32 := Scalar.minsi v37 c3_i32
  let c0_i32_12 : BitVec 32 := 0#32
  let v39 : BitVec 32 := Scalar.maxsi v38 c0_i32_12
  let c3_i32_13 : BitVec 32 := 3#32
  let v40 : BitVec 32 := Scalar.minsi v39 c3_i32_13
  let c1_i32_15 : BitVec 32 := 1#32
  let v42 : BitVec 32 := Scalar.subi v40 c1_i32_15
  let c0_i32_16 : BitVec 32 := 0#32
  let v43 : BitVec 1 := Scalar.cmpi .ne v42 c0_i32_16
  v43

def k0_cond3 (i : grid0.Coords) : BitVec 1 :=
  let arg2 : BitVec 32 := BitVec.ofNat 32 (i 2).val
  let c1_i32 : BitVec 32 := 1#32
  let v0 : BitVec 32 := Scalar.addi arg2 c1_i32
  let c8_i32 : BitVec 32 := 8#32
  let v1 : BitVec 32 := Scalar.muli v0 c8_i32
  let c128_i32 : BitVec 32 := 128#32
  let v2 : BitVec 32 := Scalar.muli v1 c128_i32
  let c32_i32 : BitVec 32 := 32#32
  let v3 : BitVec 32 := Scalar.subi v2 c32_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c16_i32 : BitVec 32 := 16#32
  let c0_i32_1 : BitVec 32 := 0#32
  let v10 : BitVec 1 := Scalar.cmpi .sgt c16_i32 c0_i32_1
  let v11 : BitVec 32 := Scalar.extui v10
  let c0_i32_2 : BitVec 32 := 0#32
  let v12 : BitVec 1 := Scalar.cmpi .slt c16_i32 c0_i32_2
  let v13 : BitVec 32 := Scalar.extui v12
  let v14 : BitVec 32 := Scalar.subi v11 v13
  let v15 : BitVec 1 := Scalar.cmpi .ne v9 v14
  let v16 : BitVec 32 := Scalar.remsi v3 c16_i32
  let c0_i32_3 : BitVec 32 := 0#32
  let v17 : BitVec 1 := Scalar.cmpi .ne v16 c0_i32_3
  let v18 : BitVec 1 := Scalar.andi v15 v17
  let v4 : BitVec 32 := Scalar.divsi v3 c16_i32
  let c1_i32_4 : BitVec 32 := 1#32
  let v19 : BitVec 32 := Scalar.subi v4 c1_i32_4
  let v20 : BitVec 32 := Scalar.select v18 v19 v4
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c128_i32_5 : BitVec 32 := 128#32
  let c0_i32_8 : BitVec 32 := 0#32
  let v27 : BitVec 1 := Scalar.cmpi .sgt c128_i32_5 c0_i32_8
  let v28 : BitVec 32 := Scalar.extui v27
  let c0_i32_9 : BitVec 32 := 0#32
  let v29 : BitVec 1 := Scalar.cmpi .slt c128_i32_5 c0_i32_9
  let v30 : BitVec 32 := Scalar.extui v29
  let v31 : BitVec 32 := Scalar.subi v28 v30
  let v32 : BitVec 1 := Scalar.cmpi .ne v26 v31
  let v33 : BitVec 32 := Scalar.remsi v20 c128_i32_5
  let c0_i32_10 : BitVec 32 := 0#32
  let v34 : BitVec 1 := Scalar.cmpi .ne v33 c0_i32_10
  let v35 : BitVec 1 := Scalar.andi v32 v34
  let v21 : BitVec 32 := Scalar.divsi v20 c128_i32_5
  let c1_i32_11 : BitVec 32 := 1#32
  let v36 : BitVec 32 := Scalar.subi v21 c1_i32_11
  let v37 : BitVec 32 := Scalar.select v35 v36 v21
  let c3_i32 : BitVec 32 := 3#32
  let v38 : BitVec 32 := Scalar.minsi v37 c3_i32
  let c0_i32_12 : BitVec 32 := 0#32
  let v39 : BitVec 32 := Scalar.maxsi v38 c0_i32_12
  let c3_i32_13 : BitVec 32 := 3#32
  let v40 : BitVec 32 := Scalar.minsi v39 c3_i32_13
  let c1_i32_15 : BitVec 32 := 1#32
  let v42 : BitVec 32 := Scalar.subi v40 c1_i32_15
  let c1_i32_17 : BitVec 32 := 1#32
  let v44 : BitVec 32 := Scalar.subi v42 c1_i32_17
  let c0_i32_18 : BitVec 32 := 0#32
  let v45 : BitVec 1 := Scalar.cmpi .ne v44 c0_i32_18
  v45

def k0_mult1 (i : grid0.Coords) : BitVec 32 :=
  let c512_i32 : BitVec 32 := 512#32
  let arg2 : BitVec 32 := BitVec.ofNat 32 (i 2).val
  let c8_i32_28 : BitVec 32 := 8#32
  let v53 : BitVec 32 := Scalar.muli arg2 c8_i32_28
  let c0_i32_29 : BitVec 32 := 0#32
  let v54 : BitVec 32 := Scalar.addi v53 c0_i32_29
  let c8_i32_33 : BitVec 32 := 8#32
  let v63 : BitVec 32 := Scalar.muli v54 c8_i32_33
  let v64 : BitVec 32 := Scalar.subi c512_i32 v63
  v64
def k0_off1 (i : grid0.Coords) (c0_i32_29 : BitVec 32) : Fin 2 → Nat :=
  let c512_i32 : BitVec 32 := 512#32
  let arg2 : BitVec 32 := BitVec.ofNat 32 (i 2).val
  let c8_i32_28 : BitVec 32 := 8#32
  let v53 : BitVec 32 := Scalar.muli arg2 c8_i32_28
  let v54 : BitVec 32 := Scalar.addi v53 c0_i32_29
  let c8_i32_33 : BitVec 32 := 8#32
  let v63 : BitVec 32 := Scalar.muli v54 c8_i32_33
  let v64 : BitVec 32 := Scalar.subi c512_i32 v63
  let v65 : BitVec 32 := v64
  let v66 : Index := Scalar.indexCast v65
  let c0_34 : Index := 0#32
  ![v66.toNat, 0]
def k0_mult2 (i : grid0.Coords) : BitVec 32 :=
  let c512_i32_44 : BitVec 32 := 512#32
  let arg2 : BitVec 32 := BitVec.ofNat 32 (i 2).val
  let c8_i32_38 : BitVec 32 := 8#32
  let v75 : BitVec 32 := Scalar.muli arg2 c8_i32_38
  let c1_i32_39 : BitVec 32 := 1#32
  let v76 : BitVec 32 := Scalar.addi v75 c1_i32_39
  let c8_i32_43 : BitVec 32 := 8#32
  let v85 : BitVec 32 := Scalar.muli v76 c8_i32_43
  let v86 : BitVec 32 := Scalar.subi c512_i32_44 v85
  v86
def k0_mult3 (i : grid0.Coords) : BitVec 32 :=
  let c512_i32_74 : BitVec 32 := 512#32
  let arg2 : BitVec 32 := BitVec.ofNat 32 (i 2).val
  let c8_i32_69 : BitVec 32 := 8#32
  let v149 : BitVec 32 := Scalar.muli arg2 c8_i32_69
  let c2_i32 : BitVec 32 := 2#32
  let v150 : BitVec 32 := Scalar.addi v149 c2_i32
  let c8_i32_73 : BitVec 32 := 8#32
  let v159 : BitVec 32 := Scalar.muli v150 c8_i32_73
  let v160 : BitVec 32 := Scalar.subi c512_i32_74 v159
  v160
def k0_mult4 (i : grid0.Coords) : BitVec 32 :=
  let c512_i32_110 : BitVec 32 := 512#32
  let arg2 : BitVec 32 := BitVec.ofNat 32 (i 2).val
  let c8_i32_104 : BitVec 32 := 8#32
  let v223 : BitVec 32 := Scalar.muli arg2 c8_i32_104
  let c3_i32_105 : BitVec 32 := 3#32
  let v224 : BitVec 32 := Scalar.addi v223 c3_i32_105
  let c8_i32_109 : BitVec 32 := 8#32
  let v233 : BitVec 32 := Scalar.muli v224 c8_i32_109
  let v234 : BitVec 32 := Scalar.subi c512_i32_110 v233
  v234
def k0_mult5 (i : grid0.Coords) : BitVec 32 :=
  let c512_i32_196 : BitVec 32 := 512#32
  let arg2 : BitVec 32 := BitVec.ofNat 32 (i 2).val
  let c8_i32_191 : BitVec 32 := 8#32
  let v449 : BitVec 32 := Scalar.muli arg2 c8_i32_191
  let c4_i32 : BitVec 32 := 4#32
  let v450 : BitVec 32 := Scalar.addi v449 c4_i32
  let c8_i32_195 : BitVec 32 := 8#32
  let v459 : BitVec 32 := Scalar.muli v450 c8_i32_195
  let v460 : BitVec 32 := Scalar.subi c512_i32_196 v459
  v460
def k0_mult6 (i : grid0.Coords) : BitVec 32 :=
  let c512_i32_261 : BitVec 32 := 512#32
  let arg2 : BitVec 32 := BitVec.ofNat 32 (i 2).val
  let c8_i32_256 : BitVec 32 := 8#32
  let v609 : BitVec 32 := Scalar.muli arg2 c8_i32_256
  let c5_i32 : BitVec 32 := 5#32
  let v610 : BitVec 32 := Scalar.addi v609 c5_i32
  let c8_i32_260 : BitVec 32 := 8#32
  let v619 : BitVec 32 := Scalar.muli v610 c8_i32_260
  let v620 : BitVec 32 := Scalar.subi c512_i32_261 v619
  v620
def k0_mult7 (i : grid0.Coords) : BitVec 32 :=
  let c512_i32_348 : BitVec 32 := 512#32
  let arg2 : BitVec 32 := BitVec.ofNat 32 (i 2).val
  let c8_i32_343 : BitVec 32 := 8#32
  let v835 : BitVec 32 := Scalar.muli arg2 c8_i32_343
  let c6_i32 : BitVec 32 := 6#32
  let v836 : BitVec 32 := Scalar.addi v835 c6_i32
  let c8_i32_347 : BitVec 32 := 8#32
  let v845 : BitVec 32 := Scalar.muli v836 c8_i32_347
  let v846 : BitVec 32 := Scalar.subi c512_i32_348 v845
  v846
def k0_mult8 (i : grid0.Coords) : BitVec 32 :=
  let c512_i32_413 : BitVec 32 := 512#32
  let arg2 : BitVec 32 := BitVec.ofNat 32 (i 2).val
  let c8_i32_408 : BitVec 32 := 8#32
  let v995 : BitVec 32 := Scalar.muli arg2 c8_i32_408
  let c7_i32 : BitVec 32 := 7#32
  let v996 : BitVec 32 := Scalar.addi v995 c7_i32
  let c8_i32_412 : BitVec 32 := 8#32
  let v1005 : BitVec 32 := Scalar.muli v996 c8_i32_412
  let v1006 : BitVec 32 := Scalar.subi c512_i32_413 v1005
  v1006
def k0_mult9 (i : grid0.Coords) : BitVec 32 :=
  let c512_i32 : BitVec 32 := 512#32
  let arg2 : BitVec 32 := BitVec.ofNat 32 (i 2).val
  let c8_i32_28 : BitVec 32 := 8#32
  let v53 : BitVec 32 := Scalar.muli arg2 c8_i32_28
  let c0_i32_29 : BitVec 32 := 0#32
  let v54 : BitVec 32 := Scalar.addi v53 c0_i32_29
  let c8_i32_33 : BitVec 32 := 8#32
  let v63 : BitVec 32 := Scalar.muli v54 c8_i32_33
  let v64 : BitVec 32 := Scalar.subi c512_i32 v63
  v64
def k0_off2 (i : grid0.Coords) (c0_i32_29 : BitVec 32) : Fin 2 → Nat :=
  let c512_i32 : BitVec 32 := 512#32
  let arg2 : BitVec 32 := BitVec.ofNat 32 (i 2).val
  let c8_i32_28 : BitVec 32 := 8#32
  let v53 : BitVec 32 := Scalar.muli arg2 c8_i32_28
  let v54 : BitVec 32 := Scalar.addi v53 c0_i32_29
  let c8_i32_33 : BitVec 32 := 8#32
  let v63 : BitVec 32 := Scalar.muli v54 c8_i32_33
  let v64 : BitVec 32 := Scalar.subi c512_i32 v63
  let v65 : BitVec 32 := v64
  let v66 : Index := Scalar.indexCast v65
  let c0_34 : Index := 0#32
  ![v66.toNat, 0]
def k0_mult10 (i : grid0.Coords) : BitVec 32 :=
  let c512_i32_44 : BitVec 32 := 512#32
  let arg2 : BitVec 32 := BitVec.ofNat 32 (i 2).val
  let c8_i32_38 : BitVec 32 := 8#32
  let v75 : BitVec 32 := Scalar.muli arg2 c8_i32_38
  let c1_i32_39 : BitVec 32 := 1#32
  let v76 : BitVec 32 := Scalar.addi v75 c1_i32_39
  let c8_i32_43 : BitVec 32 := 8#32
  let v85 : BitVec 32 := Scalar.muli v76 c8_i32_43
  let v86 : BitVec 32 := Scalar.subi c512_i32_44 v85
  v86
def k0_mult11 (i : grid0.Coords) : BitVec 32 :=
  let c512_i32_74 : BitVec 32 := 512#32
  let arg2 : BitVec 32 := BitVec.ofNat 32 (i 2).val
  let c8_i32_69 : BitVec 32 := 8#32
  let v149 : BitVec 32 := Scalar.muli arg2 c8_i32_69
  let c2_i32 : BitVec 32 := 2#32
  let v150 : BitVec 32 := Scalar.addi v149 c2_i32
  let c8_i32_73 : BitVec 32 := 8#32
  let v159 : BitVec 32 := Scalar.muli v150 c8_i32_73
  let v160 : BitVec 32 := Scalar.subi c512_i32_74 v159
  v160
def k0_mult12 (i : grid0.Coords) : BitVec 32 :=
  let c512_i32_110 : BitVec 32 := 512#32
  let arg2 : BitVec 32 := BitVec.ofNat 32 (i 2).val
  let c8_i32_104 : BitVec 32 := 8#32
  let v223 : BitVec 32 := Scalar.muli arg2 c8_i32_104
  let c3_i32_105 : BitVec 32 := 3#32
  let v224 : BitVec 32 := Scalar.addi v223 c3_i32_105
  let c8_i32_109 : BitVec 32 := 8#32
  let v233 : BitVec 32 := Scalar.muli v224 c8_i32_109
  let v234 : BitVec 32 := Scalar.subi c512_i32_110 v233
  v234
def k0_mult13 (i : grid0.Coords) : BitVec 32 :=
  let c512_i32_196 : BitVec 32 := 512#32
  let arg2 : BitVec 32 := BitVec.ofNat 32 (i 2).val
  let c8_i32_191 : BitVec 32 := 8#32
  let v449 : BitVec 32 := Scalar.muli arg2 c8_i32_191
  let c4_i32 : BitVec 32 := 4#32
  let v450 : BitVec 32 := Scalar.addi v449 c4_i32
  let c8_i32_195 : BitVec 32 := 8#32
  let v459 : BitVec 32 := Scalar.muli v450 c8_i32_195
  let v460 : BitVec 32 := Scalar.subi c512_i32_196 v459
  v460
def k0_mult14 (i : grid0.Coords) : BitVec 32 :=
  let c512_i32_261 : BitVec 32 := 512#32
  let arg2 : BitVec 32 := BitVec.ofNat 32 (i 2).val
  let c8_i32_256 : BitVec 32 := 8#32
  let v609 : BitVec 32 := Scalar.muli arg2 c8_i32_256
  let c5_i32 : BitVec 32 := 5#32
  let v610 : BitVec 32 := Scalar.addi v609 c5_i32
  let c8_i32_260 : BitVec 32 := 8#32
  let v619 : BitVec 32 := Scalar.muli v610 c8_i32_260
  let v620 : BitVec 32 := Scalar.subi c512_i32_261 v619
  v620
def k0_mult15 (i : grid0.Coords) : BitVec 32 :=
  let c512_i32_348 : BitVec 32 := 512#32
  let arg2 : BitVec 32 := BitVec.ofNat 32 (i 2).val
  let c8_i32_343 : BitVec 32 := 8#32
  let v835 : BitVec 32 := Scalar.muli arg2 c8_i32_343
  let c6_i32 : BitVec 32 := 6#32
  let v836 : BitVec 32 := Scalar.addi v835 c6_i32
  let c8_i32_347 : BitVec 32 := 8#32
  let v845 : BitVec 32 := Scalar.muli v836 c8_i32_347
  let v846 : BitVec 32 := Scalar.subi c512_i32_348 v845
  v846
def k0_mult16 (i : grid0.Coords) : BitVec 32 :=
  let c512_i32_413 : BitVec 32 := 512#32
  let arg2 : BitVec 32 := BitVec.ofNat 32 (i 2).val
  let c8_i32_408 : BitVec 32 := 8#32
  let v995 : BitVec 32 := Scalar.muli arg2 c8_i32_408
  let c7_i32 : BitVec 32 := 7#32
  let v996 : BitVec 32 := Scalar.addi v995 c7_i32
  let c8_i32_412 : BitVec 32 := 8#32
  let v1005 : BitVec 32 := Scalar.muli v996 c8_i32_412
  let v1006 : BitVec 32 := Scalar.subi c512_i32_413 v1005
  v1006
def k0_mult17 (i : grid0.Coords) : BitVec 32 :=
  let c512_i32 : BitVec 32 := 512#32
  let arg2 : BitVec 32 := BitVec.ofNat 32 (i 2).val
  let c8_i32_26 : BitVec 32 := 8#32
  let v51 : BitVec 32 := Scalar.muli arg2 c8_i32_26
  let c0_i32_27 : BitVec 32 := 0#32
  let v52 : BitVec 32 := Scalar.addi v51 c0_i32_27
  let c8_i32_31 : BitVec 32 := 8#32
  let v61 : BitVec 32 := Scalar.muli v52 c8_i32_31
  let v62 : BitVec 32 := Scalar.subi c512_i32 v61
  v62
def k0_off3 (i : grid0.Coords) (c0_i32_27 : BitVec 32) : Fin 2 → Nat :=
  let c512_i32 : BitVec 32 := 512#32
  let arg2 : BitVec 32 := BitVec.ofNat 32 (i 2).val
  let c8_i32_26 : BitVec 32 := 8#32
  let v51 : BitVec 32 := Scalar.muli arg2 c8_i32_26
  let v52 : BitVec 32 := Scalar.addi v51 c0_i32_27
  let c8_i32_31 : BitVec 32 := 8#32
  let v61 : BitVec 32 := Scalar.muli v52 c8_i32_31
  let v62 : BitVec 32 := Scalar.subi c512_i32 v61
  let v63 : BitVec 32 := v62
  let v64 : Index := Scalar.indexCast v63
  let c0_32 : Index := 0#32
  ![v64.toNat, 0]
def k0_mult18 (i : grid0.Coords) : BitVec 32 :=
  let c512_i32_42 : BitVec 32 := 512#32
  let arg2 : BitVec 32 := BitVec.ofNat 32 (i 2).val
  let c8_i32_36 : BitVec 32 := 8#32
  let v73 : BitVec 32 := Scalar.muli arg2 c8_i32_36
  let c1_i32_37 : BitVec 32 := 1#32
  let v74 : BitVec 32 := Scalar.addi v73 c1_i32_37
  let c8_i32_41 : BitVec 32 := 8#32
  let v83 : BitVec 32 := Scalar.muli v74 c8_i32_41
  let v84 : BitVec 32 := Scalar.subi c512_i32_42 v83
  v84
def k0_mult19 (i : grid0.Coords) : BitVec 32 :=
  let c512_i32_72 : BitVec 32 := 512#32
  let arg2 : BitVec 32 := BitVec.ofNat 32 (i 2).val
  let c8_i32_67 : BitVec 32 := 8#32
  let v147 : BitVec 32 := Scalar.muli arg2 c8_i32_67
  let c2_i32 : BitVec 32 := 2#32
  let v148 : BitVec 32 := Scalar.addi v147 c2_i32
  let c8_i32_71 : BitVec 32 := 8#32
  let v157 : BitVec 32 := Scalar.muli v148 c8_i32_71
  let v158 : BitVec 32 := Scalar.subi c512_i32_72 v157
  v158
def k0_mult20 (i : grid0.Coords) : BitVec 32 :=
  let c512_i32_108 : BitVec 32 := 512#32
  let arg2 : BitVec 32 := BitVec.ofNat 32 (i 2).val
  let c8_i32_102 : BitVec 32 := 8#32
  let v221 : BitVec 32 := Scalar.muli arg2 c8_i32_102
  let c3_i32_103 : BitVec 32 := 3#32
  let v222 : BitVec 32 := Scalar.addi v221 c3_i32_103
  let c8_i32_107 : BitVec 32 := 8#32
  let v231 : BitVec 32 := Scalar.muli v222 c8_i32_107
  let v232 : BitVec 32 := Scalar.subi c512_i32_108 v231
  v232
def k0_mult21 (i : grid0.Coords) : BitVec 32 :=
  let c512_i32_194 : BitVec 32 := 512#32
  let arg2 : BitVec 32 := BitVec.ofNat 32 (i 2).val
  let c8_i32_189 : BitVec 32 := 8#32
  let v447 : BitVec 32 := Scalar.muli arg2 c8_i32_189
  let c4_i32 : BitVec 32 := 4#32
  let v448 : BitVec 32 := Scalar.addi v447 c4_i32
  let c8_i32_193 : BitVec 32 := 8#32
  let v457 : BitVec 32 := Scalar.muli v448 c8_i32_193
  let v458 : BitVec 32 := Scalar.subi c512_i32_194 v457
  v458
def k0_mult22 (i : grid0.Coords) : BitVec 32 :=
  let c512_i32_259 : BitVec 32 := 512#32
  let arg2 : BitVec 32 := BitVec.ofNat 32 (i 2).val
  let c8_i32_254 : BitVec 32 := 8#32
  let v607 : BitVec 32 := Scalar.muli arg2 c8_i32_254
  let c5_i32 : BitVec 32 := 5#32
  let v608 : BitVec 32 := Scalar.addi v607 c5_i32
  let c8_i32_258 : BitVec 32 := 8#32
  let v617 : BitVec 32 := Scalar.muli v608 c8_i32_258
  let v618 : BitVec 32 := Scalar.subi c512_i32_259 v617
  v618
def k0_mult23 (i : grid0.Coords) : BitVec 32 :=
  let c512_i32_346 : BitVec 32 := 512#32
  let arg2 : BitVec 32 := BitVec.ofNat 32 (i 2).val
  let c8_i32_341 : BitVec 32 := 8#32
  let v833 : BitVec 32 := Scalar.muli arg2 c8_i32_341
  let c6_i32 : BitVec 32 := 6#32
  let v834 : BitVec 32 := Scalar.addi v833 c6_i32
  let c8_i32_345 : BitVec 32 := 8#32
  let v843 : BitVec 32 := Scalar.muli v834 c8_i32_345
  let v844 : BitVec 32 := Scalar.subi c512_i32_346 v843
  v844
def k0_mult24 (i : grid0.Coords) : BitVec 32 :=
  let c512_i32_411 : BitVec 32 := 512#32
  let arg2 : BitVec 32 := BitVec.ofNat 32 (i 2).val
  let c8_i32_406 : BitVec 32 := 8#32
  let v993 : BitVec 32 := Scalar.muli arg2 c8_i32_406
  let c7_i32 : BitVec 32 := 7#32
  let v994 : BitVec 32 := Scalar.addi v993 c7_i32
  let c8_i32_410 : BitVec 32 := 8#32
  let v1003 : BitVec 32 := Scalar.muli v994 c8_i32_410
  let v1004 : BitVec 32 := Scalar.subi c512_i32_411 v1003
  v1004
def k0_mult25 (i : grid0.Coords) : BitVec 32 :=
  let c512_i32 : BitVec 32 := 512#32
  let arg2 : BitVec 32 := BitVec.ofNat 32 (i 2).val
  let c8_i32_24 : BitVec 32 := 8#32
  let v49 : BitVec 32 := Scalar.muli arg2 c8_i32_24
  let c0_i32_25 : BitVec 32 := 0#32
  let v50 : BitVec 32 := Scalar.addi v49 c0_i32_25
  let c8_i32_29 : BitVec 32 := 8#32
  let v59 : BitVec 32 := Scalar.muli v50 c8_i32_29
  let v60 : BitVec 32 := Scalar.subi c512_i32 v59
  v60
def k0_off4 (i : grid0.Coords) (c0_i32_25 : BitVec 32) : Fin 2 → Nat :=
  let c512_i32 : BitVec 32 := 512#32
  let arg2 : BitVec 32 := BitVec.ofNat 32 (i 2).val
  let c8_i32_24 : BitVec 32 := 8#32
  let v49 : BitVec 32 := Scalar.muli arg2 c8_i32_24
  let v50 : BitVec 32 := Scalar.addi v49 c0_i32_25
  let c8_i32_29 : BitVec 32 := 8#32
  let v59 : BitVec 32 := Scalar.muli v50 c8_i32_29
  let v60 : BitVec 32 := Scalar.subi c512_i32 v59
  let v61 : BitVec 32 := v60
  let v62 : Index := Scalar.indexCast v61
  let c0_30 : Index := 0#32
  ![v62.toNat, 0]
def k0_mult26 (i : grid0.Coords) : BitVec 32 :=
  let c512_i32_40 : BitVec 32 := 512#32
  let arg2 : BitVec 32 := BitVec.ofNat 32 (i 2).val
  let c8_i32_34 : BitVec 32 := 8#32
  let v71 : BitVec 32 := Scalar.muli arg2 c8_i32_34
  let c1_i32_35 : BitVec 32 := 1#32
  let v72 : BitVec 32 := Scalar.addi v71 c1_i32_35
  let c8_i32_39 : BitVec 32 := 8#32
  let v81 : BitVec 32 := Scalar.muli v72 c8_i32_39
  let v82 : BitVec 32 := Scalar.subi c512_i32_40 v81
  v82
def k0_mult27 (i : grid0.Coords) : BitVec 32 :=
  let c512_i32_70 : BitVec 32 := 512#32
  let arg2 : BitVec 32 := BitVec.ofNat 32 (i 2).val
  let c8_i32_65 : BitVec 32 := 8#32
  let v145 : BitVec 32 := Scalar.muli arg2 c8_i32_65
  let c2_i32 : BitVec 32 := 2#32
  let v146 : BitVec 32 := Scalar.addi v145 c2_i32
  let c8_i32_69 : BitVec 32 := 8#32
  let v155 : BitVec 32 := Scalar.muli v146 c8_i32_69
  let v156 : BitVec 32 := Scalar.subi c512_i32_70 v155
  v156
def k0_mult28 (i : grid0.Coords) : BitVec 32 :=
  let c512_i32_106 : BitVec 32 := 512#32
  let arg2 : BitVec 32 := BitVec.ofNat 32 (i 2).val
  let c8_i32_100 : BitVec 32 := 8#32
  let v219 : BitVec 32 := Scalar.muli arg2 c8_i32_100
  let c3_i32_101 : BitVec 32 := 3#32
  let v220 : BitVec 32 := Scalar.addi v219 c3_i32_101
  let c8_i32_105 : BitVec 32 := 8#32
  let v229 : BitVec 32 := Scalar.muli v220 c8_i32_105
  let v230 : BitVec 32 := Scalar.subi c512_i32_106 v229
  v230
def k0_mult29 (i : grid0.Coords) : BitVec 32 :=
  let c512_i32_192 : BitVec 32 := 512#32
  let arg2 : BitVec 32 := BitVec.ofNat 32 (i 2).val
  let c8_i32_187 : BitVec 32 := 8#32
  let v445 : BitVec 32 := Scalar.muli arg2 c8_i32_187
  let c4_i32 : BitVec 32 := 4#32
  let v446 : BitVec 32 := Scalar.addi v445 c4_i32
  let c8_i32_191 : BitVec 32 := 8#32
  let v455 : BitVec 32 := Scalar.muli v446 c8_i32_191
  let v456 : BitVec 32 := Scalar.subi c512_i32_192 v455
  v456
def k0_mult30 (i : grid0.Coords) : BitVec 32 :=
  let c512_i32_257 : BitVec 32 := 512#32
  let arg2 : BitVec 32 := BitVec.ofNat 32 (i 2).val
  let c8_i32_252 : BitVec 32 := 8#32
  let v605 : BitVec 32 := Scalar.muli arg2 c8_i32_252
  let c5_i32 : BitVec 32 := 5#32
  let v606 : BitVec 32 := Scalar.addi v605 c5_i32
  let c8_i32_256 : BitVec 32 := 8#32
  let v615 : BitVec 32 := Scalar.muli v606 c8_i32_256
  let v616 : BitVec 32 := Scalar.subi c512_i32_257 v615
  v616
def k0_mult31 (i : grid0.Coords) : BitVec 32 :=
  let c512_i32_344 : BitVec 32 := 512#32
  let arg2 : BitVec 32 := BitVec.ofNat 32 (i 2).val
  let c8_i32_339 : BitVec 32 := 8#32
  let v831 : BitVec 32 := Scalar.muli arg2 c8_i32_339
  let c6_i32 : BitVec 32 := 6#32
  let v832 : BitVec 32 := Scalar.addi v831 c6_i32
  let c8_i32_343 : BitVec 32 := 8#32
  let v841 : BitVec 32 := Scalar.muli v832 c8_i32_343
  let v842 : BitVec 32 := Scalar.subi c512_i32_344 v841
  v842
def k0_mult32 (i : grid0.Coords) : BitVec 32 :=
  let c512_i32_409 : BitVec 32 := 512#32
  let arg2 : BitVec 32 := BitVec.ofNat 32 (i 2).val
  let c8_i32_404 : BitVec 32 := 8#32
  let v991 : BitVec 32 := Scalar.muli arg2 c8_i32_404
  let c7_i32 : BitVec 32 := 7#32
  let v992 : BitVec 32 := Scalar.addi v991 c7_i32
  let c8_i32_408 : BitVec 32 := 8#32
  let v1001 : BitVec 32 := Scalar.muli v992 c8_i32_408
  let v1002 : BitVec 32 := Scalar.subi c512_i32_409 v1001
  v1002
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x80x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x4x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x2x4x8192x64 : Shape := ⟨5, ![4, 2, 4, 8192, 64]⟩
abbrev S4x2x511x64 : Shape := ⟨4, ![4, 2, 511, 64]⟩
abbrev S511 : Shape := ⟨1, ![511]⟩
abbrev S_ : Shape := ⟨0, ![]⟩
abbrev S4x2x4x8192x511 : Shape := ⟨5, ![4, 2, 4, 8192, 511]⟩
abbrev S1x511 : Shape := ⟨2, ![1, 511]⟩
abbrev S8192 : Shape := ⟨1, ![8192]⟩
abbrev S8192x1 : Shape := ⟨2, ![8192, 1]⟩
abbrev S8192x511 : Shape := ⟨2, ![8192, 511]⟩
abbrev S4x2x4x8192 : Shape := ⟨4, ![4, 2, 4, 8192]⟩
abbrev S4x2x4x8192x1 : Shape := ⟨5, ![4, 2, 4, 8192, 1]⟩
abbrev S1x1x1x8192x511 : Shape := ⟨5, ![1, 1, 1, 8192, 511]⟩
abbrev S4x2x4x64x8192 : Shape := ⟨5, ![4, 2, 4, 64, 8192]⟩
abbrev S4x8x64x8192 : Shape := ⟨4, ![4, 8, 64, 8192]⟩

abbrev nBuf : Space → Nat
  | .hbm => 49
  | .vmem => 0
  | .smem => 0
  | _ => 0

abbrev bufTy : (tb : Table) → Fin (tcTables nBuf tb) → BufTy
  | .hbm, ⟨0, _⟩ => ⟨S4x2x4x8192x64, .f32⟩
  | .hbm, ⟨1, _⟩ => ⟨S4x2x511x64, .f32⟩
  | .hbm, ⟨2, _⟩ => ⟨S4x2x511x64, .f32⟩
  | .hbm, ⟨3, _⟩ => ⟨S511, .i32⟩
  | .hbm, ⟨4, _⟩ => ⟨S_, .i32⟩
  | .hbm, ⟨5, _⟩ => ⟨S511, .i32⟩
  | .hbm, ⟨6, _⟩ => ⟨S511, .i32⟩
  | .hbm, ⟨7, _⟩ => ⟨S_, .i32⟩
  | .hbm, ⟨8, _⟩ => ⟨S511, .i32⟩
  | .hbm, ⟨9, _⟩ => ⟨S511, .i32⟩
  | .hbm, ⟨10, _⟩ => ⟨S_, .i32⟩
  | .hbm, ⟨11, _⟩ => ⟨S511, .i32⟩
  | .hbm, ⟨12, _⟩ => ⟨S511, .i32⟩
  | .hbm, ⟨13, _⟩ => ⟨S4x2x4x8192x511, .f32⟩
  | .hbm, ⟨14, _⟩ => ⟨S_, .f32⟩
  | .hbm, ⟨15, _⟩ => ⟨S4x2x4x8192x511, .f32⟩
  | .hbm, ⟨16, _⟩ => ⟨S4x2x4x8192x511, .f32⟩
  | .hbm, ⟨17, _⟩ => ⟨S1x511, .i32⟩
  | .hbm, ⟨18, _⟩ => ⟨S8192, .i32⟩
  | .hbm, ⟨19, _⟩ => ⟨S8192x1, .i32⟩
  | .hbm, ⟨20, _⟩ => ⟨S8192x511, .i32⟩
  | .hbm, ⟨21, _⟩ => ⟨S8192x511, .i32⟩
  | .hbm, ⟨22, _⟩ => ⟨S8192x511, .i1⟩
  | .hbm, ⟨23, _⟩ => ⟨S_, .f32⟩
  | .hbm, ⟨24, _⟩ => ⟨S_, .f32⟩
  | .hbm, ⟨25, _⟩ => ⟨S4x2x4x8192x511, .i1⟩
  | .hbm, ⟨26, _⟩ => ⟨S4x2x4x8192x511, .f32⟩
  | .hbm, ⟨27, _⟩ => ⟨S4x2x4x8192x511, .f32⟩
  | .hbm, ⟨28, _⟩ => ⟨S_, .f32⟩
  | .hbm, ⟨29, _⟩ => ⟨S4x2x4x8192, .f32⟩
  | .hbm, ⟨30, _⟩ => ⟨S_, .f32⟩
  | .hbm, ⟨31, _⟩ => ⟨S4x2x4x8192, .f32⟩
  | .hbm, ⟨32, _⟩ => ⟨S4x2x4x8192, .f32⟩
  | .hbm, ⟨33, _⟩ => ⟨S4x2x4x8192x1, .f32⟩
  | .hbm, ⟨34, _⟩ => ⟨S4x2x4x8192x511, .f32⟩
  | .hbm, ⟨35, _⟩ => ⟨S4x2x4x8192x511, .f32⟩
  | .hbm, ⟨36, _⟩ => ⟨S4x2x4x8192x511, .f32⟩
  | .hbm, ⟨37, _⟩ => ⟨S_, .f32⟩
  | .hbm, ⟨38, _⟩ => ⟨S4x2x4x8192, .f32⟩
  | .hbm, ⟨39, _⟩ => ⟨S4x2x4x8192x1, .f32⟩
  | .hbm, ⟨40, _⟩ => ⟨S4x2x4x8192x511, .f32⟩
  | .hbm, ⟨41, _⟩ => ⟨S4x2x4x8192x511, .f32⟩
  | .hbm, ⟨42, _⟩ => ⟨S8192x511, .f32⟩
  | .hbm, ⟨43, _⟩ => ⟨S1x1x1x8192x511, .f32⟩
  | .hbm, ⟨44, _⟩ => ⟨S4x2x4x8192x511, .f32⟩
  | .hbm, ⟨45, _⟩ => ⟨S4x2x4x8192x511, .f32⟩
  | .hbm, ⟨46, _⟩ => ⟨S4x2x4x8192x64, .f32⟩
  | .hbm, ⟨47, _⟩ => ⟨S4x2x4x64x8192, .f32⟩
  | .hbm, ⟨48, _⟩ => ⟨S4x8x64x8192, .f32⟩
  | _, _ => ⟨S4x2x4x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Tail.lean ====
abbrev S4x8192x1024 : Shape := ⟨3, ![4, 8192, 1024]⟩
abbrev S4x8192x512 : Shape := ⟨3, ![4, 8192, 512]⟩
abbrev S1x4x8192x256 : Shape := ⟨4, ![1, 4, 8192, 256]⟩
abbrev S1x1024x1024 : Shape := ⟨3, ![1, 1024, 1024]⟩
abbrev S1x2x1024x5632 : Shape := ⟨4, ![1, 2, 1024, 5632]⟩
abbrev S1x2x2816x1024 : Shape := ⟨4, ![1, 2, 2816, 1024]⟩
abbrev S1x256x1024 : Shape := ⟨3, ![1, 256, 1024]⟩
abbrev S1x4x1024 : Shape := ⟨3, ![1, 4, 1024]⟩
abbrev S32768x1024 : Shape := ⟨2, ![32768, 1024]⟩
abbrev S32768x512 : Shape := ⟨2, ![32768, 512]⟩
abbrev S4x8192x256 : Shape := ⟨3, ![4, 8192, 256]⟩
abbrev S32768x256 : Shape := ⟨2, ![32768, 256]⟩
abbrev S1024x1024 : Shape := ⟨2, ![1024, 1024]⟩
abbrev S256x1024 : Shape := ⟨2, ![256, 1024]⟩
abbrev S1x3x1024 : Shape := ⟨3, ![1, 3, 1024]⟩
abbrev S3x1024 : Shape := ⟨2, ![3, 1024]⟩
abbrev S512x1024 : Shape := ⟨2, ![512, 1024]⟩
abbrev S512x512 : Shape := ⟨2, ![512, 512]⟩
abbrev S512x256 : Shape := ⟨2, ![512, 256]⟩
abbrev S1x1x1024x5632 : Shape := ⟨4, ![1, 1, 1024, 5632]⟩
abbrev S1x1x2816x1024 : Shape := ⟨4, ![1, 1, 2816, 1024]⟩
abbrev S1x1024 : Shape := ⟨2, ![1, 1024]⟩
abbrev S512 : Shape := ⟨1, ![512]⟩
abbrev S512x1 : Shape := ⟨2, ![512, 1]⟩
abbrev S1x1x1024x2816 : Shape := ⟨4, ![1, 1, 1024, 2816]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 34
  | .vmem => 18
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S1x4x8192x256, .f32⟩
  | .hbm, ⟨4, _⟩ => ⟨S1x1024x1024, .f32⟩
  | .hbm, ⟨5, _⟩ => ⟨S1x2x1024x5632, .f32⟩
  | .hbm, ⟨6, _⟩ => ⟨S1x2x2816x1024, .f32⟩
  | .hbm, ⟨7, _⟩ => ⟨S1x256x1024, .f32⟩
  | .hbm, ⟨8, _⟩ => ⟨S1x1024x1024, .f32⟩
  | .hbm, ⟨9, _⟩ => ⟨S1x4x1024, .f32⟩
  | .hbm, ⟨10, _⟩ => ⟨S1x4x1024, .f32⟩
  | .hbm, ⟨11, _⟩ => ⟨S1x2x1024x5632, .bf16⟩
  | .hbm, ⟨12, _⟩ => ⟨S1x2x2816x1024, .bf16⟩
  | .hbm, ⟨13, _⟩ => ⟨S32768x1024, .f32⟩
  | .hbm, ⟨14, _⟩ => ⟨S4x8192x512, .bf16⟩
  | .hbm, ⟨15, _⟩ => ⟨S32768x512, .bf16⟩
  | .hbm, ⟨16, _⟩ => ⟨S4x8192x512, .bf16⟩
  | .hbm, ⟨17, _⟩ => ⟨S32768x512, .bf16⟩
  | .hbm, ⟨18, _⟩ => ⟨S4x8192x256, .f32⟩
  | .hbm, ⟨19, _⟩ => ⟨S32768x256, .f32⟩
  | .hbm, ⟨20, _⟩ => ⟨S1024x1024, .f32⟩
  | .hbm, ⟨21, _⟩ => ⟨S256x1024, .f32⟩
  | .hbm, ⟨22, _⟩ => ⟨S1024x1024, .f32⟩
  | .hbm, ⟨23, _⟩ => ⟨S1x3x1024, .f32⟩
  | .hbm, ⟨24, _⟩ => ⟨S3x1024, .f32⟩
  | .hbm, ⟨25, _⟩ => ⟨S1x3x1024, .f32⟩
  | .hbm, ⟨26, _⟩ => ⟨S3x1024, .f32⟩
  | .hbm, ⟨27, _⟩ => ⟨S512x1024, .f32⟩
  | .hbm, ⟨28, _⟩ => ⟨S512x1024, .bf16⟩
  | .hbm, ⟨29, _⟩ => ⟨S512x1024, .f32⟩
  | .hbm, ⟨30, _⟩ => ⟨S512x1024, .bf16⟩
  | .hbm, ⟨31, _⟩ => ⟨S256x1024, .bf16⟩
  | .hbm, ⟨32, _⟩ => ⟨S1024x1024, .bf16⟩
  | .hbm, ⟨33, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x256, .f32⟩
  | .local _ .vmem, ⟨7, _⟩ => ⟨S512x256, .f32⟩
  | .local _ .vmem, ⟨8, _⟩ => ⟨S512x1024, .bf16⟩
  | .local _ .vmem, ⟨9, _⟩ => ⟨S512x1024, .bf16⟩
  | .local _ .vmem, ⟨10, _⟩ => ⟨S1x1x1024x5632, .bf16⟩
  | .local _ .vmem, ⟨11, _⟩ => ⟨S1x1x2816x1024, .bf16⟩
  | .local _ .vmem, ⟨12, _⟩ => ⟨S256x1024, .bf16⟩
  | .local _ .vmem, ⟨13, _⟩ => ⟨S1024x1024, .bf16⟩
  | .local _ .vmem, ⟨14, _⟩ => ⟨S3x1024, .f32⟩
  | .local _ .vmem, ⟨15, _⟩ => ⟨S3x1024, .f32⟩
  | .local _ .vmem, ⟨16, _⟩ => ⟨S512x1024, .f32⟩
  | .local _ .vmem, ⟨17, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== TailRefIdeal.lean ====
abbrev S4x8192x1024 : Shape := ⟨3, ![4, 8192, 1024]⟩
abbrev S4x8192x512 : Shape := ⟨3, ![4, 8192, 512]⟩
abbrev S1x4x8192x256 : Shape := ⟨4, ![1, 4, 8192, 256]⟩
abbrev S1x1024x1024 : Shape := ⟨3, ![1, 1024, 1024]⟩
abbrev S1x2x1024x5632 : Shape := ⟨4, ![1, 2, 1024, 5632]⟩
abbrev S1x2x2816x1024 : Shape := ⟨4, ![1, 2, 2816, 1024]⟩
abbrev S1x256x1024 : Shape := ⟨3, ![1, 256, 1024]⟩
abbrev S1x4x1024 : Shape := ⟨3, ![1, 4, 1024]⟩
abbrev S1024x1024 : Shape := ⟨2, ![1024, 1024]⟩
abbrev S_ : Shape := ⟨0, ![]⟩
abbrev S1x1x1024 : Shape := ⟨3, ![1, 1, 1024]⟩
abbrev S1024 : Shape := ⟨1, ![1024]⟩
abbrev S4x8192 : Shape := ⟨2, ![4, 8192]⟩
abbrev S4x8192x1 : Shape := ⟨3, ![4, 8192, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S4x8192x5632 : Shape := ⟨3, ![4, 8192, 5632]⟩
abbrev S4x8192x2816 : Shape := ⟨3, ![4, 8192, 2816]⟩
abbrev S4x8192x256 : Shape := ⟨3, ![4, 8192, 256]⟩
abbrev S256x1024 : Shape := ⟨2, ![256, 1024]⟩
abbrev S32768x1024 : Shape := ⟨2, ![32768, 1024]⟩

abbrev nBuf : Space → Nat
  | .hbm => 161
  | .vmem => 0
  | .smem => 0
  | _ => 0

abbrev hbmTy0_0 (i : Nat) : BufTy := match i % 128 with
  | 0 => ⟨S4x8192x1024, .f32⟩
  | 1 => ⟨S4x8192x512, .f32⟩
  | 2 => ⟨S4x8192x512, .f32⟩
  | 3 => ⟨S1x4x8192x256, .f32⟩
  | 4 => ⟨S1x1024x1024, .f32⟩
  | 5 => ⟨S1x2x1024x5632, .f32⟩
  | 6 => ⟨S1x2x2816x1024, .f32⟩
  | 7 => ⟨S1x256x1024, .f32⟩
  | 8 => ⟨S1x1024x1024, .f32⟩
  | 9 => ⟨S1x4x1024, .f32⟩
  | 10 => ⟨S1x4x1024, .f32⟩
  | 11 => ⟨S4x8192x1024, .f32⟩
  | 12 => ⟨S1024x1024, .f32⟩
  | 13 => ⟨S4x8192x1024, .f32⟩
  | 14 => ⟨S_, .f32⟩
  | 15 => ⟨S4x8192x1024, .f32⟩
  | 16 => ⟨S4x8192x1024, .f32⟩
  | 17 => ⟨S4x8192x1024, .f32⟩
  | 18 => ⟨S1x1x1024, .f32⟩
  | 19 => ⟨S1024, .f32⟩
  | 20 => ⟨S1x1x1024, .f32⟩
  | 21 => ⟨S1024, .f32⟩
  | 22 => ⟨S_, .f32⟩
  | 23 => ⟨S4x8192, .f32⟩
  | 24 => ⟨S4x8192x1, .f32⟩
  | 25 => ⟨S_, .f32⟩
  | 26 => ⟨S4x8192x1, .f32⟩
  | 27 => ⟨S4x8192x1, .f32⟩
  | 28 => ⟨S4x8192x1024, .f32⟩
  | 29 => ⟨S4x8192x1024, .f32⟩
  | 30 => ⟨S4x8192x1024, .f32⟩
  | 31 => ⟨S_, .f32⟩
  | 32 => ⟨S4x8192, .f32⟩
  | 33 => ⟨S4x8192x1, .f32⟩
  | 34 => ⟨S_, .f32⟩
  | 35 => ⟨S4x8192x1, .f32⟩
  | 36 => ⟨S4x8192x1, .f32⟩
  | 37 => ⟨S4x8192x1024, .f32⟩
  | 38 => ⟨S4x8192x1024, .f32⟩
  | 39 => ⟨S_, .f32⟩
  | 40 => ⟨S4x8192x1, .f32⟩
  | 41 => ⟨S4x8192x1, .f32⟩
  | 42 => ⟨S4x8192x1, .f32⟩
  | 43 => ⟨S4x8192x1024, .f32⟩
  | 44 => ⟨S4x8192x1024, .f32⟩
  | 45 => ⟨S1x1x1024, .f32⟩
  | 46 => ⟨S4x8192x1024, .f32⟩
  | 47 => ⟨S4x8192x1024, .f32⟩
  | 48 => ⟨S1x1x1024, .f32⟩
  | 49 => ⟨S4x8192x1024, .f32⟩
  | 50 => ⟨S4x8192x1024, .f32⟩
  | 51 => ⟨S_, .f32⟩
  | 52 => ⟨S4x8192x1024, .f32⟩
  | 53 => ⟨S4x8192x1024, .f32⟩
  | 54 => ⟨S1x1x1024x5632, .f32⟩
  | 55 => ⟨S1024x5632, .f32⟩
  | 56 => ⟨S1x1x2816x1024, .f32⟩
  | 57 => ⟨S2816x1024, .f32⟩
  | 58 => ⟨S4x8192x5632, .f32⟩
  | 59 => ⟨S4x8192x2816, .f32⟩
  | 60 => ⟨S4x8192x2816, .f32⟩
  | 61 => ⟨S4x8192x2816, .f32⟩
  | 62 => ⟨S4x8192x2816, .f32⟩
  | 63 => ⟨S_, .f32⟩
  | 64 => ⟨S4x8192x2816, .f32⟩
  | 65 => ⟨S4x8192x2816, .f32⟩
  | 66 => ⟨S_, .f32⟩
  | 67 => ⟨S4x8192x2816, .f32⟩
  | 68 => ⟨S4x8192x2816, .f32⟩
  | 69 => ⟨S4x8192x2816, .f32⟩
  | 70 => ⟨S4x8192x2816, .f32⟩
  | 71 => ⟨S4x8192x1024, .f32⟩
  | 72 => ⟨S_, .f32⟩
  | 73 => ⟨S4x8192x1024, .f32⟩
  | 74 => ⟨S4x8192x1024, .f32⟩
  | 75 => ⟨S4x8192x1024, .f32⟩
  | 76 => ⟨S1x1x1024, .f32⟩
  | 77 => ⟨S1024, .f32⟩
  | 78 => ⟨S1x1x1024, .f32⟩
  | 79 => ⟨S1024, .f32⟩
  | 80 => ⟨S_, .f32⟩
  | 81 => ⟨S4x8192, .f32⟩
  | 82 => ⟨S4x8192x1, .f32⟩
  | 83 => ⟨S_, .f32⟩
  | 84 => ⟨S4x8192x1, .f32⟩
  | 85 => ⟨S4x8192x1, .f32⟩
  | 86 => ⟨S4x8192x1024, .f32⟩
  | 87 => ⟨S4x8192x1024, .f32⟩
  | 88 => ⟨S4x8192x1024, .f32⟩
  | 89 => ⟨S_, .f32⟩
  | 90 => ⟨S4x8192, .f32⟩
  | 91 => ⟨S4x8192x1, .f32⟩
  | 92 => ⟨S_, .f32⟩
  | 93 => ⟨S4x8192x1, .f32⟩
  | 94 => ⟨S4x8192x1, .f32⟩
  | 95 => ⟨S4x8192x1024, .f32⟩
  | 96 => ⟨S4x8192x1024, .f32⟩
  | 97 => ⟨S_, .f32⟩
  | 98 => ⟨S4x8192x1, .f32⟩
  | 99 => ⟨S4x8192x1, .f32⟩
  | 100 => ⟨S4x8192x1, .f32⟩
  | 101 => ⟨S4x8192x1024, .f32⟩
  | 102 => ⟨S4x8192x1024, .f32⟩
  | 103 => ⟨S1x1x1024, .f32⟩
  | 104 => ⟨S4x8192x1024, .f32⟩
  | 105 => ⟨S4x8192x1024, .f32⟩
  | 106 => ⟨S1x1x1024, .f32⟩
  | 107 => ⟨S4x8192x1024, .f32⟩
  | 108 => ⟨S4x8192x1024, .f32⟩
  | 109 => ⟨S4x8192x256, .f32⟩
  | 110 => ⟨S256x1024, .f32⟩
  | 111 => ⟨S4x8192x1024, .f32⟩
  | 112 => ⟨S1024x1024, .f32⟩
  | 113 => ⟨S4x8192x1024, .f32⟩
  | 114 => ⟨S4x8192x1024, .f32⟩
  | 115 => ⟨S4x8192x1024, .f32⟩
  | 116 => ⟨S_, .f32⟩
  | 117 => ⟨S4x8192x1024, .f32⟩
  | 118 => ⟨S4x8192x1024, .f32⟩
  | 119 => ⟨S_, .f32⟩
  | 120 => ⟨S4x8192x1024, .f32⟩
  | 121 => ⟨S4x8192x1024, .f32⟩
  | 122 => ⟨S4x8192x1024, .f32⟩
  | 123 => ⟨S_, .f32⟩
  | 124 => ⟨S4x8192x1024, .f32⟩
  | 125 => ⟨S4x8192x1024, .f32⟩
  | 126 => ⟨S4x8192x1024, .f32⟩
  | 127 => ⟨S1x1x1024, .f32⟩
  | _ => ⟨S4x8192x1024, .f32⟩

abbrev hbmTy0_1 (i : Nat) : BufTy := match i % 128 with
  | 0 => ⟨S1024, .f32⟩
  | 1 => ⟨S1x1x1024, .f32⟩
  | 2 => ⟨S1024, .f32⟩
  | 3 => ⟨S_, .f32⟩
  | 4 => ⟨S4x8192, .f32⟩
  | 5 => ⟨S4x8192x1, .f32⟩
  | 6 => ⟨S_, .f32⟩
  | 7 => ⟨S4x8192x1, .f32⟩
  | 8 => ⟨S4x8192x1, .f32⟩
  | 9 => ⟨S4x8192x1024, .f32⟩
  | 10 => ⟨S4x8192x1024, .f32⟩
  | 11 => ⟨S4x8192x1024, .f32⟩
  | 12 => ⟨S_, .f32⟩
  | 13 => ⟨S4x8192, .f32⟩
  | 14 => ⟨S4x8192x1, .f32⟩
  | 15 => ⟨S_, .f32⟩
  | 16 => ⟨S4x8192x1, .f32⟩
  | 17 => ⟨S4x8192x1, .f32⟩
  | 18 => ⟨S4x8192x1024, .f32⟩
  | 19 => ⟨S4x8192x1024, .f32⟩
  | 20 => ⟨S_, .f32⟩
  | 21 => ⟨S4x8192x1, .f32⟩
  | 22 => ⟨S4x8192x1, .f32⟩
  | 23 => ⟨S4x8192x1, .f32⟩
  | 24 => ⟨S4x8192x1024, .f32⟩
  | 25 => ⟨S4x8192x1024, .f32⟩
  | 26 => ⟨S1x1x1024, .f32⟩
  | 27 => ⟨S4x8192x1024, .f32⟩
  | 28 => ⟨S4x8192x1024, .f32⟩
  | 29 => ⟨S1x1x1024, .f32⟩
  | 30 => ⟨S4x8192x1024, .f32⟩
  | 31 => ⟨S4x8192x1024, .f32⟩
  | 32 => ⟨S32768x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_7 : Ref sig .tc := ⟨.hbm, 80, rfl⟩
abbrev main_v53 : Ref sig .tc := ⟨.hbm, 81, rfl⟩
abbrev main_v54 : Ref sig .tc := ⟨.hbm, 82, rfl⟩
abbrev main_cst_8 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_9 : Ref sig .tc := ⟨.hbm, 89, rfl⟩
abbrev main_v60 : Ref sig .tc := ⟨.hbm, 90, rfl⟩
abbrev main_v61 : Ref sig .tc := ⟨.hbm, 91, rfl⟩
abbrev main_cst_10 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_11 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_12 : Ref sig .tc := ⟨.hbm, 116, rfl⟩
abbrev main_v84 : Ref sig .tc := ⟨.hbm, 117, rfl⟩
abbrev main_v85 : Ref sig .tc := ⟨.hbm, 118, rfl⟩
abbrev main_cst_13 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_14 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_15 : Ref sig .tc := ⟨.hbm, 131, rfl⟩
abbrev main_v96 : Ref sig .tc := ⟨.hbm, 132, rfl⟩
abbrev main_v97 : Ref sig .tc := ⟨.hbm, 133, rfl⟩
abbrev main_cst_16 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_17 : Ref sig .tc := ⟨.hbm, 140, rfl⟩
abbrev main_v103 : Ref sig .tc := ⟨.hbm, 141, rfl⟩
abbrev main_v104 : Ref sig .tc := ⟨.hbm, 142, rfl⟩
abbrev main_cst_18 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_19 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩

abbrev nD : Nat := 1
abbrev τ : Topo := Topo.v7x

variable {F : FTy → Type} [FloatOps F]
-- ==== Ffn.lean ====
abbrev S4x8192x1024 : Shape := ⟨3, ![4, 8192, 1024]⟩
abbrev S1x2x1024x5632 : Shape := ⟨4, ![1, 2, 1024, 5632]⟩
abbrev S1x2x2816x1024 : Shape := ⟨4, ![1, 2, 2816, 1024]⟩
abbrev S1x4x1024 : Shape := ⟨3, ![1, 4, 1024]⟩
abbrev S32768x1024 : Shape := ⟨2, ![32768, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1x1024x5632 : Shape := ⟨4, ![1, 1, 1024, 5632]⟩
abbrev S1x1x2816x1024 : Shape := ⟨4, ![1, 1, 2816, 1024]⟩
abbrev S1x1x1024x2816 : Shape := ⟨4, ![1, 1, 1024, 2816]⟩
abbrev S1024x2816 : Shape := ⟨2, ![1024, 2816]⟩
abbrev S512x2816 : Shape := ⟨2, ![512, 2816]⟩
abbrev S2816x1024 : Shape := ⟨2, ![2816, 1024]⟩
abbrev S512 : Shape := ⟨1, ![512]⟩
abbrev S512x1 : Shape := ⟨2, ![512, 1]⟩

abbrev nBuf : Space → Nat
  | .hbm => 15
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S1x2x1024x5632, .f32⟩
  | .hbm, ⟨2, _⟩ => ⟨S1x2x2816x1024, .f32⟩
  | .hbm, ⟨3, _⟩ => ⟨S1x4x1024, .f32⟩
  | .hbm, ⟨4, _⟩ => ⟨S1x4x1024, .f32⟩
  | .hbm, ⟨5, _⟩ => ⟨S1x2x1024x5632, .bf16⟩
  | .hbm, ⟨6, _⟩ => ⟨S1x2x2816x1024, .bf16⟩
  | .hbm, ⟨7, _⟩ => ⟨S32768x1024, .f32⟩
  | .hbm, ⟨8, _⟩ => ⟨S1x1x1024, .f32⟩
  | .hbm, ⟨9, _⟩ => ⟨S1024, .f32⟩
  | .hbm, ⟨10, _⟩ => ⟨S1x1x1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x5632, .bf16⟩
  | .local _ .vmem, ⟨3, _⟩ => ⟨S1x1x2816x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S4x8192x1024 : Shape := ⟨3, ![4, 8192, 1024]⟩
abbrev S1x2x1024x5632 : Shape := ⟨4, ![1, 2, 1024, 5632]⟩
abbrev S1x2x2816x1024 : Shape := ⟨4, ![1, 2, 2816, 1024]⟩
abbrev S1x4x1024 : Shape := ⟨3, ![1, 4, 1024]⟩
abbrev S_ : Shape := ⟨0, ![]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S4x8192x5632 : Shape := ⟨3, ![4, 8192, 5632]⟩
abbrev S4x8192x2816 : Shape := ⟨3, ![4, 8192, 2816]⟩
abbrev S1x1x1024 : Shape := ⟨3, ![1, 1, 1024]⟩
abbrev S1024 : Shape := ⟨1, ![1024]⟩
abbrev S4x8192 : Shape := ⟨2, ![4, 8192]⟩
abbrev S4x8192x1 : Shape := ⟨3, ![4, 8192, 1]⟩
abbrev S32768x1024 : Shape := ⟨2, ![32768, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x2x1024x5632, .f32⟩
  | .hbm, ⟨2, _⟩ => ⟨S1x2x2816x1024, .f32⟩
  | .hbm, ⟨3, _⟩ => ⟨S1x4x1024, .f32⟩
  | .hbm, ⟨4, _⟩ => ⟨S1x4x1024, .f32⟩
  | .hbm, ⟨5, _⟩ => ⟨S_, .f32⟩
  | .hbm, ⟨6, _⟩ => ⟨S4x8192x1024, .f32⟩
  | .hbm, ⟨7, _⟩ => ⟨S4x8192x1024, .f32⟩
  | .hbm, ⟨8, _⟩ => ⟨S1x1x1024x5632, .f32⟩
  | .hbm, ⟨9, _⟩ => ⟨S1024x5632, .f32⟩
  | .hbm, ⟨10, _⟩ => ⟨S1x1x2816x1024, .f32⟩
  | .hbm, ⟨11, _⟩ => ⟨S2816x1024, .f32⟩
  | .hbm, ⟨12, _⟩ => ⟨S4x8192x5632, .f32⟩
  | .hbm, ⟨13, _⟩ => ⟨S4x8192x2816, .f32⟩
  | .hbm, ⟨14, _⟩ => ⟨S4x8192x2816, .f32⟩
  | .hbm, ⟨15, _⟩ => ⟨S4x8192x2816, .f32⟩
  | .hbm, ⟨16, _⟩ => ⟨S4x8192x2816, .f32⟩
  | .hbm, ⟨17, _⟩ => ⟨S_, .f32⟩
  | .hbm, ⟨18, _⟩ => ⟨S4x8192x2816, .f32⟩
  | .hbm, ⟨19, _⟩ => ⟨S4x8192x2816, .f32⟩
  | .hbm, ⟨20, _⟩ => ⟨S_, .f32⟩
  | .hbm, ⟨21, _⟩ => ⟨S4x8192x2816, .f32⟩
  | .hbm, ⟨22, _⟩ => ⟨S4x8192x2816, .f32⟩
  | .hbm, ⟨23, _⟩ => ⟨S4x8192x2816, .f32⟩
  | .hbm, ⟨24, _⟩ => ⟨S4x8192x2816, .f32⟩
  | .hbm, ⟨25, _⟩ => ⟨S4x8192x1024, .f32⟩
  | .hbm, ⟨26, _⟩ => ⟨S_, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S1x1x1024, .f32⟩
  | .hbm, ⟨31, _⟩ => ⟨S1024, .f32⟩
  | .hbm, ⟨32, _⟩ => ⟨S1x1x1024, .f32⟩
  | .hbm, ⟨33, _⟩ => ⟨S1024, .f32⟩
  | .hbm, ⟨34, _⟩ => ⟨S_, .f32⟩
  | .hbm, ⟨35, _⟩ => ⟨S4x8192, .f32⟩
  | .hbm, ⟨36, _⟩ => ⟨S4x8192x1, .f32⟩
  | .hbm, ⟨37, _⟩ => ⟨S_, .f32⟩
  | .hbm, ⟨38, _⟩ => ⟨S4x8192x1, .f32⟩
  | .hbm, ⟨39, _⟩ => ⟨S4x8192x1, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | .hbm, ⟨43, _⟩ => ⟨S_, .f32⟩
  | .hbm, ⟨44, _⟩ => ⟨S4x8192, .f32⟩
  | .hbm, ⟨45, _⟩ => ⟨S4x8192x1, .f32⟩
  | .hbm, ⟨46, _⟩ => ⟨S_, .f32⟩
  | .hbm, ⟨47, _⟩ => ⟨S4x8192x1, .f32⟩
  | .hbm, ⟨48, _⟩ => ⟨S4x8192x1, .f32⟩
  | .hbm, ⟨49, _⟩ => ⟨S4x8192x1024, .f32⟩
  | .hbm, ⟨50, _⟩ => ⟨S4x8192x1024, .f32⟩
  | .hbm, ⟨51, _⟩ => ⟨S_, .f32⟩
  | .hbm, ⟨52, _⟩ => ⟨S4x8192x1, .f32⟩
  | .hbm, ⟨53, _⟩ => ⟨S4x8192x1, .f32⟩
  | .hbm, ⟨54, _⟩ => ⟨S4x8192x1, .f32⟩
  | .hbm, ⟨55, _⟩ => ⟨S4x8192x1024, .f32⟩
  | .hbm, ⟨56, _⟩ => ⟨S4x8192x1024, .f32⟩
  | .hbm, ⟨57, _⟩ => ⟨S1x1x1024, .f32⟩
  | .hbm, ⟨58, _⟩ => ⟨S4x8192x1024, .f32⟩
  | .hbm, ⟨59, _⟩ => ⟨S4x8192x1024, .f32⟩
  | .hbm, ⟨60, _⟩ => ⟨S1x1x1024, .f32⟩
  | .hbm, ⟨61, _⟩ => ⟨S4x8192x1024, .f32⟩
  | .hbm, ⟨62, _⟩ => ⟨S4x8192x1024, .f32⟩
  | .hbm, ⟨63, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== In.lean ====
abbrev S4x8192x1024 : Shape := ⟨3, ![4, 8192, 1024]⟩
abbrev S1x1024x3352 : Shape := ⟨3, ![1, 1024, 3352]⟩
abbrev S1024x3352 : Shape := ⟨2, ![1024, 3352]⟩
abbrev S1024x768 : Shape := ⟨2, ![1024, 768]⟩
abbrev S1024x6x128 : Shape := ⟨3, ![1024, 6, 128]⟩
abbrev S1024x24 : Shape := ⟨2, ![1024, 24]⟩
abbrev S1024x2x12 : Shape := ⟨3, ![1024, 2, 12]⟩
abbrev S_ : Shape := ⟨0, ![]⟩
abbrev S1024x2x16 : Shape := ⟨3, ![1024, 2, 16]⟩
abbrev S1024x1x128 : Shape := ⟨3, ![1024, 1, 128]⟩
abbrev S1024x128 : Shape := ⟨2, ![1024, 128]⟩
abbrev S1024x2048 : Shape := ⟨2, ![1024, 2048]⟩
abbrev S1024x2x64 : Shape := ⟨3, ![1024, 2, 64]⟩
abbrev S1024x2x128 : Shape := ⟨3, ![1024, 2, 128]⟩
abbrev S1024x256 : Shape := ⟨2, ![1024, 256]⟩
abbrev S1024x2816 : Shape := ⟨2, ![1024, 2816]⟩
abbrev S1024x512 : Shape := ⟨2, ![1024, 512]⟩
abbrev S1024x32 : Shape := ⟨2, ![1024, 32]⟩
abbrev S1024x800 : Shape := ⟨2, ![1024, 800]⟩
abbrev S800x1024 : Shape := ⟨2, ![800, 1024]⟩
abbrev S4x8192x128 : Shape := ⟨3, ![4, 8192, 128]⟩
abbrev S4x8192x2048 : Shape := ⟨3, ![4, 8192, 2048]⟩
abbrev S4x2x8192x256 : Shape := ⟨4, ![4, 2, 8192, 256]⟩
abbrev S4x2x8192x128 : Shape := ⟨4, ![4, 2, 8192, 128]⟩
abbrev S4x512x8192 : Shape := ⟨3, ![4, 512, 8192]⟩
abbrev S4x128x8192 : Shape := ⟨3, ![4, 128, 8192]⟩
abbrev S4x32x8192 : Shape := ⟨3, ![4, 32, 8192]⟩
abbrev S1x512x1024 : Shape := ⟨3, ![1, 512, 1024]⟩
abbrev S1x512x128 : Shape := ⟨3, ![1, 512, 128]⟩
abbrev S1x512x2048 : Shape := ⟨3, ![1, 512, 2048]⟩
abbrev S1x2x512x256 : Shape := ⟨4, ![1, 2, 512, 256]⟩
abbrev S1x2x512x128 : Shape := ⟨4, ![1, 2, 512, 128]⟩
abbrev S1x512x512 : Shape := ⟨3, ![1, 512, 512]⟩
abbrev S1x128x512 : Shape := ⟨3, ![1, 128, 512]⟩
abbrev S1x32x512 : Shape := ⟨3, ![1, 32, 512]⟩
abbrev S512x1024 : Shape := ⟨2, ![512, 1024]⟩
abbrev S512x2816 : Shape := ⟨2, ![512, 2816]⟩
abbrev S512x128 : Shape := ⟨2, ![512, 128]⟩
abbrev S512x2048 : Shape := ⟨2, ![512, 2048]⟩
abbrev S1x1x512x128 : Shape := ⟨4, ![1, 1, 512, 128]⟩
abbrev S800x512 : Shape := ⟨2, ![800, 512]⟩
abbrev S512x512 : Shape := ⟨2, ![512, 512]⟩
abbrev S128x512 : Shape := ⟨2, ![128, 512]⟩
abbrev S32x512 : Shape := ⟨2, ![32, 512]⟩

abbrev nBuf : Space → Nat
  | .hbm => 49
  | .vmem => 22
  | .smem => 0
  | _ => 0

abbrev bufTy : (tb : Table) → Fin (tcTables nBuf tb) → BufTy
  | .hbm, ⟨0, _⟩ => ⟨S4x8192x1024, .f32⟩
  | .hbm, ⟨1, _⟩ => ⟨S1x1024x3352, .f32⟩
  | .hbm, ⟨2, _⟩ => ⟨S1024x3352, .f32⟩
  | .hbm, ⟨3, _⟩ => ⟨S1024x768, .f32⟩
  | .hbm, ⟨4, _⟩ => ⟨S1024x6x128, .f32⟩
  | .hbm, ⟨5, _⟩ => ⟨S1024x24, .f32⟩
  | .hbm, ⟨6, _⟩ => ⟨S1024x2x12, .f32⟩
  | .hbm, ⟨7, _⟩ => ⟨S_, .i32⟩
  | .hbm, ⟨8, _⟩ => ⟨S_, .f32⟩
  | .hbm, ⟨9, _⟩ => ⟨S1024x2x16, .f32⟩
  | .hbm, ⟨10, _⟩ => ⟨S1024x1x128, .f32⟩
  | .hbm, ⟨11, _⟩ => ⟨S1024x128, .f32⟩
  | .hbm, ⟨12, _⟩ => ⟨S1024x1x128, .f32⟩
  | .hbm, ⟨13, _⟩ => ⟨S1024x128, .f32⟩
  | .hbm, ⟨14, _⟩ => ⟨S1024x2048, .f32⟩
  | .hbm, ⟨15, _⟩ => ⟨S1024x1x128, .f32⟩
  | .hbm, ⟨16, _⟩ => ⟨S1024x128, .f32⟩
  | .hbm, ⟨17, _⟩ => ⟨S1024x2x64, .f32⟩
  | .hbm, ⟨18, _⟩ => ⟨S_, .i32⟩
  | .hbm, ⟨19, _⟩ => ⟨S_, .f32⟩
  | .hbm, ⟨20, _⟩ => ⟨S1024x2x128, .f32⟩
  | .hbm, ⟨21, _⟩ => ⟨S1024x256, .f32⟩
  | .hbm, ⟨22, _⟩ => ⟨S1024x1x128, .f32⟩
  | .hbm, ⟨23, _⟩ => ⟨S1024x128, .f32⟩
  | .hbm, ⟨24, _⟩ => ⟨S1024x2x64, .f32⟩
  | .hbm, ⟨25, _⟩ => ⟨S_, .i32⟩
  | .hbm, ⟨26, _⟩ => ⟨S_, .f32⟩
  | .hbm, ⟨27, _⟩ => ⟨S1024x2x128, .f32⟩
  | .hbm, ⟨28, _⟩ => ⟨S1024x256, .f32⟩
  | .hbm, ⟨29, _⟩ => ⟨S1024x2816, .f32⟩
  | .hbm, ⟨30, _⟩ => ⟨S1024x512, .f32⟩
  | .hbm, ⟨31, _⟩ => ⟨S1024x1x128, .f32⟩
  | .hbm, ⟨32, _⟩ => ⟨S1024x128, .f32⟩
  | .hbm, ⟨33, _⟩ => ⟨S1024x1x128, .f32⟩
  | .hbm, ⟨34, _⟩ => ⟨S1024x128, .f32⟩
  | .hbm, ⟨35, _⟩ => ⟨S1024x32, .f32⟩
  | .hbm, ⟨36, _⟩ => ⟨S1024x800, .f32⟩
  | .hbm, ⟨37, _⟩ => ⟨S1024x2816, .bf16⟩
  | .hbm, ⟨38, _⟩ => ⟨S800x1024, .f32⟩
  | .hbm, ⟨39, _⟩ => ⟨S800x1024, .bf16⟩
  | .hbm, ⟨40, _⟩ => ⟨S4x8192x128, .f32⟩
  | .hbm, ⟨41, _⟩ => ⟨S4x8192x128, .f32⟩
  | .hbm, ⟨42, _⟩ => ⟨S4x8192x2048, .f32⟩
  | .hbm, ⟨43, _⟩ => ⟨S4x2x8192x256, .bf16⟩
  | .hbm, ⟨44, _⟩ => ⟨S4x2x8192x128, .bf16⟩
  | .hbm, ⟨45, _⟩ => ⟨S4x512x8192, .bf16⟩
  | .hbm, ⟨46, _⟩ => ⟨S4x128x8192, .bf16⟩
  | .hbm, ⟨47, _⟩ => ⟨S4x128x8192, .bf16⟩
  | .hbm, ⟨48, _⟩ => ⟨S4x32x8192, .f32⟩
  | .local _ .vmem, ⟨0, _⟩ => ⟨S1x512x1024, .f32⟩
  | .local _ .vmem, ⟨1, _⟩ => ⟨S1x512x1024, .f32⟩
  | .local _ .vmem, ⟨2, _⟩ => ⟨S1024x2816, .bf16⟩
  | .local _ .vmem, ⟨3, _⟩ => ⟨S800x1024, .bf16⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x2048, .f32⟩
  | .local _ .vmem, ⟨9, _⟩ => ⟨S1x512x2048, .f32⟩
  | .local _ .vmem, ⟨10, _⟩ => ⟨S1x2x512x256, .bf16⟩
  | .local _ .vmem, ⟨11, _⟩ => ⟨S1x2x512x256, .bf16⟩
  | .local _ .vmem, ⟨12, _⟩ => ⟨S1x2x512x128, .bf16⟩
  | .local _ .vmem, ⟨13, _⟩ => ⟨S1x2x512x128, .bf16⟩
  | .local _ .vmem, ⟨14, _⟩ => ⟨S1x512x512, .bf16⟩
  | .local _ .vmem, ⟨15, _⟩ => ⟨S1x512x512, .bf16⟩
  | .local _ .vmem, ⟨16, _⟩ => ⟨S1x128x512, .bf16⟩
  | .local _ .vmem, ⟨17, _⟩ => ⟨S1x128x512, .bf16⟩
  | .local _ .vmem, ⟨18, _⟩ => ⟨S1x128x512, .bf16⟩
  | .local _ .vmem, ⟨19, _⟩ => ⟨S1x128x512, .bf16⟩
  | .local _ .vmem, ⟨20, _⟩ => ⟨S1x32x512, .f32⟩
  | .local _ .vmem, ⟨21, _⟩ => ⟨S1x32x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_call1_v0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_call2_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32_0 : Ref sig .tc := ⟨.hbm, 40, rfl⟩
abbrev main_v32_1 : Ref sig .tc := ⟨.hbm, 41, rfl⟩
abbrev main_v32_2 : Ref sig .tc := ⟨.hbm, 42, rfl⟩
abbrev main_v32_3 : Ref sig .tc := ⟨.hbm, 43, rfl⟩
abbrev main_v32_4 : Ref sig .tc := ⟨.hbm, 44, rfl⟩
abbrev main_v32_5 : Ref sig .tc := ⟨.hbm, 45, rfl⟩
abbrev main_v32_6 : Ref sig .tc := ⟨.hbm, 46, rfl⟩
abbrev main_v32_7 : Ref sig .tc := ⟨.hbm, 47, rfl⟩
abbrev main_v32_8 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S800x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x32x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== InIdeal.lean ====
variable {F : FTy → Type} [FloatOps F] [Named F]
def κ : String → Option EReal := fun
  | "scale" => some (((1 / 8) * (Real.log 2)⁻¹ : ℝ) : EReal)
  | _ => none
-- ==== InRefIdeal.lean ====
abbrev S4x8192x1024 : Shape := ⟨3, ![4, 8192, 1024]⟩
abbrev S1x1024x3352 : Shape := ⟨3, ![1, 1024, 3352]⟩
abbrev S1024x3352 : Shape := ⟨2, ![1024, 3352]⟩
abbrev S4x8192x3352 : Shape := ⟨3, ![4, 8192, 3352]⟩
abbrev S4x8192x512 : Shape := ⟨3, ![4, 8192, 512]⟩
abbrev S4x8192x768 : Shape := ⟨3, ![4, 8192, 768]⟩
abbrev S4x8192x24 : Shape := ⟨3, ![4, 8192, 24]⟩
abbrev S4x8192x2048 : Shape := ⟨3, ![4, 8192, 2048]⟩
abbrev S4x8192x128 : Shape := ⟨3, ![4, 8192, 128]⟩
abbrev S_ : Shape := ⟨0, ![]⟩
abbrev S4x512x8192 : Shape := ⟨3, ![4, 512, 8192]⟩
abbrev S4x128x8192 : Shape := ⟨3, ![4, 128, 8192]⟩
abbrev S4x8192x2x64 : Shape := ⟨4, ![4, 8192, 2, 64]⟩
abbrev S4x2x8192x64 : Shape := ⟨4, ![4, 2, 8192, 64]⟩
abbrev S4x2x8192x128 : Shape := ⟨4, ![4, 2, 8192, 128]⟩
abbrev S4x8192x2x12 : Shape := ⟨4, ![4, 8192, 2, 12]⟩
abbrev S4x8192x2x16 : Shape := ⟨4, ![4, 8192, 2, 16]⟩
abbrev S4x8192x32 : Shape := ⟨3, ![4, 8192, 32]⟩
abbrev S8192 : Shape := ⟨1, ![8192]⟩
abbrev S8192x1 : Shape := ⟨2, ![8192, 1]⟩
abbrev S128 : Shape := ⟨1, ![128]⟩
abbrev S1x128 : Shape := ⟨2, ![1, 128]⟩
abbrev S8192x128 : Shape := ⟨2, ![8192, 128]⟩
abbrev S4x2x8192x256 : Shape := ⟨4, ![4, 2, 8192, 256]⟩
abbrev S4x32x8192 : Shape := ⟨3, ![4, 32, 8192]⟩

abbrev nBuf : Space → Nat
  | .hbm => 63
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024x3352, .f32⟩
  | .hbm, ⟨2, _⟩ => ⟨S1024x3352, .f32⟩
  | .hbm, ⟨3, _⟩ => ⟨S4x8192x3352, .f32⟩
  | .hbm, ⟨4, _⟩ => ⟨S4x8192x512, .f32⟩
  | .hbm, ⟨5, _⟩ => ⟨S4x8192x768, .f32⟩
  | .hbm, ⟨6, _⟩ => ⟨S4x8192x24, .f32⟩
  | .hbm, ⟨7, _⟩ => ⟨S4x8192x2048, .f32⟩
  | .hbm, ⟨8, _⟩ => ⟨S4x8192x128, .f32⟩
  | .hbm, ⟨9, _⟩ => ⟨S4x8192x128, .f32⟩
  | .hbm, ⟨10, _⟩ => ⟨S4x8192x128, .f32⟩
  | .hbm, ⟨11, _⟩ => ⟨S4x8192x128, .f32⟩
  | .hbm, ⟨12, _⟩ => ⟨S4x8192x128, .f32⟩
  | .hbm, ⟨13, _⟩ => ⟨S4x8192x128, .f32⟩
  | .hbm, ⟨14, _⟩ => ⟨S_, .f32⟩
  | .hbm, ⟨15, _⟩ => ⟨S4x8192x512, .f32⟩
  | .hbm, ⟨16, _⟩ => ⟨S4x8192x512, .f32⟩
  | .hbm, ⟨17, _⟩ => ⟨S_, .f32⟩
  | .hbm, ⟨18, _⟩ => ⟨S_, .f32⟩
  | .hbm, ⟨19, _⟩ => ⟨S4x8192x512, .f32⟩
  | .hbm, ⟨20, _⟩ => ⟨S4x8192x512, .f32⟩
  | .hbm, ⟨21, _⟩ => ⟨S4x512x8192, .f32⟩
  | .hbm, ⟨22, _⟩ => ⟨S4x512x8192, .bf16⟩
  | .hbm, ⟨23, _⟩ => ⟨S4x128x8192, .f32⟩
  | .hbm, ⟨24, _⟩ => ⟨S4x128x8192, .bf16⟩
  | .hbm, ⟨25, _⟩ => ⟨S4x128x8192, .f32⟩
  | .hbm, ⟨26, _⟩ => ⟨S4x128x8192, .bf16⟩
  | .hbm, ⟨27, _⟩ => ⟨S4x8192x2x64, .f32⟩
  | .hbm, ⟨28, _⟩ => ⟨S4x2x8192x64, .f32⟩
  | .hbm, ⟨29, _⟩ => ⟨S_, .i32⟩
  | .hbm, ⟨30, _⟩ => ⟨S_, .f32⟩
  | .hbm, ⟨31, _⟩ => ⟨S4x2x8192x128, .f32⟩
  | .hbm, ⟨32, _⟩ => ⟨S4x8192x2x64, .f32⟩
  | .hbm, ⟨33, _⟩ => ⟨S4x2x8192x64, .f32⟩
  | .hbm, ⟨34, _⟩ => ⟨S_, .i32⟩
  | .hbm, ⟨35, _⟩ => ⟨S_, .f32⟩
  | .hbm, ⟨36, _⟩ => ⟨S4x2x8192x128, .f32⟩
  | .hbm, ⟨37, _⟩ => ⟨S4x8192x2x12, .f32⟩
  | .hbm, ⟨38, _⟩ => ⟨S_, .i32⟩
  | .hbm, ⟨39, _⟩ => ⟨S_, .f32⟩
  | .hbm, ⟨40, _⟩ => ⟨S4x8192x2x16, .f32⟩
  | .hbm, ⟨41, _⟩ => ⟨S4x8192x32, .f32⟩
  | .hbm, ⟨42, _⟩ => ⟨S8192, .i32⟩
  | .hbm, ⟨43, _⟩ => ⟨S_, .i32⟩
  | .hbm, ⟨44, _⟩ => ⟨S8192, .i32⟩
  | .hbm, ⟨45, _⟩ => ⟨S8192, .i32⟩
  | .hbm, ⟨46, _⟩ => ⟨S8192x1, .i32⟩
  | .hbm, ⟨47, _⟩ => ⟨S128, .i32⟩
  | .hbm, ⟨48, _⟩ => ⟨S1x128, .i32⟩
  | .hbm, ⟨49, _⟩ => ⟨S8192x128, .i32⟩
  | .hbm, ⟨50, _⟩ => ⟨S8192x128, .i32⟩
  | .hbm, ⟨51, _⟩ => ⟨S8192x128, .i1⟩
  | .hbm, ⟨52, _⟩ => ⟨S_, .f32⟩
  | .hbm, ⟨53, _⟩ => ⟨S_, .f32⟩
  | .hbm, ⟨54, _⟩ => ⟨S8192x128, .f32⟩
  | .hbm, ⟨55, _⟩ => ⟨S8192x128, .f32⟩
  | .hbm, ⟨56, _⟩ => ⟨S8192x128, .f32⟩
  | .hbm, ⟨57, _⟩ => ⟨S4x2x8192x128, .f32⟩
  | .hbm, ⟨58, _⟩ => ⟨S4x2x8192x128, .f32⟩
  | .hbm, ⟨59, _⟩ => ⟨S4x2x8192x256, .f32⟩
  | .hbm, ⟨60, _⟩ => ⟨S4x2x8192x256, .bf16⟩
  | .hbm, ⟨61, _⟩ => ⟨S4x2x8192x128, .bf16⟩
  | .hbm, ⟨62, _⟩ => ⟨S4x32x8192, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_c : Ref sig .tc := ⟨.hbm, 29, rfl⟩
abbrev main_call0_v0 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c_1 : Ref sig .tc := ⟨.hbm, 34, rfl⟩
abbrev main_call1_v0 : Ref sig .tc := ⟨.hbm, 35, rfl⟩
abbrev main_v28 : Ref sig .tc := ⟨.hbm, 36, rfl⟩
abbrev main_v29 : Ref sig .tc := ⟨.hbm, 37, rfl⟩
abbrev main_c_2 : Ref sig .tc := ⟨.hbm, 38, rfl⟩
abbrev main_call2_v0 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_cst_5 : Ref sig .tc := ⟨.hbm, 53, rfl⟩
abbrev main_call3_v0 : Ref sig .tc := ⟨.hbm, 54, rfl⟩
abbrev main_call3_v1 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Proof.FrameI.lean ====
/- Hand-taken, untrusted: THE FRAME OF THE IDEALIZED KERNEL, from its body's runs (Gen/KernelIdeal/Frame/RunA.lean to RunD.lean). The text is
   the generated frame module's with one change: the three conditions of the body are irreducible here, so that no
   unification evaluates them at a grid point. -/
module

public import proofs.«01_k».proof.Proof.Gen.KernelIdeal.Frame.RunD
public import Idealize.ShloMosaic.Lib.Claim

@[expose] public section

-- membership in a rectangle of production extents (`View.cover_of_tiled`): the elaborator's structural look
-- recurses once per coordinate of the long axes
set_option maxRecDepth 16384

noncomputable section

namespace Cert.Proof.FrameI

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

-- whether a point stores into an output is decided by the closed forms (`hcond0_0` to `hcond0_2`), never by evaluating the
-- body's word arithmetic at a point
attribute [local irreducible] k0_cond1 k0_cond2 k0_cond3

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 5 tile its block (32 stores of `S1x1x64x128`, checked by the kernel's evaluation: Lib/Ring.lean `Piece.tiledL`, linear in the pieces, through a loop's `@[irreducible]` trip theorem too), so they cover it. -/
theorem cover0_A_5 (c : Dev nD) (i : grid0.Coords) (arg3 : Memref sig .tc .vmem S1x256x1024 .bf16) (harg3 : arg3.IsWhole) (arg4 : Memref sig .tc .vmem S1x1x512x64 .bf16) (harg4 : arg4.IsWhole) (arg5 : Memref sig .tc .vmem S1x1x80x512 .bf16) (harg5 : arg5.IsWhole) (arg6 : Memref sig .tc .vmem S128x512 .bf16) (harg6 : arg6.IsWhole) (arg7 : Memref sig .tc .vmem S1024x128 .f32) (harg7 : arg7.IsWhole) (arg8 : Memref sig .tc .vmem S1x4x64x1024 .f32) (harg8 : arg8.IsWhole) (arg9 : Memref sig .tc .vmem S1x1x128x1024 .bf16) (harg9 : arg9.IsWhole) (arg10 : Memref sig .tc .vmem S128x1024 .f32) (harg10 : arg10.IsWhole) (hc0 : ¬cond0_0 i)
    (x0 : Vec F S1x256x1024 .bf16) (x1 : Vec F S1x1x512x64 .bf16) (x2 : Vec F S1x1x80x512 .bf16) (x3 : Vec F S128x512 .bf16) (x4 : Vec F S1024x128 .f32) (y : S1x4x64x1024.Idx) :
    ∃ pc ∈ (kernelRun0_A c i arg3 harg3 arg4 harg4 arg5 harg5 arg6 harg6 arg7 harg7 arg8 harg8 arg9 harg9 arg10 harg10 hc0 x0 x1 x2 x3 x4).1, y ∈ pc.1.set :=
  View.cover_of_tiledL (kernelRun0_A c i arg3 harg3 arg4 harg4 arg5 harg5 arg6 harg6 arg7 harg7 arg8 harg8 arg9 harg9 arg10 harg10 hc0 x0 x1 x2 x3 x4).1 S1x1x64x128.size (by sl_kernel_rfl) y

/-- What case A leaves in output 5's staging buffer: its pieces read back over junk. -/
def out0_A_5 (c : Dev nD) (i : grid0.Coords) (arg3 : Memref sig .tc .vmem S1x256x1024 .bf16) (harg3 : arg3.IsWhole) (arg4 : Memref sig .tc .vmem S1x1x512x64 .bf16) (harg4 : arg4.IsWhole) (arg5 : Memref sig .tc .vmem S1x1x80x512 .bf16) (harg5 : arg5.IsWhole) (arg6 : Memref sig .tc .vmem S128x512 .bf16) (harg6 : arg6.IsWhole) (arg7 : Memref sig .tc .vmem S1024x128 .f32) (harg7 : arg7.IsWhole) (arg8 : Memref sig .tc .vmem S1x4x64x1024 .f32) (harg8 : arg8.IsWhole) (arg9 : Memref sig .tc .vmem S1x1x128x1024 .bf16) (harg9 : arg9.IsWhole) (arg10 : Memref sig .tc .vmem S128x1024 .f32) (harg10 : arg10.IsWhole) (hc0 : ¬cond0_0 i)
    (x0 : Vec F S1x256x1024 .bf16) (x1 : Vec F S1x1x512x64 .bf16) (x2 : Vec F S1x1x80x512 .bf16) (x3 : Vec F S128x512 .bf16) (x4 : Vec F S1024x128 .f32) : Vec F S1x4x64x1024 .f32 :=
  VO0_5.read (Elt F) (VO0_5.writes (Elt F) VO0_5.junk (kernelRun0_A c i arg3 harg3 arg4 harg4 arg5 harg5 arg6 harg6 arg7 harg7 arg8 harg8 arg9 harg9 arg10 harg10 hc0 x0 x1 x2 x3 x4).1)

/-- Case A's pieces for output 6 tile its block (4 stores of `S1x1x128x256`, checked by the kernel's evaluation: Lib/Ring.lean `Piece.tiledL`, linear in the pieces, through a loop's `@[irreducible]` trip theorem too), so they cover it. -/
theorem cover0_A_6 (c : Dev nD) (i : grid0.Coords) (arg3 : Memref sig .tc .vmem S1x256x1024 .bf16) (harg3 : arg3.IsWhole) (arg4 : Memref sig .tc .vmem S1x1x512x64 .bf16) (harg4 : arg4.IsWhole) (arg5 : Memref sig .tc .vmem S1x1x80x512 .bf16) (harg5 : arg5.IsWhole) (arg6 : Memref sig .tc .vmem S128x512 .bf16) (harg6 : arg6.IsWhole) (arg7 : Memref sig .tc .vmem S1024x128 .f32) (harg7 : arg7.IsWhole) (arg8 : Memref sig .tc .vmem S1x4x64x1024 .f32) (harg8 : arg8.IsWhole) (arg9 : Memref sig .tc .vmem S1x1x128x1024 .bf16) (harg9 : arg9.IsWhole) (arg10 : Memref sig .tc .vmem S128x1024 .f32) (harg10 : arg10.IsWhole) (hc0 : ¬cond0_0 i)
    (x0 : Vec F S1x256x1024 .bf16) (x1 : Vec F S1x1x512x64 .bf16) (x2 : Vec F S1x1x80x512 .bf16) (x3 : Vec F S128x512 .bf16) (x4 : Vec F S1024x128 .f32) (y : S1x1x128x1024.Idx) :
    ∃ pc ∈ (kernelRun0_A c i arg3 harg3 arg4 harg4 arg5 harg5 arg6 harg6 arg7 harg7 arg8 harg8 arg9 harg9 arg10 harg10 hc0 x0 x1 x2 x3 x4).2.1, y ∈ pc.1.set :=
  View.cover_of_tiledL (kernelRun0_A c i arg3 harg3 arg4 harg4 arg5 harg5 arg6 harg6 arg7 harg7 arg8 harg8 arg9 harg9 arg10 harg10 hc0 x0 x1 x2 x3 x4).2.1 S1x1x128x256.size (by sl_kernel_rfl) y

/-- What case A leaves in output 6's staging buffer: its pieces read back over junk. -/
def out0_A_6 (c : Dev nD) (i : grid0.Coords) (arg3 : Memref sig .tc .vmem S1x256x1024 .bf16) (harg3 : arg3.IsWhole) (arg4 : Memref sig .tc .vmem S1x1x512x64 .bf16) (harg4 : arg4.IsWhole) (arg5 : Memref sig .tc .vmem S1x1x80x512 .bf16) (harg5 : arg5.IsWhole) (arg6 : Memref sig .tc .vmem S128x512 .bf16) (harg6 : arg6.IsWhole) (arg7 : Memref sig .tc .vmem S1024x128 .f32) (harg7 : arg7.IsWhole) (arg8 : Memref sig .tc .vmem S1x4x64x1024 .f32) (harg8 : arg8.IsWhole) (arg9 : Memref sig .tc .vmem S1x1x128x1024 .bf16) (harg9 : arg9.IsWhole) (arg10 : Memref sig .tc .vmem S128x1024 .f32) (harg10 : arg10.IsWhole) (hc0 : ¬cond0_0 i)
    (x0 : Vec F S1x256x1024 .bf16) (x1 : Vec F S1x1x512x64 .bf16) (x2 : Vec F S1x1x80x512 .bf16) (x3 : Vec F S128x512 .bf16) (x4 : Vec F S1024x128 .f32) : Vec F S1x1x128x1024 .bf16 :=
  VO0_6.read (Elt F) (VO0_6.writes (Elt F) VO0_6.junk (kernelRun0_A c i arg3 harg3 arg4 harg4 arg5 harg5 arg6 harg6 arg7 harg7 arg8 harg8 arg9 harg9 arg10 harg10 hc0 x0 x1 x2 x3 x4).2.1)

/-- Case B's pieces for output 5 tile its block (32 stores of `S1x1x64x128`, checked by the kernel's evaluation: Lib/Ring.lean `Piece.tiledL`, linear in the pieces, through a loop's `@[irreducible]` trip theorem too), so they cover it. -/
theorem cover0_B_5 (c : Dev nD) (i : grid0.Coords) (arg3 : Memref sig .tc .vmem S1x256x1024 .bf16) (harg3 : arg3.IsWhole) (arg4 : Memref sig .tc .vmem S1x1x512x64 .bf16) (harg4 : arg4.IsWhole) (arg5 : Memref sig .tc .vmem S1x1x80x512 .bf16) (harg5 : arg5.IsWhole) (arg6 : Memref sig .tc .vmem S128x512 .bf16) (harg6 : arg6.IsWhole) (arg7 : Memref sig .tc .vmem S1024x128 .f32) (harg7 : arg7.IsWhole) (arg8 : Memref sig .tc .vmem S1x4x64x1024 .f32) (harg8 : arg8.IsWhole) (arg9 : Memref sig .tc .vmem S1x1x128x1024 .bf16) (harg9 : arg9.IsWhole) (arg10 : Memref sig .tc .vmem S128x1024 .f32) (harg10 : arg10.IsWhole) (hc0 : cond0_0 i) (hc1 : ¬cond0_1 i)
    (x0 : Vec F S1x256x1024 .bf16) (x1 : Vec F S1x1x512x64 .bf16) (x2 : Vec F S1x1x80x512 .bf16) (x3 : Vec F S128x512 .bf16) (x4 : Vec F S1024x128 .f32) (y : S1x4x64x1024.Idx) :
    ∃ pc ∈ (kernelRun0_B c i arg3 harg3 arg4 harg4 arg5 harg5 arg6 harg6 arg7 harg7 arg8 harg8 arg9 harg9 arg10 harg10 hc0 hc1 x0 x1 x2 x3 x4).1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4).1 S1x1x64x128.size (by sl_kernel_rfl) y

/-- What case B leaves in output 5's staging buffer: its pieces read back over junk. -/
def out0_B_5 (c : Dev nD) (i : grid0.Coords) (arg3 : Memref sig .tc .vmem S1x256x1024 .bf16) (harg3 : arg3.IsWhole) (arg4 : Memref sig .tc .vmem S1x1x512x64 .bf16) (harg4 : arg4.IsWhole) (arg5 : Memref sig .tc .vmem S1x1x80x512 .bf16) (harg5 : arg5.IsWhole) (arg6 : Memref sig .tc .vmem S128x512 .bf16) (harg6 : arg6.IsWhole) (arg7 : Memref sig .tc .vmem S1024x128 .f32) (harg7 : arg7.IsWhole) (arg8 : Memref sig .tc .vmem S1x4x64x1024 .f32) (harg8 : arg8.IsWhole) (arg9 : Memref sig .tc .vmem S1x1x128x1024 .bf16) (harg9 : arg9.IsWhole) (arg10 : Memref sig .tc .vmem S128x1024 .f32) (harg10 : arg10.IsWhole) (hc0 : cond0_0 i) (hc1 : ¬cond0_1 i)
    (x0 : Vec F S1x256x1024 .bf16) (x1 : Vec F S1x1x512x64 .bf16) (x2 : Vec F S1x1x80x512 .bf16) (x3 : Vec F S128x512 .bf16) (x4 : Vec F S1024x128 .f32) : Vec F S1x4x64x1024 .f32 :=
  VO0_5.read (Elt F) (VO0_5.writes (Elt F) VO0_5.junk (kernelRun0_B c i arg3 harg3 arg4 harg4 arg5 harg5 arg6 harg6 arg7 harg7 arg8 harg8 arg9 harg9 arg10 harg10 hc0 hc1 x0 x1 x2 x3 x4).1)

/-- Case B's pieces for output 6 tile its block (4 stores of `S1x1x128x256`, checked by the kernel's evaluation: Lib/Ring.lean `Piece.tiledL`, linear in the pieces, through a loop's `@[irreducible]` trip theorem too), so they cover it. -/
theorem cover0_B_6 (c : Dev nD) (i : grid0.Coords) (arg3 : Memref sig .tc .vmem S1x256x1024 .bf16) (harg3 : arg3.IsWhole) (arg4 : Memref sig .tc .vmem S1x1x512x64 .bf16) (harg4 : arg4.IsWhole) (arg5 : Memref sig .tc .vmem S1x1x80x512 .bf16) (harg5 : arg5.IsWhole) (arg6 : Memref sig .tc .vmem S128x512 .bf16) (harg6 : arg6.IsWhole) (arg7 : Memref sig .tc .vmem S1024x128 .f32) (harg7 : arg7.IsWhole) (arg8 : Memref sig .tc .vmem S1x4x64x1024 .f32) (harg8 : arg8.IsWhole) (arg9 : Memref sig .tc .vmem S1x1x128x1024 .bf16) (harg9 : arg9.IsWhole) (arg10 : Memref sig .tc .vmem S128x1024 .f32) (harg10 : arg10.IsWhole) (hc0 : cond0_0 i) (hc1 : ¬cond0_1 i)
    (x0 : Vec F S1x256x1024 .bf16) (x1 : Vec F S1x1x512x64 .bf16) (x2 : Vec F S1x1x80x512 .bf16) (x3 : Vec F S128x512 .bf16) (x4 : Vec F S1024x128 .f32) (y : S1x1x128x1024.Idx) :
    ∃ pc ∈ (kernelRun0_B c i arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4).2.1 S1x1x128x256.size (by sl_kernel_rfl) y

/-- What case B leaves in output 6's staging buffer: its pieces read back over junk. -/
def out0_B_6 (c : Dev nD) (i : grid0.Coords) (arg3 : Memref sig .tc .vmem S1x256x1024 .bf16) (harg3 : arg3.IsWhole) (arg4 : Memref sig .tc .vmem S1x1x512x64 .bf16) (harg4 : arg4.IsWhole) (arg5 : Memref sig .tc .vmem S1x1x80x512 .bf16) (harg5 : arg5.IsWhole) (arg6 : Memref sig .tc .vmem S128x512 .bf16) (harg6 : arg6.IsWhole) (arg7 : Memref sig .tc .vmem S1024x128 .f32) (harg7 : arg7.IsWhole) (arg8 : Memref sig .tc .vmem S1x4x64x1024 .f32) (harg8 : arg8.IsWhole) (arg9 : Memref sig .tc .vmem S1x1x128x1024 .bf16) (harg9 : arg9.IsWhole) (arg10 : Memref sig .tc .vmem S128x1024 .f32) (harg10 : arg10.IsWhole) (hc0 : cond0_0 i) (hc1 : ¬cond0_1 i)
    (x0 : Vec F S1x256x1024 .bf16) (x1 : Vec F S1x1x512x64 .bf16) (x2 : Vec F S1x1x80x512 .bf16) (x3 : Vec F S128x512 .bf16) (x4 : Vec F S1024x128 .f32) : Vec F S1x1x128x1024 .bf16 :=
  VO0_6.read (Elt F) (VO0_6.writes (Elt F) VO0_6.junk (kernelRun0_B c i arg3 harg3 arg4 harg4 arg5 harg5 arg6 harg6 arg7 harg7 arg8 harg8 arg9 harg9 arg10 harg10 hc0 hc1 x0 x1 x2 x3 x4).2.1)

/-- Case C's pieces for output 5 tile its block (32 stores of `S1x1x64x128`, checked by the kernel's evaluation: Lib/Ring.lean `Piece.tiledL`, linear in the pieces, through a loop's `@[irreducible]` trip theorem too), so they cover it. -/
theorem cover0_C_5 (c : Dev nD) (i : grid0.Coords) (arg3 : Memref sig .tc .vmem S1x256x1024 .bf16) (harg3 : arg3.IsWhole) (arg4 : Memref sig .tc .vmem S1x1x512x64 .bf16) (harg4 : arg4.IsWhole) (arg5 : Memref sig .tc .vmem S1x1x80x512 .bf16) (harg5 : arg5.IsWhole) (arg6 : Memref sig .tc .vmem S128x512 .bf16) (harg6 : arg6.IsWhole) (arg7 : Memref sig .tc .vmem S1024x128 .f32) (harg7 : arg7.IsWhole) (arg8 : Memref sig .tc .vmem S1x4x64x1024 .f32) (harg8 : arg8.IsWhole) (arg9 : Memref sig .tc .vmem S1x1x128x1024 .bf16) (harg9 : arg9.IsWhole) (arg10 : Memref sig .tc .vmem S128x1024 .f32) (harg10 : arg10.IsWhole) (hc0 : cond0_0 i) (hc1 : cond0_1 i) (hc2 : ¬cond0_2 i)
    (x0 : Vec F S1x256x1024 .bf16) (x1 : Vec F S1x1x512x64 .bf16) (x2 : Vec F S1x1x80x512 .bf16) (x3 : Vec F S128x512 .bf16) (x4 : Vec F S1024x128 .f32) (y : S1x4x64x1024.Idx) :
    ∃ pc ∈ (kernelRun0_C c i arg3 harg3 arg4 harg4 arg5 harg5 arg6 harg6 arg7 harg7 arg8 harg8 arg9 harg9 arg10 harg10 hc0 hc1 hc2 x0 x1 x2 x3 x4).1, y ∈ pc.1.set :=
  View.cover_of_tiledL (kernelRun0_C c i arg3 harg3 arg4 harg4 arg5 harg5 arg6 harg6 arg7 harg7 arg8 harg8 arg9 harg9 arg10 harg10 hc0 hc1 hc2 x0 x1 x2 x3 x4).1 S1x1x64x128.size (by sl_kernel_rfl) y

/-- What case C leaves in output 5's staging buffer: its pieces read back over junk. -/
def out0_C_5 (c : Dev nD) (i : grid0.Coords) (arg3 : Memref sig .tc .vmem S1x256x1024 .bf16) (harg3 : arg3.IsWhole) (arg4 : Memref sig .tc .vmem S1x1x512x64 .bf16) (harg4 : arg4.IsWhole) (arg5 : Memref sig .tc .vmem S1x1x80x512 .bf16) (harg5 : arg5.IsWhole) (arg6 : Memref sig .tc .vmem S128x512 .bf16) (harg6 : arg6.IsWhole) (arg7 : Memref sig .tc .vmem S1024x128 .f32) (harg7 : arg7.IsWhole) (arg8 : Memref sig .tc .vmem S1x4x64x1024 .f32) (harg8 : arg8.IsWhole) (arg9 : Memref sig .tc .vmem S1x1x128x1024 .bf16) (harg9 : arg9.IsWhole) (arg10 : Memref sig .tc .vmem S128x1024 .f32) (harg10 : arg10.IsWhole) (hc0 : cond0_0 i) (hc1 : cond0_1 i) (hc2 : ¬cond0_2 i)
    (x0 : Vec F S1x256x1024 .bf16) (x1 : Vec F S1x1x512x64 .bf16) (x2 : Vec F S1x1x80x512 .bf16) (x3 : Vec F S128x512 .bf16) (x4 : Vec F S1024x128 .f32) : Vec F S1x4x64x1024 .f32 :=
  VO0_5.read (Elt F) (VO0_5.writes (Elt F) VO0_5.junk (kernelRun0_C c i arg3 harg3 arg4 harg4 arg5 harg5 arg6 harg6 arg7 harg7 arg8 harg8 arg9 harg9 arg10 harg10 hc0 hc1 hc2 x0 x1 x2 x3 x4).1)

/-- Case C's pieces for output 6 tile its block (4 stores of `S1x1x128x256`, checked by the kernel's evaluation: Lib/Ring.lean `Piece.tiledL`, linear in the pieces, through a loop's `@[irreducible]` trip theorem too), so they cover it. -/
theorem cover0_C_6 (c : Dev nD) (i : grid0.Coords) (arg3 : Memref sig .tc .vmem S1x256x1024 .bf16) (harg3 : arg3.IsWhole) (arg4 : Memref sig .tc .vmem S1x1x512x64 .bf16) (harg4 : arg4.IsWhole) (arg5 : Memref sig .tc .vmem S1x1x80x512 .bf16) (harg5 : arg5.IsWhole) (arg6 : Memref sig .tc .vmem S128x512 .bf16) (harg6 : arg6.IsWhole) (arg7 : Memref sig .tc .vmem S1024x128 .f32) (harg7 : arg7.IsWhole) (arg8 : Memref sig .tc .vmem S1x4x64x1024 .f32) (harg8 : arg8.IsWhole) (arg9 : Memref sig .tc .vmem S1x1x128x1024 .bf16) (harg9 : arg9.IsWhole) (arg10 : Memref sig .tc .vmem S128x1024 .f32) (harg10 : arg10.IsWhole) (hc0 : cond0_0 i) (hc1 : cond0_1 i) (hc2 : ¬cond0_2 i)
    (x0 : Vec F S1x256x1024 .bf16) (x1 : Vec F S1x1x512x64 .bf16) (x2 : Vec F S1x1x80x512 .bf16) (x3 : Vec F S128x512 .bf16) (x4 : Vec F S1024x128 .f32) (y : S1x1x128x1024.Idx) :
    ∃ pc ∈ (kernelRun0_C c i arg3 harg3 arg4 harg4 arg5 harg5 arg6 harg6 arg7 harg7 arg8 harg8 arg9 harg9 arg10 harg10 hc0 hc1 hc2 x0 x1 x2 x3 x4).2.1, y ∈ pc.1.set :=
  View.cover_of_tiledL (kernelRun0_C c i arg3 harg3 arg4 harg4 arg5 harg5 arg6 harg6 arg7 harg7 arg8 harg8 arg9 harg9 arg10 harg10 hc0 hc1 hc2 x0 x1 x2 x3 x4).2.1 S1x1x128x256.size (by sl_kernel_rfl) y

/-- What case C leaves in output 6's staging buffer: its pieces read back over junk. -/
def out0_C_6 (c : Dev nD) (i : grid0.Coords) (arg3 : Memref sig .tc .vmem S1x256x1024 .bf16) (harg3 : arg3.IsWhole) (arg4 : Memref sig .tc .vmem S1x1x512x64 .bf16) (harg4 : arg4.IsWhole) (arg5 : Memref sig .tc .vmem S1x1x80x512 .bf16) (harg5 : arg5.IsWhole) (arg6 : Memref sig .tc .vmem S128x512 .bf16) (harg6 : arg6.IsWhole) (arg7 : Memref sig .tc .vmem S1024x128 .f32) (harg7 : arg7.IsWhole) (arg8 : Memref sig .tc .vmem S1x4x64x1024 .f32) (harg8 : arg8.IsWhole) (arg9 : Memref sig .tc .vmem S1x1x128x1024 .bf16) (harg9 : arg9.IsWhole) (arg10 : Memref sig .tc .vmem S128x1024 .f32) (harg10 : arg10.IsWhole) (hc0 : cond0_0 i) (hc1 : cond0_1 i) (hc2 : ¬cond0_2 i)
    (x0 : Vec F S1x256x1024 .bf16) (x1 : Vec F S1x1x512x64 .bf16) (x2 : Vec F S1x1x80x512 .bf16) (x3 : Vec F S128x512 .bf16) (x4 : Vec F S1024x128 .f32) : Vec F S1x1x128x1024 .bf16 :=
  VO0_6.read (Elt F) (VO0_6.writes (Elt F) VO0_6.junk (kernelRun0_C c i arg3 harg3 arg4 harg4 arg5 harg5 arg6 harg6 arg7 harg7 arg8 harg8 arg9 harg9 arg10 harg10 hc0 hc1 hc2 x0 x1 x2 x3 x4).2.1)

/-- Case D's pieces for output 5 tile its block (32 stores of `S1x1x64x128`, checked by the kernel's evaluation: Lib/Ring.lean `Piece.tiledL`, linear in the pieces, through a loop's `@[irreducible]` trip theorem too), so they cover it. -/
theorem cover0_D_5 (c : Dev nD) (i : grid0.Coords) (arg3 : Memref sig .tc .vmem S1x256x1024 .bf16) (harg3 : arg3.IsWhole) (arg4 : Memref sig .tc .vmem S1x1x512x64 .bf16) (harg4 : arg4.IsWhole) (arg5 : Memref sig .tc .vmem S1x1x80x512 .bf16) (harg5 : arg5.IsWhole) (arg6 : Memref sig .tc .vmem S128x512 .bf16) (harg6 : arg6.IsWhole) (arg7 : Memref sig .tc .vmem S1024x128 .f32) (harg7 : arg7.IsWhole) (arg8 : Memref sig .tc .vmem S1x4x64x1024 .f32) (harg8 : arg8.IsWhole) (arg9 : Memref sig .tc .vmem S1x1x128x1024 .bf16) (harg9 : arg9.IsWhole) (arg10 : Memref sig .tc .vmem S128x1024 .f32) (harg10 : arg10.IsWhole) (hc0 : cond0_0 i) (hc1 : cond0_1 i) (hc2 : cond0_2 i)
    (x0 : Vec F S1x256x1024 .bf16) (x1 : Vec F S1x1x512x64 .bf16) (x2 : Vec F S1x1x80x512 .bf16) (x3 : Vec F S128x512 .bf16) (x4 : Vec F S1024x128 .f32) (y : S1x4x64x1024.Idx) :
    ∃ pc ∈ (kernelRun0_D c i arg3 harg3 arg4 harg4 arg5 harg5 arg6 harg6 arg7 harg7 arg8 harg8 arg9 harg9 arg10 harg10 hc0 hc1 hc2 x0 x1 x2 x3 x4).1, y ∈ pc.1.set :=
  View.cover_of_tiledL (kernelRun0_D c i arg3 harg3 arg4 harg4 arg5 harg5 arg6 harg6 arg7 harg7 arg8 harg8 arg9 harg9 arg10 harg10 hc0 hc1 hc2 x0 x1 x2 x3 x4).1 S1x1x64x128.size (by sl_kernel_rfl) y

/-- What case D leaves in output 5's staging buffer: its pieces read back over junk. -/
def out0_D_5 (c : Dev nD) (i : grid0.Coords) (arg3 : Memref sig .tc .vmem S1x256x1024 .bf16) (harg3 : arg3.IsWhole) (arg4 : Memref sig .tc .vmem S1x1x512x64 .bf16) (harg4 : arg4.IsWhole) (arg5 : Memref sig .tc .vmem S1x1x80x512 .bf16) (harg5 : arg5.IsWhole) (arg6 : Memref sig .tc .vmem S128x512 .bf16) (harg6 : arg6.IsWhole) (arg7 : Memref sig .tc .vmem S1024x128 .f32) (harg7 : arg7.IsWhole) (arg8 : Memref sig .tc .vmem S1x4x64x1024 .f32) (harg8 : arg8.IsWhole) (arg9 : Memref sig .tc .vmem S1x1x128x1024 .bf16) (harg9 : arg9.IsWhole) (arg10 : Memref sig .tc .vmem S128x1024 .f32) (harg10 : arg10.IsWhole) (hc0 : cond0_0 i) (hc1 : cond0_1 i) (hc2 : cond0_2 i)
    (x0 : Vec F S1x256x1024 .bf16) (x1 : Vec F S1x1x512x64 .bf16) (x2 : Vec F S1x1x80x512 .bf16) (x3 : Vec F S128x512 .bf16) (x4 : Vec F S1024x128 .f32) : Vec F S1x4x64x1024 .f32 :=
  VO0_5.read (Elt F) (VO0_5.writes (Elt F) VO0_5.junk (kernelRun0_D c i arg3 harg3 arg4 harg4 arg5 harg5 arg6 harg6 arg7 harg7 arg8 harg8 arg9 harg9 arg10 harg10 hc0 hc1 hc2 x0 x1 x2 x3 x4).1)

/-- Case D's pieces for output 6 tile its block (4 stores of `S1x1x128x256`, checked by the kernel's evaluation: Lib/Ring.lean `Piece.tiledL`, linear in the pieces, through a loop's `@[irreducible]` trip theorem too), so they cover it. -/
theorem cover0_D_6 (c : Dev nD) (i : grid0.Coords) (arg3 : Memref sig .tc .vmem S1x256x1024 .bf16) (harg3 : arg3.IsWhole) (arg4 : Memref sig .tc .vmem S1x1x512x64 .bf16) (harg4 : arg4.IsWhole) (arg5 : Memref sig .tc .vmem S1x1x80x512 .bf16) (harg5 : arg5.IsWhole) (arg6 : Memref sig .tc .vmem S128x512 .bf16) (harg6 : arg6.IsWhole) (arg7 : Memref sig .tc .vmem S1024x128 .f32) (harg7 : arg7.IsWhole) (arg8 : Memref sig .tc .vmem S1x4x64x1024 .f32) (harg8 : arg8.IsWhole) (arg9 : Memref sig .tc .vmem S1x1x128x1024 .bf16) (harg9 : arg9.IsWhole) (arg10 : Memref sig .tc .vmem S128x1024 .f32) (harg10 : arg10.IsWhole) (hc0 : cond0_0 i) (hc1 : cond0_1 i) (hc2 : cond0_2 i)
    (x0 : Vec F S1x256x1024 .bf16) (x1 : Vec F S1x1x512x64 .bf16) (x2 : Vec F S1x1x80x512 .bf16) (x3 : Vec F S128x512 .bf16) (x4 : Vec F S1024x128 .f32) (y : S1x1x128x1024.Idx) :
    ∃ pc ∈ (kernelRun0_D c i arg3 harg3 arg4 harg4 arg5 harg5 arg6 harg6 arg7 harg7 arg8 harg8 arg9 harg9 arg10 harg10 hc0 hc1 hc2 x0 x1 x2 x3 x4).2.1, y ∈ pc.1.set :=
  View.cover_of_tiledL (kernelRun0_D c i arg3 harg3 arg4 harg4 arg5 harg5 arg6 harg6 arg7 harg7 arg8 harg8 arg9 harg9 arg10 harg10 hc0 hc1 hc2 x0 x1 x2 x3 x4).2.1 S1x1x128x256.size (by sl_kernel_rfl) y

/-- What case D leaves in output 6's staging buffer: its pieces read back over junk. -/
def out0_D_6 (c : Dev nD) (i : grid0.Coords) (arg3 : Memref sig .tc .vmem S1x256x1024 .bf16) (harg3 : arg3.IsWhole) (arg4 : Memref sig .tc .vmem S1x1x512x64 .bf16) (harg4 : arg4.IsWhole) (arg5 : Memref sig .tc .vmem S1x1x80x512 .bf16) (harg5 : arg5.IsWhole) (arg6 : Memref sig .tc .vmem S128x512 .bf16) (harg6 : arg6.IsWhole) (arg7 : Memref sig .tc .vmem S1024x128 .f32) (harg7 : arg7.IsWhole) (arg8 : Memref sig .tc .vmem S1x4x64x1024 .f32) (harg8 : arg8.IsWhole) (arg9 : Memref sig .tc .vmem S1x1x128x1024 .bf16) (harg9 : arg9.IsWhole) (arg10 : Memref sig .tc .vmem S128x1024 .f32) (harg10 : arg10.IsWhole) (hc0 : cond0_0 i) (hc1 : cond0_1 i) (hc2 : cond0_2 i)
    (x0 : Vec F S1x256x1024 .bf16) (x1 : Vec F S1x1x512x64 .bf16) (x2 : Vec F S1x1x80x512 .bf16) (x3 : Vec F S128x512 .bf16) (x4 : Vec F S1024x128 .f32) : Vec F S1x1x128x1024 .bf16 :=
  VO0_6.read (Elt F) (VO0_6.writes (Elt F) VO0_6.junk (kernelRun0_D c i arg3 harg3 arg4 harg4 arg5 harg5 arg6 harg6 arg7 harg7 arg8 harg8 arg9 harg9 arg10 harg10 hc0 hc1 hc2 x0 x1 x2 x3 x4).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x4x64x1024 .f32 × Vec F S1x1x128x1024 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) (fun h => (fun h => by (try dsimp only at h); omega) ((hcond0_0 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) (fun h => (fun h => by (try dsimp only at h); omega) ((hcond0_0 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : 2 ≤ (n + 1) % 8 then
      if h1 : ¬(2 ≤ (n + 1) % 8 ∧ (n + 1) % 8 ≤ 3) then
        if h2 : ¬(4 ≤ (n + 1) % 8 ∧ (n + 1) % 8 ≤ 5) then
          (out0_D_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩), out0_D_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩))
        else
          (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))

/-- `outsAt0` at a point of case A: that case's contents. -/
theorem outsAt0_A (c : Dev nD) (t : Fin cfg0.N) (h0 : ¬2 ≤ t.val % 8) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t)) := by
  obtain ⟨n, hn⟩ := t
  cases n with
  | zero => exact rfl
  | succ n => exact (dif_neg h0).trans rfl

/-- `outsAt0` at a point of case B: that case's contents. -/
theorem outsAt0_B (c : Dev nD) (t : Fin cfg0.N) (h0 : 2 ≤ t.val % 8) (h1 : ¬¬(2 ≤ t.val % 8 ∧ t.val % 8 ≤ 3)) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact (by exfalso; (try dsimp only at h0); exact by omega)
  | succ n => exact (dif_pos h0).trans ((dif_neg h1).trans rfl)

/-- `outsAt0` at a point of case C: that case's contents. -/
theorem outsAt0_C (c : Dev nD) (t : Fin cfg0.N) (h0 : 2 ≤ t.val % 8) (h1 : ¬(2 ≤ t.val % 8 ∧ t.val % 8 ≤ 3)) (h2 : ¬¬(4 ≤ t.val % 8 ∧ t.val % 8 ≤ 5)) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)) := by
  obtain ⟨n, hn⟩ := t
  cases n with
  | zero => exact (by exfalso; (try dsimp only at h0); exact by omega)
  | succ n => exact (dif_pos h0).trans ((dif_pos h1).trans ((dif_neg h2).trans rfl))

/-- `outsAt0` at a point of case D: that case's contents. -/
theorem outsAt0_D (c : Dev nD) (t : Fin cfg0.N) (h0 : 2 ≤ t.val % 8) (h1 : ¬(2 ≤ t.val % 8 ∧ t.val % 8 ≤ 3)) (h2 : ¬(4 ≤ t.val % 8 ∧ t.val % 8 ≤ 5)) :
    outsAt0 m c t.val t.isLt = (out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) ((hcond0_1 t).mpr h1) ((hcond0_2 t).mpr h2) (iblk m c 0 t) (iblk m c 1 t) (iblk m c 2 t) (iblk m c 3 t) (iblk m c 4 t), out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) ((hcond0_1 t).mpr h1) ((hcond0_2 t).mpr h2) (iblk m c 0 t) (iblk m c 1 t) (iblk m c 2 t) (iblk m c 3 t) (iblk m c 4 t)) := by
  obtain ⟨n, hn⟩ := t
  cases n with
  | zero => exact (by exfalso; (try dsimp only at h0); exact by omega)
  | succ n => exact (dif_pos h0).trans ((dif_pos h1).trans ((dif_pos h2).trans rfl))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 64 := lt_of_lt_of_eq t.isLt (show cfg0.N = 64 from N_0)
  by_cases h0 : 2 ≤ t.val % 8
  · by_cases h1 : ¬(2 ≤ t.val % 8 ∧ t.val % 8 ≤ 3)
    · by_cases h2 : ¬(4 ≤ t.val % 8 ∧ t.val % 8 ≤ 5)
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_D t ((hcond0_0 t).mpr h0) ((hcond0_1 t).mpr h1) ((hcond0_2 t).mpr h2)], after0_5]
        rw [show (dats m 0 c).leavesExact 6 t = owns (c : Thread nD τ) (ms0_6 t) fullShare ((dats m 0 c).after 6 t) from by
      unfold Dat.leavesExact; rw [liveAt0_6_D t ((hcond0_0 t).mpr h0) ((hcond0_1 t).mpr h1) ((hcond0_2 t).mpr h2)], after0_6]
        rw [outsAt0_D m c t h0 h1 h2]
        unfold out0_D_5 out0_D_6; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_D c (grid0.coords t) _ _ _ _ _ _ _ _ _ _ _ _ _ _ _ _ ((hcond0_0 t).mpr h0) ((hcond0_1 t).mpr h1) ((hcond0_2 t).mpr h2) (iblk m c 0 t) (iblk m c 1 t) (iblk m c 2 t) (iblk m c 3 t) (iblk m c 4 t)).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        iintro ⟨H0, H1, H2, H3, H4, ⟨%e5, H5⟩, ⟨%e6, H6⟩, ⟨%fT0, HS0⟩⟩
        isplitl [HS0 Hg]
        · isplitl [HS0]
          · iexists _; unfold owns; iexists _; isplitr
            swap; · iexact HS0
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_D_5 c _ _ _ _ _ _ _ _ _ _ _ _ _ _ _ _ _ _ _ _ _ _ _ _ _)
        unfold owns; iexists _; isplitr
        swap; · iexact H6
        ipureintro; exact View.read_writes_of_cover _ _ _ _ _ (cover0_D_6 c _ _ _ _ _ _ _ _ _ _ _ _ _ _ _ _ _ _ _ _ _ _ _ _ _)
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_C t ((hcond0_0 t).mpr h0) ((hcond0_1 t).mpr h1) (fun h => h2 ((hcond0_2 t).mp h))], after0_5]
        rw [show (dats m 0 c).leavesExact 6 t = owns (c : Thread nD τ) (ms0_6 t) fullShare ((dats m 0 c).after 6 t) from by
      unfold Dat.leavesExact; rw [liveAt0_6_C t ((hcond0_0 t).mpr h0) ((hcond0_1 t).mpr h1) (fun h => h2 ((hcond0_2 t).mp h))], after0_6]
        rw [outsAt0_C m c t h0 h1 h2]
        unfold out0_C_5 out0_C_6; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t)).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        iintro ⟨H0, H1, H2, H3, H4, ⟨%e5, H5⟩, ⟨%e6, H6⟩, ⟨%fT0, HS0⟩⟩
        isplitl [HS0 Hg]
        · isplitl [HS0]
          · iexists _; unfold owns; iexists _; isplitr
            swap; · iexact HS0
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _)
        unfold owns; iexists _; isplitr
        swap; · iexact H6
        ipureintro; exact View.read_writes_of_cover _ _ _ _ _ (cover0_C_6 c _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_B t ((hcond0_0 t).mpr h0) (fun h => h1 ((hcond0_1 t).mp h))], after0_5]
      rw [show (dats m 0 c).leavesExact 6 t = owns (c : Thread nD τ) (ms0_6 t) fullShare ((dats m 0 c).after 6 t) from by
      unfold Dat.leavesExact; rw [liveAt0_6_B t ((hcond0_0 t).mpr h0) (fun h => h1 ((hcond0_1 t).mp h))], after0_6]
      rw [outsAt0_B m c t h0 h1]
      unfold out0_B_5 out0_B_6; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%e5, H5⟩, ⟨%e6, H6⟩, ⟨%fT0, HS0⟩⟩
      isplitl [HS0 Hg]
      · isplitl [HS0]
        · iexists _; unfold owns; iexists _; isplitr
          swap; · iexact HS0
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _)
      unfold owns; iexists _; isplitr
      swap; · iexact H6
      ipureintro; exact View.read_writes_of_cover _ _ _ _ _ (cover0_B_6 c _ _ _ _ _ _ _ _ _ _ _ _ _ _ _ _ _ _ _ _ _ _ _ _)
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5_A t (fun h => h0 ((hcond0_0 t).mp h))], after0_5]
    rw [show (dats m 0 c).leavesExact 6 t = owns (c : Thread nD τ) (ms0_6 t) fullShare ((dats m 0 c).after 6 t) from by
      unfold Dat.leavesExact; rw [liveAt0_6_A t (fun h => h0 ((hcond0_0 t).mp h))], after0_6]
    rw [outsAt0_A m c t h0]
    unfold out0_A_5 out0_A_6; (try dsimp only)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ (fun h => h0 ((hcond0_0 t).mp h)) (iblk m c 0 t) (iblk m c 1 t) (iblk m c 2 t) (iblk m c 3 t) (iblk m c 4 t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    iintro ⟨H0, H1, H2, H3, H4, ⟨%e5, H5⟩, ⟨%e6, H6⟩, ⟨%fT0, HS0⟩⟩
    isplitl [HS0 Hg]
    · isplitl [HS0]
      · iexists _; unfold owns; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Proof.FrameI

end
-- ==== Proof.ValueI.lean ====
/- Hand-taken, untrusted: THE FIRST RESULT'S ARRAY AFTER THE RUN, block by block (the generated value module's text, over
   FrameI.lean): what a grid point writes back is its case's named term (`flushed5_A` to `flushed5_D`), and the final array
   is named in the run (`run_blocks`). -/
module

public import proofs.«01_k».proof.Proof.FrameI
public import Idealize.ShloMosaic.Lib.Pipeline.Value

@[expose] public section

noncomputable section

namespace Cert.Proof.ValueI

open Cert.KernelIdeal Cert.KernelIdeal.Gen Cert.Proof.FrameI Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 5's array: the run's contents for that window after the body (`Gen.outsAt0`: its component 0), read through the window's block. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : ¬2 ≤ t.val % 8) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t)) := by
  simp only [flushed5, outsAt0_A m c t h0]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : 2 ≤ t.val % 8) (h1 : ¬¬(2 ≤ t.val % 8 ∧ t.val % 8 ≤ 3)) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t)) := by
  simp only [flushed5, outsAt0_B m c t h0 h1]

/-- … so at a point where case C runs, what its write-back would write is that case's NAMED TERM for the window (`Gen.out0_C_5`: the pieces
    its run found, read back) at the point's memrefs and input blocks, and for an output the case reads back what the point before left (`Gen.outsAt0` at `t - 1`) — by the frame's rewriting lemma for the case. -/
theorem flushed5_C (c : Dev nD) (t : Fin cfg0.N) (h0 : 2 ≤ t.val % 8) (h1 : ¬(2 ≤ t.val % 8 ∧ t.val % 8 ≤ 3)) (h2 : ¬¬(4 ≤ t.val % 8 ∧ t.val % 8 ≤ 5)) :
    (dats m 0 c).flushed 5 t = (cfg0.win 5).cut (grid0.coords t) (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)) := by
  simp only [flushed5, outsAt0_C m c t h0 h1 h2]

/-- … so at a point where case D runs, what its write-back would write is that case's NAMED TERM for the window (`Gen.out0_D_5`: the pieces
    its run found, read back) at the point's memrefs and input blocks, and for an output the case reads back what the point before left (`Gen.outsAt0` at `t - 1`) — by the frame's rewriting lemma for the case. -/
theorem flushed5_D (c : Dev nD) (t : Fin cfg0.N) (h0 : 2 ≤ t.val % 8) (h1 : ¬(2 ≤ t.val % 8 ∧ t.val % 8 ≤ 3)) (h2 : ¬(4 ≤ t.val % 8 ∧ t.val % 8 ≤ 5)) :
    (dats m 0 c).flushed 5 t = (cfg0.win 5).cut (grid0.coords t) (out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) ((hcond0_1 t).mpr h1) ((hcond0_2 t).mpr h2) (iblk m c 0 t) (iblk m c 1 t) (iblk m c 2 t) (iblk m c 3 t) (iblk m c 4 t)) := by
  simp only [flushed5, outsAt0_D m c t h0 h1 h2]

/-- The index map sends distinct grid points to distinct block indices (decided over the 64 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S4x8x64x8192.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v57_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v57_1) = (dats m 0 c).arrAt 6 cfg0.N :=
  (h c).1 6

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v57_0) = (dats m 0 c).arrAt 5 cfg0.N
      ∧ r.2.mem ((c : Thread nD τ).loc main_v57_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post5 m r h c,
      post6 m r h c,
      kept_main_arg0 m r h c,
      kept_main_arg1 m r h c,
      kept_main_arg2 m r h c⟩)
    (run_main m ρ)

end Cert.Proof.ValueI

end
-- ==== Proof.Row.lean ====
/- Hand-written, untrusted: THE MATHEMATICS OF ONE ROW OF THE ATTENTION, over the extended reals. A query sees the first `B`
   of its columns. The kernel weights with powers of two of scores scaled by 1 / log 2, sums the values with the weights
   not yet normalised, and divides by the weights' sum at the end; the reference takes exponentials, normalises each
   weight, masks it and sums. `row_eq` says that the two are equal, whatever the values are. -/
module

public import Idealize.ShloMosaic.PureOps.Ideal
public import Idealize.ShloMosaic.PureOps.Ideal.Laws

@[expose] public section

noncomputable section

namespace Cert.Proof.Row

open Idealize.ShloMosaic
open scoped BigOperators

/-! ## Sums and suprema of functions that stop at `B` -/

theorem sum_stop {n B : ℕ} (h : B ≤ n) (f : ℕ → EReal) (h0 : ∀ c, B ≤ c → f c = 0) :
    ∑ c : Fin n, f c = ∑ c ∈ Finset.range B, f c := by
  rw [Fin.sum_univ_eq_sum_range f n]
  refine (Finset.sum_subset (Finset.range_mono h) fun c _ hc => h0 c ?_).symm
  simpa using hc

theorem sup_stop {n B : ℕ} (h : B ≤ n) (f : ℕ → EReal) (h0 : ∀ c, B ≤ c → f c = ⊥) :
    (Finset.univ : Finset (Fin n)).sup (fun c => f c) = (Finset.range B).sup f := by
  apply le_antisymm
  · refine Finset.sup_le fun c _ => ?_
    by_cases hc : (c : ℕ) < B
    · exact Finset.le_sup (f := f) (Finset.mem_range.mpr hc)
    · rw [h0 c (by omega)]; exact bot_le
  · refine Finset.sup_le fun c hc => ?_
    have hc' : c < n := lt_of_lt_of_le (Finset.mem_range.mp hc) h
    exact Finset.le_sup (f := fun c : Fin n => f c) (Finset.mem_univ ⟨c, hc'⟩)

/-- A fold of `max` from minus infinity is the supremum. -/
theorem fold_max_eq_sup {ι : Type} (s : Finset ι) (f : ι → EReal) : s.fold max ⊥ f = s.sup f := by
  classical
  induction s using Finset.induction_on with
  | empty => simp
  | insert a s ha ih => rw [Finset.fold_insert ha, ih, Finset.sup_insert]

/-- The supremum of finitely many reals, one at least, is a real, reached and above all. -/
theorem sup_real {B : ℕ} (hB : 0 < B) (σ : ℕ → ℝ) :
    ∃ M : ℝ, (Finset.range B).sup (fun c => (σ c : EReal)) = (M : EReal) := by
  have hne : (Finset.range B).Nonempty := ⟨0, Finset.mem_range.mpr hB⟩
  obtain ⟨c, _, hc⟩ := Finset.exists_mem_eq_sup (Finset.range B) hne (fun c => (σ c : EReal))
  exact ⟨σ c, hc⟩

/-- … and scales with a positive factor. -/
theorem sup_scaled {B : ℕ} (σ : ℕ → ℝ) (a M : ℝ) (ha : 0 < a)
    (h : (Finset.range B).sup (fun c => (σ c : EReal)) = (M : EReal)) (hB : 0 < B) :
    (Finset.range B).sup (fun c => ((σ c * a : ℝ) : EReal)) = ((M * a : ℝ) : EReal) := by
  have hne : (Finset.range B).Nonempty := ⟨0, Finset.mem_range.mpr hB⟩
  have hle : ∀ c ∈ Finset.range B, σ c ≤ M := fun c hc => by
    have := Finset.le_sup (f := fun c => (σ c : EReal)) hc
    rw [h] at this; exact EReal.coe_le_coe_iff.mp this
  obtain ⟨c0, hc0, hM⟩ := Finset.exists_mem_eq_sup (Finset.range B) hne (fun c => (σ c : EReal))
  have hM' : σ c0 = M := by rw [h] at hM; exact (EReal.coe_eq_coe_iff.mp hM).symm
  apply le_antisymm
  · exact Finset.sup_le fun c hc => EReal.coe_le_coe_iff.mpr (mul_le_mul_of_nonneg_right (hle c hc) ha.le)
  · rw [← hM']; exact Finset.le_sup (f := fun c => ((σ c * a : ℝ) : EReal)) hc0

theorem coe_sum {ι : Type} (s : Finset ι) (f : ι → ℝ) : ((∑ c ∈ s, f c : ℝ) : EReal) = ∑ c ∈ s, (f c : EReal) := by
  classical
  induction s using Finset.induction_on with
  | empty => simp
  | insert b s hb ih => rw [Finset.sum_insert hb, Finset.sum_insert hb, EReal.coe_add, ih]

/-! ## The weights -/

/-- Two to the power of a real over log 2 is the exponential. -/
theorem exp2_scaled (r : ℝ) : Ideal.exp2 ((r * (1 / Real.log 2) : ℝ) : EReal) = Ideal.exp (r : EReal) := by
  rw [Ideal.exp2_coe, Ideal.exp_coe]
  congr 1
  have h2 : Real.log 2 ≠ 0 := (Real.log_pos one_lt_two).ne'
  show (2 : ℝ) ^ (r * (1 / Real.log 2)) = _
  rw [Real.rpow_def_of_pos two_pos]
  congr 1; field_simp

theorem bot_sub (x : EReal) : (⊥ : EReal) - x = ⊥ := by
  rw [sub_eq_add_neg, EReal.bot_add]

/-- A positive real factor goes into a finite sum of extended reals. -/
theorem sum_mul_pos {ι : Type} (s : Finset ι) (f : ι → EReal) (a : ℝ) (ha : 0 < a) :
    (∑ c ∈ s, f c) * (a : EReal) = ∑ c ∈ s, f c * (a : EReal) := by
  classical
  induction s using Finset.induction_on with
  | empty => simp
  | insert b s hb ih =>
    rw [Finset.sum_insert hb, Finset.sum_insert hb, ← ih]
    exact EReal.right_distrib_of_nonneg_of_ne_top (EReal.coe_nonneg.mpr ha.le) (EReal.coe_ne_top a) _ _

/-- **ONE ROW.** `B` columns are seen, out of `n` that the kernel's branch takes and of `N` that the reference takes. -/
theorem row_eq {n N B : ℕ} (hn : B ≤ n) (hN : B ≤ N) (σ : ℕ → ℝ) (v w : ℕ → EReal) (hvw : ∀ c < B, v c = w c)
    (x y : ℕ → EReal)
    (hx : ∀ c, x c = if c < B then (σ c : EReal) else ⊥)
    (hy : ∀ c, y c = if c < B then ((σ c * (1 / Real.log 2) : ℝ) : EReal) else ⊥) :
    (∑ c : Fin n, v c * Ideal.exp2 (y c - (Finset.univ : Finset (Fin n)).sup fun c => y c))
        * (if 0 < B then Ideal.div 1 (∑ c : Fin n, 1 * Ideal.exp2 (y c - (Finset.univ : Finset (Fin n)).sup fun c => y c)) else 0)
      = ∑ c : Fin N, Ideal.div (Ideal.exp (x c - (Finset.univ : Finset (Fin N)).sup fun c => x c))
          (∑ c' : Fin N, Ideal.exp (x c' - (Finset.univ : Finset (Fin N)).sup fun c => x c))
            * (if (c : ℕ) < B then 1 else 0) * w c := by
  have hxb : ∀ c, B ≤ c → x c = ⊥ := fun c hc => by rw [hx, if_neg (by omega)]
  have hyb : ∀ c, B ≤ c → y c = ⊥ := fun c hc => by rw [hy, if_neg (by omega)]
  rw [sup_stop hn y hyb, sup_stop hN x hxb]
  by_cases hB : 0 < B
  · rw [if_pos hB]
    obtain ⟨M, hM⟩ := sup_real hB σ
    have ha : 0 < 1 / Real.log 2 := one_div_pos.mpr (Real.log_pos one_lt_two)
    have hxs : (Finset.range B).sup x = (M : EReal) := by
      rw [← hM]; refine Finset.sup_congr rfl fun c hc => ?_
      rw [hx, if_pos (Finset.mem_range.mp hc)]
    have hys : (Finset.range B).sup y = ((M * (1 / Real.log 2) : ℝ) : EReal) := by
      rw [← sup_scaled σ _ M ha hM hB]; refine Finset.sup_congr rfl fun c hc => ?_
      rw [hy, if_pos (Finset.mem_range.mp hc)]
    rw [hxs, hys]
    -- the weight of column `c`, a real
    have hex : ∀ c, Ideal.exp (x c - (M : EReal)) = if c < B then ((Real.exp (σ c - M) : ℝ) : EReal) else 0 := by
      intro c
      by_cases hc : c < B
      · rw [hx, if_pos hc, if_pos hc, ← EReal.coe_sub, Ideal.exp_coe]
      · rw [hx, if_neg hc, if_neg hc, bot_sub, Ideal.exp_bot]
    have hey : ∀ c, Ideal.exp2 (y c - ((M * (1 / Real.log 2) : ℝ) : EReal)) = if c < B then ((Real.exp (σ c - M) : ℝ) : EReal) else 0 := by
      intro c
      by_cases hc : c < B
      · rw [hy, if_pos hc, if_pos hc, ← EReal.coe_sub, ← sub_mul, exp2_scaled, Ideal.exp_coe]
      · rw [hy, if_neg hc, if_neg hc, bot_sub, Ideal.exp2_bot]
    simp only [hex, hey, one_mul]
    have hL : ∀ {k : ℕ}, B ≤ k → ∑ c : Fin k, (if (c : ℕ) < B then ((Real.exp (σ c - M) : ℝ) : EReal) else 0)
        = ((∑ c ∈ Finset.range B, Real.exp (σ c - M) : ℝ) : EReal) := by
      intro k hk
      rw [sum_stop hk (fun c => if c < B then ((Real.exp (σ c - M) : ℝ) : EReal) else 0) (fun c hc => if_neg (by omega)),
        coe_sum]
      exact Finset.sum_congr rfl fun c hc => if_pos (Finset.mem_range.mp hc)
    rw [hL hn, hL hN]
    have hpos : 0 < ∑ c ∈ Finset.range B, Real.exp (σ c - M) :=
      Finset.sum_pos (fun c _ => Real.exp_pos _) ⟨0, Finset.mem_range.mpr hB⟩
    set L : ℝ := ∑ c ∈ Finset.range B, Real.exp (σ c - M) with hLdef
    rw [Ideal.div_coe hpos.ne', one_mul]
    rw [sum_stop hn (fun c => v c * (if c < B then ((Real.exp (σ c - M) : ℝ) : EReal) else 0))
      (fun c hc => by rw [if_neg (by omega), mul_zero])]
    rw [sum_stop hN (fun c => Ideal.div (if c < B then ((Real.exp (σ c - M) : ℝ) : EReal) else 0) (L : EReal)
        * (if c < B then 1 else 0) * w c) (fun c hc => by rw [if_neg (show ¬ c < B by omega), if_neg (show ¬ c < B by omega), mul_zero, zero_mul])]
    rw [sum_mul_pos _ _ _ (one_div_pos.mpr hpos)]
    refine Finset.sum_congr rfl fun c hc => ?_
    have hc' := Finset.mem_range.mp hc
    rw [if_pos hc', if_pos hc', Ideal.div_coe hpos.ne', mul_one, hvw c hc', mul_assoc, mul_comm (w c)]
  · rw [if_neg hB, mul_zero]
    refine (Finset.sum_eq_zero fun c _ => ?_).symm
    rw [if_neg (show ¬ (c : ℕ) < B by omega), mul_zero, zero_mul]

end Cert.Proof.Row

end
-- ==== Proof.Core.lean ====
/- Hand-written, untrusted: WHAT THE KERNEL COMPUTES FOR ONE SUB-BLOCK of 128 queries, at each of its four numbers of
   compressed keys (128, 256, 384, 512: the branches of its switch). For each: the scores (`scoresN`), the stacked
   products with the weights (`stackedN`), the normalised output (`outN`), in the kernel's own operations, and each of
   them read at an index of the ideal instance. -/
module

public import proofs.«01_k».proof.Proof.Gen.KernelIdeal.Skeleton
public import proofs.«01_k».proof.Proof.Row
public import Idealize.ShloMosaic.Lib.Pointwise
public import Idealize.ShloMosaic.Lib.Pipeline.ValueKit.Point

@[expose] public section

noncomputable section

namespace Cert.Proof.Core

open Cert.KernelIdeal Cert.KernelIdeal.Gen Idealize.ShloMosaic Idealize.ShloMosaic.TcCoe
open scoped BigOperators

theorem ofBits_bot : Ideal.ofBits .f32 0xFF800000#32 = ⊥ := by simp [Ideal.ofBits, Ideal.ieee]

theorem ofBits_top : Ideal.ofBits .f32 0x7F800000#32 = ⊤ := by simp [Ideal.ofBits, Ideal.ieee]

/-- The mask's literal is minus infinity at the ideal instance. -/
theorem mask_eq : (Named.named κ "mask" 0xF149F2CA#32 : Ideal .f32) = ⊥ := rfl

/-- Whether the token of lane `h · 128 + x` of sub-block `q` has a column to see, as the kernel's word arithmetic says it. -/
theorem sees (q : ℕ) (hq : q < 64) (l : ℕ) (hl : l < 512) :
    IntOp.cmpi .sge (IntOp.addi (Scalar.muli (BitVec.ofNat 32 q) 128#32) (IntOp.andi (BitVec.ofNat 32 l) 127#32)) 31#32
      = if 31 ≤ q * 128 + l % 128 then 1#1 else 0#1 := by
  have h1 : (BitVec.ofNat 32 l &&& 127#32) = BitVec.ofNat 32 (l % 128) := by
    apply BitVec.eq_of_toNat_eq
    rw [BitVec.toNat_and, BitVec.toNat_ofNat, BitVec.toNat_ofNat, BitVec.toNat_ofNat, Nat.mod_eq_of_lt (show l < 2 ^ 32 by omega),
      Nat.mod_eq_of_lt (show l % 128 < 2 ^ 32 by omega)]
    exact Nat.and_two_pow_sub_one_eq_mod l 7
  have h2 : IntOp.addi (Scalar.muli (BitVec.ofNat 32 q) 128#32) (IntOp.andi (BitVec.ofNat 32 l) 127#32)
      = BitVec.ofNat 32 (q * 128 + l % 128) := by
    show BitVec.ofNat 32 q * 128#32 + (BitVec.ofNat 32 l &&& 127#32) = _
    rw [h1, BitVec.ofNat_add, BitVec.ofNat_mul]
  rw [h2]
  have h3 : (BitVec.ofNat 32 (q * 128 + l % 128)).toInt = ((q * 128 + l % 128 : ℕ) : ℤ) := by
    rw [BitVec.toInt_eq_toNat_of_lt (by rw [BitVec.toNat_ofNat]; omega), BitVec.toNat_ofNat, Nat.mod_eq_of_lt (by omega)]
  show (BitVec.ofBool ((31#32).sle (BitVec.ofNat 32 (q * 128 + l % 128)))) = _
  rw [BitVec.sle_eq_decide, h3, show (31#32).toInt = 31 from rfl]
  by_cases h : 31 ≤ q * 128 + l % 128
  · rw [if_pos h, decide_eq_true (by exact_mod_cast h)]; rfl
  · rw [if_neg h, decide_eq_false (by exact_mod_cast h)]; rfl

section
variable {F : FTy → Type} [FloatOps F] [Named F]

/-- The scores of one sub-block of 128 queries, four heads side by side, against the first 128 compressed keys: the products
    plus the mask's multiple of the named constant. -/
def scores128 (kc : FVec F S1x1x128x64 .bf16) (qv : FVec F S1x256x128 .bf16) (bv : FVec F S128x128 .f32) : FVec F S128x512 .f32 :=
  addf (matmul dot_S128x64_S64x512_S128x512_1_0_0_1_n_n none (shapeCast S128x64 kc shapeCasts_S1x1x128x64_S128x64)
      (concatenate S64x512 1 [⟨S64x128, extractStridedSlice S64x128 ![0, 0] (shapeCast S256x128 qv shapeCasts_S1x256x128_S256x128) slices_S256x128_o0_0_S64x128⟩,
        ⟨S64x128, extractStridedSlice S64x128 ![64, 0] (shapeCast S256x128 qv shapeCasts_S1x256x128_S256x128) slices_S256x128_o64_0_S64x128⟩,
        ⟨S64x128, extractStridedSlice S64x128 ![128, 0] (shapeCast S256x128 qv shapeCasts_S1x256x128_S256x128) slices_S256x128_o128_0_S64x128⟩,
        ⟨S64x128, extractStridedSlice S64x128 ![192, 0] (shapeCast S256x128 qv shapeCasts_S1x256x128_S256x128) slices_S256x128_o192_0_S64x128⟩]
        concatenates_S64x128_S64x128_S64x128_S64x128_S64x512_d1)
      (constant S128x512 .f32 0x00000000#32))
    (concatenate S128x512 1 [⟨S128x128, mulf (shapeCast S128x128 bv shapeCasts_S128x128_S128x128) (broadcast S128x128 (Named.named κ "mask" 0xF149F2CA#32))⟩,
      ⟨S128x128, mulf (shapeCast S128x128 bv shapeCasts_S128x128_S128x128) (broadcast S128x128 (Named.named κ "mask" 0xF149F2CA#32))⟩,
      ⟨S128x128, mulf (shapeCast S128x128 bv shapeCasts_S128x128_S128x128) (broadcast S128x128 (Named.named κ "mask" 0xF149F2CA#32))⟩,
      ⟨S128x128, mulf (shapeCast S128x128 bv shapeCasts_S128x128_S128x128) (broadcast S128x128 (Named.named κ "mask" 0xF149F2CA#32))⟩]
      concatenates_S128x128_S128x128_S128x128_S128x128_S128x512_d1)

/-- The weights' products with the overlap table and with the values and the rows of ones, stacked. -/
def stacked128 (ov : FVec F S128x128 .bf16) (vc : FVec F S1x1x80x128 .bf16) (s : FVec F S128x512 .f32) : FVec F S208x512 .f32 :=
  matmul dot_S208x128_S128x512_S208x512_1_0_0_1_n_n none
    (concatenate S208x128 0 [⟨S128x128, shapeCast S128x128 ov shapeCasts_S128x128_S128x128⟩, ⟨S80x128, shapeCast S80x128 vc shapeCasts_S1x1x80x128_S80x128⟩] concatenates_S128x128_S80x128_S208x128_d0)
    (truncf .bf16 (exp2 (subf s (broadcastTo S128x512 (shapeCast S1x512 (multiReduction .maximumf [0] S512 s 0xFF800000#32 reduces_S128x512_S512 (.inl rfl) rfl) shapeCasts_S512_S1x512) broadcasts_S1x512_S128x512))) bitsLt_bf16_f32)
    (constant S208x512 .f32 0x00000000#32)

/-- The sub-block's output, four heads side by side: the products with the values, times the reciprocal of the weights'
    sum, or zero for a token that sees no column. `w` is the sub-block's number. -/
def out128 (kc : FVec F S1x1x128x64 .bf16) (ov : FVec F S128x128 .bf16) (vc : FVec F S1x1x80x128 .bf16) (qv : FVec F S1x256x128 .bf16)
    (bv : FVec F S128x128 .f32) (w : BitVec 32) : FVec F S64x512 .f32 :=
  mulf (extractStridedSlice S64x512 ![128, 0] (stacked128 ov vc (scores128 kc qv bv)) slices_S208x512_o128_0_S64x512)
    (broadcastTo S64x512 (select (cmpi .sge (addi (broadcast S1x512 (Scalar.muli w 128#32)) (andi (iota .tc S1x512 32 [1] iota_S1x512_d1_w32) (broadcast S1x512 127#32))) (broadcast S1x512 31#32))
      (divf (broadcast S1x512 (Scalar.ofBits .f32 0x3F800000#32)) (extractStridedSlice S1x512 ![192, 0] (stacked128 ov vc (scores128 kc qv bv)) slices_S208x512_o192_0_S1x512))
      (broadcast S1x512 (Scalar.ofBits .f32 0x00000000#32))) broadcasts_S1x512_S64x512)

/-- The scores of one sub-block of 128 queries, four heads side by side, against the first 256 compressed keys: the products
    plus the mask's multiple of the named constant. -/
def scores256 (kc : FVec F S1x1x256x64 .bf16) (qv : FVec F S1x256x128 .bf16) (bv : FVec F S256x128 .f32) : FVec F S256x512 .f32 :=
  addf (matmul dot_S256x64_S64x512_S256x512_1_0_0_1_n_n none (shapeCast S256x64 kc shapeCasts_S1x1x256x64_S256x64)
      (concatenate S64x512 1 [⟨S64x128, extractStridedSlice S64x128 ![0, 0] (shapeCast S256x128 qv shapeCasts_S1x256x128_S256x128) slices_S256x128_o0_0_S64x128⟩,
        ⟨S64x128, extractStridedSlice S64x128 ![64, 0] (shapeCast S256x128 qv shapeCasts_S1x256x128_S256x128) slices_S256x128_o64_0_S64x128⟩,
        ⟨S64x128, extractStridedSlice S64x128 ![128, 0] (shapeCast S256x128 qv shapeCasts_S1x256x128_S256x128) slices_S256x128_o128_0_S64x128⟩,
        ⟨S64x128, extractStridedSlice S64x128 ![192, 0] (shapeCast S256x128 qv shapeCasts_S1x256x128_S256x128) slices_S256x128_o192_0_S64x128⟩]
        concatenates_S64x128_S64x128_S64x128_S64x128_S64x512_d1)
      (constant S256x512 .f32 0x00000000#32))
    (concatenate S256x512 1 [⟨S256x128, mulf (shapeCast S256x128 bv shapeCasts_S256x128_S256x128) (broadcast S256x128 (Named.named κ "mask" 0xF149F2CA#32))⟩,
      ⟨S256x128, mulf (shapeCast S256x128 bv shapeCasts_S256x128_S256x128) (broadcast S256x128 (Named.named κ "mask" 0xF149F2CA#32))⟩,
      ⟨S256x128, mulf (shapeCast S256x128 bv shapeCasts_S256x128_S256x128) (broadcast S256x128 (Named.named κ "mask" 0xF149F2CA#32))⟩,
      ⟨S256x128, mulf (shapeCast S256x128 bv shapeCasts_S256x128_S256x128) (broadcast S256x128 (Named.named κ "mask" 0xF149F2CA#32))⟩]
      concatenates_S256x128_S256x128_S256x128_S256x128_S256x512_d1)

/-- The weights' products with the overlap table and with the values and the rows of ones, stacked. -/
def stacked256 (ov : FVec F S128x256 .bf16) (vc : FVec F S1x1x80x256 .bf16) (s : FVec F S256x512 .f32) : FVec F S208x512 .f32 :=
  matmul dot_S208x256_S256x512_S208x512_1_0_0_1_n_n none
    (concatenate S208x256 0 [⟨S128x256, shapeCast S128x256 ov shapeCasts_S128x256_S128x256⟩, ⟨S80x256, shapeCast S80x256 vc shapeCasts_S1x1x80x256_S80x256⟩] concatenates_S128x256_S80x256_S208x256_d0)
    (truncf .bf16 (exp2 (subf s (broadcastTo S256x512 (shapeCast S1x512 (multiReduction .maximumf [0] S512 s 0xFF800000#32 reduces_S256x512_S512 (.inl rfl) rfl) shapeCasts_S512_S1x512) broadcasts_S1x512_S256x512))) bitsLt_bf16_f32)
    (constant S208x512 .f32 0x00000000#32)

/-- The sub-block's output, four heads side by side: the products with the values, times the reciprocal of the weights'
    sum, or zero for a token that sees no column. `w` is the sub-block's number. -/
def out256 (kc : FVec F S1x1x256x64 .bf16) (ov : FVec F S128x256 .bf16) (vc : FVec F S1x1x80x256 .bf16) (qv : FVec F S1x256x128 .bf16)
    (bv : FVec F S256x128 .f32) (w : BitVec 32) : FVec F S64x512 .f32 :=
  mulf (extractStridedSlice S64x512 ![128, 0] (stacked256 ov vc (scores256 kc qv bv)) slices_S208x512_o128_0_S64x512)
    (broadcastTo S64x512 (select (cmpi .sge (addi (broadcast S1x512 (Scalar.muli w 128#32)) (andi (iota .tc S1x512 32 [1] iota_S1x512_d1_w32) (broadcast S1x512 127#32))) (broadcast S1x512 31#32))
      (divf (broadcast S1x512 (Scalar.ofBits .f32 0x3F800000#32)) (extractStridedSlice S1x512 ![192, 0] (stacked256 ov vc (scores256 kc qv bv)) slices_S208x512_o192_0_S1x512))
      (broadcast S1x512 (Scalar.ofBits .f32 0x00000000#32))) broadcasts_S1x512_S64x512)

/-- The scores of one sub-block of 128 queries, four heads side by side, against the first 384 compressed keys: the products
    plus the mask's multiple of the named constant. -/
def scores384 (kc : FVec F S1x1x384x64 .bf16) (qv : FVec F S1x256x128 .bf16) (bv : FVec F S384x128 .f32) : FVec F S384x512 .f32 :=
  addf (matmul dot_S384x64_S64x512_S384x512_1_0_0_1_n_n none (shapeCast S384x64 kc shapeCasts_S1x1x384x64_S384x64)
      (concatenate S64x512 1 [⟨S64x128, extractStridedSlice S64x128 ![0, 0] (shapeCast S256x128 qv shapeCasts_S1x256x128_S256x128) slices_S256x128_o0_0_S64x128⟩,
        ⟨S64x128, extractStridedSlice S64x128 ![64, 0] (shapeCast S256x128 qv shapeCasts_S1x256x128_S256x128) slices_S256x128_o64_0_S64x128⟩,
        ⟨S64x128, extractStridedSlice S64x128 ![128, 0] (shapeCast S256x128 qv shapeCasts_S1x256x128_S256x128) slices_S256x128_o128_0_S64x128⟩,
        ⟨S64x128, extractStridedSlice S64x128 ![192, 0] (shapeCast S256x128 qv shapeCasts_S1x256x128_S256x128) slices_S256x128_o192_0_S64x128⟩]
        concatenates_S64x128_S64x128_S64x128_S64x128_S64x512_d1)
      (constant S384x512 .f32 0x00000000#32))
    (concatenate S384x512 1 [⟨S384x128, mulf (shapeCast S384x128 bv shapeCasts_S384x128_S384x128) (broadcast S384x128 (Named.named κ "mask" 0xF149F2CA#32))⟩,
      ⟨S384x128, mulf (shapeCast S384x128 bv shapeCasts_S384x128_S384x128) (broadcast S384x128 (Named.named κ "mask" 0xF149F2CA#32))⟩,
      ⟨S384x128, mulf (shapeCast S384x128 bv shapeCasts_S384x128_S384x128) (broadcast S384x128 (Named.named κ "mask" 0xF149F2CA#32))⟩,
      ⟨S384x128, mulf (shapeCast S384x128 bv shapeCasts_S384x128_S384x128) (broadcast S384x128 (Named.named κ "mask" 0xF149F2CA#32))⟩]
      concatenates_S384x128_S384x128_S384x128_S384x128_S384x512_d1)

/-- The weights' products with the overlap table and with the values and the rows of ones, stacked. -/
def stacked384 (ov : FVec F S128x384 .bf16) (vc : FVec F S1x1x80x384 .bf16) (s : FVec F S384x512 .f32) : FVec F S208x512 .f32 :=
  matmul dot_S208x384_S384x512_S208x512_1_0_0_1_n_n none
    (concatenate S208x384 0 [⟨S128x384, shapeCast S128x384 ov shapeCasts_S128x384_S128x384⟩, ⟨S80x384, shapeCast S80x384 vc shapeCasts_S1x1x80x384_S80x384⟩] concatenates_S128x384_S80x384_S208x384_d0)
    (truncf .bf16 (exp2 (subf s (broadcastTo S384x512 (shapeCast S1x512 (multiReduction .maximumf [0] S512 s 0xFF800000#32 reduces_S384x512_S512 (.inl rfl) rfl) shapeCasts_S512_S1x512) broadcasts_S1x512_S384x512))) bitsLt_bf16_f32)
    (constant S208x512 .f32 0x00000000#32)

/-- The sub-block's output, four heads side by side: the products with the values, times the reciprocal of the weights'
    sum, or zero for a token that sees no column. `w` is the sub-block's number. -/
def out384 (kc : FVec F S1x1x384x64 .bf16) (ov : FVec F S128x384 .bf16) (vc : FVec F S1x1x80x384 .bf16) (qv : FVec F S1x256x128 .bf16)
    (bv : FVec F S384x128 .f32) (w : BitVec 32) : FVec F S64x512 .f32 :=
  mulf (extractStridedSlice S64x512 ![128, 0] (stacked384 ov vc (scores384 kc qv bv)) slices_S208x512_o128_0_S64x512)
    (broadcastTo S64x512 (select (cmpi .sge (addi (broadcast S1x512 (Scalar.muli w 128#32)) (andi (iota .tc S1x512 32 [1] iota_S1x512_d1_w32) (broadcast S1x512 127#32))) (broadcast S1x512 31#32))
      (divf (broadcast S1x512 (Scalar.ofBits .f32 0x3F800000#32)) (extractStridedSlice S1x512 ![192, 0] (stacked384 ov vc (scores384 kc qv bv)) slices_S208x512_o192_0_S1x512))
      (broadcast S1x512 (Scalar.ofBits .f32 0x00000000#32))) broadcasts_S1x512_S64x512)

/-- The scores of one sub-block of 128 queries, four heads side by side, against the first 512 compressed keys: the products
    plus the mask's multiple of the named constant. -/
def scores512 (kc : FVec F S1x1x512x64 .bf16) (qv : FVec F S1x256x128 .bf16) (bv : FVec F S512x128 .f32) : FVec F S512x512 .f32 :=
  addf (matmul dot_S512x64_S64x512_S512x512_1_0_0_1_n_n none (shapeCast S512x64 kc shapeCasts_S1x1x512x64_S512x64)
      (concatenate S64x512 1 [⟨S64x128, extractStridedSlice S64x128 ![0, 0] (shapeCast S256x128 qv shapeCasts_S1x256x128_S256x128) slices_S256x128_o0_0_S64x128⟩,
        ⟨S64x128, extractStridedSlice S64x128 ![64, 0] (shapeCast S256x128 qv shapeCasts_S1x256x128_S256x128) slices_S256x128_o64_0_S64x128⟩,
        ⟨S64x128, extractStridedSlice S64x128 ![128, 0] (shapeCast S256x128 qv shapeCasts_S1x256x128_S256x128) slices_S256x128_o128_0_S64x128⟩,
        ⟨S64x128, extractStridedSlice S64x128 ![192, 0] (shapeCast S256x128 qv shapeCasts_S1x256x128_S256x128) slices_S256x128_o192_0_S64x128⟩]
        concatenates_S64x128_S64x128_S64x128_S64x128_S64x512_d1)
      (constant S512x512 .f32 0x00000000#32))
    (concatenate S512x512 1 [⟨S512x128, mulf (shapeCast S512x128 bv shapeCasts_S512x128_S512x128) (broadcast S512x128 (Named.named κ "mask" 0xF149F2CA#32))⟩,
      ⟨S512x128, mulf (shapeCast S512x128 bv shapeCasts_S512x128_S512x128) (broadcast S512x128 (Named.named κ "mask" 0xF149F2CA#32))⟩,
      ⟨S512x128, mulf (shapeCast S512x128 bv shapeCasts_S512x128_S512x128) (broadcast S512x128 (Named.named κ "mask" 0xF149F2CA#32))⟩,
      ⟨S512x128, mulf (shapeCast S512x128 bv shapeCasts_S512x128_S512x128) (broadcast S512x128 (Named.named κ "mask" 0xF149F2CA#32))⟩]
      concatenates_S512x128_S512x128_S512x128_S512x128_S512x512_d1)

/-- The weights' products with the overlap table and with the values and the rows of ones, stacked. -/
def stacked512 (ov : FVec F S128x512 .bf16) (vc : FVec F S1x1x80x512 .bf16) (s : FVec F S512x512 .f32) : FVec F S208x512 .f32 :=
  matmul dot_S208x512_S512x512_S208x512_1_0_0_1_n_n none
    (concatenate S208x512 0 [⟨S128x512, shapeCast S128x512 ov shapeCasts_S128x512_S128x512⟩, ⟨S80x512, shapeCast S80x512 vc shapeCasts_S1x1x80x512_S80x512⟩] concatenates_S128x512_S80x512_S208x512_d0)
    (truncf .bf16 (exp2 (subf s (broadcastTo S512x512 (shapeCast S1x512 (multiReduction .maximumf [0] S512 s 0xFF800000#32 reduces_S512x512_S512 (.inl rfl) rfl) shapeCasts_S512_S1x512) broadcasts_S1x512_S512x512))) bitsLt_bf16_f32)
    (constant S208x512 .f32 0x00000000#32)

/-- The sub-block's output, four heads side by side: the products with the values, times the reciprocal of the weights'
    sum, or zero for a token that sees no column. `w` is the sub-block's number. -/
def out512 (kc : FVec F S1x1x512x64 .bf16) (ov : FVec F S128x512 .bf16) (vc : FVec F S1x1x80x512 .bf16) (qv : FVec F S1x256x128 .bf16)
    (bv : FVec F S512x128 .f32) (w : BitVec 32) : FVec F S64x512 .f32 :=
  mulf (extractStridedSlice S64x512 ![128, 0] (stacked512 ov vc (scores512 kc qv bv)) slices_S208x512_o128_0_S64x512)
    (broadcastTo S64x512 (select (cmpi .sge (addi (broadcast S1x512 (Scalar.muli w 128#32)) (andi (iota .tc S1x512 32 [1] iota_S1x512_d1_w32) (broadcast S1x512 127#32))) (broadcast S1x512 31#32))
      (divf (broadcast S1x512 (Scalar.ofBits .f32 0x3F800000#32)) (extractStridedSlice S1x512 ![192, 0] (stacked512 ov vc (scores512 kc qv bv)) slices_S208x512_o192_0_S1x512))
      (broadcast S1x512 (Scalar.ofBits .f32 0x00000000#32))) broadcasts_S1x512_S64x512)

end

theorem scores128_at (kc : FVec Ideal S1x1x128x64 .bf16) (qv : FVec Ideal S1x256x128 .bf16) (bv : FVec Ideal S128x128 .f32)
    (c : Fin 128) (h : Fin 4) (x : Fin 128) :
    scores128 kc qv bv (ix2 c (⟨h.val * 128 + x.val, by omega⟩ : Fin 512))
      = (∑ d : Fin 64, kc (ix4 (0 : Fin 1) (0 : Fin 1) c d) * qv (ix3 (0 : Fin 1) (⟨h.val * 64 + d.val, by omega⟩ : Fin 256) x)) + bv (ix2 c x) * ⊥ := by
  have hx := x.isLt
  pointwise [scores128]
  simp only [mask_eq]
  fin_cases h
  · simp
  · simp [show ¬ 128 + x.val < 128 by omega]
  · simp [show ¬ 256 + x.val < 128 by omega, show 256 + x.val - 128 = 128 + x.val by omega, show ¬ 128 + x.val < 128 by omega]
  · simp [show ¬ 384 + x.val < 128 by omega, show 384 + x.val - 128 = 256 + x.val by omega, show ¬ 256 + x.val < 128 by omega,
      show 256 + x.val - 128 = 128 + x.val by omega, show ¬ 128 + x.val < 128 by omega]

theorem stacked128_at (ov : FVec Ideal S128x128 .bf16) (vc : FVec Ideal S1x1x80x128 .bf16) (s : FVec Ideal S128x512 .f32)
    (e : Fin 80) (l : Fin 512) :
    stacked128 ov vc s (ix2 (⟨128 + e.val, by omega⟩ : Fin 208) l)
      = ∑ c : Fin 128, vc (ix4 (0 : Fin 1) (0 : Fin 1) e c)
          * Ideal.exp2 (s (ix2 c l) - (Finset.univ : Finset (Fin 128)).sup fun c' => s (ix2 c' l)) := by
  pointwise [stacked128]
  rw [ofBits_bot, Row.fold_max_eq_sup]
  rfl

/-- The sub-block's output at head `h`, coordinate `d`, query `x`. -/
theorem out128_at (kc : FVec Ideal S1x1x128x64 .bf16) (ov : FVec Ideal S128x128 .bf16) (vc : FVec Ideal S1x1x80x128 .bf16)
    (qv : FVec Ideal S1x256x128 .bf16) (bv : FVec Ideal S128x128 .f32) (q : ℕ) (hq : q < 64) (d : Fin 64) (h : Fin 4) (x : Fin 128)
    (s : ℕ → EReal)
    (hs : ∀ c : Fin 128, (∑ d : Fin 64, kc (ix4 (0 : Fin 1) (0 : Fin 1) c d) * qv (ix3 (0 : Fin 1) (⟨h.val * 64 + d.val, by omega⟩ : Fin 256) x)) + bv (ix2 c x) * ⊥ = s c) :
    out128 kc ov vc qv bv (BitVec.ofNat 32 q) (ix2 d (⟨h.val * 128 + x.val, by omega⟩ : Fin 512))
      = (∑ c : Fin 128, vc (ix4 (0 : Fin 1) (0 : Fin 1) (⟨d.val, by omega⟩ : Fin 80) c) * Ideal.exp2 (s c - (Finset.univ : Finset (Fin 128)).sup fun c => s c))
        * (if 31 ≤ q * 128 + x.val then Ideal.div 1 (∑ c : Fin 128, vc (ix4 (0 : Fin 1) (0 : Fin 1) (⟨64, by omega⟩ : Fin 80) c) * Ideal.exp2 (s c - (Finset.univ : Finset (Fin 128)).sup fun c => s c)) else 0) := by
  pointwise [out128]
  have e1 : ∀ e : Fin 80, stacked128 ov vc (scores128 kc qv bv) (ix2 (⟨128 + e.val, by omega⟩ : Fin 208) (⟨h.val * 128 + x.val, by omega⟩ : Fin 512))
      = ∑ c : Fin 128, vc (ix4 (0 : Fin 1) (0 : Fin 1) e c) * Ideal.exp2 (s c - (Finset.univ : Finset (Fin 128)).sup fun c => s c) := by
    intro e
    rw [stacked128_at]
    simp only [scores128_at, hs]
  rw [show (IntOp.cmpi .sge (IntOp.addi (Scalar.muli (BitVec.ofNat 32 q) 128#32) (IntOp.andi (BitVec.ofNat 32 (h.val * 128 + x.val)) 127#32)) 31#32)
      = if 31 ≤ q * 128 + x.val then 1#1 else 0#1 by
    rw [sees q hq _ (by omega), show (h.val * 128 + x.val) % 128 = x.val by omega]]
  have e2 := e1 (⟨d.val, by omega⟩ : Fin 80)
  have e3 := e1 (64 : Fin 80)
  by_cases hc : 31 ≤ q * 128 + x.val
  · simp only [if_pos hc]
    refine Eq.trans (if_pos rfl) ?_
    exact congrArg₂ (· * ·) e2 (congrArg (Ideal.div 1) e3)
  · simp only [if_neg hc, mul_zero]
    exact if_neg (by decide)

theorem scores256_at (kc : FVec Ideal S1x1x256x64 .bf16) (qv : FVec Ideal S1x256x128 .bf16) (bv : FVec Ideal S256x128 .f32)
    (c : Fin 256) (h : Fin 4) (x : Fin 128) :
    scores256 kc qv bv (ix2 c (⟨h.val * 128 + x.val, by omega⟩ : Fin 512))
      = (∑ d : Fin 64, kc (ix4 (0 : Fin 1) (0 : Fin 1) c d) * qv (ix3 (0 : Fin 1) (⟨h.val * 64 + d.val, by omega⟩ : Fin 256) x)) + bv (ix2 c x) * ⊥ := by
  have hx := x.isLt
  pointwise [scores256]
  simp only [mask_eq]
  fin_cases h
  · simp
  · simp [show ¬ 128 + x.val < 128 by omega]
  · simp [show ¬ 256 + x.val < 128 by omega, show 256 + x.val - 128 = 128 + x.val by omega, show ¬ 128 + x.val < 128 by omega]
  · simp [show ¬ 384 + x.val < 128 by omega, show 384 + x.val - 128 = 256 + x.val by omega, show ¬ 256 + x.val < 128 by omega,
      show 256 + x.val - 128 = 128 + x.val by omega, show ¬ 128 + x.val < 128 by omega]

theorem stacked256_at (ov : FVec Ideal S128x256 .bf16) (vc : FVec Ideal S1x1x80x256 .bf16) (s : FVec Ideal S256x512 .f32)
    (e : Fin 80) (l : Fin 512) :
    stacked256 ov vc s (ix2 (⟨128 + e.val, by omega⟩ : Fin 208) l)
      = ∑ c : Fin 256, vc (ix4 (0 : Fin 1) (0 : Fin 1) e c)
          * Ideal.exp2 (s (ix2 c l) - (Finset.univ : Finset (Fin 256)).sup fun c' => s (ix2 c' l)) := by
  pointwise [stacked256]
  rw [ofBits_bot, Row.fold_max_eq_sup]
  rfl

/-- The sub-block's output at head `h`, coordinate `d`, query `x`. -/
theorem out256_at (kc : FVec Ideal S1x1x256x64 .bf16) (ov : FVec Ideal S128x256 .bf16) (vc : FVec Ideal S1x1x80x256 .bf16)
    (qv : FVec Ideal S1x256x128 .bf16) (bv : FVec Ideal S256x128 .f32) (q : ℕ) (hq : q < 64) (d : Fin 64) (h : Fin 4) (x : Fin 128)
    (s : ℕ → EReal)
    (hs : ∀ c : Fin 256, (∑ d : Fin 64, kc (ix4 (0 : Fin 1) (0 : Fin 1) c d) * qv (ix3 (0 : Fin 1) (⟨h.val * 64 + d.val, by omega⟩ : Fin 256) x)) + bv (ix2 c x) * ⊥ = s c) :
    out256 kc ov vc qv bv (BitVec.ofNat 32 q) (ix2 d (⟨h.val * 128 + x.val, by omega⟩ : Fin 512))
      = (∑ c : Fin 256, vc (ix4 (0 : Fin 1) (0 : Fin 1) (⟨d.val, by omega⟩ : Fin 80) c) * Ideal.exp2 (s c - (Finset.univ : Finset (Fin 256)).sup fun c => s c))
        * (if 31 ≤ q * 128 + x.val then Ideal.div 1 (∑ c : Fin 256, vc (ix4 (0 : Fin 1) (0 : Fin 1) (⟨64, by omega⟩ : Fin 80) c) * Ideal.exp2 (s c - (Finset.univ : Finset (Fin 256)).sup fun c => s c)) else 0) := by
  pointwise [out256]
  have e1 : ∀ e : Fin 80, stacked256 ov vc (scores256 kc qv bv) (ix2 (⟨128 + e.val, by omega⟩ : Fin 208) (⟨h.val * 128 + x.val, by omega⟩ : Fin 512))
      = ∑ c : Fin 256, vc (ix4 (0 : Fin 1) (0 : Fin 1) e c) * Ideal.exp2 (s c - (Finset.univ : Finset (Fin 256)).sup fun c => s c) := by
    intro e
    rw [stacked256_at]
    simp only [scores256_at, hs]
  rw [show (IntOp.cmpi .sge (IntOp.addi (Scalar.muli (BitVec.ofNat 32 q) 128#32) (IntOp.andi (BitVec.ofNat 32 (h.val * 128 + x.val)) 127#32)) 31#32)
      = if 31 ≤ q * 128 + x.val then 1#1 else 0#1 by
    rw [sees q hq _ (by omega), show (h.val * 128 + x.val) % 128 = x.val by omega]]
  have e2 := e1 (⟨d.val, by omega⟩ : Fin 80)
  have e3 := e1 (64 : Fin 80)
  by_cases hc : 31 ≤ q * 128 + x.val
  · simp only [if_pos hc]
    refine Eq.trans (if_pos rfl) ?_
    exact congrArg₂ (· * ·) e2 (congrArg (Ideal.div 1) e3)
  · simp only [if_neg hc, mul_zero]
    exact if_neg (by decide)

theorem scores384_at (kc : FVec Ideal S1x1x384x64 .bf16) (qv : FVec Ideal S1x256x128 .bf16) (bv : FVec Ideal S384x128 .f32)
    (c : Fin 384) (h : Fin 4) (x : Fin 128) :
    scores384 kc qv bv (ix2 c (⟨h.val * 128 + x.val, by omega⟩ : Fin 512))
      = (∑ d : Fin 64, kc (ix4 (0 : Fin 1) (0 : Fin 1) c d) * qv (ix3 (0 : Fin 1) (⟨h.val * 64 + d.val, by omega⟩ : Fin 256) x)) + bv (ix2 c x) * ⊥ := by
  have hx := x.isLt
  pointwise [scores384]
  simp only [mask_eq]
  fin_cases h
  · simp
  · simp [show ¬ 128 + x.val < 128 by omega]
  · simp [show ¬ 256 + x.val < 128 by omega, show 256 + x.val - 128 = 128 + x.val by omega, show ¬ 128 + x.val < 128 by omega]
  · simp [show ¬ 384 + x.val < 128 by omega, show 384 + x.val - 128 = 256 + x.val by omega, show ¬ 256 + x.val < 128 by omega,
      show 256 + x.val - 128 = 128 + x.val by omega, show ¬ 128 + x.val < 128 by omega]

theorem stacked384_at (ov : FVec Ideal S128x384 .bf16) (vc : FVec Ideal S1x1x80x384 .bf16) (s : FVec Ideal S384x512 .f32)
    (e : Fin 80) (l : Fin 512) :
    stacked384 ov vc s (ix2 (⟨128 + e.val, by omega⟩ : Fin 208) l)
      = ∑ c : Fin 384, vc (ix4 (0 : Fin 1) (0 : Fin 1) e c)
          * Ideal.exp2 (s (ix2 c l) - (Finset.univ : Finset (Fin 384)).sup fun c' => s (ix2 c' l)) := by
  pointwise [stacked384]
  rw [ofBits_bot, Row.fold_max_eq_sup]
  rfl

/-- The sub-block's output at head `h`, coordinate `d`, query `x`. -/
theorem out384_at (kc : FVec Ideal S1x1x384x64 .bf16) (ov : FVec Ideal S128x384 .bf16) (vc : FVec Ideal S1x1x80x384 .bf16)
    (qv : FVec Ideal S1x256x128 .bf16) (bv : FVec Ideal S384x128 .f32) (q : ℕ) (hq : q < 64) (d : Fin 64) (h : Fin 4) (x : Fin 128)
    (s : ℕ → EReal)
    (hs : ∀ c : Fin 384, (∑ d : Fin 64, kc (ix4 (0 : Fin 1) (0 : Fin 1) c d) * qv (ix3 (0 : Fin 1) (⟨h.val * 64 + d.val, by omega⟩ : Fin 256) x)) + bv (ix2 c x) * ⊥ = s c) :
    out384 kc ov vc qv bv (BitVec.ofNat 32 q) (ix2 d (⟨h.val * 128 + x.val, by omega⟩ : Fin 512))
      = (∑ c : Fin 384, vc (ix4 (0 : Fin 1) (0 : Fin 1) (⟨d.val, by omega⟩ : Fin 80) c) * Ideal.exp2 (s c - (Finset.univ : Finset (Fin 384)).sup fun c => s c))
        * (if 31 ≤ q * 128 + x.val then Ideal.div 1 (∑ c : Fin 384, vc (ix4 (0 : Fin 1) (0 : Fin 1) (⟨64, by omega⟩ : Fin 80) c) * Ideal.exp2 (s c - (Finset.univ : Finset (Fin 384)).sup fun c => s c)) else 0) := by
  pointwise [out384]
  have e1 : ∀ e : Fin 80, stacked384 ov vc (scores384 kc qv bv) (ix2 (⟨128 + e.val, by omega⟩ : Fin 208) (⟨h.val * 128 + x.val, by omega⟩ : Fin 512))
      = ∑ c : Fin 384, vc (ix4 (0 : Fin 1) (0 : Fin 1) e c) * Ideal.exp2 (s c - (Finset.univ : Finset (Fin 384)).sup fun c => s c) := by
    intro e
    rw [stacked384_at]
    simp only [scores384_at, hs]
  rw [show (IntOp.cmpi .sge (IntOp.addi (Scalar.muli (BitVec.ofNat 32 q) 128#32) (IntOp.andi (BitVec.ofNat 32 (h.val * 128 + x.val)) 127#32)) 31#32)
      = if 31 ≤ q * 128 + x.val then 1#1 else 0#1 by
    rw [sees q hq _ (by omega), show (h.val * 128 + x.val) % 128 = x.val by omega]]
  have e2 := e1 (⟨d.val, by omega⟩ : Fin 80)
  have e3 := e1 (64 : Fin 80)
  by_cases hc : 31 ≤ q * 128 + x.val
  · simp only [if_pos hc]
    refine Eq.trans (if_pos rfl) ?_
    exact congrArg₂ (· * ·) e2 (congrArg (Ideal.div 1) e3)
  · simp only [if_neg hc, mul_zero]
    exact if_neg (by decide)

theorem scores512_at (kc : FVec Ideal S1x1x512x64 .bf16) (qv : FVec Ideal S1x256x128 .bf16) (bv : FVec Ideal S512x128 .f32)
    (c : Fin 512) (h : Fin 4) (x : Fin 128) :
    scores512 kc qv bv (ix2 c (⟨h.val * 128 + x.val, by omega⟩ : Fin 512))
      = (∑ d : Fin 64, kc (ix4 (0 : Fin 1) (0 : Fin 1) c d) * qv (ix3 (0 : Fin 1) (⟨h.val * 64 + d.val, by omega⟩ : Fin 256) x)) + bv (ix2 c x) * ⊥ := by
  have hx := x.isLt
  pointwise [scores512]
  simp only [mask_eq]
  fin_cases h
  · simp
  · simp [show ¬ 128 + x.val < 128 by omega]
  · simp [show ¬ 256 + x.val < 128 by omega, show 256 + x.val - 128 = 128 + x.val by omega, show ¬ 128 + x.val < 128 by omega]
  · simp [show ¬ 384 + x.val < 128 by omega, show 384 + x.val - 128 = 256 + x.val by omega, show ¬ 256 + x.val < 128 by omega,
      show 256 + x.val - 128 = 128 + x.val by omega, show ¬ 128 + x.val < 128 by omega]

theorem stacked512_at (ov : FVec Ideal S128x512 .bf16) (vc : FVec Ideal S1x1x80x512 .bf16) (s : FVec Ideal S512x512 .f32)
    (e : Fin 80) (l : Fin 512) :
    stacked512 ov vc s (ix2 (⟨128 + e.val, by omega⟩ : Fin 208) l)
      = ∑ c : Fin 512, vc (ix4 (0 : Fin 1) (0 : Fin 1) e c)
          * Ideal.exp2 (s (ix2 c l) - (Finset.univ : Finset (Fin 512)).sup fun c' => s (ix2 c' l)) := by
  pointwise [stacked512]
  rw [ofBits_bot, Row.fold_max_eq_sup]
  rfl

/-- The sub-block's output at head `h`, coordinate `d`, query `x`. -/
theorem out512_at (kc : FVec Ideal S1x1x512x64 .bf16) (ov : FVec Ideal S128x512 .bf16) (vc : FVec Ideal S1x1x80x512 .bf16)
    (qv : FVec Ideal S1x256x128 .bf16) (bv : FVec Ideal S512x128 .f32) (q : ℕ) (hq : q < 64) (d : Fin 64) (h : Fin 4) (x : Fin 128)
    (s : ℕ → EReal)
    (hs : ∀ c : Fin 512, (∑ d : Fin 64, kc (ix4 (0 : Fin 1) (0 : Fin 1) c d) * qv (ix3 (0 : Fin 1) (⟨h.val * 64 + d.val, by omega⟩ : Fin 256) x)) + bv (ix2 c x) * ⊥ = s c) :
    out512 kc ov vc qv bv (BitVec.ofNat 32 q) (ix2 d (⟨h.val * 128 + x.val, by omega⟩ : Fin 512))
      = (∑ c : Fin 512, vc (ix4 (0 : Fin 1) (0 : Fin 1) (⟨d.val, by omega⟩ : Fin 80) c) * Ideal.exp2 (s c - (Finset.univ : Finset (Fin 512)).sup fun c => s c))
        * (if 31 ≤ q * 128 + x.val then Ideal.div 1 (∑ c : Fin 512, vc (ix4 (0 : Fin 1) (0 : Fin 1) (⟨64, by omega⟩ : Fin 80) c) * Ideal.exp2 (s c - (Finset.univ : Finset (Fin 512)).sup fun c => s c)) else 0) := by
  pointwise [out512]
  have e1 : ∀ e : Fin 80, stacked512 ov vc (scores512 kc qv bv) (ix2 (⟨128 + e.val, by omega⟩ : Fin 208) (⟨h.val * 128 + x.val, by omega⟩ : Fin 512))
      = ∑ c : Fin 512, vc (ix4 (0 : Fin 1) (0 : Fin 1) e c) * Ideal.exp2 (s c - (Finset.univ : Finset (Fin 512)).sup fun c => s c) := by
    intro e
    rw [stacked512_at]
    simp only [scores512_at, hs]
  rw [show (IntOp.cmpi .sge (IntOp.addi (Scalar.muli (BitVec.ofNat 32 q) 128#32) (IntOp.andi (BitVec.ofNat 32 (h.val * 128 + x.val)) 127#32)) 31#32)
      = if 31 ≤ q * 128 + x.val then 1#1 else 0#1 by
    rw [sees q hq _ (by omega), show (h.val * 128 + x.val) % 128 = x.val by omega]]
  have e2 := e1 (⟨d.val, by omega⟩ : Fin 80)
  have e3 := e1 (64 : Fin 80)
  by_cases hc : 31 ≤ q * 128 + x.val
  · simp only [if_pos hc]
    refine Eq.trans (if_pos rfl) ?_
    exact congrArg₂ (· * ·) e2 (congrArg (Ideal.div 1) e3)
  · simp only [if_neg hc, mul_zero]
    exact if_neg (by decide)

/-- The score of key `c` for the query at lane `l` of head `h`: the products' sum, and minus infinity where the key's
    window ends after the query (`g` is the query's token number). -/
def sc (K Q : ℕ → ℕ → EReal) (h l g c : ℕ) : EReal :=
  (∑ d : Fin 64, K c d * Q (h * 64 + d) l) + (if 16 * c + 31 ≤ g then 0 else 1) * ⊥

/-- The output of head `h`, coordinate `d`, at lane `l`, over `N` keys: weights `exp2` of the scores less their maximum,
    times the values, times the reciprocal of row 64 of the values (the ones) against the weights. -/
def spec (N : ℕ) (K Q V : ℕ → ℕ → EReal) (g0 h d l : ℕ) : EReal :=
  (∑ c : Fin N, V d c * Ideal.exp2 (sc K Q h l (g0 + l) c - (Finset.univ : Finset (Fin N)).sup fun c => sc K Q h l (g0 + l) c))
    * (if 31 ≤ g0 + l then Ideal.div 1 (∑ c : Fin N, V 64 c * Ideal.exp2 (sc K Q h l (g0 + l) c - (Finset.univ : Finset (Fin N)).sup fun c => sc K Q h l (g0 + l) c)) else 0)

/-- The sub-block's output by the entries of what it loads. -/
theorem out128_val (kc : FVec Ideal S1x1x128x64 .bf16) (ov : FVec Ideal S128x128 .bf16) (vc : FVec Ideal S1x1x80x128 .bf16)
    (qv : FVec Ideal S1x256x128 .bf16) (bv : FVec Ideal S128x128 .f32) (w : BitVec 32) (K Q V : ℕ → ℕ → EReal) (q0 j o : ℕ)
    (hq : q0 + j < 64) (ho : o = j * 128) (hw : w = BitVec.ofNat 32 (q0 + j))
    (hk : ∀ (c : Fin 128) (d : Fin 64), kc (ix4 (0 : Fin 1) (0 : Fin 1) c d) = K c d)
    (hv : ∀ (e : Fin 80) (c : Fin 128), vc (ix4 (0 : Fin 1) (0 : Fin 1) e c) = V e c)
    (hqv : ∀ (r : Fin 256) (x : Fin 128), qv (ix3 (0 : Fin 1) r x) = Q r (o + x))
    (hb : ∀ (c : Fin 128) (x : Fin 128), bv (ix2 c x) = if 16 * c.val + 31 ≤ (q0 + j) * 128 + x.val then 0 else 1)
    (h : Fin 4) (d : Fin 64) (x : Fin 128) :
    out128 kc ov vc qv bv w (ix2 d (⟨h.val * 128 + x.val, by omega⟩ : Fin 512)) = spec 128 K Q V (q0 * 128) h d (o + x) := by
  have eg : (q0 + j) * 128 + x.val = q0 * 128 + (o + x.val) := by omega
  rw [hw, out128_at kc ov vc qv bv (q0 + j) hq d h x (fun c => sc K Q h (o + x) (q0 * 128 + (o + x)) c) (fun c => by
    rw [hb, eg]; simp only [hk, hqv]; rfl)]
  rw [eg]
  simp only [hv]
  rfl

/-- The sub-block's output by the entries of what it loads. -/
theorem out256_val (kc : FVec Ideal S1x1x256x64 .bf16) (ov : FVec Ideal S128x256 .bf16) (vc : FVec Ideal S1x1x80x256 .bf16)
    (qv : FVec Ideal S1x256x128 .bf16) (bv : FVec Ideal S256x128 .f32) (w : BitVec 32) (K Q V : ℕ → ℕ → EReal) (q0 j o : ℕ)
    (hq : q0 + j < 64) (ho : o = j * 128) (hw : w = BitVec.ofNat 32 (q0 + j))
    (hk : ∀ (c : Fin 256) (d : Fin 64), kc (ix4 (0 : Fin 1) (0 : Fin 1) c d) = K c d)
    (hv : ∀ (e : Fin 80) (c : Fin 256), vc (ix4 (0 : Fin 1) (0 : Fin 1) e c) = V e c)
    (hqv : ∀ (r : Fin 256) (x : Fin 128), qv (ix3 (0 : Fin 1) r x) = Q r (o + x))
    (hb : ∀ (c : Fin 256) (x : Fin 128), bv (ix2 c x) = if 16 * c.val + 31 ≤ (q0 + j) * 128 + x.val then 0 else 1)
    (h : Fin 4) (d : Fin 64) (x : Fin 128) :
    out256 kc ov vc qv bv w (ix2 d (⟨h.val * 128 + x.val, by omega⟩ : Fin 512)) = spec 256 K Q V (q0 * 128) h d (o + x) := by
  have eg : (q0 + j) * 128 + x.val = q0 * 128 + (o + x.val) := by omega
  rw [hw, out256_at kc ov vc qv bv (q0 + j) hq d h x (fun c => sc K Q h (o + x) (q0 * 128 + (o + x)) c) (fun c => by
    rw [hb, eg]; simp only [hk, hqv]; rfl)]
  rw [eg]
  simp only [hv]
  rfl

/-- The sub-block's output by the entries of what it loads. -/
theorem out384_val (kc : FVec Ideal S1x1x384x64 .bf16) (ov : FVec Ideal S128x384 .bf16) (vc : FVec Ideal S1x1x80x384 .bf16)
    (qv : FVec Ideal S1x256x128 .bf16) (bv : FVec Ideal S384x128 .f32) (w : BitVec 32) (K Q V : ℕ → ℕ → EReal) (q0 j o : ℕ)
    (hq : q0 + j < 64) (ho : o = j * 128) (hw : w = BitVec.ofNat 32 (q0 + j))
    (hk : ∀ (c : Fin 384) (d : Fin 64), kc (ix4 (0 : Fin 1) (0 : Fin 1) c d) = K c d)
    (hv : ∀ (e : Fin 80) (c : Fin 384), vc (ix4 (0 : Fin 1) (0 : Fin 1) e c) = V e c)
    (hqv : ∀ (r : Fin 256) (x : Fin 128), qv (ix3 (0 : Fin 1) r x) = Q r (o + x))
    (hb : ∀ (c : Fin 384) (x : Fin 128), bv (ix2 c x) = if 16 * c.val + 31 ≤ (q0 + j) * 128 + x.val then 0 else 1)
    (h : Fin 4) (d : Fin 64) (x : Fin 128) :
    out384 kc ov vc qv bv w (ix2 d (⟨h.val * 128 + x.val, by omega⟩ : Fin 512)) = spec 384 K Q V (q0 * 128) h d (o + x) := by
  have eg : (q0 + j) * 128 + x.val = q0 * 128 + (o + x.val) := by omega
  rw [hw, out384_at kc ov vc qv bv (q0 + j) hq d h x (fun c => sc K Q h (o + x) (q0 * 128 + (o + x)) c) (fun c => by
    rw [hb, eg]; simp only [hk, hqv]; rfl)]
  rw [eg]
  simp only [hv]
  rfl

/-- The sub-block's output by the entries of what it loads. -/
theorem out512_val (kc : FVec Ideal S1x1x512x64 .bf16) (ov : FVec Ideal S128x512 .bf16) (vc : FVec Ideal S1x1x80x512 .bf16)
    (qv : FVec Ideal S1x256x128 .bf16) (bv : FVec Ideal S512x128 .f32) (w : BitVec 32) (K Q V : ℕ → ℕ → EReal) (q0 j o : ℕ)
    (hq : q0 + j < 64) (ho : o = j * 128) (hw : w = BitVec.ofNat 32 (q0 + j))
    (hk : ∀ (c : Fin 512) (d : Fin 64), kc (ix4 (0 : Fin 1) (0 : Fin 1) c d) = K c d)
    (hv : ∀ (e : Fin 80) (c : Fin 512), vc (ix4 (0 : Fin 1) (0 : Fin 1) e c) = V e c)
    (hqv : ∀ (r : Fin 256) (x : Fin 128), qv (ix3 (0 : Fin 1) r x) = Q r (o + x))
    (hb : ∀ (c : Fin 512) (x : Fin 128), bv (ix2 c x) = if 16 * c.val + 31 ≤ (q0 + j) * 128 + x.val then 0 else 1)
    (h : Fin 4) (d : Fin 64) (x : Fin 128) :
    out512 kc ov vc qv bv w (ix2 d (⟨h.val * 128 + x.val, by omega⟩ : Fin 512)) = spec 512 K Q V (q0 * 128) h d (o + x) := by
  have eg : (q0 + j) * 128 + x.val = q0 * 128 + (o + x.val) := by omega
  rw [hw, out512_at kc ov vc qv bv (q0 + j) hq d h x (fun c => sc K Q h (o + x) (q0 * 128 + (o + x)) c) (fun c => by
    rw [hb, eg]; simp only [hk, hqv]; rfl)]
  rw [eg]
  simp only [hv]
  rfl

/-- One stored piece: head 0 of a sub-block's output, at lanes from `o`. -/
theorem tile0 (O : FVec Ideal S64x512 .f32) (f : ℕ → ℕ → ℕ → EReal) (o : ℕ)
    (hO : ∀ (h : Fin 4) (d : Fin 64) (x : Fin 128), O (ix2 d (⟨h.val * 128 + x.val, by omega⟩ : Fin 512)) = f h d (o + x))
    (y : S1x4x64x1024.Idx) :
    View.TileAt (Val := Elt Ideal) (e := .f32) y ![0, 0, 0, o] ![1, 1, 64, 128]
      (shapeCast S1x1x64x128 (extractStridedSlice S64x128 ![0, 0] O slices_S64x512_o0_0_S64x128) shapeCasts_S64x128_S1x1x64x128)
      (f (y 1).val (y 2).val (y 3).val) := by
  intro x hx
  obtain ⟨a, b, rfl⟩ : ∃ (a : Fin 64) (b : Fin 128), x = ix4 (0 : Fin 1) (0 : Fin 1) a b := by
    refine ⟨x 2, x 3, ?_⟩
    funext a
    fin_cases a
    · exact Subsingleton.elim (α := Fin 1) _ _
    · exact Subsingleton.elim (α := Fin 1) _ _
    · rfl
    · rfl
  have h1 : (y 1).val = 0 := hx 1
  have h2 : (y 2).val = a.val := (hx 2).trans (Nat.zero_add _)
  have h3 : (y 3).val = o + b.val := hx 3
  rw [h1, h2, h3]
  refine Eq.trans ?_ (hO (0 : Fin 4) a b)
  pointwise

/-- One stored piece: head 1 of a sub-block's output, at lanes from `o`. -/
theorem tile1 (O : FVec Ideal S64x512 .f32) (f : ℕ → ℕ → ℕ → EReal) (o : ℕ)
    (hO : ∀ (h : Fin 4) (d : Fin 64) (x : Fin 128), O (ix2 d (⟨h.val * 128 + x.val, by omega⟩ : Fin 512)) = f h d (o + x))
    (y : S1x4x64x1024.Idx) :
    View.TileAt (Val := Elt Ideal) (e := .f32) y ![0, 1, 0, o] ![1, 1, 64, 128]
      (shapeCast S1x1x64x128 (extractStridedSlice S64x128 ![0, 128] O slices_S64x512_o0_128_S64x128) shapeCasts_S64x128_S1x1x64x128)
      (f (y 1).val (y 2).val (y 3).val) := by
  intro x hx
  obtain ⟨a, b, rfl⟩ : ∃ (a : Fin 64) (b : Fin 128), x = ix4 (0 : Fin 1) (0 : Fin 1) a b := by
    refine ⟨x 2, x 3, ?_⟩
    funext a
    fin_cases a
    · exact Subsingleton.elim (α := Fin 1) _ _
    · exact Subsingleton.elim (α := Fin 1) _ _
    · rfl
    · rfl
  have h1 : (y 1).val = 1 := hx 1
  have h2 : (y 2).val = a.val := (hx 2).trans (Nat.zero_add _)
  have h3 : (y 3).val = o + b.val := hx 3
  rw [h1, h2, h3]
  refine Eq.trans ?_ (hO (1 : Fin 4) a b)
  pointwise

/-- One stored piece: head 2 of a sub-block's output, at lanes from `o`. -/
theorem tile2 (O : FVec Ideal S64x512 .f32) (f : ℕ → ℕ → ℕ → EReal) (o : ℕ)
    (hO : ∀ (h : Fin 4) (d : Fin 64) (x : Fin 128), O (ix2 d (⟨h.val * 128 + x.val, by omega⟩ : Fin 512)) = f h d (o + x))
    (y : S1x4x64x1024.Idx) :
    View.TileAt (Val := Elt Ideal) (e := .f32) y ![0, 2, 0, o] ![1, 1, 64, 128]
      (shapeCast S1x1x64x128 (extractStridedSlice S64x128 ![0, 256] O slices_S64x512_o0_256_S64x128) shapeCasts_S64x128_S1x1x64x128)
      (f (y 1).val (y 2).val (y 3).val) := by
  intro x hx
  obtain ⟨a, b, rfl⟩ : ∃ (a : Fin 64) (b : Fin 128), x = ix4 (0 : Fin 1) (0 : Fin 1) a b := by
    refine ⟨x 2, x 3, ?_⟩
    funext a
    fin_cases a
    · exact Subsingleton.elim (α := Fin 1) _ _
    · exact Subsingleton.elim (α := Fin 1) _ _
    · rfl
    · rfl
  have h1 : (y 1).val = 2 := hx 1
  have h2 : (y 2).val = a.val := (hx 2).trans (Nat.zero_add _)
  have h3 : (y 3).val = o + b.val := hx 3
  rw [h1, h2, h3]
  refine Eq.trans ?_ (hO (2 : Fin 4) a b)
  pointwise

/-- One stored piece: head 3 of a sub-block's output, at lanes from `o`. -/
theorem tile3 (O : FVec Ideal S64x512 .f32) (f : ℕ → ℕ → ℕ → EReal) (o : ℕ)
    (hO : ∀ (h : Fin 4) (d : Fin 64) (x : Fin 128), O (ix2 d (⟨h.val * 128 + x.val, by omega⟩ : Fin 512)) = f h d (o + x))
    (y : S1x4x64x1024.Idx) :
    View.TileAt (Val := Elt Ideal) (e := .f32) y ![0, 3, 0, o] ![1, 1, 64, 128]
      (shapeCast S1x1x64x128 (extractStridedSlice S64x128 ![0, 384] O slices_S64x512_o0_384_S64x128) shapeCasts_S64x128_S1x1x64x128)
      (f (y 1).val (y 2).val (y 3).val) := by
  intro x hx
  obtain ⟨a, b, rfl⟩ : ∃ (a : Fin 64) (b : Fin 128), x = ix4 (0 : Fin 1) (0 : Fin 1) a b := by
    refine ⟨x 2, x 3, ?_⟩
    funext a
    fin_cases a
    · exact Subsingleton.elim (α := Fin 1) _ _
    · exact Subsingleton.elim (α := Fin 1) _ _
    · rfl
    · rfl
  have h1 : (y 1).val = 3 := hx 1
  have h2 : (y 2).val = a.val := (hx 2).trans (Nat.zero_add _)
  have h3 : (y 3).val = o + b.val := hx 3
  rw [h1, h2, h3]
  refine Eq.trans ?_ (hO (3 : Fin 4) a b)
  pointwise

end Cert.Proof.Core

end
-- ==== Proof.Ref.lean ====
/- Hand-written, untrusted: THE REFERENCE'S RESULT AT AN INDEX (`res_at`): the softmax of the scores that the token sees, taken with
   the values. -/
module

public import proofs.«01_k».proof.Proof.Gen.ReferenceIdeal.Run
public import proofs.«01_k».proof.Proof.Core
public import Idealize.ShloMosaic.Lib.Pointwise
public import Idealize.ShloMosaic.Lib.WordCmp

@[expose] public section

noncomputable section

namespace Cert.Proof.Ref

open Cert.ReferenceIdeal Cert.ReferenceIdeal.Gen Cert.ReferenceIdeal.Value Idealize.ShloMosaic Idealize.ShloMosaic.TcCoe Idealize.SL.Sem Idealize.ShloMosaic.StableHlo

/-- The reference's word of the mask: whether the compressed block `x` has ended by token `t`. -/
theorem mask_word (x t : ℕ) (hx : x < 512) (ht : t < 8192) :
    IntOp.cmpi CmpIPredicate.sle (IntOp.subi (IntOp.addi (IntOp.muli (BitVec.ofNat 32 x) 16#32) 32#32) 1#32) (BitVec.ofNat 32 t)
      = BitVec.ofBool (decide (16 * x + 31 ≤ t)) := by
  have h1 : (IntOp.subi (IntOp.addi (IntOp.muli (BitVec.ofNat 32 x) 16#32) 32#32) 1#32).toInt = 16 * (x : ℤ) + 31 := by
    show (BitVec.ofNat 32 x * BitVec.ofNat 32 16 + BitVec.ofNat 32 32 - BitVec.ofNat 32 1).toInt = _
    rw [BitVec.toInt_eq_toNat_cond]
    simp only [BitVec.toNat_sub, BitVec.toNat_add, BitVec.toNat_mul, BitVec.toNat_ofNat]
    split <;> omega
  have h2 : (BitVec.ofNat 32 t).toInt = (t : ℤ) := by
    rw [BitVec.toInt_eq_toNat_cond, BitVec.toNat_ofNat]; split <;> omega
  rw [WordCmp.cmpi_sle_eq, h1, h2]
  congr 1
  exact decide_eq_decide.mpr (by omega)

theorem select_ofBool {α : Type} (p : Prop) [Decidable p] (a b : α) : Scalar.select (BitVec.ofBool (decide p)) a b = if p then a else b := by
  by_cases h : p <;> simp [h, Scalar.select]

theorem uitofp_ofBool (p : Prop) [Decidable p] : (FloatOps.uitofp .f32 (BitVec.ofBool (decide p)) : Ideal .f32) = if p then 1 else 0 := by
  show (((BitVec.ofBool (decide p)).toNat : ℝ) : EReal) = _
  by_cases h : p <;> simp [h]

theorem ofBits_eighth : Ideal.ofBits FTy.f32 0x3E000000#32 = ((1 / 8 : ℝ) : EReal) := by
  simp [Ideal.ofBits, Ideal.ieee, -EReal.coe_mul]; norm_num

theorem mask_fin (x : Fin 511) (t : Fin 8192) :
    IntOp.cmpi CmpIPredicate.sle (IntOp.subi (IntOp.addi (IntOp.muli (BitVec.ofNat 32 x.val) 16#32) 32#32) 1#32) (BitVec.ofNat 32 t.val)
      = BitVec.ofBool (decide (16 * x.val + 31 ≤ t.val)) :=
  mask_word x.val t.val (by omega) t.isLt

theorem stop_word : (id (constant S_ FTy.f32 0xFF800000#32 : FVec Ideal S_ .f32) ix0) = (⊥ : EReal) := Core.ofBits_bot

/-- The score of compressed block `c` for token `t` of head `h`, or `⊥` where the token does not see it. -/
def score (q : FVec Ideal S4x2x4x8192x64 .f32) (k : FVec Ideal S4x2x511x64 .f32) (b : Fin 4) (g : Fin 2) (h : Fin 4) (t : Fin 8192) (c : Fin 511) : EReal :=
  if 16 * c.val + 31 ≤ t.val then
    (∑ d : Fin 64, q (ix5 b g h t d)
      * k (ix4 b g c d)) * ((1 / 8 : ℝ) : EReal)
  else ⊥

/-- The reference's result at an index. -/
def out (q : FVec Ideal S4x2x4x8192x64 .f32) (k v : FVec Ideal S4x2x511x64 .f32) (b : Fin 4) (g : Fin 2) (h : Fin 4) (d : Fin 64) (t : Fin 8192) : EReal :=
  ∑ c : Fin 511, Ideal.div (Ideal.exp (score q k b g h t c - (Finset.univ : Finset (Fin 511)).sup fun c => score q k b g h t c))
      (∑ c' : Fin 511, Ideal.exp (score q k b g h t c' - (Finset.univ : Finset (Fin 511)).sup fun c => score q k b g h t c))
    * (if 16 * c.val + 31 ≤ t.val then 1 else 0) * v (ix4 b g c d)

/-- Which compressed blocks each token sees. -/
def seen : IVec S8192x511 1 :=
  cmpi .sle (broadcastInDim S8192x511 ![0, 1] bcast_S1x511_S8192x511_0_1 (broadcastInDim S1x511 ![1] bcast_S511_S1x511_1 (subi (addi (muli (iotaInDim S511 32 0) (broadcastInDim S511 ![] bcast_S_S511 (constantI S_ 32 16#32))) (broadcastInDim S511 ![] bcast_S_S511 (constantI S_ 32 32#32))) (broadcastInDim S511 ![] bcast_S_S511 (constantI S_ 32 1#32))))) (broadcastInDim S8192x511 ![0, 1] bcast_S8192x1_S8192x511_0_1 (broadcastInDim S8192x1 ![0] bcast_S8192_S8192x1_0 (iotaInDim S8192 32 0)))

/-- The scores with `⊥` where the token does not see the block. -/
def masked (q : FVec Ideal S4x2x4x8192x64 .f32) (k : FVec Ideal S4x2x511x64 .f32) : FVec Ideal S4x2x4x8192x511 .f32 :=
  select (broadcastInDim S4x2x4x8192x511 ![3, 4] bcast_S8192x511_S4x2x4x8192x511_3_4 seen) (mulf (Host.dotGeneral dot_S4x2x4x8192x64_S4x2x511x64_S4x2x4x8192x511_4_3_23_2_01_01 none q k) (broadcastInDim S4x2x4x8192x511 ![] bcast_S_S4x2x4x8192x511 (constant S_ .f32 0x3E000000#32))) (broadcastInDim S4x2x4x8192x511 ![] bcast_S_S4x2x4x8192x511 (id (constant S_ .f32 0xFF800000#32)))

/-- The largest score of each row. -/
def top (q : FVec Ideal S4x2x4x8192x64 .f32) (k : FVec Ideal S4x2x511x64 .f32) : FVec Ideal S4x2x4x8192 .f32 :=
  Host.reduce FloatOps.maximumf (masked q k) (constant S_ .f32 0xFF800000#32) reducesTo_S4x2x4x8192x511_S4x2x4x8192_d4 h_S_

/-- The largest score of each row, once more bounded below by `⊥`. -/
def rowTop (q : FVec Ideal S4x2x4x8192x64 .f32) (k : FVec Ideal S4x2x511x64 .f32) : FVec Ideal S4x2x4x8192 .f32 :=
  maximumf (broadcastInDim S4x2x4x8192 ![] bcast_S_S4x2x4x8192 (constant S_ .f32 0xFF800000#32)) (top q k)

/-- The exponentials. -/
def weights (q : FVec Ideal S4x2x4x8192x64 .f32) (k : FVec Ideal S4x2x511x64 .f32) : FVec Ideal S4x2x4x8192x511 .f32 :=
  Host.exp (subf (masked q k) (broadcastInDim S4x2x4x8192x511 ![0, 1, 2, 3, 4] bcast_S4x2x4x8192x1_S4x2x4x8192x511_0_1_2_3_4 (broadcastInDim S4x2x4x8192x1 ![0, 1, 2, 3] bcast_S4x2x4x8192_S4x2x4x8192x1_0_1_2_3 (rowTop q k))))

/-- Their sums. -/
def total (q : FVec Ideal S4x2x4x8192x64 .f32) (k : FVec Ideal S4x2x511x64 .f32) : FVec Ideal S4x2x4x8192 .f32 :=
  Host.reduceAdd (weights q k) (constant S_ .f32 0x00000000#32) reducesTo_S4x2x4x8192x511_S4x2x4x8192_d4 h_S_

/-- The probabilities, zero where the token does not see the block. -/
def probs (q : FVec Ideal S4x2x4x8192x64 .f32) (k : FVec Ideal S4x2x511x64 .f32) : FVec Ideal S4x2x4x8192x511 .f32 :=
  mulf (Host.divf (weights q k) (broadcastInDim S4x2x4x8192x511 ![0, 1, 2, 3, 4] bcast_S4x2x4x8192x1_S4x2x4x8192x511_0_1_2_3_4 (broadcastInDim S4x2x4x8192x1 ![0, 1, 2, 3] bcast_S4x2x4x8192_S4x2x4x8192x1_0_1_2_3 (total q k)))) (broadcastInDim S4x2x4x8192x511 ![0, 1, 2, 3, 4] bcast_S1x1x1x8192x511_S4x2x4x8192x511_0_1_2_3_4 (broadcastInDim S1x1x1x8192x511 ![3, 4] bcast_S8192x511_S1x1x1x8192x511_3_4 (uitofp .f32 seen)))

/-- The heads' outputs. -/
def heads (q : FVec Ideal S4x2x4x8192x64 .f32) (k : FVec Ideal S4x2x511x64 .f32) (v : FVec Ideal S4x2x511x64 .f32) : FVec Ideal S4x2x4x8192x64 .f32 :=
  Host.dotGeneral dot_S4x2x4x8192x511_S4x2x511x64_S4x2x4x8192x64_4_2_23_3_01_01 none (probs q k) v

/-- The reference's result as a function of the arguments' contents. -/
def res (q : FVec Ideal S4x2x4x8192x64 .f32) (k : FVec Ideal S4x2x511x64 .f32) (v : FVec Ideal S4x2x511x64 .f32) : FVec Ideal S4x8x64x8192 .f32 :=
  shapeCast S4x8x64x8192 (transpose S4x2x4x64x8192 [0, 1, 2, 4, 3] (heads q k v) transposes_S4x2x4x8192x64_S4x2x4x64x8192_0_1_2_4_3) shapeCasts_S4x2x4x64x8192_S4x8x64x8192

theorem res_eq (m : (ℓ : Loc nD τ sig) → Buf (Elt Ideal) ℓ) (c : Dev nD) :
    res_main_v34 m c = res (m ((c.tc : Thread nD τ).loc main_arg0)) (m ((c.tc : Thread nD τ).loc main_arg1)) (m ((c.tc : Thread nD τ).loc main_arg2)) := rfl

theorem seen_at (t : Fin 8192) (c : Fin 511) : seen (ix2 t c) = BitVec.ofBool (decide (16 * c.val + 31 ≤ t.val)) := by
  pointwise [seen]
  exact mask_fin c t

theorem masked_at (q : FVec Ideal S4x2x4x8192x64 .f32) (k : FVec Ideal S4x2x511x64 .f32) (b : Fin 4) (g : Fin 2) (h : Fin 4) (t : Fin 8192) (c : Fin 511) : masked q k (ix5 b g h t c) = score q k b g h t c := by
  pointwise [masked]
  rw [seen_at, select_ofBool, ofBits_eighth]
  exact if_congr Iff.rfl rfl Core.ofBits_bot

theorem top_at (q : FVec Ideal S4x2x4x8192x64 .f32) (k : FVec Ideal S4x2x511x64 .f32) (b : Fin 4) (g : Fin 2) (h : Fin 4) (t : Fin 8192) : top q k (ix4 b g h t) = (Finset.univ : Finset (Fin 511)).sup fun c => score q k b g h t c := by
  pointwise [top]
  simp only [masked_at]
  rw [Core.ofBits_bot, Row.fold_max_eq_sup]

theorem max_of_bot (x y : Ideal .f32) (hx : x = (⊥ : EReal)) : FloatOps.maximumf x y = y := by
  subst hx
  exact max_eq_right bot_le

theorem rowTop_at (q : FVec Ideal S4x2x4x8192x64 .f32) (k : FVec Ideal S4x2x511x64 .f32) (b : Fin 4) (g : Fin 2) (h : Fin 4) (t : Fin 8192) : rowTop q k (ix4 b g h t) = top q k (ix4 b g h t) := by
  unfold rowTop
  rw [maximumf_apply]
  exact max_of_bot _ _ Core.ofBits_bot

theorem weights_at (q : FVec Ideal S4x2x4x8192x64 .f32) (k : FVec Ideal S4x2x511x64 .f32) (b : Fin 4) (g : Fin 2) (h : Fin 4) (t : Fin 8192) (c : Fin 511) : weights q k (ix5 b g h t c)
    = Ideal.exp (score q k b g h t c - (Finset.univ : Finset (Fin 511)).sup fun c => score q k b g h t c) := by
  pointwise [weights]
  rw [masked_at, rowTop_at, top_at]

theorem total_at (q : FVec Ideal S4x2x4x8192x64 .f32) (k : FVec Ideal S4x2x511x64 .f32) (b : Fin 4) (g : Fin 2) (h : Fin 4) (t : Fin 8192) : total q k (ix4 b g h t) = ∑ c : Fin 511, weights q k (ix5 b g h t c) := by
  pointwise [total]

theorem probs_at (q : FVec Ideal S4x2x4x8192x64 .f32) (k : FVec Ideal S4x2x511x64 .f32) (b : Fin 4) (g : Fin 2) (h : Fin 4) (t : Fin 8192) (c : Fin 511) : probs q k (ix5 b g h t c)
    = Ideal.div (weights q k (ix5 b g h t c)) (∑ c' : Fin 511, weights q k (ix5 b g h t c')) * (if 16 * c.val + 31 ≤ t.val then 1 else 0) := by
  pointwise [probs]
  rw [total_at, seen_at, uitofp_ofBool]

theorem heads_at (q : FVec Ideal S4x2x4x8192x64 .f32) (k : FVec Ideal S4x2x511x64 .f32) (v : FVec Ideal S4x2x511x64 .f32) (b : Fin 4) (g : Fin 2) (h : Fin 4) (t : Fin 8192) (d : Fin 64) : heads q k v (ix5 b g h t d)
    = ∑ c : Fin 511, probs q k (ix5 b g h t c) * v (ix4 b g c d) := by
  pointwise [heads]

theorem res_at (q : FVec Ideal S4x2x4x8192x64 .f32) (k : FVec Ideal S4x2x511x64 .f32) (v : FVec Ideal S4x2x511x64 .f32) (b : Fin 4) (h : Fin 8) (d : Fin 64) (t : Fin 8192) :
    res q k v (ix4 b h d t) = out q k v b (⟨h.val / 4, by omega⟩ : Fin 2) (⟨h.val % 4, by omega⟩ : Fin 4) d t := by
  have e : res q k v (ix4 b h d t) = heads q k v (ix5 b (⟨h.val / 4, by omega⟩ : Fin 2) (⟨h.val % 4, by omega⟩ : Fin 4) t d) := by
    pointwise [res]
  rw [e, heads_at]
  simp only [probs_at, weights_at]
  rfl

end Cert.Proof.Ref

end
-- ==== Proof.Entry.lean ====
/- Hand-written, untrusted: THE ARRAYS THE CALL FINDS: what the host operations before it leave in the arrays of the windows
   that the first result reads — the scaled queries (window 0), the keys padded by one zero row (window 1), the values
   transposed over sixteen rows of ones (window 2), the table of the mask (window 4) — each at an index, as a function
   of the arguments' launch contents. -/
module

public import proofs.«01_k».proof.Proof.Gen.KernelIdeal.Frame.Runs
public import proofs.«01_k».proof.Proof.Core
public import Idealize.ShloMosaic.Lib.StableHlo.Run
public import Idealize.ShloMosaic.Lib.Pointwise

@[expose] public section

noncomputable section

namespace Cert.Proof.Entry

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The scaled queries' array, from the queries. -/
def qt (q : FVec Ideal S4x2x4x8192x64 .f32) : FVec Ideal S4x512x8192 .bf16 :=
  truncf .bf16 (mulf (shapeCast S4x512x8192 (transpose S4x2x4x64x8192 [0, 1, 2, 4, 3] q transposes_S4x2x4x8192x64_S4x2x4x64x8192_0_1_2_4_3) shapeCasts_S4x2x4x64x8192_S4x512x8192)
    (broadcastInDim S4x512x8192 ![] bcast_S_S4x512x8192 (Host.divf (constant S_ .f32 0x3E000000#32) (Host.log (constant S_ .f32 0x40000000#32))))) bitsLt_bf16_f32

/-- The padded keys' array, from the keys. -/
def kc (k : FVec Ideal S4x2x511x64 .f32) : FVec Ideal S4x2x512x64 .bf16 :=
  truncf .bf16 (pad S4x2x512x64 ![0, 0, 0, 0] ![0, 0, 1, 0] ![0, 0, 0, 0] k (sitofp .f32 (constantI S_ 32 0#32)) pads_S4x2x511x64_S4x2x512x64_000_000_010_000 h_S_) bitsLt_bf16_f32

/-- The values' array, from the values. -/
def vct (v : FVec Ideal S4x2x511x64 .f32) : FVec Ideal S4x2x80x512 .bf16 :=
  concatenate S4x2x80x512 2 [⟨S4x2x64x512, truncf .bf16 (transpose S4x2x64x512 [0, 1, 3, 2] (pad S4x2x512x64 ![0, 0, 0, 0] ![0, 0, 1, 0] ![0, 0, 0, 0] v (sitofp .f32 (constantI S_ 32 0#32)) pads_S4x2x511x64_S4x2x512x64_000_000_010_000 h_S_) transposes_S4x2x512x64_S4x2x64x512_0_1_3_2) bitsLt_bf16_f32⟩,
    ⟨S4x2x16x512, broadcastInDim S4x2x16x512 ![] bcast_S_S4x2x16x512 (constant S_ .bf16 0x3F80#16)⟩] concatenates_S4x2x64x512_S4x2x16x512_S4x2x80x512_d2

/-- The table of the mask. -/
def table : FVec Ideal S1024x128 .f32 :=
  select (cmpi .sle (broadcastInDim S1024x128 ![0, 1] bcast_S1024x1_S1024x128_0_1
      (subi (addi (muli (subi (broadcastInDim S1024x1 ![0] bcast_S1024_S1024x1_0 (iotaInDim S1024 32 0)) (broadcastInDim S1024x1 ![] bcast_S_S1024x1 (constantI S_ 32 512#32)))
        (broadcastInDim S1024x1 ![] bcast_S_S1024x1 (constantI S_ 32 16#32))) (broadcastInDim S1024x1 ![] bcast_S_S1024x1 (constantI S_ 32 32#32))) (broadcastInDim S1024x1 ![] bcast_S_S1024x1 (constantI S_ 32 1#32))))
      (broadcastInDim S1024x128 ![0, 1] bcast_S1x128_S1024x128_0_1 (broadcastInDim S1x128 ![1] bcast_S128_S1x128_1 (iotaInDim S128 32 0))))
    (broadcastInDim S1024x128 ![] bcast_S_S1024x128 (constant S_ .f32 0x00000000#32)) (broadcastInDim S1024x128 ![] bcast_S_S1024x128 (constant S_ .f32 0x3F800000#32))

theorem V0 (c : Dev nD) : V m c main_v6 = qt (m ((c : Thread nD τ).loc main_arg0)) := by
  simp only [V, hostOps0, hostOps0_1, hostOps0_2, hostOps0_3, hostOps0_4, hostOps0_5, hostOps0_6, hostOps0_7, hostOps0_8, List.flatten_cons, List.flatten_nil, List.append_nil, List.cons_append, List.nil_append, TRef.unary, TRef.binary, TRef.ternary, TRef.toBuf, TRef.ofBuf, cast_eq]
  after_results_simp
  rfl

theorem V1 (c : Dev nD) : V m c main_v8 = kc (m ((c : Thread nD τ).loc main_arg1)) := by
  simp only [V, hostOps0, hostOps0_1, hostOps0_2, hostOps0_3, hostOps0_4, hostOps0_5, hostOps0_6, hostOps0_7, hostOps0_8, List.flatten_cons, List.flatten_nil, List.append_nil, List.cons_append, List.nil_append, TRef.unary, TRef.binary, TRef.ternary, TRef.toBuf, TRef.ofBuf, cast_eq]
  after_results_simp
  rfl

theorem V2 (c : Dev nD) : V m c main_v13 = vct (m ((c : Thread nD τ).loc main_arg2)) := by
  simp only [V, hostOps0, hostOps0_1, hostOps0_2, hostOps0_3, hostOps0_4, hostOps0_5, hostOps0_6, hostOps0_7, hostOps0_8, List.flatten_cons, List.flatten_nil, List.append_nil, List.cons_append, List.nil_append, TRef.unary, TRef.binary, TRef.ternary, TRef.toBuf, TRef.ofBuf, cast_eq]
  after_results_simp
  rfl

theorem V4 (c : Dev nD) : V m c main_v56 = table := by
  simp only [V, hostOps0, hostOps0_1, hostOps0_2, hostOps0_3, hostOps0_4, hostOps0_5, hostOps0_6, hostOps0_7, hostOps0_8, List.flatten_cons, List.flatten_nil, List.append_nil, List.cons_append, List.nil_append, TRef.unary, TRef.binary, TRef.ternary, TRef.toBuf, TRef.ofBuf, cast_eq]
  after_results_simp
  rfl

theorem sitofp_zero32 : (FloatOps.sitofp .f32 (0#32) : Ideal .f32) = 0 := by
  show (((0#32).toInt : ℝ) : EReal) = 0
  simp

theorem scale_eq : Ideal.div (Ideal.ofBits FTy.f32 0x3E000000#32) (Ideal.log (Ideal.ofBits FTy.f32 0x40000000#32)) = ((1 / 8 / Real.log 2 : ℝ) : EReal) := by
  have h8 : Ideal.ofBits FTy.f32 0x3E000000#32 = ((1 / 8 : ℝ) : EReal) := by
    simp [Ideal.ofBits, Ideal.ieee, -EReal.coe_mul]; norm_num
  have h2 : Ideal.ofBits FTy.f32 0x40000000#32 = ((2 : ℝ) : EReal) := by
    simp [Ideal.ofBits, Ideal.ieee, -EReal.coe_mul]; norm_num
  have hl : Real.log 2 ≠ 0 := (Real.log_pos (by norm_num)).ne'
  rw [h8, h2, Ideal.log_coe, if_neg (by norm_num), Ideal.div_coe hl]
  rw [← EReal.coe_mul]
  congr 1
  ring

/-- A scaled query: entry `(h, d)` of group `g` is row `g · 256 + h · 64 + d`. -/
theorem qt_at (q : FVec Ideal S4x2x4x8192x64 .f32) (b : Fin 4) (r : Fin 512) (t : Fin 8192) :
    qt q (ix3 b r t) = q (ix5 b (⟨r.val / 256, by omega⟩ : Fin 2) (⟨r.val / 64 % 4, by omega⟩ : Fin 4) t (⟨r.val % 64, by omega⟩ : Fin 64)) * ((1 / 8 / Real.log 2 : ℝ) : EReal) := by
  pointwise [qt]
  rw [scale_eq]

/-- A padded key. -/
theorem kc_at (k : FVec Ideal S4x2x511x64 .f32) (b : Fin 4) (g : Fin 2) (c : Fin 512) (d : Fin 64) :
    kc k (ix4 b g c d) = if h : c.val < 511 then k (ix4 b g (⟨c.val, h⟩ : Fin 511) d) else 0 := by
  pointwise [kc]
  split
  · rfl
  · exact sitofp_zero32

/-- An entry of the values' array: a value, or one. -/
theorem vct_at (k : FVec Ideal S4x2x511x64 .f32) (b : Fin 4) (g : Fin 2) (e : Fin 80) (c : Fin 512)  :
    vct k (ix4 b g e c) = if he : e.val < 64 then if h : c.val < 511 then k (ix4 b g (⟨c.val, h⟩ : Fin 511) (⟨e.val, he⟩ : Fin 64)) else 0 else 1 := by
  pointwise [vct]
  by_cases he : e.val < 64
  · by_cases hc : c.val < 511
    · rw [dif_pos he, dif_pos ⟨hc, he⟩, dif_pos he, dif_pos hc]
    · rw [dif_pos he, dif_neg (fun h => hc h.1), dif_pos he, dif_neg hc]
      exact sitofp_zero32
  · rw [dif_neg he, dif_neg he]

theorem toInt_row (r : ℕ) (hr : r < 1024) :
    (IntOp.subi (IntOp.addi (IntOp.muli (IntOp.subi (BitVec.ofNat 32 r) 512#32) 16#32) 32#32) 1#32).toInt = 16 * (r : ℤ) - 8161 := by
  show ((BitVec.ofNat 32 r - BitVec.ofNat 32 512) * BitVec.ofNat 32 16 + BitVec.ofNat 32 32 - BitVec.ofNat 32 1).toInt = _
  rw [BitVec.toInt_eq_toNat_cond]
  simp only [BitVec.toNat_sub, BitVec.toNat_add, BitVec.toNat_mul, BitVec.toNat_ofNat]
  split <;> omega

/-- The table's entry: zero iff the row's block has ended by the column's token, one otherwise. -/
theorem table_at (r : Fin 1024) (x : Fin 128) :
    table (ix2 r x) = if 16 * r.val + 31 ≤ 8192 + x.val then 0 else 1 := by
  pointwise [table]
  have hx : (BitVec.ofNat 32 x.val).toInt = (x.val : ℤ) := by
    rw [BitVec.toInt_eq_toNat_cond, BitVec.toNat_ofNat]; split <;> omega
  rw [WordCmp.cmpi_sle_eq, toInt_row r.val r.isLt, hx]
  by_cases h : 16 * r.val + 31 ≤ 8192 + x.val
  · rw [if_pos h, decide_eq_true (by omega)]; rfl
  · rw [if_neg h, decide_eq_false (by omega)]; rfl

end Cert.Proof.Entry

end
-- ==== Proof.Val.lean ====
/- Hand-written, untrusted: A GROUP OF SCORES FROM THE KERNEL'S SIDE TO THE REFERENCE'S (`spec_eq`): `Core.spec` over the first `N`
   padded columns is the reference's softmax over the 511 compressed blocks, when the queries and keys are reals. -/
module

public import proofs.«01_k».proof.Proof.Ref

@[expose] public section

noncomputable section

namespace Cert.Proof.Val

open Cert.ReferenceIdeal Idealize.ShloMosaic Idealize.ShloMosaic.TcCoe

theorem real_sum {n : ℕ} (f g : Fin n → ℝ) (s : ℝ) :
    (∑ d, (f d : EReal) * ((g d : EReal) * (s : EReal))) = (((∑ d, g d * f d) * s : ℝ) : EReal) := by
  rw [Finset.sum_mul, Row.coe_sum]
  refine Finset.sum_congr rfl fun d _ => ?_
  rw [← EReal.coe_mul, ← EReal.coe_mul]
  congr 1
  ring

theorem spec_eq (q : FVec Ideal S4x2x4x8192x64 .f32) (k v : FVec Ideal S4x2x511x64 .f32)
    (qr : S4x2x4x8192x64.Idx → ℝ) (kr : S4x2x511x64.Idx → ℝ) (hq : ∀ j, q j = (qr j : EReal)) (hk : ∀ j, k j = (kr j : EReal))
    (b : Fin 4) (g : Fin 2) (h : Fin 4) (d : Fin 64) (t : Fin 8192)
    (N : ℕ) (K Q V : ℕ → ℕ → EReal) (g0 l : ℕ) (ht : g0 + l = t.val) (hN : (t.val - 15) / 16 ≤ N)
    (hK : ∀ (c : Fin 511) (e : Fin 64), K c e = k (ix4 b g c e))
    (hQ : ∀ e : Fin 64, Q (h.val * 64 + e.val) l = q (ix5 b g h t e) * ((1 / 8 / Real.log 2 : ℝ) : EReal))
    (hV : ∀ c : Fin 511, V d c = v (ix4 b g c d)) (hV1 : ∀ c, V 64 c = 1) :
    Core.spec N K Q V g0 h d l = Ref.out q k v b g h d t := by
  have htl := t.isLt
  set σ : ℕ → ℝ := fun c => (∑ e : Fin 64, qr (ix5 b g h t e) * kr (ix4 b g (⟨c % 511, Nat.mod_lt _ (by omega)⟩ : Fin 511) e)) * (1 / 8) with hσ
  have hmod : ∀ c : Fin 511, (⟨c.val % 511, Nat.mod_lt _ (by omega)⟩ : Fin 511) = c := fun c => Fin.ext (Nat.mod_eq_of_lt c.isLt)
  set B := (t.val - 15) / 16 with hB
  have hB511 : B ≤ 511 := by omega
  have hvis : ∀ c, 16 * c + 31 ≤ t.val ↔ c < B := fun c => by omega
  have hy : ∀ c, Core.sc K Q h l (g0 + l) c = if c < B then ((σ c * (1 / Real.log 2) : ℝ) : EReal) else ⊥ := by
    intro c
    unfold Core.sc
    rw [ht]
    by_cases hc : c < B
    · rw [if_pos ((hvis c).mpr hc), if_pos hc, zero_mul, add_zero]
      have hc' : c < 511 := by omega
      have e1 : ∀ e : Fin 64, K c e * Q (h.val * 64 + e.val) l
          = (kr (ix4 b g (⟨c, hc'⟩ : Fin 511) e) : EReal) * ((qr (ix5 b g h t e) : EReal) * ((1 / 8 / Real.log 2 : ℝ) : EReal)) := by
        intro e
        rw [hK (⟨c, hc'⟩ : Fin 511) e, hQ e, hk, hq]
      rw [Finset.sum_congr rfl fun e _ => e1 e, real_sum]
      have em : (⟨c % 511, Nat.mod_lt _ (by omega)⟩ : Fin 511) = ⟨c, hc'⟩ := hmod ⟨c, hc'⟩
      rw [hσ]
      dsimp only
      rw [em]
      congr 1
      ring
    · rw [if_neg (fun h => hc ((hvis c).mp h)), if_neg hc, one_mul, EReal.add_bot]
  have hx : ∀ c : Fin 511, Ref.score q k b g h t c = (fun c : ℕ => if c < B then (σ c : EReal) else ⊥) c.val := by
    intro c
    unfold Ref.score
    refine (if_congr (hvis c.val) ?_ rfl)
    have e1 : ∀ e : Fin 64, q (ix5 b g h t e) * k (ix4 b g c e) = ((qr (ix5 b g h t e) * kr (ix4 b g c e) : ℝ) : EReal) := by
      intro e; rw [hq, hk, ← EReal.coe_mul]
    rw [Finset.sum_congr rfl fun e _ => e1 e, ← Row.coe_sum, ← EReal.coe_mul, hσ]
    dsimp only
    rw [hmod c]
  have hrow := Row.row_eq (n := N) (N := 511) (B := B) hN hB511 σ (fun c => V d c) (fun c => if hc : c < 511 then v (ix4 b g (⟨c, hc⟩ : Fin 511) d) else 0)
    (fun c hc => by
      have hc' : c < 511 := by omega
      rw [dif_pos hc']
      exact hV ⟨c, hc'⟩)
    (fun c : ℕ => if c < B then (σ c : EReal) else ⊥) (fun c => Core.sc K Q h l (g0 + l) c) (fun c => rfl) hy
  unfold Core.spec Ref.out
  simp only [hx, hV1]
  rw [if_congr (show 31 ≤ g0 + l ↔ 0 < B by omega) rfl rfl]
  refine hrow.trans (Finset.sum_congr rfl fun c _ => ?_)
  rw [dif_pos c.isLt]
  congr 2
  exact if_congr (hvis c.val).symm rfl rfl

end Cert.Proof.Val

end
-- ==== Proof.CaseA.lean ====
/- Hand-written, untrusted: WHAT CASE A OF THE BODY (the branch of the switch with 128 compressed keys) LEAVES in the output's
   block: at head `h`, coordinate `d` and lane `l`, `Core.spec 128` of the entries of the input blocks. Its 32 stores are
   the four heads of eight sub-blocks (`blk`), each a tile of the block. -/
module

public import proofs.«01_k».proof.Proof.FrameI
public import proofs.«01_k».proof.Proof.Core

@[expose] public section

noncomputable section

namespace Cert.Proof.CaseA

open Cert.KernelIdeal Cert.KernelIdeal.Gen Cert.Proof.FrameI Idealize.ShloMosaic Idealize.ShloMosaic.TcCoe Idealize.SL

/-- A sub-block's output, from the blocks the body loads it from. -/
def blk (i : grid0.Coords) (arg3 : Memref sig .tc .vmem S1x256x1024 .bf16) (harg3 : arg3.IsWhole) (arg4 : Memref sig .tc .vmem S1x1x512x64 .bf16) (harg4 : arg4.IsWhole)
    (arg5 : Memref sig .tc .vmem S1x1x80x512 .bf16) (harg5 : arg5.IsWhole) (arg6 : Memref sig .tc .vmem S128x512 .bf16) (harg6 : arg6.IsWhole)
    (arg7 : Memref sig .tc .vmem S1024x128 .f32) (harg7 : arg7.IsWhole)
    (hc0 : ¬cond0_0 i) (x0 : Vec Ideal S1x256x1024 .bf16) (x1 : Vec Ideal S1x1x512x64 .bf16) (x2 : Vec Ideal S1x1x80x512 .bf16) (x3 : Vec Ideal S128x512 .bf16) (x4 : Vec Ideal S1024x128 .f32) (j : Fin 8) (q : Fin 3 → ℕ)
    (hq : ∀ a, q a + S1x256x128.size a ≤ S1x256x1024.size a) : FVec Ideal S64x512 .f32 :=
  Core.out128
    (View.readAt (Elt Ideal) arg4.view (Rect.unit (s := S1x1x512x64) ![0, 0, 0, 0] S1x1x128x64.size inb_S1x1x512x64_S1x1x128x64_0_0_0_0).toLoadRect (harg4.unread x1))
    (View.readAt (Elt Ideal) arg6.view (Rect.unit (s := S128x512) ![0, 0] S128x128.size inb_S128x512_S128x128_0_0).toLoadRect (harg6.unread x3))
    (View.readAt (Elt Ideal) arg5.view (Rect.unit (s := S1x1x80x512) ![0, 0, 0, 0] S1x1x80x128.size inb_S1x1x80x512_S1x1x80x128_0_0_0_0).toLoadRect (harg5.unread x2))
    (View.readAt (Elt Ideal) arg3.view (Rect.unit (s := S1x256x1024) q S1x256x128.size hq).toLoadRect (harg3.unread x0))
    (View.readAt (Elt Ideal) arg7.view (Rect.unit (s := S1024x128) (k0_off4 i (BitVec.ofNat 32 j.val)) S128x128.size (k0_off4_inb i hc0 j)).toLoadRect (harg7.unread x4))
    (Scalar.addi (Scalar.muli (BitVec.ofNat 32 (i 2).val) 8#32) (BitVec.ofNat 32 j.val))

theorem blk_val (i : grid0.Coords) (arg3 : Memref sig .tc .vmem S1x256x1024 .bf16) (harg3 : arg3.IsWhole) (arg4 : Memref sig .tc .vmem S1x1x512x64 .bf16) (harg4 : arg4.IsWhole)
    (arg5 : Memref sig .tc .vmem S1x1x80x512 .bf16) (harg5 : arg5.IsWhole) (arg6 : Memref sig .tc .vmem S128x512 .bf16) (harg6 : arg6.IsWhole)
    (arg7 : Memref sig .tc .vmem S1024x128 .f32) (harg7 : arg7.IsWhole)
    (hc0 : ¬cond0_0 i) (x0 : Vec Ideal S1x256x1024 .bf16) (x1 : Vec Ideal S1x1x512x64 .bf16) (x2 : Vec Ideal S1x1x80x512 .bf16) (x3 : Vec Ideal S128x512 .bf16) (x4 : Vec Ideal S1024x128 .f32)
    (Kf Qf Vf : ℕ → ℕ → EReal)
    (h0 : ∀ (r : Fin 256) (l : Fin 1024), x0 (ix3 (0 : Fin 1) r l) = Qf r l)
    (h1 : ∀ (c : Fin 512) (d : Fin 64), x1 (ix4 (0 : Fin 1) (0 : Fin 1) c d) = Kf c d)
    (h2 : ∀ (e : Fin 80) (c : Fin 512), x2 (ix4 (0 : Fin 1) (0 : Fin 1) e c) = Vf e c)
    (h4 : ∀ (r : Fin 1024) (x : Fin 128), x4 (ix2 r x) = if 16 * r.val + 31 ≤ 8192 + x.val then 0 else 1)
    (j : Fin 8) (o : ℕ) (ho : o = j.val * 128) (hq : ∀ a, (![0, 0, o] : Fin 3 → ℕ) a + S1x256x128.size a ≤ S1x256x1024.size a)
    (h : Fin 4) (d : Fin 64) (x : Fin 128) :
    blk i arg3 harg3 arg4 harg4 arg5 harg5 arg6 harg6 arg7 harg7 hc0 x0 x1 x2 x3 x4 j ![0, 0, o] hq (ix2 d (⟨h.val * 128 + x.val, by omega⟩ : Fin 512))
      = Core.spec 128 Kf Qf Vf (8 * (i 2).val * 128) h d (o + x) := by
  have hi : (i 2).val < 8 := (i 2).isLt
  have hj := j.isLt
  refine Core.out128_val _ _ _ _ _ _ Kf Qf Vf (8 * (i 2).val) j.val o (by omega) ho ?_ ?_ ?_ ?_ ?_ h d x
  · show BitVec.ofNat 32 (i 2).val * 8#32 + BitVec.ofNat 32 j.val = _
    rw [BitVec.ofNat_add, BitVec.ofNat_mul, BitVec.mul_comm]
  · intro c d
    rw [View.readAt_eq_ld, harg4.read_unread]
    refine Eq.trans (congrArg x1 ?_) (h1 (⟨c.val, by omega⟩ : Fin 512) d)
    funext a
    apply Fin.ext
    fin_cases a <;> simp [ix4, LoadRect.idx, Rect.toLoadRect, Rect.unit]
  · intro e c
    rw [View.readAt_eq_ld, harg5.read_unread]
    refine Eq.trans (congrArg x2 ?_) (h2 e (⟨c.val, by omega⟩ : Fin 512))
    funext a
    apply Fin.ext
    fin_cases a <;> simp [ix4, LoadRect.idx, Rect.toLoadRect, Rect.unit]
  · intro r x
    rw [View.readAt_eq_ld, harg3.read_unread]
    refine Eq.trans (congrArg x0 ?_) (h0 r (⟨o + x.val, by omega⟩ : Fin 1024))
    funext a
    apply Fin.ext
    fin_cases a <;> simp [ix3, LoadRect.idx, Rect.toLoadRect, Rect.unit]
  · intro c x
    rw [View.readAt_eq_ld, harg7.read_unread]
    have hoff := k0_off4_eq i j
    refine Eq.trans (congrArg x4 (a₂ := ix2 (⟨512 - (64 * (i 2).val + 8 * j.val) + c.val, by omega⟩ : Fin 1024) x) ?_) ((h4 _ x).trans ?_)
    · funext a
      apply Fin.ext
      fin_cases a <;> simp [ix2, hoff]
    · show (if 16 * (512 - (64 * (i 2).val + 8 * j.val) + c.val) + 31 ≤ 8192 + x.val then (0 : EReal) else 1) = _
      by_cases hc : 16 * c.val + 31 ≤ (8 * (i 2).val + j.val) * 128 + x.val
      · rw [if_pos hc, if_pos (by omega)]
      · rw [if_neg hc, if_neg (by omega)]

theorem out_at (cdev : Dev nD) (i : grid0.Coords) (arg3 : Memref sig .tc .vmem S1x256x1024 .bf16) (harg3 : arg3.IsWhole) (arg4 : Memref sig .tc .vmem S1x1x512x64 .bf16) (harg4 : arg4.IsWhole)
    (arg5 : Memref sig .tc .vmem S1x1x80x512 .bf16) (harg5 : arg5.IsWhole) (arg6 : Memref sig .tc .vmem S128x512 .bf16) (harg6 : arg6.IsWhole)
    (arg7 : Memref sig .tc .vmem S1024x128 .f32) (harg7 : arg7.IsWhole)
    (arg8 : Memref sig .tc .vmem S1x4x64x1024 .f32) (harg8 : arg8.IsWhole)
    (arg9 : Memref sig .tc .vmem S1x1x128x1024 .bf16) (harg9 : arg9.IsWhole) (arg10 : Memref sig .tc .vmem S128x1024 .f32) (harg10 : arg10.IsWhole)
    (hc0 : ¬cond0_0 i) (x0 : Vec Ideal S1x256x1024 .bf16) (x1 : Vec Ideal S1x1x512x64 .bf16) (x2 : Vec Ideal S1x1x80x512 .bf16) (x3 : Vec Ideal S128x512 .bf16) (x4 : Vec Ideal S1024x128 .f32)
    (Kf Qf Vf : ℕ → ℕ → EReal)
    (h0 : ∀ (r : Fin 256) (l : Fin 1024), x0 (ix3 (0 : Fin 1) r l) = Qf r l)
    (h1 : ∀ (c : Fin 512) (d : Fin 64), x1 (ix4 (0 : Fin 1) (0 : Fin 1) c d) = Kf c d)
    (h2 : ∀ (e : Fin 80) (c : Fin 512), x2 (ix4 (0 : Fin 1) (0 : Fin 1) e c) = Vf e c)
    (h4 : ∀ (r : Fin 1024) (x : Fin 128), x4 (ix2 r x) = if 16 * r.val + 31 ≤ 8192 + x.val then 0 else 1)
    (y : S1x4x64x1024.Idx) :
    out0_A_5 (F := Ideal) cdev i arg3 harg3 arg4 harg4 arg5 harg5 arg6 harg6 arg7 harg7 arg8 harg8 arg9 harg9 arg10 harg10 hc0 x0 x1 x2 x3 x4 y
      = Core.spec 128 Kf Qf Vf (8 * (i 2).val * 128) (y 1).val (y 2).val (y 3).val := by
  unfold out0_A_5
  rw [View.read_writes_junk_eq_canon]
  refine View.canon_eq_of_allAt _ y _ (cover0_A_5 (F := Ideal) cdev i arg3 harg3 arg4 harg4 arg5 harg5 arg6 harg6 arg7 harg7 arg8 harg8 arg9 harg9 arg10 harg10 hc0 x0 x1 x2 x3 x4 y) ?_
  have hb := blk_val i arg3 harg3 arg4 harg4 arg5 harg5 arg6 harg6 arg7 harg7 hc0 x0 x1 x2 x3 x4 Kf Qf Vf h0 h1 h2 h4
  refine View.allAt_cons_unit _ _ _ _ _ (Core.tile3 _ (Core.spec 128 Kf Qf Vf (8 * (i 2).val * 128)) 896 (hb 7 896 rfl inb_S1x256x1024_S1x256x128_0_0_896) y) ?_
  refine View.allAt_cons_unit _ _ _ _ _ (Core.tile2 _ (Core.spec 128 Kf Qf Vf (8 * (i 2).val * 128)) 896 (hb 7 896 rfl inb_S1x256x1024_S1x256x128_0_0_896) y) ?_
  refine View.allAt_cons_unit _ _ _ _ _ (Core.tile1 _ (Core.spec 128 Kf Qf Vf (8 * (i 2).val * 128)) 896 (hb 7 896 rfl inb_S1x256x1024_S1x256x128_0_0_896) y) ?_
  refine View.allAt_cons_unit _ _ _ _ _ (Core.tile0 _ (Core.spec 128 Kf Qf Vf (8 * (i 2).val * 128)) 896 (hb 7 896 rfl inb_S1x256x1024_S1x256x128_0_0_896) y) ?_
  refine View.allAt_cons_unit _ _ _ _ _ (Core.tile3 _ (Core.spec 128 Kf Qf Vf (8 * (i 2).val * 128)) 768 (hb 6 768 rfl inb_S1x256x1024_S1x256x128_0_0_768) y) ?_
  refine View.allAt_cons_unit _ _ _ _ _ (Core.tile2 _ (Core.spec 128 Kf Qf Vf (8 * (i 2).val * 128)) 768 (hb 6 768 rfl inb_S1x256x1024_S1x256x128_0_0_768) y) ?_
  refine View.allAt_cons_unit _ _ _ _ _ (Core.tile1 _ (Core.spec 128 Kf Qf Vf (8 * (i 2).val * 128)) 768 (hb 6 768 rfl inb_S1x256x1024_S1x256x128_0_0_768) y) ?_
  refine View.allAt_cons_unit _ _ _ _ _ (Core.tile0 _ (Core.spec 128 Kf Qf Vf (8 * (i 2).val * 128)) 768 (hb 6 768 rfl inb_S1x256x1024_S1x256x128_0_0_768) y) ?_
  refine View.allAt_cons_unit _ _ _ _ _ (Core.tile3 _ (Core.spec 128 Kf Qf Vf (8 * (i 2).val * 128)) 640 (hb 5 640 rfl inb_S1x256x1024_S1x256x128_0_0_640) y) ?_
  refine View.allAt_cons_unit _ _ _ _ _ (Core.tile2 _ (Core.spec 128 Kf Qf Vf (8 * (i 2).val * 128)) 640 (hb 5 640 rfl inb_S1x256x1024_S1x256x128_0_0_640) y) ?_
  refine View.allAt_cons_unit _ _ _ _ _ (Core.tile1 _ (Core.spec 128 Kf Qf Vf (8 * (i 2).val * 128)) 640 (hb 5 640 rfl inb_S1x256x1024_S1x256x128_0_0_640) y) ?_
  refine View.allAt_cons_unit _ _ _ _ _ (Core.tile0 _ (Core.spec 128 Kf Qf Vf (8 * (i 2).val * 128)) 640 (hb 5 640 rfl inb_S1x256x1024_S1x256x128_0_0_640) y) ?_
  refine View.allAt_cons_unit _ _ _ _ _ (Core.tile3 _ (Core.spec 128 Kf Qf Vf (8 * (i 2).val * 128)) 512 (hb 4 512 rfl inb_S1x256x1024_S1x256x128_0_0_512) y) ?_
  refine View.allAt_cons_unit _ _ _ _ _ (Core.tile2 _ (Core.spec 128 Kf Qf Vf (8 * (i 2).val * 128)) 512 (hb 4 512 rfl inb_S1x256x1024_S1x256x128_0_0_512) y) ?_
  refine View.allAt_cons_unit _ _ _ _ _ (Core.tile1 _ (Core.spec 128 Kf Qf Vf (8 * (i 2).val * 128)) 512 (hb 4 512 rfl inb_S1x256x1024_S1x256x128_0_0_512) y) ?_
  refine View.allAt_cons_unit _ _ _ _ _ (Core.tile0 _ (Core.spec 128 Kf Qf Vf (8 * (i 2).val * 128)) 512 (hb 4 512 rfl inb_S1x256x1024_S1x256x128_0_0_512) y) ?_
  refine View.allAt_cons_unit _ _ _ _ _ (Core.tile3 _ (Core.spec 128 Kf Qf Vf (8 * (i 2).val * 128)) 384 (hb 3 384 rfl inb_S1x256x1024_S1x256x128_0_0_384) y) ?_
  refine View.allAt_cons_unit _ _ _ _ _ (Core.tile2 _ (Core.spec 128 Kf Qf Vf (8 * (i 2).val * 128)) 384 (hb 3 384 rfl inb_S1x256x1024_S1x256x128_0_0_384) y) ?_
  refine View.allAt_cons_unit _ _ _ _ _ (Core.tile1 _ (Core.spec 128 Kf Qf Vf (8 * (i 2).val * 128)) 384 (hb 3 384 rfl inb_S1x256x1024_S1x256x128_0_0_384) y) ?_
  refine View.allAt_cons_unit _ _ _ _ _ (Core.tile0 _ (Core.spec 128 Kf Qf Vf (8 * (i 2).val * 128)) 384 (hb 3 384 rfl inb_S1x256x1024_S1x256x128_0_0_384) y) ?_
  refine View.allAt_cons_unit _ _ _ _ _ (Core.tile3 _ (Core.spec 128 Kf Qf Vf (8 * (i 2).val * 128)) 256 (hb 2 256 rfl inb_S1x256x1024_S1x256x128_0_0_256) y) ?_
  refine View.allAt_cons_unit _ _ _ _ _ (Core.tile2 _ (Core.spec 128 Kf Qf Vf (8 * (i 2).val * 128)) 256 (hb 2 256 rfl inb_S1x256x1024_S1x256x128_0_0_256) y) ?_
  refine View.allAt_cons_unit _ _ _ _ _ (Core.tile1 _ (Core.spec 128 Kf Qf Vf (8 * (i 2).val * 128)) 256 (hb 2 256 rfl inb_S1x256x1024_S1x256x128_0_0_256) y) ?_
  refine View.allAt_cons_unit _ _ _ _ _ (Core.tile0 _ (Core.spec 128 Kf Qf Vf (8 * (i 2).val * 128)) 256 (hb 2 256 rfl inb_S1x256x1024_S1x256x128_0_0_256) y) ?_
  refine View.allAt_cons_unit _ _ _ _ _ (Core.tile3 _ (Core.spec 128 Kf Qf Vf (8 * (i 2).val * 128)) 128 (hb 1 128 rfl inb_S1x256x1024_S1x256x128_0_0_128) y) ?_
  refine View.allAt_cons_unit _ _ _ _ _ (Core.tile2 _ (Core.spec 128 Kf Qf Vf (8 * (i 2).val * 128)) 128 (hb 1 128 rfl inb_S1x256x1024_S1x256x128_0_0_128) y) ?_
  refine View.allAt_cons_unit _ _ _ _ _ (Core.tile1 _ (Core.spec 128 Kf Qf Vf (8 * (i 2).val * 128)) 128 (hb 1 128 rfl inb_S1x256x1024_S1x256x128_0_0_128) y) ?_
  refine View.allAt_cons_unit _ _ _ _ _ (Core.tile0 _ (Core.spec 128 Kf Qf Vf (8 * (i 2).val * 128)) 128 (hb 1 128 rfl inb_S1x256x1024_S1x256x128_0_0_128) y) ?_
  refine View.allAt_cons_unit _ _ _ _ _ (Core.tile3 _ (Core.spec 128 Kf Qf Vf (8 * (i 2).val * 128)) 0 (hb 0 0 rfl inb_S1x256x1024_S1x256x128_0_0_0) y) ?_
  refine View.allAt_cons_unit _ _ _ _ _ (Core.tile2 _ (Core.spec 128 Kf Qf Vf (8 * (i 2).val * 128)) 0 (hb 0 0 rfl inb_S1x256x1024_S1x256x128_0_0_0) y) ?_
  refine View.allAt_cons_unit _ _ _ _ _ (Core.tile1 _ (Core.spec 128 Kf Qf Vf (8 * (i 2).val * 128)) 0 (hb 0 0 rfl inb_S1x256x1024_S1x256x128_0_0_0) y) ?_
  refine View.allAt_cons_unit _ _ _ _ _ (Core.tile0 _ (Core.spec 128 Kf Qf Vf (8 * (i 2).val * 128)) 0 (hb 0 0 rfl inb_S1x256x1024_S1x256x128_0_0_0) y) ?_
  exact View.allAt_nil _ _

end Cert.Proof.CaseA

end
-- ==== Proof.CaseB.lean ====
/- Hand-written, untrusted: WHAT CASE B OF THE BODY (the branch of the switch with 256 compressed keys) LEAVES in the output's
   block: at head `h`, coordinate `d` and lane `l`, `Core.spec 256` of the entries of the input blocks. Its 32 stores are
   the four heads of eight sub-blocks (`blk`), each a tile of the block. -/
module

public import proofs.«01_k».proof.Proof.FrameI
public import proofs.«01_k».proof.Proof.Core

@[expose] public section

noncomputable section

namespace Cert.Proof.CaseB

open Cert.KernelIdeal Cert.KernelIdeal.Gen Cert.Proof.FrameI Idealize.ShloMosaic Idealize.ShloMosaic.TcCoe Idealize.SL

/-- A sub-block's output, from the blocks the body loads it from. -/
def blk (i : grid0.Coords) (arg3 : Memref sig .tc .vmem S1x256x1024 .bf16) (harg3 : arg3.IsWhole) (arg4 : Memref sig .tc .vmem S1x1x512x64 .bf16) (harg4 : arg4.IsWhole)
    (arg5 : Memref sig .tc .vmem S1x1x80x512 .bf16) (harg5 : arg5.IsWhole) (arg6 : Memref sig .tc .vmem S128x512 .bf16) (harg6 : arg6.IsWhole)
    (arg7 : Memref sig .tc .vmem S1024x128 .f32) (harg7 : arg7.IsWhole)
    (hc0 : cond0_0 i) (hc1 : ¬cond0_1 i) (x0 : Vec Ideal S1x256x1024 .bf16) (x1 : Vec Ideal S1x1x512x64 .bf16) (x2 : Vec Ideal S1x1x80x512 .bf16) (x3 : Vec Ideal S128x512 .bf16) (x4 : Vec Ideal S1024x128 .f32) (j : Fin 8) (q : Fin 3 → ℕ)
    (hq : ∀ a, q a + S1x256x128.size a ≤ S1x256x1024.size a) : FVec Ideal S64x512 .f32 :=
  Core.out256
    (View.readAt (Elt Ideal) arg4.view (Rect.unit (s := S1x1x512x64) ![0, 0, 0, 0] S1x1x256x64.size inb_S1x1x512x64_S1x1x256x64_0_0_0_0).toLoadRect (harg4.unread x1))
    (View.readAt (Elt Ideal) arg6.view (Rect.unit (s := S128x512) ![0, 0] S128x256.size inb_S128x512_S128x256_0_0).toLoadRect (harg6.unread x3))
    (View.readAt (Elt Ideal) arg5.view (Rect.unit (s := S1x1x80x512) ![0, 0, 0, 0] S1x1x80x256.size inb_S1x1x80x512_S1x1x80x256_0_0_0_0).toLoadRect (harg5.unread x2))
    (View.readAt (Elt Ideal) arg3.view (Rect.unit (s := S1x256x1024) q S1x256x128.size hq).toLoadRect (harg3.unread x0))
    (View.readAt (Elt Ideal) arg7.view (Rect.unit (s := S1024x128) (k0_off3 i (BitVec.ofNat 32 j.val)) S256x128.size (k0_off3_inb i hc0 hc1 j)).toLoadRect (harg7.unread x4))
    (Scalar.addi (Scalar.muli (BitVec.ofNat 32 (i 2).val) 8#32) (BitVec.ofNat 32 j.val))

theorem blk_val (i : grid0.Coords) (arg3 : Memref sig .tc .vmem S1x256x1024 .bf16) (harg3 : arg3.IsWhole) (arg4 : Memref sig .tc .vmem S1x1x512x64 .bf16) (harg4 : arg4.IsWhole)
    (arg5 : Memref sig .tc .vmem S1x1x80x512 .bf16) (harg5 : arg5.IsWhole) (arg6 : Memref sig .tc .vmem S128x512 .bf16) (harg6 : arg6.IsWhole)
    (arg7 : Memref sig .tc .vmem S1024x128 .f32) (harg7 : arg7.IsWhole)
    (hc0 : cond0_0 i) (hc1 : ¬cond0_1 i) (x0 : Vec Ideal S1x256x1024 .bf16) (x1 : Vec Ideal S1x1x512x64 .bf16) (x2 : Vec Ideal S1x1x80x512 .bf16) (x3 : Vec Ideal S128x512 .bf16) (x4 : Vec Ideal S1024x128 .f32)
    (Kf Qf Vf : ℕ → ℕ → EReal)
    (h0 : ∀ (r : Fin 256) (l : Fin 1024), x0 (ix3 (0 : Fin 1) r l) = Qf r l)
    (h1 : ∀ (c : Fin 512) (d : Fin 64), x1 (ix4 (0 : Fin 1) (0 : Fin 1) c d) = Kf c d)
    (h2 : ∀ (e : Fin 80) (c : Fin 512), x2 (ix4 (0 : Fin 1) (0 : Fin 1) e c) = Vf e c)
    (h4 : ∀ (r : Fin 1024) (x : Fin 128), x4 (ix2 r x) = if 16 * r.val + 31 ≤ 8192 + x.val then 0 else 1)
    (j : Fin 8) (o : ℕ) (ho : o = j.val * 128) (hq : ∀ a, (![0, 0, o] : Fin 3 → ℕ) a + S1x256x128.size a ≤ S1x256x1024.size a)
    (h : Fin 4) (d : Fin 64) (x : Fin 128) :
    blk i arg3 harg3 arg4 harg4 arg5 harg5 arg6 harg6 arg7 harg7 hc0 hc1 x0 x1 x2 x3 x4 j ![0, 0, o] hq (ix2 d (⟨h.val * 128 + x.val, by omega⟩ : Fin 512))
      = Core.spec 256 Kf Qf Vf (8 * (i 2).val * 128) h d (o + x) := by
  have hi : (i 2).val < 8 := (i 2).isLt
  have hj := j.isLt
  refine Core.out256_val _ _ _ _ _ _ Kf Qf Vf (8 * (i 2).val) j.val o (by omega) ho ?_ ?_ ?_ ?_ ?_ h d x
  · show BitVec.ofNat 32 (i 2).val * 8#32 + BitVec.ofNat 32 j.val = _
    rw [BitVec.ofNat_add, BitVec.ofNat_mul, BitVec.mul_comm]
  · intro c d
    rw [View.readAt_eq_ld, harg4.read_unread]
    refine Eq.trans (congrArg x1 ?_) (h1 (⟨c.val, by omega⟩ : Fin 512) d)
    funext a
    apply Fin.ext
    fin_cases a <;> simp [ix4, LoadRect.idx, Rect.toLoadRect, Rect.unit]
  · intro e c
    rw [View.readAt_eq_ld, harg5.read_unread]
    refine Eq.trans (congrArg x2 ?_) (h2 e (⟨c.val, by omega⟩ : Fin 512))
    funext a
    apply Fin.ext
    fin_cases a <;> simp [ix4, LoadRect.idx, Rect.toLoadRect, Rect.unit]
  · intro r x
    rw [View.readAt_eq_ld, harg3.read_unread]
    refine Eq.trans (congrArg x0 ?_) (h0 r (⟨o + x.val, by omega⟩ : Fin 1024))
    funext a
    apply Fin.ext
    fin_cases a <;> simp [ix3, LoadRect.idx, Rect.toLoadRect, Rect.unit]
  · intro c x
    rw [View.readAt_eq_ld, harg7.read_unread]
    have hoff := k0_off3_eq i j
    refine Eq.trans (congrArg x4 (a₂ := ix2 (⟨512 - (64 * (i 2).val + 8 * j.val) + c.val, by omega⟩ : Fin 1024) x) ?_) ((h4 _ x).trans ?_)
    · funext a
      apply Fin.ext
      fin_cases a <;> simp [ix2, hoff]
    · show (if 16 * (512 - (64 * (i 2).val + 8 * j.val) + c.val) + 31 ≤ 8192 + x.val then (0 : EReal) else 1) = _
      by_cases hc : 16 * c.val + 31 ≤ (8 * (i 2).val + j.val) * 128 + x.val
      · rw [if_pos hc, if_pos (by omega)]
      · rw [if_neg hc, if_neg (by omega)]

theorem out_at (cdev : Dev nD) (i : grid0.Coords) (arg3 : Memref sig .tc .vmem S1x256x1024 .bf16) (harg3 : arg3.IsWhole) (arg4 : Memref sig .tc .vmem S1x1x512x64 .bf16) (harg4 : arg4.IsWhole)
    (arg5 : Memref sig .tc .vmem S1x1x80x512 .bf16) (harg5 : arg5.IsWhole) (arg6 : Memref sig .tc .vmem S128x512 .bf16) (harg6 : arg6.IsWhole)
    (arg7 : Memref sig .tc .vmem S1024x128 .f32) (harg7 : arg7.IsWhole)
    (arg8 : Memref sig .tc .vmem S1x4x64x1024 .f32) (harg8 : arg8.IsWhole)
    (arg9 : Memref sig .tc .vmem S1x1x128x1024 .bf16) (harg9 : arg9.IsWhole) (arg10 : Memref sig .tc .vmem S128x1024 .f32) (harg10 : arg10.IsWhole)
    (hc0 : cond0_0 i) (hc1 : ¬cond0_1 i) (x0 : Vec Ideal S1x256x1024 .bf16) (x1 : Vec Ideal S1x1x512x64 .bf16) (x2 : Vec Ideal S1x1x80x512 .bf16) (x3 : Vec Ideal S128x512 .bf16) (x4 : Vec Ideal S1024x128 .f32)
    (Kf Qf Vf : ℕ → ℕ → EReal)
    (h0 : ∀ (r : Fin 256) (l : Fin 1024), x0 (ix3 (0 : Fin 1) r l) = Qf r l)
    (h1 : ∀ (c : Fin 512) (d : Fin 64), x1 (ix4 (0 : Fin 1) (0 : Fin 1) c d) = Kf c d)
    (h2 : ∀ (e : Fin 80) (c : Fin 512), x2 (ix4 (0 : Fin 1) (0 : Fin 1) e c) = Vf e c)
    (h4 : ∀ (r : Fin 1024) (x : Fin 128), x4 (ix2 r x) = if 16 * r.val + 31 ≤ 8192 + x.val then 0 else 1)
    (y : S1x4x64x1024.Idx) :
    out0_B_5 (F := Ideal) cdev i arg3 harg3 arg4 harg4 arg5 harg5 arg6 harg6 arg7 harg7 arg8 harg8 arg9 harg9 arg10 harg10 hc0 hc1 x0 x1 x2 x3 x4 y
      = Core.spec 256 Kf Qf Vf (8 * (i 2).val * 128) (y 1).val (y 2).val (y 3).val := by
  unfold out0_B_5
  rw [View.read_writes_junk_eq_canon]
  refine View.canon_eq_of_allAt _ y _ (cover0_B_5 (F := Ideal) cdev i arg3 harg3 arg4 harg4 arg5 harg5 arg6 harg6 arg7 harg7 arg8 harg8 arg9 harg9 arg10 harg10 hc0 hc1 x0 x1 x2 x3 x4 y) ?_
  have hb := blk_val i arg3 harg3 arg4 harg4 arg5 harg5 arg6 harg6 arg7 harg7 hc0 hc1 x0 x1 x2 x3 x4 Kf Qf Vf h0 h1 h2 h4
  refine View.allAt_cons_unit _ _ _ _ _ (Core.tile3 _ (Core.spec 256 Kf Qf Vf (8 * (i 2).val * 128)) 896 (hb 7 896 rfl inb_S1x256x1024_S1x256x128_0_0_896) y) ?_
  refine View.allAt_cons_unit _ _ _ _ _ (Core.tile2 _ (Core.spec 256 Kf Qf Vf (8 * (i 2).val * 128)) 896 (hb 7 896 rfl inb_S1x256x1024_S1x256x128_0_0_896) y) ?_
  refine View.allAt_cons_unit _ _ _ _ _ (Core.tile1 _ (Core.spec 256 Kf Qf Vf (8 * (i 2).val * 128)) 896 (hb 7 896 rfl inb_S1x256x1024_S1x256x128_0_0_896) y) ?_
  refine View.allAt_cons_unit _ _ _ _ _ (Core.tile0 _ (Core.spec 256 Kf Qf Vf (8 * (i 2).val * 128)) 896 (hb 7 896 rfl inb_S1x256x1024_S1x256x128_0_0_896) y) ?_
  refine View.allAt_cons_unit _ _ _ _ _ (Core.tile3 _ (Core.spec 256 Kf Qf Vf (8 * (i 2).val * 128)) 768 (hb 6 768 rfl inb_S1x256x1024_S1x256x128_0_0_768) y) ?_
  refine View.allAt_cons_unit _ _ _ _ _ (Core.tile2 _ (Core.spec 256 Kf Qf Vf (8 * (i 2).val * 128)) 768 (hb 6 768 rfl inb_S1x256x1024_S1x256x128_0_0_768) y) ?_
  refine View.allAt_cons_unit _ _ _ _ _ (Core.tile1 _ (Core.spec 256 Kf Qf Vf (8 * (i 2).val * 128)) 768 (hb 6 768 rfl inb_S1x256x1024_S1x256x128_0_0_768) y) ?_
  refine View.allAt_cons_unit _ _ _ _ _ (Core.tile0 _ (Core.spec 256 Kf Qf Vf (8 * (i 2).val * 128)) 768 (hb 6 768 rfl inb_S1x256x1024_S1x256x128_0_0_768) y) ?_
  refine View.allAt_cons_unit _ _ _ _ _ (Core.tile3 _ (Core.spec 256 Kf Qf Vf (8 * (i 2).val * 128)) 640 (hb 5 640 rfl inb_S1x256x1024_S1x256x128_0_0_640) y) ?_
  refine View.allAt_cons_unit _ _ _ _ _ (Core.tile2 _ (Core.spec 256 Kf Qf Vf (8 * (i 2).val * 128)) 640 (hb 5 640 rfl inb_S1x256x1024_S1x256x128_0_0_640) y) ?_
  refine View.allAt_cons_unit _ _ _ _ _ (Core.tile1 _ (Core.spec 256 Kf Qf Vf (8 * (i 2).val * 128)) 640 (hb 5 640 rfl inb_S1x256x1024_S1x256x128_0_0_640) y) ?_
  refine View.allAt_cons_unit _ _ _ _ _ (Core.tile0 _ (Core.spec 256 Kf Qf Vf (8 * (i 2).val * 128)) 640 (hb 5 640 rfl inb_S1x256x1024_S1x256x128_0_0_640) y) ?_
  refine View.allAt_cons_unit _ _ _ _ _ (Core.tile3 _ (Core.spec 256 Kf Qf Vf (8 * (i 2).val * 128)) 512 (hb 4 512 rfl inb_S1x256x1024_S1x256x128_0_0_512) y) ?_
  refine View.allAt_cons_unit _ _ _ _ _ (Core.tile2 _ (Core.spec 256 Kf Qf Vf (8 * (i 2).val * 128)) 512 (hb 4 512 rfl inb_S1x256x1024_S1x256x128_0_0_512) y) ?_
  refine View.allAt_cons_unit _ _ _ _ _ (Core.tile1 _ (Core.spec 256 Kf Qf Vf (8 * (i 2).val * 128)) 512 (hb 4 512 rfl inb_S1x256x1024_S1x256x128_0_0_512) y) ?_
  refine View.allAt_cons_unit _ _ _ _ _ (Core.tile0 _ (Core.spec 256 Kf Qf Vf (8 * (i 2).val * 128)) 512 (hb 4 512 rfl inb_S1x256x1024_S1x256x128_0_0_512) y) ?_
  refine View.allAt_cons_unit _ _ _ _ _ (Core.tile3 _ (Core.spec 256 Kf Qf Vf (8 * (i 2).val * 128)) 384 (hb 3 384 rfl inb_S1x256x1024_S1x256x128_0_0_384) y) ?_
  refine View.allAt_cons_unit _ _ _ _ _ (Core.tile2 _ (Core.spec 256 Kf Qf Vf (8 * (i 2).val * 128)) 384 (hb 3 384 rfl inb_S1x256x1024_S1x256x128_0_0_384) y) ?_
  refine View.allAt_cons_unit _ _ _ _ _ (Core.tile1 _ (Core.spec 256 Kf Qf Vf (8 * (i 2).val * 128)) 384 (hb 3 384 rfl inb_S1x256x1024_S1x256x128_0_0_384) y) ?_
  refine View.allAt_cons_unit _ _ _ _ _ (Core.tile0 _ (Core.spec 256 Kf Qf Vf (8 * (i 2).val * 128)) 384 (hb 3 384 rfl inb_S1x256x1024_S1x256x128_0_0_384) y) ?_
  refine View.allAt_cons_unit _ _ _ _ _ (Core.tile3 _ (Core.spec 256 Kf Qf Vf (8 * (i 2).val * 128)) 256 (hb 2 256 rfl inb_S1x256x1024_S1x256x128_0_0_256) y) ?_
  refine View.allAt_cons_unit _ _ _ _ _ (Core.tile2 _ (Core.spec 256 Kf Qf Vf (8 * (i 2).val * 128)) 256 (hb 2 256 rfl inb_S1x256x1024_S1x256x128_0_0_256) y) ?_
  refine View.allAt_cons_unit _ _ _ _ _ (Core.tile1 _ (Core.spec 256 Kf Qf Vf (8 * (i 2).val * 128)) 256 (hb 2 256 rfl inb_S1x256x1024_S1x256x128_0_0_256) y) ?_
  refine View.allAt_cons_unit _ _ _ _ _ (Core.tile0 _ (Core.spec 256 Kf Qf Vf (8 * (i 2).val * 128)) 256 (hb 2 256 rfl inb_S1x256x1024_S1x256x128_0_0_256) y) ?_
  refine View.allAt_cons_unit _ _ _ _ _ (Core.tile3 _ (Core.spec 256 Kf Qf Vf (8 * (i 2).val * 128)) 128 (hb 1 128 rfl inb_S1x256x1024_S1x256x128_0_0_128) y) ?_
  refine View.allAt_cons_unit _ _ _ _ _ (Core.tile2 _ (Core.spec 256 Kf Qf Vf (8 * (i 2).val * 128)) 128 (hb 1 128 rfl inb_S1x256x1024_S1x256x128_0_0_128) y) ?_
  refine View.allAt_cons_unit _ _ _ _ _ (Core.tile1 _ (Core.spec 256 Kf Qf Vf (8 * (i 2).val * 128)) 128 (hb 1 128 rfl inb_S1x256x1024_S1x256x128_0_0_128) y) ?_
  refine View.allAt_cons_unit _ _ _ _ _ (Core.tile0 _ (Core.spec 256 Kf Qf Vf (8 * (i 2).val * 128)) 128 (hb 1 128 rfl inb_S1x256x1024_S1x256x128_0_0_128) y) ?_
  refine View.allAt_cons_unit _ _ _ _ _ (Core.tile3 _ (Core.spec 256 Kf Qf Vf (8 * (i 2).val * 128)) 0 (hb 0 0 rfl inb_S1x256x1024_S1x256x128_0_0_0) y) ?_
  refine View.allAt_cons_unit _ _ _ _ _ (Core.tile2 _ (Core.spec 256 Kf Qf Vf (8 * (i 2).val * 128)) 0 (hb 0 0 rfl inb_S1x256x1024_S1x256x128_0_0_0) y) ?_
  refine View.allAt_cons_unit _ _ _ _ _ (Core.tile1 _ (Core.spec 256 Kf Qf Vf (8 * (i 2).val * 128)) 0 (hb 0 0 rfl inb_S1x256x1024_S1x256x128_0_0_0) y) ?_
  refine View.allAt_cons_unit _ _ _ _ _ (Core.tile0 _ (Core.spec 256 Kf Qf Vf (8 * (i 2).val * 128)) 0 (hb 0 0 rfl inb_S1x256x1024_S1x256x128_0_0_0) y) ?_
  exact View.allAt_nil _ _

end Cert.Proof.CaseB

end
-- ==== Proof.CaseC.lean ====
/- Hand-written, untrusted: WHAT CASE C OF THE BODY (the branch of the switch with 384 compressed keys) LEAVES in the output's
   block: at head `h`, coordinate `d` and lane `l`, `Core.spec 384` of the entries of the input blocks. Its 32 stores are
   the four heads of eight sub-blocks (`blk`), each a tile of the block. -/
module

public import proofs.«01_k».proof.Proof.FrameI
public import proofs.«01_k».proof.Proof.Core

@[expose] public section

noncomputable section

namespace Cert.Proof.CaseC

open Cert.KernelIdeal Cert.KernelIdeal.Gen Cert.Proof.FrameI Idealize.ShloMosaic Idealize.ShloMosaic.TcCoe Idealize.SL

/-- A sub-block's output, from the blocks the body loads it from. -/
def blk (i : grid0.Coords) (arg3 : Memref sig .tc .vmem S1x256x1024 .bf16) (harg3 : arg3.IsWhole) (arg4 : Memref sig .tc .vmem S1x1x512x64 .bf16) (harg4 : arg4.IsWhole)
    (arg5 : Memref sig .tc .vmem S1x1x80x512 .bf16) (harg5 : arg5.IsWhole) (arg6 : Memref sig .tc .vmem S128x512 .bf16) (harg6 : arg6.IsWhole)
    (arg7 : Memref sig .tc .vmem S1024x128 .f32) (harg7 : arg7.IsWhole)
    (hc0 : cond0_0 i) (hc1 : cond0_1 i) (hc2 : ¬cond0_2 i) (x0 : Vec Ideal S1x256x1024 .bf16) (x1 : Vec Ideal S1x1x512x64 .bf16) (x2 : Vec Ideal S1x1x80x512 .bf16) (x3 : Vec Ideal S128x512 .bf16) (x4 : Vec Ideal S1024x128 .f32) (j : Fin 8) (q : Fin 3 → ℕ)
    (hq : ∀ a, q a + S1x256x128.size a ≤ S1x256x1024.size a) : FVec Ideal S64x512 .f32 :=
  Core.out384
    (View.readAt (Elt Ideal) arg4.view (Rect.unit (s := S1x1x512x64) ![0, 0, 0, 0] S1x1x384x64.size inb_S1x1x512x64_S1x1x384x64_0_0_0_0).toLoadRect (harg4.unread x1))
    (View.readAt (Elt Ideal) arg6.view (Rect.unit (s := S128x512) ![0, 0] S128x384.size inb_S128x512_S128x384_0_0).toLoadRect (harg6.unread x3))
    (View.readAt (Elt Ideal) arg5.view (Rect.unit (s := S1x1x80x512) ![0, 0, 0, 0] S1x1x80x384.size inb_S1x1x80x512_S1x1x80x384_0_0_0_0).toLoadRect (harg5.unread x2))
    (View.readAt (Elt Ideal) arg3.view (Rect.unit (s := S1x256x1024) q S1x256x128.size hq).toLoadRect (harg3.unread x0))
    (View.readAt (Elt Ideal) arg7.view (Rect.unit (s := S1024x128) (k0_off2 i (BitVec.ofNat 32 j.val)) S384x128.size (k0_off2_inb i hc0 hc1 hc2 j)).toLoadRect (harg7.unread x4))
    (Scalar.addi (Scalar.muli (BitVec.ofNat 32 (i 2).val) 8#32) (BitVec.ofNat 32 j.val))

theorem blk_val (i : grid0.Coords) (arg3 : Memref sig .tc .vmem S1x256x1024 .bf16) (harg3 : arg3.IsWhole) (arg4 : Memref sig .tc .vmem S1x1x512x64 .bf16) (harg4 : arg4.IsWhole)
    (arg5 : Memref sig .tc .vmem S1x1x80x512 .bf16) (harg5 : arg5.IsWhole) (arg6 : Memref sig .tc .vmem S128x512 .bf16) (harg6 : arg6.IsWhole)
    (arg7 : Memref sig .tc .vmem S1024x128 .f32) (harg7 : arg7.IsWhole)
    (hc0 : cond0_0 i) (hc1 : cond0_1 i) (hc2 : ¬cond0_2 i) (x0 : Vec Ideal S1x256x1024 .bf16) (x1 : Vec Ideal S1x1x512x64 .bf16) (x2 : Vec Ideal S1x1x80x512 .bf16) (x3 : Vec Ideal S128x512 .bf16) (x4 : Vec Ideal S1024x128 .f32)
    (Kf Qf Vf : ℕ → ℕ → EReal)
    (h0 : ∀ (r : Fin 256) (l : Fin 1024), x0 (ix3 (0 : Fin 1) r l) = Qf r l)
    (h1 : ∀ (c : Fin 512) (d : Fin 64), x1 (ix4 (0 : Fin 1) (0 : Fin 1) c d) = Kf c d)
    (h2 : ∀ (e : Fin 80) (c : Fin 512), x2 (ix4 (0 : Fin 1) (0 : Fin 1) e c) = Vf e c)
    (h4 : ∀ (r : Fin 1024) (x : Fin 128), x4 (ix2 r x) = if 16 * r.val + 31 ≤ 8192 + x.val then 0 else 1)
    (j : Fin 8) (o : ℕ) (ho : o = j.val * 128) (hq : ∀ a, (![0, 0, o] : Fin 3 → ℕ) a + S1x256x128.size a ≤ S1x256x1024.size a)
    (h : Fin 4) (d : Fin 64) (x : Fin 128) :
    blk i arg3 harg3 arg4 harg4 arg5 harg5 arg6 harg6 arg7 harg7 hc0 hc1 hc2 x0 x1 x2 x3 x4 j ![0, 0, o] hq (ix2 d (⟨h.val * 128 + x.val, by omega⟩ : Fin 512))
      = Core.spec 384 Kf Qf Vf (8 * (i 2).val * 128) h d (o + x) := by
  have hi : (i 2).val < 8 := (i 2).isLt
  have hj := j.isLt
  refine Core.out384_val _ _ _ _ _ _ Kf Qf Vf (8 * (i 2).val) j.val o (by omega) ho ?_ ?_ ?_ ?_ ?_ h d x
  · show BitVec.ofNat 32 (i 2).val * 8#32 + BitVec.ofNat 32 j.val = _
    rw [BitVec.ofNat_add, BitVec.ofNat_mul, BitVec.mul_comm]
  · intro c d
    rw [View.readAt_eq_ld, harg4.read_unread]
    refine Eq.trans (congrArg x1 ?_) (h1 (⟨c.val, by omega⟩ : Fin 512) d)
    funext a
    apply Fin.ext
    fin_cases a <;> simp [ix4, LoadRect.idx, Rect.toLoadRect, Rect.unit]
  · intro e c
    rw [View.readAt_eq_ld, harg5.read_unread]
    refine Eq.trans (congrArg x2 ?_) (h2 e (⟨c.val, by omega⟩ : Fin 512))
    funext a
    apply Fin.ext
    fin_cases a <;> simp [ix4, LoadRect.idx, Rect.toLoadRect, Rect.unit]
  · intro r x
    rw [View.readAt_eq_ld, harg3.read_unread]
    refine Eq.trans (congrArg x0 ?_) (h0 r (⟨o + x.val, by omega⟩ : Fin 1024))
    funext a
    apply Fin.ext
    fin_cases a <;> simp [ix3, LoadRect.idx, Rect.toLoadRect, Rect.unit]
  · intro c x
    rw [View.readAt_eq_ld, harg7.read_unread]
    have hoff := k0_off2_eq i j
    refine Eq.trans (congrArg x4 (a₂ := ix2 (⟨512 - (64 * (i 2).val + 8 * j.val) + c.val, by omega⟩ : Fin 1024) x) ?_) ((h4 _ x).trans ?_)
    · funext a
      apply Fin.ext
      fin_cases a <;> simp [ix2, hoff]
    · show (if 16 * (512 - (64 * (i 2).val + 8 * j.val) + c.val) + 31 ≤ 8192 + x.val then (0 : EReal) else 1) = _
      by_cases hc : 16 * c.val + 31 ≤ (8 * (i 2).val + j.val) * 128 + x.val
      · rw [if_pos hc, if_pos (by omega)]
      · rw [if_neg hc, if_neg (by omega)]

theorem out_at (cdev : Dev nD) (i : grid0.Coords) (arg3 : Memref sig .tc .vmem S1x256x1024 .bf16) (harg3 : arg3.IsWhole) (arg4 : Memref sig .tc .vmem S1x1x512x64 .bf16) (harg4 : arg4.IsWhole)
    (arg5 : Memref sig .tc .vmem S1x1x80x512 .bf16) (harg5 : arg5.IsWhole) (arg6 : Memref sig .tc .vmem S128x512 .bf16) (harg6 : arg6.IsWhole)
    (arg7 : Memref sig .tc .vmem S1024x128 .f32) (harg7 : arg7.IsWhole)
    (arg8 : Memref sig .tc .vmem S1x4x64x1024 .f32) (harg8 : arg8.IsWhole)
    (arg9 : Memref sig .tc .vmem S1x1x128x1024 .bf16) (harg9 : arg9.IsWhole) (arg10 : Memref sig .tc .vmem S128x1024 .f32) (harg10 : arg10.IsWhole)
    (hc0 : cond0_0 i) (hc1 : cond0_1 i) (hc2 : ¬cond0_2 i) (x0 : Vec Ideal S1x256x1024 .bf16) (x1 : Vec Ideal S1x1x512x64 .bf16) (x2 : Vec Ideal S1x1x80x512 .bf16) (x3 : Vec Ideal S128x512 .bf16) (x4 : Vec Ideal S1024x128 .f32)
    (Kf Qf Vf : ℕ → ℕ → EReal)
    (h0 : ∀ (r : Fin 256) (l : Fin 1024), x0 (ix3 (0 : Fin 1) r l) = Qf r l)
    (h1 : ∀ (c : Fin 512) (d : Fin 64), x1 (ix4 (0 : Fin 1) (0 : Fin 1) c d) = Kf c d)
    (h2 : ∀ (e : Fin 80) (c : Fin 512), x2 (ix4 (0 : Fin 1) (0 : Fin 1) e c) = Vf e c)
    (h4 : ∀ (r : Fin 1024) (x : Fin 128), x4 (ix2 r x) = if 16 * r.val + 31 ≤ 8192 + x.val then 0 else 1)
    (y : S1x4x64x1024.Idx) :
    out0_C_5 (F := Ideal) cdev i arg3 harg3 arg4 harg4 arg5 harg5 arg6 harg6 arg7 harg7 arg8 harg8 arg9 harg9 arg10 harg10 hc0 hc1 hc2 x0 x1 x2 x3 x4 y
      = Core.spec 384 Kf Qf Vf (8 * (i 2).val * 128) (y 1).val (y 2).val (y 3).val := by
  unfold out0_C_5
  rw [View.read_writes_junk_eq_canon]
  refine View.canon_eq_of_allAt _ y _ (cover0_C_5 (F := Ideal) cdev i arg3 harg3 arg4 harg4 arg5 harg5 arg6 harg6 arg7 harg7 arg8 harg8 arg9 harg9 arg10 harg10 hc0 hc1 hc2 x0 x1 x2 x3 x4 y) ?_
  have hb := blk_val i arg3 harg3 arg4 harg4 arg5 harg5 arg6 harg6 arg7 harg7 hc0 hc1 hc2 x0 x1 x2 x3 x4 Kf Qf Vf h0 h1 h2 h4
  refine View.allAt_cons_unit _ _ _ _ _ (Core.tile3 _ (Core.spec 384 Kf Qf Vf (8 * (i 2).val * 128)) 896 (hb 7 896 rfl inb_S1x256x1024_S1x256x128_0_0_896) y) ?_
  refine View.allAt_cons_unit _ _ _ _ _ (Core.tile2 _ (Core.spec 384 Kf Qf Vf (8 * (i 2).val * 128)) 896 (hb 7 896 rfl inb_S1x256x1024_S1x256x128_0_0_896) y) ?_
  refine View.allAt_cons_unit _ _ _ _ _ (Core.tile1 _ (Core.spec 384 Kf Qf Vf (8 * (i 2).val * 128)) 896 (hb 7 896 rfl inb_S1x256x1024_S1x256x128_0_0_896) y) ?_
  refine View.allAt_cons_unit _ _ _ _ _ (Core.tile0 _ (Core.spec 384 Kf Qf Vf (8 * (i 2).val * 128)) 896 (hb 7 896 rfl inb_S1x256x1024_S1x256x128_0_0_896) y) ?_
  refine View.allAt_cons_unit _ _ _ _ _ (Core.tile3 _ (Core.spec 384 Kf Qf Vf (8 * (i 2).val * 128)) 768 (hb 6 768 rfl inb_S1x256x1024_S1x256x128_0_0_768) y) ?_
  refine View.allAt_cons_unit _ _ _ _ _ (Core.tile2 _ (Core.spec 384 Kf Qf Vf (8 * (i 2).val * 128)) 768 (hb 6 768 rfl inb_S1x256x1024_S1x256x128_0_0_768) y) ?_
  refine View.allAt_cons_unit _ _ _ _ _ (Core.tile1 _ (Core.spec 384 Kf Qf Vf (8 * (i 2).val * 128)) 768 (hb 6 768 rfl inb_S1x256x1024_S1x256x128_0_0_768) y) ?_
  refine View.allAt_cons_unit _ _ _ _ _ (Core.tile0 _ (Core.spec 384 Kf Qf Vf (8 * (i 2).val * 128)) 768 (hb 6 768 rfl inb_S1x256x1024_S1x256x128_0_0_768) y) ?_
  refine View.allAt_cons_unit _ _ _ _ _ (Core.tile3 _ (Core.spec 384 Kf Qf Vf (8 * (i 2).val * 128)) 640 (hb 5 640 rfl inb_S1x256x1024_S1x256x128_0_0_640) y) ?_
  refine View.allAt_cons_unit _ _ _ _ _ (Core.tile2 _ (Core.spec 384 Kf Qf Vf (8 * (i 2).val * 128)) 640 (hb 5 640 rfl inb_S1x256x1024_S1x256x128_0_0_640) y) ?_
  refine View.allAt_cons_unit _ _ _ _ _ (Core.tile1 _ (Core.spec 384 Kf Qf Vf (8 * (i 2).val * 128)) 640 (hb 5 640 rfl inb_S1x256x1024_S1x256x128_0_0_640) y) ?_
  refine View.allAt_cons_unit _ _ _ _ _ (Core.tile0 _ (Core.spec 384 Kf Qf Vf (8 * (i 2).val * 128)) 640 (hb 5 640 rfl inb_S1x256x1024_S1x256x128_0_0_640) y) ?_
  refine View.allAt_cons_unit _ _ _ _ _ (Core.tile3 _ (Core.spec 384 Kf Qf Vf (8 * (i 2).val * 128)) 512 (hb 4 512 rfl inb_S1x256x1024_S1x256x128_0_0_512) y) ?_
  refine View.allAt_cons_unit _ _ _ _ _ (Core.tile2 _ (Core.spec 384 Kf Qf Vf (8 * (i 2).val * 128)) 512 (hb 4 512 rfl inb_S1x256x1024_S1x256x128_0_0_512) y) ?_
  refine View.allAt_cons_unit _ _ _ _ _ (Core.tile1 _ (Core.spec 384 Kf Qf Vf (8 * (i 2).val * 128)) 512 (hb 4 512 rfl inb_S1x256x1024_S1x256x128_0_0_512) y) ?_
  refine View.allAt_cons_unit _ _ _ _ _ (Core.tile0 _ (Core.spec 384 Kf Qf Vf (8 * (i 2).val * 128)) 512 (hb 4 512 rfl inb_S1x256x1024_S1x256x128_0_0_512) y) ?_
  refine View.allAt_cons_unit _ _ _ _ _ (Core.tile3 _ (Core.spec 384 Kf Qf Vf (8 * (i 2).val * 128)) 384 (hb 3 384 rfl inb_S1x256x1024_S1x256x128_0_0_384) y) ?_
  refine View.allAt_cons_unit _ _ _ _ _ (Core.tile2 _ (Core.spec 384 Kf Qf Vf (8 * (i 2).val * 128)) 384 (hb 3 384 rfl inb_S1x256x1024_S1x256x128_0_0_384) y) ?_
  refine View.allAt_cons_unit _ _ _ _ _ (Core.tile1 _ (Core.spec 384 Kf Qf Vf (8 * (i 2).val * 128)) 384 (hb 3 384 rfl inb_S1x256x1024_S1x256x128_0_0_384) y) ?_
  refine View.allAt_cons_unit _ _ _ _ _ (Core.tile0 _ (Core.spec 384 Kf Qf Vf (8 * (i 2).val * 128)) 384 (hb 3 384 rfl inb_S1x256x1024_S1x256x128_0_0_384) y) ?_
  refine View.allAt_cons_unit _ _ _ _ _ (Core.tile3 _ (Core.spec 384 Kf Qf Vf (8 * (i 2).val * 128)) 256 (hb 2 256 rfl inb_S1x256x1024_S1x256x128_0_0_256) y) ?_
  refine View.allAt_cons_unit _ _ _ _ _ (Core.tile2 _ (Core.spec 384 Kf Qf Vf (8 * (i 2).val * 128)) 256 (hb 2 256 rfl inb_S1x256x1024_S1x256x128_0_0_256) y) ?_
  refine View.allAt_cons_unit _ _ _ _ _ (Core.tile1 _ (Core.spec 384 Kf Qf Vf (8 * (i 2).val * 128)) 256 (hb 2 256 rfl inb_S1x256x1024_S1x256x128_0_0_256) y) ?_
  refine View.allAt_cons_unit _ _ _ _ _ (Core.tile0 _ (Core.spec 384 Kf Qf Vf (8 * (i 2).val * 128)) 256 (hb 2 256 rfl inb_S1x256x1024_S1x256x128_0_0_256) y) ?_
  refine View.allAt_cons_unit _ _ _ _ _ (Core.tile3 _ (Core.spec 384 Kf Qf Vf (8 * (i 2).val * 128)) 128 (hb 1 128 rfl inb_S1x256x1024_S1x256x128_0_0_128) y) ?_
  refine View.allAt_cons_unit _ _ _ _ _ (Core.tile2 _ (Core.spec 384 Kf Qf Vf (8 * (i 2).val * 128)) 128 (hb 1 128 rfl inb_S1x256x1024_S1x256x128_0_0_128) y) ?_
  refine View.allAt_cons_unit _ _ _ _ _ (Core.tile1 _ (Core.spec 384 Kf Qf Vf (8 * (i 2).val * 128)) 128 (hb 1 128 rfl inb_S1x256x1024_S1x256x128_0_0_128) y) ?_
  refine View.allAt_cons_unit _ _ _ _ _ (Core.tile0 _ (Core.spec 384 Kf Qf Vf (8 * (i 2).val * 128)) 128 (hb 1 128 rfl inb_S1x256x1024_S1x256x128_0_0_128) y) ?_
  refine View.allAt_cons_unit _ _ _ _ _ (Core.tile3 _ (Core.spec 384 Kf Qf Vf (8 * (i 2).val * 128)) 0 (hb 0 0 rfl inb_S1x256x1024_S1x256x128_0_0_0) y) ?_
  refine View.allAt_cons_unit _ _ _ _ _ (Core.tile2 _ (Core.spec 384 Kf Qf Vf (8 * (i 2).val * 128)) 0 (hb 0 0 rfl inb_S1x256x1024_S1x256x128_0_0_0) y) ?_
  refine View.allAt_cons_unit _ _ _ _ _ (Core.tile1 _ (Core.spec 384 Kf Qf Vf (8 * (i 2).val * 128)) 0 (hb 0 0 rfl inb_S1x256x1024_S1x256x128_0_0_0) y) ?_
  refine View.allAt_cons_unit _ _ _ _ _ (Core.tile0 _ (Core.spec 384 Kf Qf Vf (8 * (i 2).val * 128)) 0 (hb 0 0 rfl inb_S1x256x1024_S1x256x128_0_0_0) y) ?_
  exact View.allAt_nil _ _

end Cert.Proof.CaseC

end
-- ==== Proof.CaseD.lean ====
/- Hand-written, untrusted: WHAT CASE D OF THE BODY (the branch of the switch with 512 compressed keys) LEAVES in the output's
   block: at head `h`, coordinate `d` and lane `l`, `Core.spec 512` of the entries of the input blocks. Its 32 stores are
   the four heads of eight sub-blocks (`blk`), each a tile of the block. -/
module

public import proofs.«01_k».proof.Proof.FrameI
public import proofs.«01_k».proof.Proof.Core

@[expose] public section

noncomputable section

namespace Cert.Proof.CaseD

open Cert.KernelIdeal Cert.KernelIdeal.Gen Cert.Proof.FrameI Idealize.ShloMosaic Idealize.ShloMosaic.TcCoe Idealize.SL

/-- A sub-block's output, from the blocks the body loads it from. -/
def blk (i : grid0.Coords) (arg3 : Memref sig .tc .vmem S1x256x1024 .bf16) (harg3 : arg3.IsWhole) (arg4 : Memref sig .tc .vmem S1x1x512x64 .bf16) (harg4 : arg4.IsWhole)
    (arg5 : Memref sig .tc .vmem S1x1x80x512 .bf16) (harg5 : arg5.IsWhole) (arg6 : Memref sig .tc .vmem S128x512 .bf16) (harg6 : arg6.IsWhole)
    (arg7 : Memref sig .tc .vmem S1024x128 .f32) (harg7 : arg7.IsWhole)
    (hc0 : cond0_0 i) (hc1 : cond0_1 i) (hc2 : cond0_2 i) (x0 : Vec Ideal S1x256x1024 .bf16) (x1 : Vec Ideal S1x1x512x64 .bf16) (x2 : Vec Ideal S1x1x80x512 .bf16) (x3 : Vec Ideal S128x512 .bf16) (x4 : Vec Ideal S1024x128 .f32) (j : Fin 8) (q : Fin 3 → ℕ)
    (hq : ∀ a, q a + S1x256x128.size a ≤ S1x256x1024.size a) : FVec Ideal S64x512 .f32 :=
  Core.out512
    (View.readAt (Elt Ideal) arg4.view (Rect.unit (s := S1x1x512x64) ![0, 0, 0, 0] S1x1x512x64.size inb_S1x1x512x64_S1x1x512x64_0_0_0_0).toLoadRect (harg4.unread x1))
    (View.readAt (Elt Ideal) arg6.view (Rect.unit (s := S128x512) ![0, 0] S128x512.size inb_S128x512_S128x512_0_0).toLoadRect (harg6.unread x3))
    (View.readAt (Elt Ideal) arg5.view (Rect.unit (s := S1x1x80x512) ![0, 0, 0, 0] S1x1x80x512.size inb_S1x1x80x512_S1x1x80x512_0_0_0_0).toLoadRect (harg5.unread x2))
    (View.readAt (Elt Ideal) arg3.view (Rect.unit (s := S1x256x1024) q S1x256x128.size hq).toLoadRect (harg3.unread x0))
    (View.readAt (Elt Ideal) arg7.view (Rect.unit (s := S1024x128) (k0_off1 i (BitVec.ofNat 32 j.val)) S512x128.size (k0_off1_inb i hc0 hc1 hc2 j)).toLoadRect (harg7.unread x4))
    (Scalar.addi (Scalar.muli (BitVec.ofNat 32 (i 2).val) 8#32) (BitVec.ofNat 32 j.val))

theorem blk_val (i : grid0.Coords) (arg3 : Memref sig .tc .vmem S1x256x1024 .bf16) (harg3 : arg3.IsWhole) (arg4 : Memref sig .tc .vmem S1x1x512x64 .bf16) (harg4 : arg4.IsWhole)
    (arg5 : Memref sig .tc .vmem S1x1x80x512 .bf16) (harg5 : arg5.IsWhole) (arg6 : Memref sig .tc .vmem S128x512 .bf16) (harg6 : arg6.IsWhole)
    (arg7 : Memref sig .tc .vmem S1024x128 .f32) (harg7 : arg7.IsWhole)
    (hc0 : cond0_0 i) (hc1 : cond0_1 i) (hc2 : cond0_2 i) (x0 : Vec Ideal S1x256x1024 .bf16) (x1 : Vec Ideal S1x1x512x64 .bf16) (x2 : Vec Ideal S1x1x80x512 .bf16) (x3 : Vec Ideal S128x512 .bf16) (x4 : Vec Ideal S1024x128 .f32)
    (Kf Qf Vf : ℕ → ℕ → EReal)
    (h0 : ∀ (r : Fin 256) (l : Fin 1024), x0 (ix3 (0 : Fin 1) r l) = Qf r l)
    (h1 : ∀ (c : Fin 512) (d : Fin 64), x1 (ix4 (0 : Fin 1) (0 : Fin 1) c d) = Kf c d)
    (h2 : ∀ (e : Fin 80) (c : Fin 512), x2 (ix4 (0 : Fin 1) (0 : Fin 1) e c) = Vf e c)
    (h4 : ∀ (r : Fin 1024) (x : Fin 128), x4 (ix2 r x) = if 16 * r.val + 31 ≤ 8192 + x.val then 0 else 1)
    (j : Fin 8) (o : ℕ) (ho : o = j.val * 128) (hq : ∀ a, (![0, 0, o] : Fin 3 → ℕ) a + S1x256x128.size a ≤ S1x256x1024.size a)
    (h : Fin 4) (d : Fin 64) (x : Fin 128) :
    blk i arg3 harg3 arg4 harg4 arg5 harg5 arg6 harg6 arg7 harg7 hc0 hc1 hc2 x0 x1 x2 x3 x4 j ![0, 0, o] hq (ix2 d (⟨h.val * 128 + x.val, by omega⟩ : Fin 512))
      = Core.spec 512 Kf Qf Vf (8 * (i 2).val * 128) h d (o + x) := by
  have hi : (i 2).val < 8 := (i 2).isLt
  have hj := j.isLt
  refine Core.out512_val _ _ _ _ _ _ Kf Qf Vf (8 * (i 2).val) j.val o (by omega) ho ?_ ?_ ?_ ?_ ?_ h d x
  · show BitVec.ofNat 32 (i 2).val * 8#32 + BitVec.ofNat 32 j.val = _
    rw [BitVec.ofNat_add, BitVec.ofNat_mul, BitVec.mul_comm]
  · intro c d
    rw [View.readAt_eq_ld, harg4.read_unread]
    refine Eq.trans (congrArg x1 ?_) (h1 (⟨c.val, by omega⟩ : Fin 512) d)
    funext a
    apply Fin.ext
    fin_cases a <;> simp [ix4, LoadRect.idx, Rect.toLoadRect, Rect.unit]
  · intro e c
    rw [View.readAt_eq_ld, harg5.read_unread]
    refine Eq.trans (congrArg x2 ?_) (h2 e (⟨c.val, by omega⟩ : Fin 512))
    funext a
    apply Fin.ext
    fin_cases a <;> simp [ix4, LoadRect.idx, Rect.toLoadRect, Rect.unit]
  · intro r x
    rw [View.readAt_eq_ld, harg3.read_unread]
    refine Eq.trans (congrArg x0 ?_) (h0 r (⟨o + x.val, by omega⟩ : Fin 1024))
    funext a
    apply Fin.ext
    fin_cases a <;> simp [ix3, LoadRect.idx, Rect.toLoadRect, Rect.unit]
  · intro c x
    rw [View.readAt_eq_ld, harg7.read_unread]
    have hoff := k0_off1_eq i j
    refine Eq.trans (congrArg x4 (a₂ := ix2 (⟨512 - (64 * (i 2).val + 8 * j.val) + c.val, by omega⟩ : Fin 1024) x) ?_) ((h4 _ x).trans ?_)
    · funext a
      apply Fin.ext
      fin_cases a <;> simp [ix2, hoff]
    · show (if 16 * (512 - (64 * (i 2).val + 8 * j.val) + c.val) + 31 ≤ 8192 + x.val then (0 : EReal) else 1) = _
      by_cases hc : 16 * c.val + 31 ≤ (8 * (i 2).val + j.val) * 128 + x.val
      · rw [if_pos hc, if_pos (by omega)]
      · rw [if_neg hc, if_neg (by omega)]

theorem out_at (cdev : Dev nD) (i : grid0.Coords) (arg3 : Memref sig .tc .vmem S1x256x1024 .bf16) (harg3 : arg3.IsWhole) (arg4 : Memref sig .tc .vmem S1x1x512x64 .bf16) (harg4 : arg4.IsWhole)
    (arg5 : Memref sig .tc .vmem S1x1x80x512 .bf16) (harg5 : arg5.IsWhole) (arg6 : Memref sig .tc .vmem S128x512 .bf16) (harg6 : arg6.IsWhole)
    (arg7 : Memref sig .tc .vmem S1024x128 .f32) (harg7 : arg7.IsWhole)
    (arg8 : Memref sig .tc .vmem S1x4x64x1024 .f32) (harg8 : arg8.IsWhole)
    (arg9 : Memref sig .tc .vmem S1x1x128x1024 .bf16) (harg9 : arg9.IsWhole) (arg10 : Memref sig .tc .vmem S128x1024 .f32) (harg10 : arg10.IsWhole)
    (hc0 : cond0_0 i) (hc1 : cond0_1 i) (hc2 : cond0_2 i) (x0 : Vec Ideal S1x256x1024 .bf16) (x1 : Vec Ideal S1x1x512x64 .bf16) (x2 : Vec Ideal S1x1x80x512 .bf16) (x3 : Vec Ideal S128x512 .bf16) (x4 : Vec Ideal S1024x128 .f32)
    (Kf Qf Vf : ℕ → ℕ → EReal)
    (h0 : ∀ (r : Fin 256) (l : Fin 1024), x0 (ix3 (0 : Fin 1) r l) = Qf r l)
    (h1 : ∀ (c : Fin 512) (d : Fin 64), x1 (ix4 (0 : Fin 1) (0 : Fin 1) c d) = Kf c d)
    (h2 : ∀ (e : Fin 80) (c : Fin 512), x2 (ix4 (0 : Fin 1) (0 : Fin 1) e c) = Vf e c)
    (h4 : ∀ (r : Fin 1024) (x : Fin 128), x4 (ix2 r x) = if 16 * r.val + 31 ≤ 8192 + x.val then 0 else 1)
    (y : S1x4x64x1024.Idx) :
    out0_D_5 (F := Ideal) cdev i arg3 harg3 arg4 harg4 arg5 harg5 arg6 harg6 arg7 harg7 arg8 harg8 arg9 harg9 arg10 harg10 hc0 hc1 hc2 x0 x1 x2 x3 x4 y
      = Core.spec 512 Kf Qf Vf (8 * (i 2).val * 128) (y 1).val (y 2).val (y 3).val := by
  unfold out0_D_5
  rw [View.read_writes_junk_eq_canon]
  refine View.canon_eq_of_allAt _ y _ (cover0_D_5 (F := Ideal) cdev i arg3 harg3 arg4 harg4 arg5 harg5 arg6 harg6 arg7 harg7 arg8 harg8 arg9 harg9 arg10 harg10 hc0 hc1 hc2 x0 x1 x2 x3 x4 y) ?_
  have hb := blk_val i arg3 harg3 arg4 harg4 arg5 harg5 arg6 harg6 arg7 harg7 hc0 hc1 hc2 x0 x1 x2 x3 x4 Kf Qf Vf h0 h1 h2 h4
  refine View.allAt_cons_unit _ _ _ _ _ (Core.tile3 _ (Core.spec 512 Kf Qf Vf (8 * (i 2).val * 128)) 896 (hb 7 896 rfl inb_S1x256x1024_S1x256x128_0_0_896) y) ?_
  refine View.allAt_cons_unit _ _ _ _ _ (Core.tile2 _ (Core.spec 512 Kf Qf Vf (8 * (i 2).val * 128)) 896 (hb 7 896 rfl inb_S1x256x1024_S1x256x128_0_0_896) y) ?_
  refine View.allAt_cons_unit _ _ _ _ _ (Core.tile1 _ (Core.spec 512 Kf Qf Vf (8 * (i 2).val * 128)) 896 (hb 7 896 rfl inb_S1x256x1024_S1x256x128_0_0_896) y) ?_
  refine View.allAt_cons_unit _ _ _ _ _ (Core.tile0 _ (Core.spec 512 Kf Qf Vf (8 * (i 2).val * 128)) 896 (hb 7 896 rfl inb_S1x256x1024_S1x256x128_0_0_896) y) ?_
  refine View.allAt_cons_unit _ _ _ _ _ (Core.tile3 _ (Core.spec 512 Kf Qf Vf (8 * (i 2).val * 128)) 768 (hb 6 768 rfl inb_S1x256x1024_S1x256x128_0_0_768) y) ?_
  refine View.allAt_cons_unit _ _ _ _ _ (Core.tile2 _ (Core.spec 512 Kf Qf Vf (8 * (i 2).val * 128)) 768 (hb 6 768 rfl inb_S1x256x1024_S1x256x128_0_0_768) y) ?_
  refine View.allAt_cons_unit _ _ _ _ _ (Core.tile1 _ (Core.spec 512 Kf Qf Vf (8 * (i 2).val * 128)) 768 (hb 6 768 rfl inb_S1x256x1024_S1x256x128_0_0_768) y) ?_
  refine View.allAt_cons_unit _ _ _ _ _ (Core.tile0 _ (Core.spec 512 Kf Qf Vf (8 * (i 2).val * 128)) 768 (hb 6 768 rfl inb_S1x256x1024_S1x256x128_0_0_768) y) ?_
  refine View.allAt_cons_unit _ _ _ _ _ (Core.tile3 _ (Core.spec 512 Kf Qf Vf (8 * (i 2).val * 128)) 640 (hb 5 640 rfl inb_S1x256x1024_S1x256x128_0_0_640) y) ?_
  refine View.allAt_cons_unit _ _ _ _ _ (Core.tile2 _ (Core.spec 512 Kf Qf Vf (8 * (i 2).val * 128)) 640 (hb 5 640 rfl inb_S1x256x1024_S1x256x128_0_0_640) y) ?_
  refine View.allAt_cons_unit _ _ _ _ _ (Core.tile1 _ (Core.spec 512 Kf Qf Vf (8 * (i 2).val * 128)) 640 (hb 5 640 rfl inb_S1x256x1024_S1x256x128_0_0_640) y) ?_
  refine View.allAt_cons_unit _ _ _ _ _ (Core.tile0 _ (Core.spec 512 Kf Qf Vf (8 * (i 2).val * 128)) 640 (hb 5 640 rfl inb_S1x256x1024_S1x256x128_0_0_640) y) ?_
  refine View.allAt_cons_unit _ _ _ _ _ (Core.tile3 _ (Core.spec 512 Kf Qf Vf (8 * (i 2).val * 128)) 512 (hb 4 512 rfl inb_S1x256x1024_S1x256x128_0_0_512) y) ?_
  refine View.allAt_cons_unit _ _ _ _ _ (Core.tile2 _ (Core.spec 512 Kf Qf Vf (8 * (i 2).val * 128)) 512 (hb 4 512 rfl inb_S1x256x1024_S1x256x128_0_0_512) y) ?_
  refine View.allAt_cons_unit _ _ _ _ _ (Core.tile1 _ (Core.spec 512 Kf Qf Vf (8 * (i 2).val * 128)) 512 (hb 4 512 rfl inb_S1x256x1024_S1x256x128_0_0_512) y) ?_
  refine View.allAt_cons_unit _ _ _ _ _ (Core.tile0 _ (Core.spec 512 Kf Qf Vf (8 * (i 2).val * 128)) 512 (hb 4 512 rfl inb_S1x256x1024_S1x256x128_0_0_512) y) ?_
  refine View.allAt_cons_unit _ _ _ _ _ (Core.tile3 _ (Core.spec 512 Kf Qf Vf (8 * (i 2).val * 128)) 384 (hb 3 384 rfl inb_S1x256x1024_S1x256x128_0_0_384) y) ?_
  refine View.allAt_cons_unit _ _ _ _ _ (Core.tile2 _ (Core.spec 512 Kf Qf Vf (8 * (i 2).val * 128)) 384 (hb 3 384 rfl inb_S1x256x1024_S1x256x128_0_0_384) y) ?_
  refine View.allAt_cons_unit _ _ _ _ _ (Core.tile1 _ (Core.spec 512 Kf Qf Vf (8 * (i 2).val * 128)) 384 (hb 3 384 rfl inb_S1x256x1024_S1x256x128_0_0_384) y) ?_
  refine View.allAt_cons_unit _ _ _ _ _ (Core.tile0 _ (Core.spec 512 Kf Qf Vf (8 * (i 2).val * 128)) 384 (hb 3 384 rfl inb_S1x256x1024_S1x256x128_0_0_384) y) ?_
  refine View.allAt_cons_unit _ _ _ _ _ (Core.tile3 _ (Core.spec 512 Kf Qf Vf (8 * (i 2).val * 128)) 256 (hb 2 256 rfl inb_S1x256x1024_S1x256x128_0_0_256) y) ?_
  refine View.allAt_cons_unit _ _ _ _ _ (Core.tile2 _ (Core.spec 512 Kf Qf Vf (8 * (i 2).val * 128)) 256 (hb 2 256 rfl inb_S1x256x1024_S1x256x128_0_0_256) y) ?_
  refine View.allAt_cons_unit _ _ _ _ _ (Core.tile1 _ (Core.spec 512 Kf Qf Vf (8 * (i 2).val * 128)) 256 (hb 2 256 rfl inb_S1x256x1024_S1x256x128_0_0_256) y) ?_
  refine View.allAt_cons_unit _ _ _ _ _ (Core.tile0 _ (Core.spec 512 Kf Qf Vf (8 * (i 2).val * 128)) 256 (hb 2 256 rfl inb_S1x256x1024_S1x256x128_0_0_256) y) ?_
  refine View.allAt_cons_unit _ _ _ _ _ (Core.tile3 _ (Core.spec 512 Kf Qf Vf (8 * (i 2).val * 128)) 128 (hb 1 128 rfl inb_S1x256x1024_S1x256x128_0_0_128) y) ?_
  refine View.allAt_cons_unit _ _ _ _ _ (Core.tile2 _ (Core.spec 512 Kf Qf Vf (8 * (i 2).val * 128)) 128 (hb 1 128 rfl inb_S1x256x1024_S1x256x128_0_0_128) y) ?_
  refine View.allAt_cons_unit _ _ _ _ _ (Core.tile1 _ (Core.spec 512 Kf Qf Vf (8 * (i 2).val * 128)) 128 (hb 1 128 rfl inb_S1x256x1024_S1x256x128_0_0_128) y) ?_
  refine View.allAt_cons_unit _ _ _ _ _ (Core.tile0 _ (Core.spec 512 Kf Qf Vf (8 * (i 2).val * 128)) 128 (hb 1 128 rfl inb_S1x256x1024_S1x256x128_0_0_128) y) ?_
  refine View.allAt_cons_unit _ _ _ _ _ (Core.tile3 _ (Core.spec 512 Kf Qf Vf (8 * (i 2).val * 128)) 0 (hb 0 0 rfl inb_S1x256x1024_S1x256x128_0_0_0) y) ?_
  refine View.allAt_cons_unit _ _ _ _ _ (Core.tile2 _ (Core.spec 512 Kf Qf Vf (8 * (i 2).val * 128)) 0 (hb 0 0 rfl inb_S1x256x1024_S1x256x128_0_0_0) y) ?_
  refine View.allAt_cons_unit _ _ _ _ _ (Core.tile1 _ (Core.spec 512 Kf Qf Vf (8 * (i 2).val * 128)) 0 (hb 0 0 rfl inb_S1x256x1024_S1x256x128_0_0_0) y) ?_
  refine View.allAt_cons_unit _ _ _ _ _ (Core.tile0 _ (Core.spec 512 Kf Qf Vf (8 * (i 2).val * 128)) 0 (hb 0 0 rfl inb_S1x256x1024_S1x256x128_0_0_0) y) ?_
  exact View.allAt_nil _ _

end Cert.Proof.CaseD

end
-- ==== Proof.Final.lean ====
/- Hand-written, untrusted: THE FIRST RESULT'S ARRAY AFTER THE RUN (`final`): the reference's result on the arguments' launch
   contents, when the queries and keys are reals. A grid point's block is `Core.spec` of its input blocks (CaseA to CaseD), these
   are parts of the arrays of Entry.lean, and `Core.spec` is the reference's softmax (Val.lean). -/
module

public import proofs.«01_k».proof.Proof.ValueI
public import proofs.«01_k».proof.Proof.Entry
public import proofs.«01_k».proof.Proof.Val
public import proofs.«01_k».proof.Proof.CaseA
public import proofs.«01_k».proof.Proof.CaseB
public import proofs.«01_k».proof.Proof.CaseC
public import proofs.«01_k».proof.Proof.CaseD

@[expose] public section

noncomputable section

namespace Cert.Proof.Final

open Cert.KernelIdeal Cert.KernelIdeal.Gen Cert.Proof.FrameI Cert.Proof.ValueI Idealize.ShloMosaic Idealize.ShloMosaic.TcCoe Idealize.SL.Sem

/-! ## The windows' blocks -/

theorem coord2 : ∀ t : Fin cfg0.N, (grid0.coords t 2).val = t.val % 8 := (by decide +kernel : ∀ t : Fin grid0.N, _)

theorem idx0 : ∀ t : Fin cfg0.N, win0_0.index t (0 : Fin 3) = t.val / 16 ∧ win0_0.index t (1 : Fin 3) = t.val / 8 % 2 ∧ win0_0.index t (2 : Fin 3) = t.val % 8 :=
  (by decide +kernel : ∀ t : Fin grid0.N, _)
theorem idx1 : ∀ t : Fin cfg0.N, win0_1.index t (0 : Fin 4) = t.val / 16 ∧ win0_1.index t (1 : Fin 4) = t.val / 8 % 2 ∧ win0_1.index t (2 : Fin 4) = 0 ∧ win0_1.index t (3 : Fin 4) = 0 :=
  (by decide +kernel : ∀ t : Fin grid0.N, _)
theorem idx2 : ∀ t : Fin cfg0.N, win0_2.index t (0 : Fin 4) = t.val / 16 ∧ win0_2.index t (1 : Fin 4) = t.val / 8 % 2 ∧ win0_2.index t (2 : Fin 4) = 0 ∧ win0_2.index t (3 : Fin 4) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 4) = t.val / 16 ∧ win0_5.index t (1 : Fin 4) = t.val / 8 % 2 ∧ win0_5.index t (2 : Fin 4) = 0 ∧ win0_5.index t (3 : Fin 4) = t.val % 8 :=
  (by decide +kernel : ∀ t : Fin grid0.N, _)

theorem lt_N (t : Fin cfg0.N) : t.val < 64 := t.isLt

/-- The grid point's batch, its group, its eighth of the tokens. -/
def bat (t : Fin cfg0.N) : Fin 4 := ⟨t.val / 16, by have := lt_N t; omega⟩
def grp (t : Fin cfg0.N) : Fin 2 := ⟨t.val / 8 % 2, by omega⟩

theorem emb0 (t : Fin cfg0.N) (r : Fin 256) (l : Fin 1024) : ((cfg0.win 0).blk t).view.emb (ix3 (0 : Fin 1) r l)
    = (ix3 (bat t) (⟨(grp t).val * 256 + r.val, by have := (grp t).isLt; omega⟩ : Fin 512) (⟨t.val % 8 * 1024 + l.val, by omega⟩ : Fin 8192) : S4x512x8192.Idx) := by
  obtain ⟨e0, e1, e2⟩ := idx0 t
  funext a; apply Fin.ext
  match a with
  | ⟨0, _⟩ => show win0_0.index t (0 : Fin 3) * 1 + 1 * 0 = t.val / 16; omega
  | ⟨1, _⟩ => show win0_0.index t (1 : Fin 3) * 256 + 1 * r.val = t.val / 8 % 2 * 256 + r.val; omega
  | ⟨2, _⟩ => show win0_0.index t (2 : Fin 3) * 1024 + 1 * l.val = t.val % 8 * 1024 + l.val; omega

theorem emb1 (t : Fin cfg0.N) (r : Fin 512) (l : Fin 64) : ((cfg0.win 1).blk t).view.emb (ix4 (0 : Fin 1) (0 : Fin 1) r l)
    = (ix4 (bat t) (grp t) r l : S4x2x512x64.Idx) := by
  obtain ⟨e0, e1, e2, e3⟩ := idx1 t
  funext a; apply Fin.ext
  match a with
  | ⟨0, _⟩ => show win0_1.index t (0 : Fin 4) * 1 + 1 * 0 = t.val / 16; omega
  | ⟨1, _⟩ => show win0_1.index t (1 : Fin 4) * 1 + 1 * 0 = t.val / 8 % 2; omega
  | ⟨2, _⟩ => show win0_1.index t (2 : Fin 4) * 512 + 1 * r.val = r.val; omega
  | ⟨3, _⟩ => show win0_1.index t (3 : Fin 4) * 64 + 1 * l.val = l.val; omega

theorem emb2 (t : Fin cfg0.N) (r : Fin 80) (l : Fin 512) : ((cfg0.win 2).blk t).view.emb (ix4 (0 : Fin 1) (0 : Fin 1) r l)
    = (ix4 (bat t) (grp t) r l : S4x2x80x512.Idx) := by
  obtain ⟨e0, e1, e2, e3⟩ := idx2 t
  funext a; apply Fin.ext
  match a with
  | ⟨0, _⟩ => show win0_2.index t (0 : Fin 4) * 1 + 1 * 0 = t.val / 16; omega
  | ⟨1, _⟩ => show win0_2.index t (1 : Fin 4) * 1 + 1 * 0 = t.val / 8 % 2; omega
  | ⟨2, _⟩ => show win0_2.index t (2 : Fin 4) * 80 + 1 * r.val = r.val; omega
  | ⟨3, _⟩ => show win0_2.index t (3 : Fin 4) * 512 + 1 * l.val = l.val; omega

theorem emb4 (t : Fin cfg0.N) (r : Fin 1024) (l : Fin 128) : ((cfg0.win 4).blk t).view.emb (ix2 r l)
    = (ix2 r l : S1024x128.Idx) := by
  obtain ⟨e0, e1⟩ := idx4 t
  funext a; apply Fin.ext
  match a with
  | ⟨0, _⟩ => show win0_4.index t (0 : Fin 2) * 1024 + 1 * r.val = r.val; omega
  | ⟨1, _⟩ => show win0_4.index t (1 : Fin 2) * 128 + 1 * l.val = l.val; omega

theorem emb5 (t : Fin cfg0.N) (y : S1x4x64x1024.Idx) : ((cfg0.win 5).blk t).view.emb y
    = (ix4 (bat t) (⟨(grp t).val * 4 + (y 1).val, by have := (grp t).isLt; have : (y 1).val < 4 := (y 1).isLt; omega⟩ : Fin 8) (⟨(y 2).val, (y 2).isLt⟩ : Fin 64)
        (⟨t.val % 8 * 1024 + (y 3).val, by have : (y 3).val < 1024 := (y 3).isLt; omega⟩ : Fin 8192) : S4x8x64x8192.Idx) := by
  obtain ⟨e0, e1, e2, e3⟩ := idx5 t
  have h0 : (y 0).val < 1 := (y 0).isLt
  funext a; apply Fin.ext
  match a with
  | ⟨0, _⟩ => show win0_5.index t (0 : Fin 4) * 1 + 1 * (y 0).val = t.val / 16; omega
  | ⟨1, _⟩ => show win0_5.index t (1 : Fin 4) * 4 + 1 * (y 1).val = t.val / 8 % 2 * 4 + (y 1).val; omega
  | ⟨2, _⟩ => show win0_5.index t (2 : Fin 4) * 64 + 1 * (y 2).val = (y 2).val; omega
  | ⟨3, _⟩ => show win0_5.index t (3 : Fin 4) * 1024 + 1 * (y 3).val = t.val % 8 * 1024 + (y 3).val; omega

/-! ## A block's entries as functions of their coordinates -/

variable (q : FVec Ideal S4x2x4x8192x64 .f32) (k v : FVec Ideal S4x2x511x64 .f32)

def Qf (t : Fin cfg0.N) (r l : ℕ) : EReal :=
  q (ix5 (bat t) (grp t) (⟨r / 64 % 4, by omega⟩ : Fin 4) (⟨(t.val % 8 * 1024 + l) % 8192, by omega⟩ : Fin 8192) (⟨r % 64, by omega⟩ : Fin 64)) * ((1 / 8 / Real.log 2 : ℝ) : EReal)

def Kf (t : Fin cfg0.N) (c e : ℕ) : EReal :=
  if h : c < 511 then k (ix4 (bat t) (grp t) (⟨c, h⟩ : Fin 511) (⟨e % 64, by omega⟩ : Fin 64)) else 0

def Vf (t : Fin cfg0.N) (e c : ℕ) : EReal :=
  if he : e < 64 then if h : c < 511 then v (ix4 (bat t) (grp t) (⟨c, h⟩ : Fin 511) (⟨e, he⟩ : Fin 64)) else 0 else 1

variable (m : (ℓ : Loc nD τ sig) → Buf (Elt Ideal) ℓ) (cd : Dev nD)

theorem blk0 (hq : m ((cd : Thread nD τ).loc main_arg0) = q) (t : Fin cfg0.N) (r : Fin 256) (l : Fin 1024) :
    (iblk m cd 0 t : FVec Ideal S1x256x1024 .bf16) (ix3 (0 : Fin 1) r l) = Qf q t r l := by
  show V m cd main_v6 (((cfg0.win 0).blk t).view.emb (ix3 (0 : Fin 1) r l)) = _
  rw [emb0, Entry.V0, hq]
  refine (Entry.qt_at q _ _ _).trans ?_
  unfold Qf
  have hg := (grp t).isLt
  congr 2
  funext a; apply Fin.ext
  match a with
  | ⟨0, _⟩ => rfl
  | ⟨1, _⟩ => show ((grp t).val * 256 + r.val) / 256 = (grp t).val; omega
  | ⟨2, _⟩ => show ((grp t).val * 256 + r.val) / 64 % 4 = r.val / 64 % 4; omega
  | ⟨3, _⟩ => show t.val % 8 * 1024 + l.val = (t.val % 8 * 1024 + l.val) % 8192; omega
  | ⟨4, _⟩ => show ((grp t).val * 256 + r.val) % 64 = r.val % 64; omega

theorem blk1 (hk : m ((cd : Thread nD τ).loc main_arg1) = k) (t : Fin cfg0.N) (c : Fin 512) (e : Fin 64) :
    (iblk m cd 1 t : FVec Ideal S1x1x512x64 .bf16) (ix4 (0 : Fin 1) (0 : Fin 1) c e) = Kf k t c e := by
  show V m cd main_v8 (((cfg0.win 1).blk t).view.emb (ix4 (0 : Fin 1) (0 : Fin 1) c e)) = _
  rw [emb1, Entry.V1, hk]
  refine (Entry.kc_at k _ _ _ _).trans ?_
  unfold Kf
  have e1 : (⟨e.val % 64, by omega⟩ : Fin 64) = e := Fin.ext (Nat.mod_eq_of_lt e.isLt)
  rw [e1]

theorem blk2 (hv : m ((cd : Thread nD τ).loc main_arg2) = v) (t : Fin cfg0.N) (e : Fin 80) (c : Fin 512) :
    (iblk m cd 2 t : FVec Ideal S1x1x80x512 .bf16) (ix4 (0 : Fin 1) (0 : Fin 1) e c) = Vf v t e c := by
  show V m cd main_v13 (((cfg0.win 2).blk t).view.emb (ix4 (0 : Fin 1) (0 : Fin 1) e c)) = _
  rw [emb2, Entry.V2, hv]
  exact Entry.vct_at v _ _ _ _

theorem blk4 (t : Fin cfg0.N) (r : Fin 1024) (x : Fin 128) :
    (iblk m cd 4 t : FVec Ideal S1024x128 .f32) (ix2 r x) = (if 16 * r.val + 31 ≤ 8192 + x.val then 0 else 1 : EReal) := by
  show V m cd main_v56 (((cfg0.win 4).blk t).view.emb (ix2 r x)) = _
  rw [emb4, Entry.V4]
  exact Entry.table_at r x

/-! ## What a point writes back -/

variable (qr : S4x2x4x8192x64.Idx → ℝ) (kr : S4x2x511x64.Idx → ℝ)

/-- The first `N` columns are enough at the point. -/
theorem spec_ref (hqr : ∀ j, q j = (qr j : EReal)) (hkr : ∀ j, k j = (kr j : EReal)) (t : Fin cfg0.N) (N : ℕ) (hN : 64 * (t.val % 8) + 64 ≤ N)
    (y : S1x4x64x1024.Idx) :
    Core.spec N (Kf k t) (Qf q t) (Vf v t) (8 * (grid0.coords t 2).val * 128) (y 1).val (y 2).val (y 3).val
      = Ref.res q k v (((cfg0.win 5).blk t).view.emb y) := by
  have h1 : (y 1).val < 4 := (y 1).isLt
  have h2 : (y 2).val < 64 := (y 2).isLt
  have h3 : (y 3).val < 1024 := (y 3).isLt
  have hg := (grp t).isLt
  rw [emb5, coord2]
  refine Eq.trans ?_ (Ref.res_at q k v (bat t) _ _ _).symm
  have eg : (⟨((grp t).val * 4 + (y 1).val) / 4, by omega⟩ : Fin 2) = grp t := Fin.ext (by show ((grp t).val * 4 + (y 1).val) / 4 = (grp t).val; omega)
  have eh : (⟨((grp t).val * 4 + (y 1).val) % 4, by omega⟩ : Fin 4) = ⟨(y 1).val, h1⟩ := Fin.ext (by show ((grp t).val * 4 + (y 1).val) % 4 = (y 1).val; omega)
  show _ = Ref.out q k v (bat t) (⟨((grp t).val * 4 + (y 1).val) / 4, by omega⟩ : Fin 2) (⟨((grp t).val * 4 + (y 1).val) % 4, by omega⟩ : Fin 4) _ _
  rw [eg, eh]
  refine Val.spec_eq q k v qr kr hqr hkr (bat t) (grp t) ⟨(y 1).val, h1⟩ ⟨(y 2).val, h2⟩ _ N _ _ _ _ _ ?_ ?_ ?_ ?_ ?_ ?_
  · show 8 * (t.val % 8) * 128 + (y 3).val = t.val % 8 * 1024 + (y 3).val; omega
  · show (t.val % 8 * 1024 + (y 3).val - 15) / 16 ≤ N; omega
  · intro c e
    unfold Kf
    rw [dif_pos c.isLt]
    have e1 : (⟨e.val % 64, by omega⟩ : Fin 64) = e := Fin.ext (Nat.mod_eq_of_lt e.isLt)
    rw [e1]
  · intro e
    unfold Qf
    congr 2
    funext a; apply Fin.ext
    match a with
    | ⟨0, _⟩ => rfl
    | ⟨1, _⟩ => rfl
    | ⟨2, _⟩ => show ((y 1).val * 64 + e.val) / 64 % 4 = (y 1).val; omega
    | ⟨3, _⟩ => show (t.val % 8 * 1024 + (y 3).val) % 8192 = t.val % 8 * 1024 + (y 3).val; omega
    | ⟨4, _⟩ => show ((y 1).val * 64 + e.val) % 64 = e.val; omega
  · intro c
    unfold Vf
    rw [dif_pos h2, dif_pos c.isLt]
  · intro c
    unfold Vf
    rw [dif_neg (by omega)]

theorem cut_eq (t : Fin cfg0.N) (X : Vec Ideal S1x4x64x1024 .f32) (G : FVec Ideal S4x8x64x8192 .f32) (h : ∀ y, X y = G (((cfg0.win 5).blk t).view.emb y)) :
    (cfg0.win 5).cut (grid0.coords t) X = ((cfg0.win 5).blk t).view.read (Elt Ideal) G :=
  funext fun y => h y

theorem flushA (hq : m ((cd : Thread nD τ).loc main_arg0) = q) (hk : m ((cd : Thread nD τ).loc main_arg1) = k) (hv : m ((cd : Thread nD τ).loc main_arg2) = v)
    (hqr : ∀ j, q j = (qr j : EReal)) (hkr : ∀ j, k j = (kr j : EReal)) (t : Fin cfg0.N) (h0 : ¬2 ≤ t.val % 8) :
    (dats m 0 cd).flushed 5 t = ((cfg0.win 5).blk t).view.read (Elt Ideal) (Ref.res q k v) := by
  have hX : ∀ y : S1x4x64x1024.Idx, out0_A_5 (F := Ideal) cd (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m cd 0 t) (iblk m cd 1 t) (iblk m cd 2 t) (iblk m cd 3 t) (iblk m cd 4 t) y
      = Core.spec 128 (Kf k t) (Qf q t) (Vf v t) (8 * (grid0.coords t 2).val * 128) (y 1).val (y 2).val (y 3).val := fun y =>
    CaseA.out_at cd (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m cd 0 t) (iblk m cd 1 t) (iblk m cd 2 t) (iblk m cd 3 t) (iblk m cd 4 t)
      (Kf k t) (Qf q t) (Vf v t) (blk0 q m cd hq t) (blk1 k m cd hk t) (blk2 v m cd hv t) (blk4 m cd t) y
  rw [flushed5_A m cd t h0]
  exact cut_eq t _ (Ref.res q k v) fun y => (hX y).trans (spec_ref q k v qr kr hqr hkr t 128 (by omega) y)

theorem flushB (hq : m ((cd : Thread nD τ).loc main_arg0) = q) (hk : m ((cd : Thread nD τ).loc main_arg1) = k) (hv : m ((cd : Thread nD τ).loc main_arg2) = v)
    (hqr : ∀ j, q j = (qr j : EReal)) (hkr : ∀ j, k j = (kr j : EReal)) (t : Fin cfg0.N) (h0 : 2 ≤ t.val % 8) (h1 : ¬¬(2 ≤ t.val % 8 ∧ t.val % 8 ≤ 3)) :
    (dats m 0 cd).flushed 5 t = ((cfg0.win 5).blk t).view.read (Elt Ideal) (Ref.res q k v) := by
  have hX : ∀ y : S1x4x64x1024.Idx, out0_B_5 (F := Ideal) cd (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m cd 0 t) (iblk m cd 1 t) (iblk m cd 2 t) (iblk m cd 3 t) (iblk m cd 4 t) y
      = Core.spec 256 (Kf k t) (Qf q t) (Vf v t) (8 * (grid0.coords t 2).val * 128) (y 1).val (y 2).val (y 3).val := fun y =>
    CaseB.out_at cd (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m cd 0 t) (iblk m cd 1 t) (iblk m cd 2 t) (iblk m cd 3 t) (iblk m cd 4 t)
      (Kf k t) (Qf q t) (Vf v t) (blk0 q m cd hq t) (blk1 k m cd hk t) (blk2 v m cd hv t) (blk4 m cd t) y
  rw [flushed5_B m cd t h0 h1]
  exact cut_eq t _ (Ref.res q k v) fun y => (hX y).trans (spec_ref q k v qr kr hqr hkr t 256 (by omega) y)

theorem flushC (hq : m ((cd : Thread nD τ).loc main_arg0) = q) (hk : m ((cd : Thread nD τ).loc main_arg1) = k) (hv : m ((cd : Thread nD τ).loc main_arg2) = v)
    (hqr : ∀ j, q j = (qr j : EReal)) (hkr : ∀ j, k j = (kr j : EReal)) (t : Fin cfg0.N) (h0 : 2 ≤ t.val % 8) (h1 : ¬(2 ≤ t.val % 8 ∧ t.val % 8 ≤ 3)) (h2 : ¬¬(4 ≤ t.val % 8 ∧ t.val % 8 ≤ 5)) :
    (dats m 0 cd).flushed 5 t = ((cfg0.win 5).blk t).view.read (Elt Ideal) (Ref.res q k v) := by
  have hX : ∀ y : S1x4x64x1024.Idx, out0_C_5 (F := Ideal) cd (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) ((hcond0_1 t).mpr h1) (fun h => h2 ((hcond0_2 t).mp h)) (iblk m cd 0 t) (iblk m cd 1 t) (iblk m cd 2 t) (iblk m cd 3 t) (iblk m cd 4 t) y
      = Core.spec 384 (Kf k t) (Qf q t) (Vf v t) (8 * (grid0.coords t 2).val * 128) (y 1).val (y 2).val (y 3).val := fun y =>
    CaseC.out_at cd (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) ((hcond0_1 t).mpr h1) (fun h => h2 ((hcond0_2 t).mp h)) (iblk m cd 0 t) (iblk m cd 1 t) (iblk m cd 2 t) (iblk m cd 3 t) (iblk m cd 4 t)
      (Kf k t) (Qf q t) (Vf v t) (blk0 q m cd hq t) (blk1 k m cd hk t) (blk2 v m cd hv t) (blk4 m cd t) y
  rw [flushed5_C m cd t h0 h1 h2]
  exact cut_eq t _ (Ref.res q k v) fun y => (hX y).trans (spec_ref q k v qr kr hqr hkr t 384 (by omega) y)

theorem flushD (hq : m ((cd : Thread nD τ).loc main_arg0) = q) (hk : m ((cd : Thread nD τ).loc main_arg1) = k) (hv : m ((cd : Thread nD τ).loc main_arg2) = v)
    (hqr : ∀ j, q j = (qr j : EReal)) (hkr : ∀ j, k j = (kr j : EReal)) (t : Fin cfg0.N) (h0 : 2 ≤ t.val % 8) (h1 : ¬(2 ≤ t.val % 8 ∧ t.val % 8 ≤ 3)) (h2 : ¬(4 ≤ t.val % 8 ∧ t.val % 8 ≤ 5)) :
    (dats m 0 cd).flushed 5 t = ((cfg0.win 5).blk t).view.read (Elt Ideal) (Ref.res q k v) := by
  have hX : ∀ y : S1x4x64x1024.Idx, out0_D_5 (F := Ideal) cd (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) ((hcond0_1 t).mpr h1) ((hcond0_2 t).mpr h2) (iblk m cd 0 t) (iblk m cd 1 t) (iblk m cd 2 t) (iblk m cd 3 t) (iblk m cd 4 t) y
      = Core.spec 512 (Kf k t) (Qf q t) (Vf v t) (8 * (grid0.coords t 2).val * 128) (y 1).val (y 2).val (y 3).val := fun y =>
    CaseD.out_at cd (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) ((hcond0_1 t).mpr h1) ((hcond0_2 t).mpr h2) (iblk m cd 0 t) (iblk m cd 1 t) (iblk m cd 2 t) (iblk m cd 3 t) (iblk m cd 4 t)
      (Kf k t) (Qf q t) (Vf v t) (blk0 q m cd hq t) (blk1 k m cd hk t) (blk2 v m cd hv t) (blk4 m cd t) y
  rw [flushed5_D m cd t h0 h1 h2]
  exact cut_eq t _ (Ref.res q k v) fun y => (hX y).trans (spec_ref q k v qr kr hqr hkr t 512 (by omega) y)

theorem flush (hq : m ((cd : Thread nD τ).loc main_arg0) = q) (hk : m ((cd : Thread nD τ).loc main_arg1) = k) (hv : m ((cd : Thread nD τ).loc main_arg2) = v)
    (hqr : ∀ j, q j = (qr j : EReal)) (hkr : ∀ j, k j = (kr j : EReal)) (t : Fin cfg0.N) :
    (dats m 0 cd).flushed 5 t = ((cfg0.win 5).blk t).view.read (Elt Ideal) (Ref.res q k v) := by
  by_cases h0 : 2 ≤ t.val % 8
  · by_cases h1 : 2 ≤ t.val % 8 ∧ t.val % 8 ≤ 3
    · exact flushB q k v m cd qr kr hq hk hv hqr hkr t h0 (not_not.mpr h1)
    · by_cases h2 : 4 ≤ t.val % 8 ∧ t.val % 8 ≤ 5
      · exact flushC q k v m cd qr kr hq hk hv hqr hkr t h0 h1 (not_not.mpr h2)
      · exact flushD q k v m cd qr kr hq hk hv hqr hkr t h0 h1 h2
  · exact flushA q k v m cd qr kr hq hk hv hqr hkr t h0

/-- Every index of the result is in the block of its grid point. -/
theorem covered (i : S4x8x64x8192.Idx) : ∃ t : Fin cfg0.N, (cfg0.win 5).flush t = true ∧ i ∈ ((cfg0.win 5).blk t).view.set := by
  have h0 : (i 0).val < 4 := (i 0).isLt
  have h1 : (i 1).val < 8 := (i 1).isLt
  have h2 : (i 2).val < 64 := (i 2).isLt
  have h3 : (i 3).val < 8192 := (i 3).isLt
  obtain ⟨n, hn⟩ : ∃ n : ℕ, n = (i 0).val * 16 + (i 1).val / 4 * 8 + (i 3).val / 1024 := ⟨_, rfl⟩
  have hnl : n < cfg0.N := by show n < 64; omega
  refine ⟨⟨n, hnl⟩, flush0_5 _, ?_⟩
  have e : ((cfg0.win 5).blk (⟨n, hnl⟩ : Fin cfg0.N)).view.emb
      (ix4 (0 : Fin 1) (⟨(i 1).val % 4, by omega⟩ : Fin 4) (⟨(i 2).val, h2⟩ : Fin 64) (⟨(i 3).val % 1024, by omega⟩ : Fin 1024) : S1x4x64x1024.Idx) = i := by
    refine (emb5 ⟨n, hnl⟩ _).trans ?_
    funext a; apply Fin.ext
    match a with
    | ⟨0, _⟩ => show n / 16 = (i 0).val; omega
    | ⟨1, _⟩ => show n / 8 % 2 * 4 + (i 1).val % 4 = (i 1).val; omega
    | ⟨2, _⟩ => rfl
    | ⟨3, _⟩ => show n % 8 * 1024 + (i 3).val % 1024 = (i 3).val; omega
  have h := ((cfg0.win 5).blk (⟨n, hnl⟩ : Fin cfg0.N)).view.emb_mem_set
    (ix4 (0 : Fin 1) (⟨(i 1).val % 4, by omega⟩ : Fin 4) (⟨(i 2).val, h2⟩ : Fin 64) (⟨(i 3).val % 1024, by omega⟩ : Fin 1024) : S1x4x64x1024.Idx)
  rw [e] at h
  exact h

/-- The result's array after the run. -/
theorem final (hq : m ((cd : Thread nD τ).loc main_arg0) = q) (hk : m ((cd : Thread nD τ).loc main_arg1) = k) (hv : m ((cd : Thread nD τ).loc main_arg2) = v)
    (hqr : ∀ j, q j = (qr j : EReal)) (hkr : ∀ j, k j = (kr j : EReal)) : (dats m 0 cd).arrAt 5 cfg0.N = Ref.res q k v :=
  (dats m 0 cd).arrAt_eq_of_cover 5 (Ref.res q k v) (fun t _ => flush q k v m cd qr kr hq hk hv hqr hkr t) covered

end Cert.Proof.Final

end
-- ==== Proof.Pre.lean ====
/- Hand-written, untrusted: THE PRECONDITION READ BACK (`reals`). `finite_scores` is a `jnp.all` over the queries and one over the
   keys; where it is one, every element of both is a real number. -/
module

public import proofs.«01_k».proof.Defs
public import proofs.«01_k».proof.Proof.Core
public import Idealize.ShloMosaic.Lib.ReduceAll
public import Idealize.ShloMosaic.Lib.Pointwise

@[expose] public section

noncomputable section

namespace Cert.Proof.Pre

open Cert.Pre_finite_scores Idealize.ShloMosaic Idealize.SL.Sem

instance facts : Cert.Pre_finite_scores.Facts where
  bcast_S_S4x2x4x8192x64 := by decide
  reducesTo_S4x2x4x8192x64_S_d0_1_2_3_4 := by decide
  h_S_ := by decide
  bcast_S_S4x2x511x64 := by decide
  reducesTo_S4x2x511x64_S_d0_1_2_3 := by decide

instance : Subsingleton S_.Idx := ⟨fun a b => funext fun d => d.elim0⟩

/-- An extended real whose absolute value is less than plus infinity is a real number. -/
theorem real_of_abs {x : EReal} (h : max x (-x) < ⊤) : x = ((x.toReal : ℝ) : EReal) := by
  refine (EReal.coe_toReal ?_ ?_).symm
  · rintro rfl; simp at h
  · rintro rfl; simp at h

/-- An element whose comparison with plus infinity came out 1 is a real number. -/
theorem real_of_cmp {x : Ideal .f32} (h : FloatOps.cmpf (F := Ideal) .olt (FloatOps.absf x) (Ideal.ofBits .f32 0x7F800000#32) = 1#1) :
    x = (((x : EReal).toReal : ℝ) : EReal) := by
  rw [Core.ofBits_top, Ideal.cmpf_def] at h
  exact real_of_abs ((Ideal.cmp_olt_eq_one _ _).1 h)

/-- Where the precondition holds the queries and the keys are real numbers. -/
theorem reals (q : FVec Ideal S4x2x4x8192x64 .f32) (k v : FVec Ideal S4x2x511x64 .f32) (h : fn (F := Ideal) q k v = fun _ => 1#1) :
    (∀ j, q j = (((q j : EReal).toReal : ℝ) : EReal)) ∧ ∀ j, k j = (((k j : EReal).toReal : ℝ) : EReal) := by
  have h0 := congrFun h (Shape.Idx.first Facts.h_S_)
  obtain ⟨hq, hk⟩ := IntOp.andi_eq_one.1 h0
  exact ⟨fun j => real_of_cmp (Host.reduce_andi_all _ _ _ _ _ hq j), fun j => real_of_cmp (Host.reduce_andi_all _ _ _ _ _ hk j)⟩

end Cert.Proof.Pre

end
-- ==== Proof.Rows.lean ====
/- Hand-written, untrusted: ONE TOKEN'S ROW OF THE LAYER'S SECOND HALF, over the extended reals: the layer norm, the gated
   feed-forward sublayer, the mixing of the two attention outputs and the gated per-layer embedding, each a function of the
   token's row and of the weights, spelled in neither program's terms. Both programs' results are these at every token. -/
module

public import Idealize.ShloMosaic.Lib.Pointwise

@[expose] public section

noncomputable section

namespace Cert.Proof.Rows

open Idealize.ShloMosaic

/-- The mean of a row of 1024. -/
def mean (z : Fin 1024 → EReal) : EReal := Ideal.div (∑ j : Fin 1024, z j) (Ideal.ofBits FTy.f32 0x44800000#32)

/-- The row less its mean, over its standard deviation. -/
def unit (z : Fin 1024 → EReal) (j : Fin 1024) : EReal :=
  (z j - mean z) * Ideal.rsqrt (mean (fun i => (z i - mean z) * (z i - mean z)) + Ideal.ofBits FTy.f32 0x3727C5AC#32)

/-- The layer norm of a row, scaled by `g` and shifted by `b`. -/
def norm (z g b : Fin 1024 → EReal) (j : Fin 1024) : EReal := unit z j * g j + b j

/-- The logistic function. -/
def sigm (v : EReal) : EReal := Ideal.div 1 (1 + Ideal.exp (-v))

/-- The feed-forward sublayer of a row: the columns `k` of `w1` are gated by their logistic function and multiplied with the
    columns `k` of `w3`. -/
def ffn (x : Fin 1024 → EReal) (w1 w3 : Fin 1024 → Fin 2816 → EReal) (w2 : Fin 2816 → Fin 1024 → EReal) (j : Fin 1024) : EReal :=
  ∑ k : Fin 2816, (∑ i : Fin 1024, x i * w1 i k) * sigm (∑ i : Fin 1024, x i * w1 i k) * (∑ i : Fin 1024, x i * w3 i k) * w2 k j

/-- The row times the residual's weight plus half of its feed-forward sublayer. -/
def ffnSum (x : Fin 1024 → EReal) (w1 w3 : Fin 1024 → Fin 2816 → EReal) (w2 : Fin 2816 → Fin 1024 → EReal) (j : Fin 1024) : EReal :=
  Ideal.ofBits FTy.f32 0x3F9837F0#32 * x j + Ideal.ofBits FTy.f32 0x3F000000#32 * ffn x w1 w3 w2 j

/-- The row times the residual's weight plus the product of the two attention outputs with the output weights' two halves. -/
def mixSum (x : Fin 1024 → EReal) (on or : Fin 512 → EReal) (wn wr : Fin 512 → Fin 1024 → EReal) (j : Fin 1024) : EReal :=
  Ideal.ofBits FTy.f32 0x3F9837F0#32 * x j + ((∑ i : Fin 512, on i * wn i j) + ∑ i : Fin 512, or i * wr i j)

/-- The row times the residual's weight plus the per-layer embedding's product, gated. -/
def pleSum (x : Fin 1024 → EReal) (p : Fin 256 → EReal) (wp : Fin 256 → Fin 1024 → EReal) (wg : Fin 1024 → Fin 1024 → EReal) (j : Fin 1024) : EReal :=
  Ideal.ofBits FTy.f32 0x3F9837F0#32 * x j + (∑ i : Fin 256, p i * wp i j) * sigm (∑ i : Fin 1024, x i * wg i j)

/-- The layer's second half of a token: the mixing, the feed-forward sublayer and the per-layer embedding, each with the residual and
    a layer norm. -/
def tail (x : Fin 1024 → EReal) (on or : Fin 512 → EReal) (p : Fin 256 → EReal) (wn wr : Fin 512 → Fin 1024 → EReal) (w1 w3 : Fin 1024 → Fin 2816 → EReal)
    (w2 : Fin 2816 → Fin 1024 → EReal) (wp : Fin 256 → Fin 1024 → EReal) (wg : Fin 1024 → Fin 1024 → EReal) (g b : Fin 3 → Fin 1024 → EReal) : Fin 1024 → EReal :=
  norm (pleSum (norm (ffnSum (norm (mixSum x on or wn wr) (g 0) (b 0)) w1 w3 w2) (g 1) (b 1)) p wp wg) (g 2) (b 2)

theorem sigm_sub (v : EReal) : Ideal.div 1 (1 + Ideal.exp (0 - v)) = sigm v := by
  rw [sub_eq_add_neg, zero_add]; rfl

end Cert.Proof.Rows

end
-- ==== Proof.FfnBlock.lean ====
/- Hand-written, untrusted: A BLOCK OF THE FEED-FORWARD SUBLAYER'S CALL, entry by entry (`out_at`): the row function of Rows.lean on
   the block's row of the residual stream and on the weights. -/
module

public import proofs.«01_k».proof.Proof.Gen.FfnIdeal.Value
public import proofs.«01_k».proof.Proof.Rows
public import Idealize.ShloMosaic.Lib.Pipeline.ValueKit

@[expose] public section

noncomputable section

namespace Cert.Proof.FfnBlock

open Cert.FfnIdeal Cert.FfnIdeal.Gen Idealize.ShloMosaic Idealize.SL.Sem

/-- The layer norm at the block's end. -/
theorem pay1_at (z : FVec Ideal S512x1024 .f32) (g b : FVec Ideal S1x1024 .f32) (s : FVec Ideal S512 .f32)
    (hs : ∀ r : Fin 512, s (ix1 r) = ∑ j : Fin 1024, z (ix2 r j)) (r : Fin 512) (j : Fin 1024) :
    k0_pay1 (F := Ideal) z g b s (ix2 r j)
      = Rows.norm (fun i => z (ix2 r i)) (fun i => g (ix2 (0 : Fin 1) i)) (fun i => b (ix2 (0 : Fin 1) i)) j := by
  pointwise [k0_pay1]
  rw [hs]
  rfl

/-- The first product, the second, and the gated one. -/
def prod (x : FVec Ideal S512x1024 .f32) (w : FVec Ideal S1x1x1024x2816 .bf16) : FVec Ideal S512x2816 .f32 :=
  matmul dot_S512x1024_S1024x2816_S512x2816_1_0_0_1_n_n none (truncf .bf16 (shapeCast S512x1024 x shapeCasts_S512x1024_S512x1024) bitsLt_bf16_f32) (shapeCast S1024x2816 w shapeCasts_S1x1x1024x2816_S1024x2816)
    (constant S512x2816 .f32 0x00000000#32)

def gated (a u : FVec Ideal S512x2816 .f32) : FVec Ideal S512x2816 .bf16 :=
  truncf .bf16 (mulf (mulf a (divf (broadcast S512x2816 (Scalar.ofBits .f32 0x3F800000#32)) (addf (broadcast S512x2816 (Scalar.ofBits .f32 0x3F800000#32))
    (exp (subf (broadcast S512x2816 (Scalar.ofBits .f32 0x00000000#32)) a))))) u) bitsLt_bf16_f32

def summed (x : FVec Ideal S512x1024 .f32) (h : FVec Ideal S512x2816 .bf16) (w2 : FVec Ideal S1x1x2816x1024 .bf16) : FVec Ideal S512x1024 .f32 :=
  addf (mulf (broadcast S512x1024 (Scalar.ofBits .f32 0x3F9837F0#32)) (shapeCast S512x1024 x shapeCasts_S512x1024_S512x1024))
    (mulf (broadcast S512x1024 (Scalar.ofBits .f32 0x3F000000#32)) (matmul dot_S512x2816_S2816x1024_S512x1024_1_0_0_1_n_n none h (shapeCast S2816x1024 w2 shapeCasts_S1x1x2816x1024_S2816x1024)
      (constant S512x1024 .f32 0x00000000#32)))

theorem pay2_eq (x : FVec Ideal S512x1024 .f32) (w1 w3 : FVec Ideal S1x1x1024x2816 .bf16) (w2 : FVec Ideal S1x1x2816x1024 .bf16) :
    k0_pay2 (F := Ideal) x w1 w3 w2 = summed x (gated (prod x w1) (prod x w3)) w2 := rfl

theorem prod_at (x : FVec Ideal S512x1024 .f32) (w : FVec Ideal S1x1x1024x2816 .bf16) (r : Fin 512) (k : Fin 2816) :
    prod x w (ix2 r k) = ∑ i : Fin 1024, x (ix2 r i) * w (ix4 (0 : Fin 1) (0 : Fin 1) i k) := by
  pointwise [prod]

theorem gated_at (a u : FVec Ideal S512x2816 .f32) (r : Fin 512) (k : Fin 2816) :
    gated a u (ix2 r k) = a (ix2 r k) * Rows.sigm (a (ix2 r k)) * u (ix2 r k) := by
  pointwise [gated]
  rw [Rows.sigm_sub]

theorem summed_at (x : FVec Ideal S512x1024 .f32) (h : FVec Ideal S512x2816 .bf16) (w2 : FVec Ideal S1x1x2816x1024 .bf16) (r : Fin 512) (j : Fin 1024) :
    summed x h w2 (ix2 r j) = Ideal.ofBits FTy.f32 0x3F9837F0#32 * x (ix2 r j)
      + Ideal.ofBits FTy.f32 0x3F000000#32 * ∑ k : Fin 2816, h (ix2 r k) * w2 (ix4 (0 : Fin 1) (0 : Fin 1) k j) := by
  pointwise [summed]

theorem pay2_at (x : FVec Ideal S512x1024 .f32) (w1 w3 : FVec Ideal S1x1x1024x2816 .bf16) (w2 : FVec Ideal S1x1x2816x1024 .bf16) (r : Fin 512) (j : Fin 1024) :
    k0_pay2 (F := Ideal) x w1 w3 w2 (ix2 r j) = Rows.ffnSum (fun i => x (ix2 r i)) (fun i k => w1 (ix4 (0 : Fin 1) (0 : Fin 1) i k)) (fun i k => w3 (ix4 (0 : Fin 1) (0 : Fin 1) i k))
      (fun k j => w2 (ix4 (0 : Fin 1) (0 : Fin 1) k j)) j := by
  rw [pay2_eq, summed_at]
  simp only [gated_at, prod_at]
  rfl

theorem pay5_at (x : FVec Ideal S512x1024 .f32) (w1 w3 : FVec Ideal S1x1x1024x2816 .bf16) (w2 : FVec Ideal S1x1x2816x1024 .bf16) (r : Fin 512) :
    k0_pay5 (F := Ideal) x w1 w3 w2 (ix1 r) = ∑ j : Fin 1024, k0_pay2 (F := Ideal) x w1 w3 w2 (ix2 r j) := by
  unfold k0_pay5
  generalize k0_pay2 (F := Ideal) x w1 w3 w2 = z
  pointwise

theorem ld_1 (x : Vec Ideal S1x1x1024x5632 .bf16) (i : Fin 1024) (k : Fin 2816) :
    View.ld (Val := Elt Ideal) x r0_1 (ix4 (0 : Fin 1) (0 : Fin 1) i k : S1x1x1024x2816.Idx) = x (ix4 (0 : Fin 1) (0 : Fin 1) i (⟨k.val, by omega⟩ : Fin 5632)) := by
  refine congrArg x ?_
  funext a; apply Fin.ext
  match a with
  | ⟨0, _⟩ => rfl
  | ⟨1, _⟩ => rfl
  | ⟨2, _⟩ => show 0 + 1 * i.val = i.val; omega
  | ⟨3, _⟩ => show 0 + 1 * k.val = k.val; omega

theorem ld_2 (x : Vec Ideal S1x1x1024x5632 .bf16) (i : Fin 1024) (k : Fin 2816) :
    View.ld (Val := Elt Ideal) x r0_2 (ix4 (0 : Fin 1) (0 : Fin 1) i k : S1x1x1024x2816.Idx) = x (ix4 (0 : Fin 1) (0 : Fin 1) i (⟨2816 + k.val, by omega⟩ : Fin 5632)) := by
  refine congrArg x ?_
  funext a; apply Fin.ext
  match a with
  | ⟨0, _⟩ => rfl
  | ⟨1, _⟩ => rfl
  | ⟨2, _⟩ => show 0 + 1 * i.val = i.val; omega
  | ⟨3, _⟩ => show 2816 + 1 * k.val = 2816 + k.val; omega

theorem pay3_eq (x : Vec Ideal S1x1024 .f32) : k0_pay3 (F := Ideal) x = x := by
  unfold k0_pay3
  exact shapeCast_self _ _

theorem pay4_eq (x : Vec Ideal S1x1024 .f32) : k0_pay4 (F := Ideal) x = x := by
  unfold k0_pay4
  exact shapeCast_self _ _

/-- The block's entry. -/
theorem out_at (x : Vec Ideal S512x1024 .f32) (w13 : Vec Ideal S1x1x1024x5632 .bf16) (w2 : Vec Ideal S1x1x2816x1024 .bf16) (g b : Vec Ideal S1x1024 .f32) (r : Fin 512) (j : Fin 1024) :
    out0_5 (F := Ideal) x w13 w2 g b (ix2 r j)
      = Rows.norm (Rows.ffnSum (fun i => x (ix2 r i)) (fun i k => w13 (ix4 (0 : Fin 1) (0 : Fin 1) i (⟨k.val, by omega⟩ : Fin 5632)))
          (fun i k => w13 (ix4 (0 : Fin 1) (0 : Fin 1) i (⟨2816 + k.val, by omega⟩ : Fin 5632))) (fun k j => w2 (ix4 (0 : Fin 1) (0 : Fin 1) k j)))
        (fun i => g (ix2 (0 : Fin 1) i)) (fun i => b (ix2 (0 : Fin 1) i)) j := by
  have h : out0_5 (F := Ideal) x w13 w2 g b = k0_pay1 (F := Ideal) (k0_pay2 x (View.ld w13 r0_1) (View.ld w13 r0_2) w2) g b (k0_pay5 x (View.ld w13 r0_1) (View.ld w13 r0_2) w2) := by
    unfold out0_5
    simp (disch := decide) only [View.ld_unit_lit', View.canon_cons_unit_lit', pay3_eq, pay4_eq]
  have h1 := ld_1 w13
  have h2 := ld_2 w13
  rw [h]
  generalize (View.ld (Val := Elt Ideal) w13 r0_1 : Vec Ideal S1x1x1024x2816 .bf16) = l1 at h1 ⊢
  generalize (View.ld (Val := Elt Ideal) w13 r0_2 : Vec Ideal S1x1x1024x2816 .bf16) = l2 at h2 ⊢
  refine (pay1_at _ _ _ _ (fun r => pay5_at _ _ _ _ r) r j).trans ?_
  simp only [pay2_at, h1, h2]

end Cert.Proof.FfnBlock

end
-- ==== Proof.FfnRef.lean ====
/- Hand-written, untrusted: THE FEED-FORWARD SUBLAYER'S REFERENCE, entry by entry (`res_at`): the row function of Rows.lean on the
   token's row of the residual stream and on the weights. -/
module

public import proofs.«01_k».proof.Proof.Gen.FfnRefIdeal.Run
public import proofs.«01_k».proof.Proof.Rows

@[expose] public section

noncomputable section

namespace Cert.Proof.FfnRef

open Cert.FfnRefIdeal Cert.FfnRefIdeal.Gen Cert.FfnRefIdeal.Value Idealize.ShloMosaic Idealize.ShloMosaic.TcCoe Idealize.ShloMosaic.StableHlo Idealize.SL.Sem

/-! ## The layer norm -/

/-- The mean of every token's row. -/
def hmean (z : FVec Ideal S4x8192x1024 .f32) : FVec Ideal S4x8192x1 .f32 :=
  Host.divf (broadcastInDim S4x8192x1 ![0, 1] bcast_S4x8192_S4x8192x1_0_1 (Host.reduceAdd z (constant S_ .f32 0x00000000#32) reducesTo_S4x8192x1024_S4x8192_d2 h_S_))
    (broadcastInDim S4x8192x1 ![] bcast_S_S4x8192x1 (constant S_ .f32 0x44800000#32))

/-- Every row less its mean. -/
def hcent (z : FVec Ideal S4x8192x1024 .f32) : FVec Ideal S4x8192x1024 .f32 :=
  subf z (broadcastInDim S4x8192x1024 ![0, 1, 2] bcast_S4x8192x1_S4x8192x1024_0_1_2 (hmean z))

/-- A centred row over its standard deviation. -/
def hunit (d : FVec Ideal S4x8192x1024 .f32) (v : FVec Ideal S4x8192x1 .f32) : FVec Ideal S4x8192x1024 .f32 :=
  mulf d (broadcastInDim S4x8192x1024 ![0, 1, 2] bcast_S4x8192x1_S4x8192x1024_0_1_2 (Host.rsqrt (addf v (broadcastInDim S4x8192x1 ![] bcast_S_S4x8192x1 (constant S_ .f32 0x3727C5AC#32)))))

/-- Scaled and shifted. -/
def haff (u : FVec Ideal S4x8192x1024 .f32) (g b : FVec Ideal S1024 .f32) : FVec Ideal S4x8192x1024 .f32 :=
  addf (mulf u (broadcastInDim S4x8192x1024 ![0, 1, 2] bcast_S1x1x1024_S4x8192x1024_0_1_2 (broadcastInDim S1x1x1024 ![2] bcast_S1024_S1x1x1024_2 g)))
    (broadcastInDim S4x8192x1024 ![0, 1, 2] bcast_S1x1x1024_S4x8192x1024_0_1_2 (broadcastInDim S1x1x1024 ![2] bcast_S1024_S1x1x1024_2 b))

def hnorm (z : FVec Ideal S4x8192x1024 .f32) (g b : FVec Ideal S1024 .f32) : FVec Ideal S4x8192x1024 .f32 :=
  haff (hunit (hcent z) (hmean (mulf (hcent z) (hcent z)))) g b

theorem hmean_at (z : FVec Ideal S4x8192x1024 .f32) (b : Fin 4) (t : Fin 8192) : hmean z (ix3 b t (0 : Fin 1)) = Rows.mean fun j => z (ix3 b t j) := by
  pointwise [hmean]
  rfl

theorem hcent_at (z : FVec Ideal S4x8192x1024 .f32) (b : Fin 4) (t : Fin 8192) (j : Fin 1024) :
    hcent z (ix3 b t j) = z (ix3 b t j) - Rows.mean fun j => z (ix3 b t j) := by
  unfold hcent
  have h := hmean_at z b t
  generalize hmean z = w at h ⊢
  pointwise
  rw [h]

theorem hunit_at (d : FVec Ideal S4x8192x1024 .f32) (v : FVec Ideal S4x8192x1 .f32) (b : Fin 4) (t : Fin 8192) (j : Fin 1024) :
    hunit d v (ix3 b t j) = d (ix3 b t j) * Ideal.rsqrt (v (ix3 b t (0 : Fin 1)) + Ideal.ofBits FTy.f32 0x3727C5AC#32) := by
  pointwise [hunit]

theorem haff_at (u : FVec Ideal S4x8192x1024 .f32) (g h : FVec Ideal S1024 .f32) (b : Fin 4) (t : Fin 8192) (j : Fin 1024) :
    haff u g h (ix3 b t j) = u (ix3 b t j) * g (ix1 j) + h (ix1 j) := by
  pointwise [haff]

theorem sq_at (z : FVec Ideal S4x8192x1024 .f32) (b : Fin 4) (t : Fin 8192) (j : Fin 1024) : mulf z z (ix3 b t j) = z (ix3 b t j) * z (ix3 b t j) := rfl

theorem hnorm_at (z : FVec Ideal S4x8192x1024 .f32) (g h : FVec Ideal S1024 .f32) (b : Fin 4) (t : Fin 8192) (j : Fin 1024) :
    hnorm z g h (ix3 b t j) = Rows.norm (fun j => z (ix3 b t j)) (fun j => g (ix1 j)) (fun j => h (ix1 j)) j := by
  unfold hnorm
  rw [haff_at, hunit_at, hmean_at]
  simp only [sq_at, hcent_at]
  rfl

/-! ## The feed-forward sublayer -/

/-- The product with both halves of the first weights. -/
def hprod (x : FVec Ideal S4x8192x1024 .f32) (w : FVec Ideal S1024x5632 .f32) : FVec Ideal S4x8192x5632 .f32 :=
  Host.dotGeneral dot_S4x8192x1024_S1024x5632_S4x8192x5632_2_0_01_1_n_n none x w

def hgate (y : FVec Ideal S4x8192x5632 .f32) : FVec Ideal S4x8192x2816 .f32 :=
  extractStridedSlice S4x8192x2816 ![0, 0, 0] y slices_S4x8192x5632_S4x8192x2816_0_0_0

/-- The first half, gated, times the second. -/
def hgated (a : FVec Ideal S4x8192x2816 .f32) (y : FVec Ideal S4x8192x5632 .f32) : FVec Ideal S4x8192x2816 .f32 :=
  mulf (mulf a (Host.divf (broadcastInDim S4x8192x2816 ![] bcast_S_S4x8192x2816 (constant S_ .f32 0x3F800000#32))
      (addf (broadcastInDim S4x8192x2816 ![] bcast_S_S4x8192x2816 (constant S_ .f32 0x3F800000#32)) (Host.exp (Host.negf a)))))
    (extractStridedSlice S4x8192x2816 ![0, 0, 2816] y slices_S4x8192x5632_S4x8192x2816_0_0_2816)

/-- The residual's multiple plus half of the second product. -/
def hsum (x : FVec Ideal S4x8192x1024 .f32) (h : FVec Ideal S4x8192x2816 .f32) (w2 : FVec Ideal S2816x1024 .f32) : FVec Ideal S4x8192x1024 .f32 :=
  addf (mulf (broadcastInDim S4x8192x1024 ![] bcast_S_S4x8192x1024 (constant S_ .f32 0x3F9837F0#32)) x)
    (mulf (broadcastInDim S4x8192x1024 ![] bcast_S_S4x8192x1024 (constant S_ .f32 0x3F000000#32)) (Host.dotGeneral dot_S4x8192x2816_S2816x1024_S4x8192x1024_2_0_01_1_n_n none h w2))

def hffn (x : FVec Ideal S4x8192x1024 .f32) (w : FVec Ideal S1024x5632 .f32) (w2 : FVec Ideal S2816x1024 .f32) : FVec Ideal S4x8192x1024 .f32 :=
  hsum x (hgated (hgate (hprod x w)) (hprod x w)) w2

theorem hprod_at (x : FVec Ideal S4x8192x1024 .f32) (w : FVec Ideal S1024x5632 .f32) (b : Fin 4) (t : Fin 8192) (k : Fin 5632) :
    hprod x w (ix3 b t k) = ∑ i : Fin 1024, x (ix3 b t i) * w (ix2 i k) := by
  pointwise [hprod]

theorem hgate_at (y : FVec Ideal S4x8192x5632 .f32) (b : Fin 4) (t : Fin 8192) (k : Fin 2816) :
    hgate y (ix3 b t k) = y (ix3 b t (⟨k.val, by omega⟩ : Fin 5632)) := by
  pointwise [hgate]

theorem hgated_at (a : FVec Ideal S4x8192x2816 .f32) (y : FVec Ideal S4x8192x5632 .f32) (b : Fin 4) (t : Fin 8192) (k : Fin 2816) :
    hgated a y (ix3 b t k) = a (ix3 b t k) * Rows.sigm (a (ix3 b t k)) * y (ix3 b t (⟨2816 + k.val, by omega⟩ : Fin 5632)) := by
  pointwise [hgated]
  rfl

theorem hsum_at (x : FVec Ideal S4x8192x1024 .f32) (h : FVec Ideal S4x8192x2816 .f32) (w2 : FVec Ideal S2816x1024 .f32) (b : Fin 4) (t : Fin 8192) (j : Fin 1024) :
    hsum x h w2 (ix3 b t j) = Ideal.ofBits FTy.f32 0x3F9837F0#32 * x (ix3 b t j) + Ideal.ofBits FTy.f32 0x3F000000#32 * ∑ k : Fin 2816, h (ix3 b t k) * w2 (ix2 k j) := by
  pointwise [hsum]

theorem hffn_at (x : FVec Ideal S4x8192x1024 .f32) (w : FVec Ideal S1024x5632 .f32) (w2 : FVec Ideal S2816x1024 .f32) (b : Fin 4) (t : Fin 8192) (j : Fin 1024) :
    hffn x w w2 (ix3 b t j) = Rows.ffnSum (fun i => x (ix3 b t i)) (fun i k => w (ix2 i (⟨k.val, by omega⟩ : Fin 5632))) (fun i k => w (ix2 i (⟨2816 + k.val, by omega⟩ : Fin 5632)))
      (fun k j => w2 (ix2 k j)) j := by
  unfold hffn
  rw [hsum_at]
  simp only [hgated_at, hgate_at, hprod_at]
  rfl

/-! ## The result -/

/-- The weights of sublayer 0, and its scale or shift. -/
def hw (w : FVec Ideal S1x2x1024x5632 .f32) : FVec Ideal S1024x5632 .f32 :=
  shapeCast S1024x5632 (extractStridedSlice S1x1x1024x5632 ![0, 0, 0, 0] w slices_S1x2x1024x5632_S1x1x1024x5632_0_0_0_0) shapeCasts_S1x1x1024x5632_S1024x5632

def hw2 (w : FVec Ideal S1x2x2816x1024 .f32) : FVec Ideal S2816x1024 .f32 :=
  shapeCast S2816x1024 (extractStridedSlice S1x1x2816x1024 ![0, 0, 0, 0] w slices_S1x2x2816x1024_S1x1x2816x1024_0_0_0_0) shapeCasts_S1x1x2816x1024_S2816x1024

def hg (g : FVec Ideal S1x4x1024 .f32) : FVec Ideal S1024 .f32 :=
  shapeCast S1024 (extractStridedSlice S1x1x1024 ![0, 0, 0] g slices_S1x4x1024_S1x1x1024_0_0_0) shapeCasts_S1x1x1024_S1024

theorem hw_at (w : FVec Ideal S1x2x1024x5632 .f32) (i : Fin 1024) (k : Fin 5632) : hw w (ix2 i k) = w (ix4 (0 : Fin 1) (0 : Fin 2) i k) := by
  pointwise [hw]

theorem hw2_at (w : FVec Ideal S1x2x2816x1024 .f32) (k : Fin 2816) (j : Fin 1024) : hw2 w (ix2 k j) = w (ix4 (0 : Fin 1) (0 : Fin 2) k j) := by
  pointwise [hw2]

theorem hg_at (g : FVec Ideal S1x4x1024 .f32) (j : Fin 1024) : hg g (ix1 j) = g (ix3 (0 : Fin 1) (0 : Fin 4) j) := by
  pointwise [hg]

/-- The reference's result, of the arguments. -/
def res (x : FVec Ideal S4x8192x1024 .f32) (w13 : FVec Ideal S1x2x1024x5632 .f32) (w2 : FVec Ideal S1x2x2816x1024 .f32) (g b : FVec Ideal S1x4x1024 .f32) : FVec Ideal S32768x1024 .f32 :=
  shapeCast S32768x1024 (hnorm (hffn x (hw w13) (hw2 w2)) (hg g) (hg b)) shapeCasts_S4x8192x1024_S32768x1024

/-- A row of the result: token `R mod 8192` of sequence `R / 8192`. -/
def row (x : FVec Ideal S4x8192x1024 .f32) (w13 : FVec Ideal S1x2x1024x5632 .f32) (w2 : FVec Ideal S1x2x2816x1024 .f32) (g b : FVec Ideal S1x4x1024 .f32) (R : Fin 32768) : Fin 1024 → EReal :=
  Rows.norm (Rows.ffnSum (fun i => x (ix3 (⟨R.val / 8192, by omega⟩ : Fin 4) (⟨R.val % 8192, by omega⟩ : Fin 8192) i)) (fun i k => w13 (ix4 (0 : Fin 1) (0 : Fin 2) i (⟨k.val, by omega⟩ : Fin 5632)))
      (fun i k => w13 (ix4 (0 : Fin 1) (0 : Fin 2) i (⟨2816 + k.val, by omega⟩ : Fin 5632))) (fun k j => w2 (ix4 (0 : Fin 1) (0 : Fin 2) k j)))
    (fun j => g (ix3 (0 : Fin 1) (0 : Fin 4) j)) (fun j => b (ix3 (0 : Fin 1) (0 : Fin 4) j))

theorem res_at (x : FVec Ideal S4x8192x1024 .f32) (w13 : FVec Ideal S1x2x1024x5632 .f32) (w2 : FVec Ideal S1x2x2816x1024 .f32) (g b : FVec Ideal S1x4x1024 .f32) (R : Fin 32768) (j : Fin 1024) :
    res x w13 w2 g b (ix2 R j) = row x w13 w2 g b R j := by
  unfold res
  have h := hnorm_at (hffn x (hw w13) (hw2 w2)) (hg g) (hg b) (⟨R.val / 8192, by omega⟩ : Fin 4) (⟨R.val % 8192, by omega⟩ : Fin 8192) j
  simp only [hffn_at, hg_at, hw_at, hw2_at] at h
  generalize hnorm (hffn x (hw w13) (hw2 w2)) (hg g) (hg b) = z at h ⊢
  pointwise
  exact h

variable (m : (ℓ : Loc nD τ sig) → Buf (Elt Ideal) ℓ)

theorem res_eq (c : Dev nD) : res_main_v43 (F := Ideal) m c
    = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold res_main_v43
  rfl

end Cert.Proof.FfnRef

end
-- ==== Proof.FfnFinal.lean ====
/- Hand-written, untrusted: THE FEED-FORWARD CALL'S RESULT AFTER THE RUN (`final`): the reference's result on the arguments' launch
   contents. The arrays the call finds are the arguments reshaped, converted and sliced; a grid point's block is 512 rows. -/
module

public import proofs.«01_k».proof.Proof.FfnBlock
public import proofs.«01_k».proof.Proof.FfnRef

@[expose] public section

noncomputable section

namespace Cert.Proof.FfnFinal

open Cert.FfnIdeal Cert.FfnIdeal.Gen Cert.FfnIdeal.Value Idealize.ShloMosaic Idealize.ShloMosaic.TcCoe Idealize.SL.Sem Idealize.ShloMosaic.StableHlo

variable (m : (ℓ : Loc nD τ sig) → Buf (Elt Ideal) ℓ) (c : Dev nD)

/-! ## The arrays the call finds -/

def xs (x : FVec Ideal S4x8192x1024 .f32) : FVec Ideal S32768x1024 .f32 := shapeCast S32768x1024 x shapeCasts_S4x8192x1024_S32768x1024

def gs (g : FVec Ideal S1x4x1024 .f32) : FVec Ideal S1x1024 .f32 :=
  shapeCast S1x1024 (shapeCast S1024 (extractStridedSlice S1x1x1024 ![0, 0, 0] g slices_S1x4x1024_S1x1x1024_0_0_0) shapeCasts_S1x1x1024_S1024) shapeCasts_S1024_S1x1024

theorem V0 : V m c main_v2 = xs (m ((c : Thread nD τ).loc main_arg0)) := by
  simp only [V, hostOps0, List.flatten_cons, List.flatten_nil, List.append_nil, List.cons_append, List.nil_append, TRef.unary, TRef.binary, TRef.ternary, TRef.toBuf, TRef.ofBuf, cast_eq]
  after_results_simp
  rfl

theorem V1 : V m c main_v0 = (m ((c : Thread nD τ).loc main_arg1) : FVec Ideal S1x2x1024x5632 .f32) := by
  simp only [V, hostOps0, List.flatten_cons, List.flatten_nil, List.append_nil, List.cons_append, List.nil_append, TRef.unary, TRef.binary, TRef.ternary, TRef.toBuf, TRef.ofBuf, cast_eq]
  after_results_simp
  rfl

theorem V2 : V m c main_v1 = (m ((c : Thread nD τ).loc main_arg2) : FVec Ideal S1x2x2816x1024 .f32) := by
  simp only [V, hostOps0, List.flatten_cons, List.flatten_nil, List.append_nil, List.cons_append, List.nil_append, TRef.unary, TRef.binary, TRef.ternary, TRef.toBuf, TRef.ofBuf, cast_eq]
  after_results_simp
  rfl

theorem V3 : V m c main_v7 = gs (m ((c : Thread nD τ).loc main_arg3)) := by
  simp only [V, hostOps0, List.flatten_cons, List.flatten_nil, List.append_nil, List.cons_append, List.nil_append, TRef.unary, TRef.binary, TRef.ternary, TRef.toBuf, TRef.ofBuf, cast_eq]
  after_results_simp
  rfl

theorem V4 : V m c main_v8 = gs (m ((c : Thread nD τ).loc main_arg4)) := by
  simp only [V, hostOps0, List.flatten_cons, List.flatten_nil, List.append_nil, List.cons_append, List.nil_append, TRef.unary, TRef.binary, TRef.ternary, TRef.toBuf, TRef.ofBuf, cast_eq]
  after_results_simp
  rfl

theorem xs_at (x : FVec Ideal S4x8192x1024 .f32) (R : Fin 32768) (j : Fin 1024) :
    xs x (ix2 R j) = x (ix3 (⟨R.val / 8192, by omega⟩ : Fin 4) (⟨R.val % 8192, by omega⟩ : Fin 8192) j) := by
  pointwise [xs]

theorem gs_at (g : FVec Ideal S1x4x1024 .f32) (j : Fin 1024) : gs g (ix2 (0 : Fin 1) j) = g (ix3 (0 : Fin 1) (0 : Fin 4) j) := by
  pointwise [gs]

/-! ## The windows' blocks -/

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 4) = 0 ∧ win0_1.index t (1 : Fin 4) = 0 ∧ win0_1.index t (2 : Fin 4) = 0 ∧ win0_1.index t (3 : Fin 4) = 0 := (by decide +kernel : ∀ t : Fin grid0.N, _)
theorem idx2 : ∀ t : Fin cfg0.N, win0_2.index t (0 : Fin 4) = 0 ∧ win0_2.index t (1 : Fin 4) = 0 ∧ win0_2.index t (2 : Fin 4) = 0 ∧ win0_2.index t (3 : Fin 4) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)

theorem lt_N (t : Fin cfg0.N) : t.val < 64 := t.isLt

/-- The array's row of a block's row. -/
def at_ (t : Fin cfg0.N) (r : Fin 512) : Fin 32768 := ⟨t.val * 512 + r.val, by have := lt_N t; omega⟩

theorem blk0 (t : Fin cfg0.N) (r : Fin 512) (j : Fin 1024) :
    (iblk m c 0 t : Vec Ideal S512x1024 .f32) (ix2 r j) = xs (m ((c : Thread nD τ).loc main_arg0)) (ix2 (at_ t r) j) := by
  show V m c main_v2 (((cfg0.win 0).blk t).view.emb (ix2 r j)) = _
  rw [V0]
  obtain ⟨e0, e1⟩ := idx0 t
  refine congrArg _ ?_
  funext a; apply Fin.ext
  match a with
  | ⟨0, _⟩ => show win0_0.index t (0 : Fin 2) * 512 + 1 * r.val = t.val * 512 + r.val; omega
  | ⟨1, _⟩ => show win0_0.index t (1 : Fin 2) * 1024 + 1 * j.val = j.val; omega

theorem blk1 (t : Fin cfg0.N) (i : Fin 1024) (k : Fin 5632) :
    (iblk m c 1 t : Vec Ideal S1x1x1024x5632 .bf16) (ix4 (0 : Fin 1) (0 : Fin 1) i k) = (m ((c : Thread nD τ).loc main_arg1) : FVec Ideal S1x2x1024x5632 .f32) (ix4 (0 : Fin 1) (0 : Fin 2) i k) := by
  show V m c main_v0 (((cfg0.win 1).blk t).view.emb (ix4 (0 : Fin 1) (0 : Fin 1) i k)) = _
  rw [V1]
  obtain ⟨e0, e1, e2, e3⟩ := idx1 t
  refine congrArg (m ((c : Thread nD τ).loc main_arg1) : FVec Ideal S1x2x1024x5632 .f32) ?_
  funext a; apply Fin.ext
  match a with
  | ⟨0, _⟩ => show win0_1.index t (0 : Fin 4) * 1 + 1 * 0 = 0; omega
  | ⟨1, _⟩ => show win0_1.index t (1 : Fin 4) * 1 + 1 * 0 = 0; omega
  | ⟨2, _⟩ => show win0_1.index t (2 : Fin 4) * 1024 + 1 * i.val = i.val; omega
  | ⟨3, _⟩ => show win0_1.index t (3 : Fin 4) * 5632 + 1 * k.val = k.val; omega

theorem blk2 (t : Fin cfg0.N) (k : Fin 2816) (j : Fin 1024) :
    (iblk m c 2 t : Vec Ideal S1x1x2816x1024 .bf16) (ix4 (0 : Fin 1) (0 : Fin 1) k j) = (m ((c : Thread nD τ).loc main_arg2) : FVec Ideal S1x2x2816x1024 .f32) (ix4 (0 : Fin 1) (0 : Fin 2) k j) := by
  show V m c main_v1 (((cfg0.win 2).blk t).view.emb (ix4 (0 : Fin 1) (0 : Fin 1) k j)) = _
  rw [V2]
  obtain ⟨e0, e1, e2, e3⟩ := idx2 t
  refine congrArg (m ((c : Thread nD τ).loc main_arg2) : FVec Ideal S1x2x2816x1024 .f32) ?_
  funext a; apply Fin.ext
  match a with
  | ⟨0, _⟩ => show win0_2.index t (0 : Fin 4) * 1 + 1 * 0 = 0; omega
  | ⟨1, _⟩ => show win0_2.index t (1 : Fin 4) * 1 + 1 * 0 = 0; omega
  | ⟨2, _⟩ => show win0_2.index t (2 : Fin 4) * 2816 + 1 * k.val = k.val; omega
  | ⟨3, _⟩ => show win0_2.index t (3 : Fin 4) * 1024 + 1 * j.val = j.val; omega

theorem blk3 (t : Fin cfg0.N) (j : Fin 1024) :
    (iblk m c 3 t : Vec Ideal S1x1024 .f32) (ix2 (0 : Fin 1) j) = gs (m ((c : Thread nD τ).loc main_arg3)) (ix2 (0 : Fin 1) j) := by
  show V m c main_v7 (((cfg0.win 3).blk t).view.emb (ix2 (0 : Fin 1) j)) = _
  rw [V3]
  obtain ⟨e0, e1⟩ := idx3 t
  refine congrArg _ ?_
  funext a; apply Fin.ext
  match a with
  | ⟨0, _⟩ => show win0_3.index t (0 : Fin 2) * 1 + 1 * 0 = 0; omega
  | ⟨1, _⟩ => show win0_3.index t (1 : Fin 2) * 1024 + 1 * j.val = j.val; omega

theorem blk4 (t : Fin cfg0.N) (j : Fin 1024) :
    (iblk m c 4 t : Vec Ideal S1x1024 .f32) (ix2 (0 : Fin 1) j) = gs (m ((c : Thread nD τ).loc main_arg4)) (ix2 (0 : Fin 1) j) := by
  show V m c main_v8 (((cfg0.win 4).blk t).view.emb (ix2 (0 : Fin 1) j)) = _
  rw [V4]
  obtain ⟨e0, e1⟩ := idx4 t
  refine congrArg _ ?_
  funext a; apply Fin.ext
  match a with
  | ⟨0, _⟩ => show win0_4.index t (0 : Fin 2) * 1 + 1 * 0 = 0; omega
  | ⟨1, _⟩ => show win0_4.index t (1 : Fin 2) * 1024 + 1 * j.val = j.val; omega

theorem emb5 (t : Fin cfg0.N) (r : Fin 512) (j : Fin 1024) : ((cfg0.win 5).blk t).view.emb (ix2 r j : S512x1024.Idx) = (ix2 (at_ t r) j : S32768x1024.Idx) := by
  obtain ⟨e0, e1⟩ := idx5 t
  funext a; apply Fin.ext
  match a with
  | ⟨0, _⟩ => show win0_5.index t (0 : Fin 2) * 512 + 1 * r.val = t.val * 512 + r.val; omega
  | ⟨1, _⟩ => show win0_5.index t (1 : Fin 2) * 1024 + 1 * j.val = j.val; omega

/-! ## What a point writes back -/

variable (x : FVec Ideal S4x8192x1024 .f32) (w13 : FVec Ideal S1x2x1024x5632 .f32) (w2 : FVec Ideal S1x2x2816x1024 .f32) (g b : FVec Ideal S1x4x1024 .f32)

theorem cut_eq (t : Fin cfg0.N) (X : Vec Ideal S512x1024 .f32) (G : FVec Ideal S32768x1024 .f32) (h : ∀ (r : Fin 512) (j : Fin 1024), X (ix2 r j) = G (ix2 (at_ t r) j)) :
    (cfg0.win 5).cut (grid0.coords t) X = ((cfg0.win 5).blk t).view.read (Elt Ideal) G := by
  funext y
  have hy : (y : S512x1024.Idx) = ix2 (⟨(y 0).val, (y 0).isLt⟩ : Fin 512) (⟨(y 1).val, (y 1).isLt⟩ : Fin 1024) := by
    funext a
    match a with
    | ⟨0, _⟩ => rfl
    | ⟨1, _⟩ => rfl
  show X y = G (((cfg0.win 5).blk t).view.emb y)
  rw [hy, emb5]
  exact h _ _

theorem flush (hx : m ((c : Thread nD τ).loc main_arg0) = x) (h1 : m ((c : Thread nD τ).loc main_arg1) = w13) (h2 : m ((c : Thread nD τ).loc main_arg2) = w2)
    (h3 : m ((c : Thread nD τ).loc main_arg3) = g) (h4 : m ((c : Thread nD τ).loc main_arg4) = b) (t : Fin cfg0.N) :
    (dats m 0 c).flushed 5 t = ((cfg0.win 5).blk t).view.read (Elt Ideal) (FfnRef.res x w13 w2 g b) := by
  rw [flushed5]
  refine cut_eq t _ _ fun r j => ?_
  refine (FfnBlock.out_at _ _ _ _ _ r j).trans ?_
  simp only [blk0, blk1, blk2, blk3, blk4, hx, h1, h2, h3, h4, xs_at, gs_at]
  exact (FfnRef.res_at x w13 w2 g b (at_ t r) j).symm

/-- Every index of the result is in the block of its grid point. -/
theorem covered (i : S32768x1024.Idx) : ∃ t : Fin cfg0.N, (cfg0.win 5).flush t = true ∧ i ∈ ((cfg0.win 5).blk t).view.set := by
  have h0 : (i 0).val < 32768 := (i 0).isLt
  have h1 : (i 1).val < 1024 := (i 1).isLt
  obtain ⟨n, hn⟩ : ∃ n : ℕ, n = (i 0).val / 512 := ⟨_, rfl⟩
  have hnl : n < cfg0.N := by show n < 64; omega
  refine ⟨⟨n, hnl⟩, flush0_5 _, ?_⟩
  have e : ((cfg0.win 5).blk (⟨n, hnl⟩ : Fin cfg0.N)).view.emb (ix2 (⟨(i 0).val % 512, by omega⟩ : Fin 512) (⟨(i 1).val, h1⟩ : Fin 1024) : S512x1024.Idx) = i := by
    refine (emb5 ⟨n, hnl⟩ _ _).trans ?_
    funext a; apply Fin.ext
    match a with
    | ⟨0, _⟩ => show n * 512 + (i 0).val % 512 = (i 0).val; omega
    | ⟨1, _⟩ => rfl
  have h := ((cfg0.win 5).blk (⟨n, hnl⟩ : Fin cfg0.N)).view.emb_mem_set (ix2 (⟨(i 0).val % 512, by omega⟩ : Fin 512) (⟨(i 1).val, h1⟩ : Fin 1024) : S512x1024.Idx)
  rw [e] at h
  exact h

/-- The result's array after the run. -/
theorem final (hx : m ((c : Thread nD τ).loc main_arg0) = x) (h1 : m ((c : Thread nD τ).loc main_arg1) = w13) (h2 : m ((c : Thread nD τ).loc main_arg2) = w2)
    (h3 : m ((c : Thread nD τ).loc main_arg3) = g) (h4 : m ((c : Thread nD τ).loc main_arg4) = b) : (dats m 0 c).arrAt 5 cfg0.N = FfnRef.res x w13 w2 g b :=
  (dats m 0 c).arrAt_eq_of_cover 5 (FfnRef.res x w13 w2 g b) (fun t _ => flush m c x w13 w2 g b hx h1 h2 h3 h4 t) covered

end Cert.Proof.FfnFinal

end
-- ==== Proof.TailBlock.lean ====
/- Hand-written, untrusted: A BLOCK OF THE CALL THAT IS THE LAYER'S SECOND HALF, entry by entry (`out_at`): the row function of
   Rows.lean on the block's rows and on the weights. -/
module

public import proofs.«01_k».proof.Proof.Gen.TailIdeal.Value
public import proofs.«01_k».proof.Proof.Rows
public import Idealize.ShloMosaic.Lib.Pipeline.ValueKit

@[expose] public section

noncomputable section

namespace Cert.Proof.TailBlock

open Cert.TailIdeal Cert.TailIdeal.Gen Idealize.ShloMosaic Idealize.SL.Sem

/-! ## The layer norm -/

/-- The rows' sums, as a column. -/
def rowSum (z : FVec Ideal S512x1024 .f32) : FVec Ideal S512x1 .f32 :=
  shapeCast S512x1 (multiReduction .add [1] S512 z 0x00000000#32 reduces_S512x1024_S512 (.inl rfl) rfl) shapeCasts_S512_S512x1

/-- The rows less their means, over their standard deviations. `s` is the rows' sums. -/
def unit (z : FVec Ideal S512x1024 .f32) (s : FVec Ideal S512x1 .f32) : FVec Ideal S512x1024 .f32 :=
  have d : FVec Ideal S512x1024 .f32 := subf z (broadcastTo S512x1024 (divf s (broadcast S512x1 (Scalar.ofBits .f32 0x44800000#32))) broadcasts_S512x1_S512x1024)
  mulf d (broadcastTo S512x1024 (rsqrt (addf (divf (shapeCast S512x1 (multiReduction .add [1] S512 (mulf d d) 0x00000000#32 reduces_S512x1024_S512 (.inl rfl) rfl) shapeCasts_S512_S512x1)
    (broadcast S512x1 (Scalar.ofBits .f32 0x44800000#32))) (broadcast S512x1 (Scalar.ofBits .f32 0x3727C5AC#32)))) broadcasts_S512x1_S512x1024)

def aff (u : FVec Ideal S512x1024 .f32) (g b : FVec Ideal S1x1024 .f32) : FVec Ideal S512x1024 .f32 :=
  addf (mulf u (broadcastTo S512x1024 g broadcasts_S1x1024_S512x1024)) (broadcastTo S512x1024 b broadcasts_S1x1024_S512x1024)

theorem rowSum_at (z : FVec Ideal S512x1024 .f32) (r : Fin 512) : rowSum z (ix2 r (0 : Fin 1)) = ∑ j : Fin 1024, z (ix2 r j) := by
  pointwise [rowSum]

theorem unit_at (z : FVec Ideal S512x1024 .f32) (s : FVec Ideal S512x1 .f32) (hs : ∀ r : Fin 512, s (ix2 r (0 : Fin 1)) = ∑ j : Fin 1024, z (ix2 r j)) (r : Fin 512) (j : Fin 1024) :
    unit z s (ix2 r j) = Rows.unit (fun i => z (ix2 r i)) j := by
  pointwise [unit]
  rw [hs]
  rfl

theorem aff_at (u : FVec Ideal S512x1024 .f32) (g b : FVec Ideal S1x1024 .f32) (r : Fin 512) (j : Fin 1024) :
    aff u g b (ix2 r j) = u (ix2 r j) * g (ix2 (0 : Fin 1) j) + b (ix2 (0 : Fin 1) j) := by
  pointwise [aff]

/-- The layer norm of a block of rows. -/
def normed (z : FVec Ideal S512x1024 .f32) (g b : FVec Ideal S1x1024 .f32) : FVec Ideal S512x1024 .f32 := aff (unit z (rowSum z)) g b

theorem normed_at (z : FVec Ideal S512x1024 .f32) (g b : FVec Ideal S1x1024 .f32) (r : Fin 512) (j : Fin 1024) :
    normed z g b (ix2 r j) = Rows.norm (fun i => z (ix2 r i)) (fun i => g (ix2 (0 : Fin 1) i)) (fun i => b (ix2 (0 : Fin 1) i)) j := by
  unfold normed
  rw [aff_at, unit_at z _ (rowSum_at z)]
  rfl

/-! ## The mixing -/

def mixed (on : FVec Ideal S512x512 .bf16) (wn : FVec Ideal S512x1024 .bf16) (or : FVec Ideal S512x512 .bf16) (wr : FVec Ideal S512x1024 .bf16) (x : FVec Ideal S512x1024 .f32) : FVec Ideal S512x1024 .f32 :=
  addf (mulf (broadcast S512x1024 (Scalar.ofBits .f32 0x3F9837F0#32)) (shapeCast S512x1024 x shapeCasts_S512x1024_S512x1024))
    (addf (matmul dot_S512x512_S512x1024_S512x1024_1_0_0_1_n_n none (shapeCast S512x512 on shapeCasts_S512x512_S512x512) (shapeCast S512x1024 wn shapeCasts_S512x1024_S512x1024) (constant S512x1024 .f32 0x00000000#32))
      (matmul dot_S512x512_S512x1024_S512x1024_1_0_0_1_n_n none (shapeCast S512x512 or shapeCasts_S512x512_S512x512) (shapeCast S512x1024 wr shapeCasts_S512x1024_S512x1024) (constant S512x1024 .f32 0x00000000#32)))

theorem mixed_at (on : FVec Ideal S512x512 .bf16) (wn : FVec Ideal S512x1024 .bf16) (or : FVec Ideal S512x512 .bf16) (wr : FVec Ideal S512x1024 .bf16) (x : FVec Ideal S512x1024 .f32) (r : Fin 512) (j : Fin 1024) :
    mixed on wn or wr x (ix2 r j) = Rows.mixSum (fun i => x (ix2 r i)) (fun i => on (ix2 r i)) (fun i => or (ix2 r i)) (fun i j => wn (ix2 i j)) (fun i j => wr (ix2 i j)) j := by
  pointwise [mixed]
  rfl

theorem pay3_eq (on : FVec Ideal S512x512 .bf16) (wn : FVec Ideal S512x1024 .bf16) (or : FVec Ideal S512x512 .bf16) (wr : FVec Ideal S512x1024 .bf16) (x : FVec Ideal S512x1024 .f32) :
    k0_pay3 (F := Ideal) on wn or wr x = unit (mixed on wn or wr x) (rowSum (mixed on wn or wr x)) := rfl

/-! ## The feed-forward sublayer -/

/-- The first product, the second, and the gated one. -/
def prod (x : FVec Ideal S512x1024 .f32) (w : FVec Ideal S1x1x1024x2816 .bf16) : FVec Ideal S512x2816 .f32 :=
  matmul dot_S512x1024_S1024x2816_S512x2816_1_0_0_1_n_n none (truncf .bf16 x bitsLt_bf16_f32) (shapeCast S1024x2816 w shapeCasts_S1x1x1024x2816_S1024x2816)
    (constant S512x2816 .f32 0x00000000#32)

def gated (a u : FVec Ideal S512x2816 .f32) : FVec Ideal S512x2816 .bf16 :=
  truncf .bf16 (mulf (mulf a (divf (broadcast S512x2816 (Scalar.ofBits .f32 0x3F800000#32)) (addf (broadcast S512x2816 (Scalar.ofBits .f32 0x3F800000#32))
    (exp (subf (broadcast S512x2816 (Scalar.ofBits .f32 0x00000000#32)) a))))) u) bitsLt_bf16_f32

def summed (x : FVec Ideal S512x1024 .f32) (h : FVec Ideal S512x2816 .bf16) (w2 : FVec Ideal S1x1x2816x1024 .bf16) : FVec Ideal S512x1024 .f32 :=
  addf (mulf (broadcast S512x1024 (Scalar.ofBits .f32 0x3F9837F0#32)) x)
    (mulf (broadcast S512x1024 (Scalar.ofBits .f32 0x3F000000#32)) (matmul dot_S512x2816_S2816x1024_S512x1024_1_0_0_1_n_n none h (shapeCast S2816x1024 w2 shapeCasts_S1x1x2816x1024_S2816x1024)
      (constant S512x1024 .f32 0x00000000#32)))

theorem prod_at (x : FVec Ideal S512x1024 .f32) (w : FVec Ideal S1x1x1024x2816 .bf16) (r : Fin 512) (k : Fin 2816) :
    prod x w (ix2 r k) = ∑ i : Fin 1024, x (ix2 r i) * w (ix4 (0 : Fin 1) (0 : Fin 1) i k) := by
  pointwise [prod]

theorem gated_at (a u : FVec Ideal S512x2816 .f32) (r : Fin 512) (k : Fin 2816) :
    gated a u (ix2 r k) = a (ix2 r k) * Rows.sigm (a (ix2 r k)) * u (ix2 r k) := by
  pointwise [gated]
  rw [Rows.sigm_sub]

theorem summed_at (x : FVec Ideal S512x1024 .f32) (h : FVec Ideal S512x2816 .bf16) (w2 : FVec Ideal S1x1x2816x1024 .bf16) (r : Fin 512) (j : Fin 1024) :
    summed x h w2 (ix2 r j) = Ideal.ofBits FTy.f32 0x3F9837F0#32 * x (ix2 r j)
      + Ideal.ofBits FTy.f32 0x3F000000#32 * ∑ k : Fin 2816, h (ix2 r k) * w2 (ix4 (0 : Fin 1) (0 : Fin 1) k j) := by
  pointwise [summed]

/-- The residual's multiple plus half of the sublayer. -/
def fed (x : FVec Ideal S512x1024 .f32) (w1 w3 : FVec Ideal S1x1x1024x2816 .bf16) (w2 : FVec Ideal S1x1x2816x1024 .bf16) : FVec Ideal S512x1024 .f32 :=
  summed x (gated (prod x w1) (prod x w3)) w2

theorem fed_at (x : FVec Ideal S512x1024 .f32) (w1 w3 : FVec Ideal S1x1x1024x2816 .bf16) (w2 : FVec Ideal S1x1x2816x1024 .bf16) (r : Fin 512) (j : Fin 1024) :
    fed x w1 w3 w2 (ix2 r j) = Rows.ffnSum (fun i => x (ix2 r i)) (fun i k => w1 (ix4 (0 : Fin 1) (0 : Fin 1) i k)) (fun i k => w3 (ix4 (0 : Fin 1) (0 : Fin 1) i k))
      (fun k j => w2 (ix4 (0 : Fin 1) (0 : Fin 1) k j)) j := by
  unfold fed
  rw [summed_at]
  simp only [gated_at, prod_at]
  rfl

theorem pay5_eq (b : FVec Ideal S1x1024 .f32) (u : FVec Ideal S512x1024 .f32) (g : FVec Ideal S1x1024 .f32) (w1 w3 : FVec Ideal S1x1x1024x2816 .bf16) (w2 : FVec Ideal S1x1x2816x1024 .bf16) :
    k0_pay5 (F := Ideal) b u (k0_pay4 g) w1 w3 w2 = fed (aff u (shapeCast S1x1024 g shapeCasts_S1x1024_S1x1024) b) w1 w3 w2 := rfl

theorem pay8_eq (b : FVec Ideal S1x1024 .f32) (u v : FVec Ideal S512x1024 .f32) (w1 w3 : FVec Ideal S1x1x1024x2816 .bf16) (w2 : FVec Ideal S1x1x2816x1024 .bf16) :
    k0_pay8 (F := Ideal) b u v w1 w3 w2 = rowSum (k0_pay5 (F := Ideal) b u v w1 w3 w2) := rfl

/-! ## The per-layer embedding -/

def gate (x : FVec Ideal S512x1024 .f32) (w : FVec Ideal S1024x1024 .bf16) : FVec Ideal S512x1024 .f32 :=
  matmul dot_S512x1024_S1024x1024_S512x1024_1_0_0_1_n_n none (truncf .bf16 x bitsLt_bf16_f32) (shapeCast S1024x1024 w shapeCasts_S1024x1024_S1024x1024) (constant S512x1024 .f32 0x00000000#32)

def emb (x y : FVec Ideal S512x1024 .f32) (p : FVec Ideal S512x256 .f32) (wp : FVec Ideal S256x1024 .bf16) : FVec Ideal S512x1024 .f32 :=
  addf (mulf (broadcast S512x1024 (Scalar.ofBits .f32 0x3F9837F0#32)) x)
    (mulf (matmul dot_S512x256_S256x1024_S512x1024_1_0_0_1_n_n none (truncf .bf16 (shapeCast S512x256 p shapeCasts_S512x256_S512x256) bitsLt_bf16_f32) (shapeCast S256x1024 wp shapeCasts_S256x1024_S256x1024) (constant S512x1024 .f32 0x00000000#32))
      (divf (broadcast S512x1024 (Scalar.ofBits .f32 0x3F800000#32)) (addf (broadcast S512x1024 (Scalar.ofBits .f32 0x3F800000#32)) (exp (subf (broadcast S512x1024 (Scalar.ofBits .f32 0x00000000#32)) y)))))

theorem gate_at (x : FVec Ideal S512x1024 .f32) (w : FVec Ideal S1024x1024 .bf16) (r : Fin 512) (j : Fin 1024) :
    gate x w (ix2 r j) = ∑ i : Fin 1024, x (ix2 r i) * w (ix2 i j) := by
  pointwise [gate]

theorem emb_at (x y : FVec Ideal S512x1024 .f32) (p : FVec Ideal S512x256 .f32) (wp : FVec Ideal S256x1024 .bf16) (r : Fin 512) (j : Fin 1024) :
    emb x y p wp (ix2 r j) = Ideal.ofBits FTy.f32 0x3F9837F0#32 * x (ix2 r j) + (∑ i : Fin 256, p (ix2 r i) * wp (ix2 i j)) * Rows.sigm (y (ix2 r j)) := by
  pointwise [emb]
  rw [Rows.sigm_sub]

theorem pay9_eq (z : FVec Ideal S512x1024 .f32) (g b : FVec Ideal S1x1024 .f32) (p : FVec Ideal S512x256 .f32) (wp : FVec Ideal S256x1024 .bf16) (wg : FVec Ideal S1024x1024 .bf16) :
    k0_pay9 (F := Ideal) z g b (rowSum z) (Scalar.ofBits .f32 0x44800000#32) p wp wg = emb (normed z g b) (gate (normed z g b) wg) p wp := rfl

theorem pay1_eq (z : FVec Ideal S512x1024 .f32) (g b : FVec Ideal S1x1024 .f32) :
    k0_pay1 (F := Ideal) z g b = normed z g (shapeCast S1x1024 b shapeCasts_S1x1024_S1x1024) := rfl

/-! ## The loads of a part of a block -/

theorem ld_3 (x : Vec Ideal S1x1x1024x5632 .bf16) (i : Fin 1024) (k : Fin 2816) :
    View.ld (Val := Elt Ideal) x r0_3 (ix4 (0 : Fin 1) (0 : Fin 1) i k : S1x1x1024x2816.Idx) = x (ix4 (0 : Fin 1) (0 : Fin 1) i (⟨k.val, by omega⟩ : Fin 5632)) := by
  refine congrArg x ?_
  funext a; apply Fin.ext
  match a with
  | ⟨0, _⟩ => rfl
  | ⟨1, _⟩ => rfl
  | ⟨2, _⟩ => show 0 + 1 * i.val = i.val; omega
  | ⟨3, _⟩ => show 0 + 1 * k.val = k.val; omega

theorem ld_4 (x : Vec Ideal S1x1x1024x5632 .bf16) (i : Fin 1024) (k : Fin 2816) :
    View.ld (Val := Elt Ideal) x r0_4 (ix4 (0 : Fin 1) (0 : Fin 1) i k : S1x1x1024x2816.Idx) = x (ix4 (0 : Fin 1) (0 : Fin 1) i (⟨2816 + k.val, by omega⟩ : Fin 5632)) := by
  refine congrArg x ?_
  funext a; apply Fin.ext
  match a with
  | ⟨0, _⟩ => rfl
  | ⟨1, _⟩ => rfl
  | ⟨2, _⟩ => show 0 + 1 * i.val = i.val; omega
  | ⟨3, _⟩ => show 2816 + 1 * k.val = 2816 + k.val; omega

theorem ld_2 (x : Vec Ideal S3x1024 .f32) (j : Fin 1024) : View.ld (Val := Elt Ideal) x r0_2 (ix2 (0 : Fin 1) j : S1x1024.Idx) = x (ix2 (0 : Fin 3) j) := by
  refine congrArg x ?_
  funext a; apply Fin.ext
  match a with
  | ⟨0, _⟩ => rfl
  | ⟨1, _⟩ => show 0 + 1 * j.val = j.val; omega

theorem ld_6 (x : Vec Ideal S3x1024 .f32) (j : Fin 1024) : View.ld (Val := Elt Ideal) x r0_6 (ix2 (0 : Fin 1) j : S1x1024.Idx) = x (ix2 (1 : Fin 3) j) := by
  refine congrArg x ?_
  funext a; apply Fin.ext
  match a with
  | ⟨0, _⟩ => rfl
  | ⟨1, _⟩ => show 0 + 1 * j.val = j.val; omega

theorem ld_10 (x : Vec Ideal S3x1024 .f32) (j : Fin 1024) : View.ld (Val := Elt Ideal) x r0_10 (ix2 (0 : Fin 1) j : S1x1024.Idx) = x (ix2 (2 : Fin 3) j) := by
  refine congrArg x ?_
  funext a; apply Fin.ext
  match a with
  | ⟨0, _⟩ => rfl
  | ⟨1, _⟩ => show 0 + 1 * j.val = j.val; omega

/-- The block, of the loads. -/
def blockOf (x : FVec Ideal S512x1024 .f32) (on or : FVec Ideal S512x512 .bf16) (p : FVec Ideal S512x256 .f32) (wn wr : FVec Ideal S512x1024 .bf16) (w1 w3 : FVec Ideal S1x1x1024x2816 .bf16)
    (w2 : FVec Ideal S1x1x2816x1024 .bf16) (wp : FVec Ideal S256x1024 .bf16) (wg : FVec Ideal S1024x1024 .bf16) (g0 b0 g1 b1 g2 b2 : FVec Ideal S1x1024 .f32) : FVec Ideal S512x1024 .f32 :=
  normed (emb (normed (fed (normed (mixed on wn or wr x) g0 b0) w1 w3 w2) g1 b1) (gate (normed (fed (normed (mixed on wn or wr x) g0 b0) w1 w3 w2) g1 b1) wg) p wp) g2 b2

theorem blockOf_at (x : FVec Ideal S512x1024 .f32) (on or : FVec Ideal S512x512 .bf16) (p : FVec Ideal S512x256 .f32) (wn wr : FVec Ideal S512x1024 .bf16) (w1 w3 : FVec Ideal S1x1x1024x2816 .bf16)
    (w2 : FVec Ideal S1x1x2816x1024 .bf16) (wp : FVec Ideal S256x1024 .bf16) (wg : FVec Ideal S1024x1024 .bf16) (g0 b0 g1 b1 g2 b2 : FVec Ideal S1x1024 .f32) (r : Fin 512) (j : Fin 1024) :
    blockOf x on or p wn wr w1 w3 w2 wp wg g0 b0 g1 b1 g2 b2 (ix2 r j)
      = Rows.norm (Rows.pleSum (Rows.norm (Rows.ffnSum (Rows.norm (Rows.mixSum (fun i => x (ix2 r i)) (fun i => on (ix2 r i)) (fun i => or (ix2 r i)) (fun i j => wn (ix2 i j)) (fun i j => wr (ix2 i j)))
            (fun i => g0 (ix2 (0 : Fin 1) i)) (fun i => b0 (ix2 (0 : Fin 1) i)))
          (fun i k => w1 (ix4 (0 : Fin 1) (0 : Fin 1) i k)) (fun i k => w3 (ix4 (0 : Fin 1) (0 : Fin 1) i k)) (fun k j => w2 (ix4 (0 : Fin 1) (0 : Fin 1) k j)))
          (fun i => g1 (ix2 (0 : Fin 1) i)) (fun i => b1 (ix2 (0 : Fin 1) i)))
        (fun i => p (ix2 r i)) (fun i j => wp (ix2 i j)) (fun i j => wg (ix2 i j))) (fun i => g2 (ix2 (0 : Fin 1) i)) (fun i => b2 (ix2 (0 : Fin 1) i)) j := by
  unfold blockOf
  rw [normed_at]
  simp only [emb_at, gate_at, normed_at, fed_at, mixed_at]
  rfl

theorem out_eq (x : Vec Ideal S512x1024 .f32) (on or : Vec Ideal S512x512 .bf16) (p : Vec Ideal S512x256 .f32) (wn wr : Vec Ideal S512x1024 .bf16) (w13 : Vec Ideal S1x1x1024x5632 .bf16)
    (w2 : Vec Ideal S1x1x2816x1024 .bf16) (wp : Vec Ideal S256x1024 .bf16) (wg : Vec Ideal S1024x1024 .bf16) (g b : Vec Ideal S3x1024 .f32) :
    out0_12 (F := Ideal) x on or p wn wr w13 w2 wp wg g b
      = blockOf x on or p wn wr (View.ld w13 r0_3) (View.ld w13 r0_4) w2 wp wg (View.ld g r0_2) (View.ld b r0_2) (View.ld g r0_6) (View.ld b r0_6) (View.ld g r0_10) (View.ld b r0_10) := by
  unfold out0_12 k0_pay11 k0_pay12 k0_pay13
  simp (disch := decide) only [View.ld_unit_lit', View.canon_cons_unit_lit']
  rw [pay8_eq, pay9_eq, pay5_eq, pay3_eq, pay1_eq]
  unfold k0_pay2 k0_pay6 k0_pay7 k0_pay10 blockOf normed
  simp only [shapeCast_self]

/-- The block's entry. -/
theorem out_at (x : Vec Ideal S512x1024 .f32) (on or : Vec Ideal S512x512 .bf16) (p : Vec Ideal S512x256 .f32) (wn wr : Vec Ideal S512x1024 .bf16) (w13 : Vec Ideal S1x1x1024x5632 .bf16)
    (w2 : Vec Ideal S1x1x2816x1024 .bf16) (wp : Vec Ideal S256x1024 .bf16) (wg : Vec Ideal S1024x1024 .bf16) (g b : Vec Ideal S3x1024 .f32) (r : Fin 512) (j : Fin 1024) :
    out0_12 (F := Ideal) x on or p wn wr w13 w2 wp wg g b (ix2 r j)
      = Rows.tail (fun i => x (ix2 r i)) (fun i => on (ix2 r i)) (fun i => or (ix2 r i)) (fun i => p (ix2 r i)) (fun i j => wn (ix2 i j)) (fun i j => wr (ix2 i j))
          (fun i k => w13 (ix4 (0 : Fin 1) (0 : Fin 1) i (⟨k.val, by omega⟩ : Fin 5632))) (fun i k => w13 (ix4 (0 : Fin 1) (0 : Fin 1) i (⟨2816 + k.val, by omega⟩ : Fin 5632)))
          (fun k j => w2 (ix4 (0 : Fin 1) (0 : Fin 1) k j)) (fun i j => wp (ix2 i j)) (fun i j => wg (ix2 i j)) (fun a j => g (ix2 a j)) (fun a j => b (ix2 a j)) j := by
  have h1 := ld_3 w13
  have h2 := ld_4 w13
  have hg0 := ld_2 g
  have hb0 := ld_2 b
  have hg1 := ld_6 g
  have hb1 := ld_6 b
  have hg2 := ld_10 g
  have hb2 := ld_10 b
  rw [out_eq]
  generalize (View.ld (Val := Elt Ideal) w13 r0_3 : Vec Ideal S1x1x1024x2816 .bf16) = l1 at h1 ⊢
  generalize (View.ld (Val := Elt Ideal) w13 r0_4 : Vec Ideal S1x1x1024x2816 .bf16) = l2 at h2 ⊢
  generalize (View.ld (Val := Elt Ideal) g r0_2 : Vec Ideal S1x1024 .f32) = e1 at hg0 ⊢
  generalize (View.ld (Val := Elt Ideal) b r0_2 : Vec Ideal S1x1024 .f32) = e2 at hb0 ⊢
  generalize (View.ld (Val := Elt Ideal) g r0_6 : Vec Ideal S1x1024 .f32) = e3 at hg1 ⊢
  generalize (View.ld (Val := Elt Ideal) b r0_6 : Vec Ideal S1x1024 .f32) = e4 at hb1 ⊢
  generalize (View.ld (Val := Elt Ideal) g r0_10 : Vec Ideal S1x1024 .f32) = e5 at hg2 ⊢
  generalize (View.ld (Val := Elt Ideal) b r0_10 : Vec Ideal S1x1024 .f32) = e6 at hb2 ⊢
  refine (blockOf_at _ _ _ _ _ _ _ _ _ _ _ _ _ _ _ _ _ r j).trans ?_
  simp only [h1, h2, hg0, hb0, hg1, hb1, hg2, hb2]
  rfl

end Cert.Proof.TailBlock

end
-- ==== Proof.TailRef.lean ====
/- Hand-written, untrusted: THE REFERENCE OF THE LAYER'S SECOND HALF, entry by entry (`res_at`): the row function of Rows.lean on the
   token's rows and on the weights. -/
module

public import proofs.«01_k».proof.Proof.Gen.TailRefIdeal.Run
public import proofs.«01_k».proof.Proof.Rows

@[expose] public section

noncomputable section

namespace Cert.Proof.TailRef

open Cert.TailRefIdeal Cert.TailRefIdeal.Gen Cert.TailRefIdeal.Value Idealize.ShloMosaic Idealize.ShloMosaic.TcCoe Idealize.ShloMosaic.StableHlo Idealize.SL.Sem

/-! ## The layer norm -/

/-- The mean of every token's row. -/
def hmean (z : FVec Ideal S4x8192x1024 .f32) : FVec Ideal S4x8192x1 .f32 :=
  Host.divf (broadcastInDim S4x8192x1 ![0, 1] bcast_S4x8192_S4x8192x1_0_1 (Host.reduceAdd z (constant S_ .f32 0x00000000#32) reducesTo_S4x8192x1024_S4x8192_d2 h_S_))
    (broadcastInDim S4x8192x1 ![] bcast_S_S4x8192x1 (constant S_ .f32 0x44800000#32))

/-- Every row less its mean. -/
def hcent (z : FVec Ideal S4x8192x1024 .f32) : FVec Ideal S4x8192x1024 .f32 :=
  subf z (broadcastInDim S4x8192x1024 ![0, 1, 2] bcast_S4x8192x1_S4x8192x1024_0_1_2 (hmean z))

/-- A centred row over its standard deviation. -/
def hunit (d : FVec Ideal S4x8192x1024 .f32) (v : FVec Ideal S4x8192x1 .f32) : FVec Ideal S4x8192x1024 .f32 :=
  mulf d (broadcastInDim S4x8192x1024 ![0, 1, 2] bcast_S4x8192x1_S4x8192x1024_0_1_2 (Host.rsqrt (addf v (broadcastInDim S4x8192x1 ![] bcast_S_S4x8192x1 (constant S_ .f32 0x3727C5AC#32)))))

/-- Scaled and shifted. -/
def haff (u : FVec Ideal S4x8192x1024 .f32) (g b : FVec Ideal S1024 .f32) : FVec Ideal S4x8192x1024 .f32 :=
  addf (mulf u (broadcastInDim S4x8192x1024 ![0, 1, 2] bcast_S1x1x1024_S4x8192x1024_0_1_2 (broadcastInDim S1x1x1024 ![2] bcast_S1024_S1x1x1024_2 g)))
    (broadcastInDim S4x8192x1024 ![0, 1, 2] bcast_S1x1x1024_S4x8192x1024_0_1_2 (broadcastInDim S1x1x1024 ![2] bcast_S1024_S1x1x1024_2 b))

def hnorm (z : FVec Ideal S4x8192x1024 .f32) (g b : FVec Ideal S1024 .f32) : FVec Ideal S4x8192x1024 .f32 :=
  haff (hunit (hcent z) (hmean (mulf (hcent z) (hcent z)))) g b

theorem hmean_at (z : FVec Ideal S4x8192x1024 .f32) (b : Fin 4) (t : Fin 8192) : hmean z (ix3 b t (0 : Fin 1)) = Rows.mean fun j => z (ix3 b t j) := by
  pointwise [hmean]
  rfl

theorem hcent_at (z : FVec Ideal S4x8192x1024 .f32) (b : Fin 4) (t : Fin 8192) (j : Fin 1024) :
    hcent z (ix3 b t j) = z (ix3 b t j) - Rows.mean fun j => z (ix3 b t j) := by
  unfold hcent
  have h := hmean_at z b t
  generalize hmean z = w at h ⊢
  pointwise
  rw [h]

theorem hunit_at (d : FVec Ideal S4x8192x1024 .f32) (v : FVec Ideal S4x8192x1 .f32) (b : Fin 4) (t : Fin 8192) (j : Fin 1024) :
    hunit d v (ix3 b t j) = d (ix3 b t j) * Ideal.rsqrt (v (ix3 b t (0 : Fin 1)) + Ideal.ofBits FTy.f32 0x3727C5AC#32) := by
  pointwise [hunit]

theorem haff_at (u : FVec Ideal S4x8192x1024 .f32) (g h : FVec Ideal S1024 .f32) (b : Fin 4) (t : Fin 8192) (j : Fin 1024) :
    haff u g h (ix3 b t j) = u (ix3 b t j) * g (ix1 j) + h (ix1 j) := by
  pointwise [haff]

theorem sq_at (z : FVec Ideal S4x8192x1024 .f32) (b : Fin 4) (t : Fin 8192) (j : Fin 1024) : mulf z z (ix3 b t j) = z (ix3 b t j) * z (ix3 b t j) := rfl

theorem hnorm_at (z : FVec Ideal S4x8192x1024 .f32) (g h : FVec Ideal S1024 .f32) (b : Fin 4) (t : Fin 8192) (j : Fin 1024) :
    hnorm z g h (ix3 b t j) = Rows.norm (fun j => z (ix3 b t j)) (fun j => g (ix1 j)) (fun j => h (ix1 j)) j := by
  unfold hnorm
  rw [haff_at, hunit_at, hmean_at]
  simp only [sq_at, hcent_at]
  rfl

/-! ## The feed-forward sublayer -/

/-- The product with both halves of the first weights. -/
def hprod (x : FVec Ideal S4x8192x1024 .f32) (w : FVec Ideal S1024x5632 .f32) : FVec Ideal S4x8192x5632 .f32 :=
  Host.dotGeneral dot_S4x8192x1024_S1024x5632_S4x8192x5632_2_0_01_1_n_n none x w

def hgate (y : FVec Ideal S4x8192x5632 .f32) : FVec Ideal S4x8192x2816 .f32 :=
  extractStridedSlice S4x8192x2816 ![0, 0, 0] y slices_S4x8192x5632_S4x8192x2816_0_0_0

/-- The first half, gated, times the second. -/
def hgated (a : FVec Ideal S4x8192x2816 .f32) (y : FVec Ideal S4x8192x5632 .f32) : FVec Ideal S4x8192x2816 .f32 :=
  mulf (mulf a (Host.divf (broadcastInDim S4x8192x2816 ![] bcast_S_S4x8192x2816 (constant S_ .f32 0x3F800000#32))
      (addf (broadcastInDim S4x8192x2816 ![] bcast_S_S4x8192x2816 (constant S_ .f32 0x3F800000#32)) (Host.exp (Host.negf a)))))
    (extractStridedSlice S4x8192x2816 ![0, 0, 2816] y slices_S4x8192x5632_S4x8192x2816_0_0_2816)

/-- The residual's multiple plus half of the second product. -/
def hsum (x : FVec Ideal S4x8192x1024 .f32) (h : FVec Ideal S4x8192x2816 .f32) (w2 : FVec Ideal S2816x1024 .f32) : FVec Ideal S4x8192x1024 .f32 :=
  addf (mulf (broadcastInDim S4x8192x1024 ![] bcast_S_S4x8192x1024 (constant S_ .f32 0x3F9837F0#32)) x)
    (mulf (broadcastInDim S4x8192x1024 ![] bcast_S_S4x8192x1024 (constant S_ .f32 0x3F000000#32)) (Host.dotGeneral dot_S4x8192x2816_S2816x1024_S4x8192x1024_2_0_01_1_n_n none h w2))

def hffn (x : FVec Ideal S4x8192x1024 .f32) (w : FVec Ideal S1024x5632 .f32) (w2 : FVec Ideal S2816x1024 .f32) : FVec Ideal S4x8192x1024 .f32 :=
  hsum x (hgated (hgate (hprod x w)) (hprod x w)) w2

theorem hprod_at (x : FVec Ideal S4x8192x1024 .f32) (w : FVec Ideal S1024x5632 .f32) (b : Fin 4) (t : Fin 8192) (k : Fin 5632) :
    hprod x w (ix3 b t k) = ∑ i : Fin 1024, x (ix3 b t i) * w (ix2 i k) := by
  pointwise [hprod]

theorem hgate_at (y : FVec Ideal S4x8192x5632 .f32) (b : Fin 4) (t : Fin 8192) (k : Fin 2816) :
    hgate y (ix3 b t k) = y (ix3 b t (⟨k.val, by omega⟩ : Fin 5632)) := by
  pointwise [hgate]

theorem hgated_at (a : FVec Ideal S4x8192x2816 .f32) (y : FVec Ideal S4x8192x5632 .f32) (b : Fin 4) (t : Fin 8192) (k : Fin 2816) :
    hgated a y (ix3 b t k) = a (ix3 b t k) * Rows.sigm (a (ix3 b t k)) * y (ix3 b t (⟨2816 + k.val, by omega⟩ : Fin 5632)) := by
  pointwise [hgated]
  rfl

theorem hsum_at (x : FVec Ideal S4x8192x1024 .f32) (h : FVec Ideal S4x8192x2816 .f32) (w2 : FVec Ideal S2816x1024 .f32) (b : Fin 4) (t : Fin 8192) (j : Fin 1024) :
    hsum x h w2 (ix3 b t j) = Ideal.ofBits FTy.f32 0x3F9837F0#32 * x (ix3 b t j) + Ideal.ofBits FTy.f32 0x3F000000#32 * ∑ k : Fin 2816, h (ix3 b t k) * w2 (ix2 k j) := by
  pointwise [hsum]

theorem hffn_at (x : FVec Ideal S4x8192x1024 .f32) (w : FVec Ideal S1024x5632 .f32) (w2 : FVec Ideal S2816x1024 .f32) (b : Fin 4) (t : Fin 8192) (j : Fin 1024) :
    hffn x w w2 (ix3 b t j) = Rows.ffnSum (fun i => x (ix3 b t i)) (fun i k => w (ix2 i (⟨k.val, by omega⟩ : Fin 5632))) (fun i k => w (ix2 i (⟨2816 + k.val, by omega⟩ : Fin 5632)))
      (fun k j => w2 (ix2 k j)) j := by
  unfold hffn
  rw [hsum_at]
  simp only [hgated_at, hgate_at, hprod_at]
  rfl

/-! ## The mixing and the per-layer embedding -/

def hmix (x : FVec Ideal S4x8192x1024 .f32) (on or : FVec Ideal S4x8192x512 .f32) (w : FVec Ideal S1024x1024 .f32) : FVec Ideal S4x8192x1024 .f32 :=
  addf (mulf (broadcastInDim S4x8192x1024 ![] bcast_S_S4x8192x1024 (constant S_ .f32 0x3F9837F0#32)) x)
    (Host.dotGeneral dot_S4x8192x1024_S1024x1024_S4x8192x1024_2_0_01_1_n_n none (concatenate S4x8192x1024 2 [⟨S4x8192x512, on⟩, ⟨S4x8192x512, or⟩] concatenates_S4x8192x512_S4x8192x512_S4x8192x1024_d2) w)

def hgateOf (x : FVec Ideal S4x8192x1024 .f32) (w : FVec Ideal S1024x1024 .f32) : FVec Ideal S4x8192x1024 .f32 :=
  Host.dotGeneral dot_S4x8192x1024_S1024x1024_S4x8192x1024_2_0_01_1_n_n none x w

def hple (x y : FVec Ideal S4x8192x1024 .f32) (p : FVec Ideal S4x8192x256 .f32) (wp : FVec Ideal S256x1024 .f32) : FVec Ideal S4x8192x1024 .f32 :=
  addf (mulf (broadcastInDim S4x8192x1024 ![] bcast_S_S4x8192x1024 (constant S_ .f32 0x3F9837F0#32)) x)
    (mulf (Host.dotGeneral dot_S4x8192x256_S256x1024_S4x8192x1024_2_0_01_1_n_n none p wp)
      (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf y)))))

theorem hmix_at (x : FVec Ideal S4x8192x1024 .f32) (on or : FVec Ideal S4x8192x512 .f32) (w : FVec Ideal S1024x1024 .f32) (b : Fin 4) (t : Fin 8192) (j : Fin 1024) :
    hmix x on or w (ix3 b t j) = Rows.mixSum (fun i => x (ix3 b t i)) (fun i => on (ix3 b t i)) (fun i => or (ix3 b t i)) (fun i j => w (ix2 (⟨i.val, by omega⟩ : Fin 1024) j))
      (fun i j => w (ix2 (⟨512 + i.val, by omega⟩ : Fin 1024) j)) j := by
  pointwise [hmix]
  rfl

theorem hgateOf_at (x : FVec Ideal S4x8192x1024 .f32) (w : FVec Ideal S1024x1024 .f32) (b : Fin 4) (t : Fin 8192) (j : Fin 1024) :
    hgateOf x w (ix3 b t j) = ∑ i : Fin 1024, x (ix3 b t i) * w (ix2 i j) := by
  pointwise [hgateOf]

theorem hple_at (x y : FVec Ideal S4x8192x1024 .f32) (p : FVec Ideal S4x8192x256 .f32) (wp : FVec Ideal S256x1024 .f32) (b : Fin 4) (t : Fin 8192) (j : Fin 1024) :
    hple x y p wp (ix3 b t j) = Ideal.ofBits FTy.f32 0x3F9837F0#32 * x (ix3 b t j) + (∑ i : Fin 256, p (ix3 b t i) * wp (ix2 i j)) * Rows.sigm (y (ix3 b t j)) := by
  pointwise [hple]
  rfl

/-! ## The result -/

def hw (w : FVec Ideal S1x2x1024x5632 .f32) : FVec Ideal S1024x5632 .f32 :=
  shapeCast S1024x5632 (extractStridedSlice S1x1x1024x5632 ![0, 1, 0, 0] w slices_S1x2x1024x5632_S1x1x1024x5632_0_1_0_0) shapeCasts_S1x1x1024x5632_S1024x5632

def hw2 (w : FVec Ideal S1x2x2816x1024 .f32) : FVec Ideal S2816x1024 .f32 :=
  shapeCast S2816x1024 (extractStridedSlice S1x1x2816x1024 ![0, 1, 0, 0] w slices_S1x2x2816x1024_S1x1x2816x1024_0_1_0_0) shapeCasts_S1x1x2816x1024_S2816x1024

def hg1 (g : FVec Ideal S1x4x1024 .f32) : FVec Ideal S1024 .f32 :=
  shapeCast S1024 (extractStridedSlice S1x1x1024 ![0, 1, 0] g slices_S1x4x1024_S1x1x1024_0_1_0) shapeCasts_S1x1x1024_S1024

def hg2 (g : FVec Ideal S1x4x1024 .f32) : FVec Ideal S1024 .f32 :=
  shapeCast S1024 (extractStridedSlice S1x1x1024 ![0, 2, 0] g slices_S1x4x1024_S1x1x1024_0_2_0) shapeCasts_S1x1x1024_S1024

def hg3 (g : FVec Ideal S1x4x1024 .f32) : FVec Ideal S1024 .f32 :=
  shapeCast S1024 (extractStridedSlice S1x1x1024 ![0, 3, 0] g slices_S1x4x1024_S1x1x1024_0_3_0) shapeCasts_S1x1x1024_S1024

def hsq (w : FVec Ideal S1x1024x1024 .f32) : FVec Ideal S1024x1024 .f32 := shapeCast S1024x1024 w shapeCasts_S1x1024x1024_S1024x1024

def hwp (w : FVec Ideal S1x256x1024 .f32) : FVec Ideal S256x1024 .f32 := shapeCast S256x1024 w shapeCasts_S1x256x1024_S256x1024

def hp (p : FVec Ideal S1x4x8192x256 .f32) : FVec Ideal S4x8192x256 .f32 := shapeCast S4x8192x256 p shapeCasts_S1x4x8192x256_S4x8192x256

theorem hw_at (w : FVec Ideal S1x2x1024x5632 .f32) (i : Fin 1024) (k : Fin 5632) : hw w (ix2 i k) = w (ix4 (0 : Fin 1) (1 : Fin 2) i k) := by
  pointwise [hw]

theorem hw2_at (w : FVec Ideal S1x2x2816x1024 .f32) (k : Fin 2816) (j : Fin 1024) : hw2 w (ix2 k j) = w (ix4 (0 : Fin 1) (1 : Fin 2) k j) := by
  pointwise [hw2]

theorem hg1_at (g : FVec Ideal S1x4x1024 .f32) (j : Fin 1024) : hg1 g (ix1 j) = g (ix3 (0 : Fin 1) (1 : Fin 4) j) := by
  pointwise [hg1]

theorem hg2_at (g : FVec Ideal S1x4x1024 .f32) (j : Fin 1024) : hg2 g (ix1 j) = g (ix3 (0 : Fin 1) (2 : Fin 4) j) := by
  pointwise [hg2]

theorem hg3_at (g : FVec Ideal S1x4x1024 .f32) (j : Fin 1024) : hg3 g (ix1 j) = g (ix3 (0 : Fin 1) (3 : Fin 4) j) := by
  pointwise [hg3]

theorem hsq_at (w : FVec Ideal S1x1024x1024 .f32) (i j : Fin 1024) : hsq w (ix2 i j) = w (ix3 (0 : Fin 1) i j) := by
  pointwise [hsq]

theorem hwp_at (w : FVec Ideal S1x256x1024 .f32) (i : Fin 256) (j : Fin 1024) : hwp w (ix2 i j) = w (ix3 (0 : Fin 1) i j) := by
  pointwise [hwp]

theorem hp_at (p : FVec Ideal S1x4x8192x256 .f32) (b : Fin 4) (t : Fin 8192) (i : Fin 256) : hp p (ix3 b t i) = p (ix4 (0 : Fin 1) b t i) := by
  pointwise [hp]

variable (x : FVec Ideal S4x8192x1024 .f32) (on or : FVec Ideal S4x8192x512 .f32) (p : FVec Ideal S1x4x8192x256 .f32) (wo : FVec Ideal S1x1024x1024 .f32)
  (w13 : FVec Ideal S1x2x1024x5632 .f32) (w2 : FVec Ideal S1x2x2816x1024 .f32) (wp : FVec Ideal S1x256x1024 .f32) (wg : FVec Ideal S1x1024x1024 .f32) (g b : FVec Ideal S1x4x1024 .f32)

/-- The three stages, of the arguments. -/
def x1 : FVec Ideal S4x8192x1024 .f32 := hnorm (hmix x on or (hsq wo)) (hg1 g) (hg1 b)
def x2 : FVec Ideal S4x8192x1024 .f32 := hnorm (hffn (x1 x on or wo g b) (hw w13) (hw2 w2)) (hg2 g) (hg2 b)
def x3 : FVec Ideal S4x8192x1024 .f32 :=
  hnorm (hple (x2 x on or wo w13 w2 g b) (hgateOf (x2 x on or wo w13 w2 g b) (hsq wg)) (hp p) (hwp wp)) (hg3 g) (hg3 b)

/-- The reference's result, of the arguments. -/
def res : FVec Ideal S32768x1024 .f32 := shapeCast S32768x1024 (x3 x on or p wo w13 w2 wp wg g b) shapeCasts_S4x8192x1024_S32768x1024

/-- Token `t` of sequence `s`. -/
def tok (s : Fin 4) (t : Fin 8192) : Fin 1024 → EReal :=
  Rows.tail (fun i => x (ix3 s t i)) (fun i => on (ix3 s t i)) (fun i => or (ix3 s t i)) (fun i => p (ix4 (0 : Fin 1) s t i)) (fun i j => wo (ix3 (0 : Fin 1) (⟨i.val, by omega⟩ : Fin 1024) j))
    (fun i j => wo (ix3 (0 : Fin 1) (⟨512 + i.val, by omega⟩ : Fin 1024) j)) (fun i k => w13 (ix4 (0 : Fin 1) (1 : Fin 2) i (⟨k.val, by omega⟩ : Fin 5632)))
    (fun i k => w13 (ix4 (0 : Fin 1) (1 : Fin 2) i (⟨2816 + k.val, by omega⟩ : Fin 5632))) (fun k j => w2 (ix4 (0 : Fin 1) (1 : Fin 2) k j)) (fun i j => wp (ix3 (0 : Fin 1) i j))
    (fun i j => wg (ix3 (0 : Fin 1) i j)) (fun a j => g (ix3 (0 : Fin 1) (⟨1 + a.val, by omega⟩ : Fin 4) j)) (fun a j => b (ix3 (0 : Fin 1) (⟨1 + a.val, by omega⟩ : Fin 4) j))

theorem x3_at (s : Fin 4) (t : Fin 8192) (j : Fin 1024) : x3 x on or p wo w13 w2 wp wg g b (ix3 s t j) = tok x on or p wo w13 w2 wp wg g b s t j := by
  unfold x3
  rw [hnorm_at]
  simp only [hple_at, hgateOf_at, x2, hnorm_at, hffn_at, x1, hmix_at, hg1_at, hg2_at, hg3_at, hw_at, hw2_at, hsq_at, hwp_at, hp_at]
  rfl

theorem res_at (R : Fin 32768) (j : Fin 1024) :
    res x on or p wo w13 w2 wp wg g b (ix2 R j) = tok x on or p wo w13 w2 wp wg g b (⟨R.val / 8192, by omega⟩ : Fin 4) (⟨R.val % 8192, by omega⟩ : Fin 8192) j := by
  unfold res
  have h := x3_at x on or p wo w13 w2 wp wg g b (⟨R.val / 8192, by omega⟩ : Fin 4) (⟨R.val % 8192, by omega⟩ : Fin 8192) j
  generalize x3 x on or p wo w13 w2 wp wg g b = z at h ⊢
  pointwise
  exact h

/-! ## The run's terms are these -/

variable (V0 : Valuation τ sig (Elt Ideal))

theorem v5_eq : res_main_v5 (F := Ideal) V0 = hmix (V0 (Proc.devRef .tc main_arg0)) (V0 (Proc.devRef .tc main_arg1)) (V0 (Proc.devRef .tc main_arg2)) (hsq (V0 (Proc.devRef .tc main_arg4))) := by
  unfold res_main_v5
  rfl

theorem v33_eq : res_main_v33 (F := Ideal) V0 = x1 (V0 (Proc.devRef .tc main_arg0)) (V0 (Proc.devRef .tc main_arg1)) (V0 (Proc.devRef .tc main_arg2)) (V0 (Proc.devRef .tc main_arg4))
    (V0 (Proc.devRef .tc main_arg9)) (V0 (Proc.devRef .tc main_arg10)) := by
  unfold res_main_v33 res_main_v15 res_main_v13 x1
  rw [v5_eq]
  rfl

theorem v48_eq : res_main_v48 (F := Ideal) V0 = hffn (x1 (V0 (Proc.devRef .tc main_arg0)) (V0 (Proc.devRef .tc main_arg1)) (V0 (Proc.devRef .tc main_arg2)) (V0 (Proc.devRef .tc main_arg4))
    (V0 (Proc.devRef .tc main_arg9)) (V0 (Proc.devRef .tc main_arg10))) (hw (V0 (Proc.devRef .tc main_arg5))) (hw2 (V0 (Proc.devRef .tc main_arg6))) := by
  unfold res_main_v48 res_main_v41 res_main_v40
  rw [v33_eq]
  rfl

theorem v76_eq : res_main_v76 (F := Ideal) V0 = x2 (V0 (Proc.devRef .tc main_arg0)) (V0 (Proc.devRef .tc main_arg1)) (V0 (Proc.devRef .tc main_arg2)) (V0 (Proc.devRef .tc main_arg4))
    (V0 (Proc.devRef .tc main_arg5)) (V0 (Proc.devRef .tc main_arg6)) (V0 (Proc.devRef .tc main_arg9)) (V0 (Proc.devRef .tc main_arg10)) := by
  unfold res_main_v76 res_main_v58 res_main_v56 x2
  rw [v48_eq]
  rfl

theorem v91_eq : res_main_v91 (F := Ideal) V0 = hple (res_main_v76 (F := Ideal) V0) (hgateOf (res_main_v76 (F := Ideal) V0) (hsq (V0 (Proc.devRef .tc main_arg8)))) (hp (V0 (Proc.devRef .tc main_arg3)))
    (hwp (V0 (Proc.devRef .tc main_arg7))) := by
  unfold res_main_v91
  rfl

/-- The run's last term is the result. -/
theorem v120_eq : shapeCast S32768x1024 (addf (mulf (mulf (subf (res_main_v91 (F := Ideal) V0) (broadcastInDim S4x8192x1024 ![0, 1, 2] bcast_S4x8192x1_S4x8192x1024_0_1_2 (res_main_v99 (F := Ideal) V0))) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (res_main_v101 (F := Ideal) V0) (res_main_v101 (F := Ideal) V0)) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x3727C5AC#32)))))) (broadcastInDim S4x8192x1024 ![0, 1, 2] bcast_S1x1x1024_S4x8192x1024_0_1_2 (broadcastInDim S1x1x1024 ![2] bcast_S1024_S1x1x1024_2 (shapeCast _ (extractStridedSlice S1x1x1024 ![0, 3, 0] (V0 (Proc.devRef .tc main_arg9)) slices_S1x4x1024_S1x1x1024_0_3_0) shapeCasts_S1x1x1024_S1024)))) (broadcastInDim S4x8192x1024 ![0, 1, 2] bcast_S1x1x1024_S4x8192x1024_0_1_2 (broadcastInDim S1x1x1024 ![2] bcast_S1024_S1x1x1024_2 (shapeCast _ (extractStridedSlice S1x1x1024 ![0, 3, 0] (V0 (Proc.devRef .tc main_arg10)) slices_S1x4x1024_S1x1x1024_0_3_0) shapeCasts_S1x1x1024_S1024)))) shapeCasts_S4x8192x1024_S32768x1024
    = res (V0 (Proc.devRef .tc main_arg0)) (V0 (Proc.devRef .tc main_arg1)) (V0 (Proc.devRef .tc main_arg2)) (V0 (Proc.devRef .tc main_arg3)) (V0 (Proc.devRef .tc main_arg4))
      (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold res_main_v101 res_main_v99 res x3
  rw [v91_eq, v76_eq]
  rfl

end Cert.Proof.TailRef

end
-- ==== Proof.TailFinal.lean ====
/- Hand-written, untrusted: THE RESULT OF THE LAYER'S SECOND HALF AFTER THE RUN (`final`): the reference's result on the arguments'
   launch contents. The arrays the call finds are the arguments reshaped, converted and sliced; a grid point's block is 512 rows. -/
module

public import proofs.«01_k».proof.Proof.TailBlock
public import proofs.«01_k».proof.Proof.TailRef

@[expose] public section

noncomputable section

namespace Cert.Proof.TailFinal

open Cert.TailIdeal Cert.TailIdeal.Gen Cert.TailIdeal.Value Idealize.ShloMosaic Idealize.ShloMosaic.TcCoe Idealize.SL.Sem Idealize.ShloMosaic.StableHlo

variable (m : (ℓ : Loc nD τ sig) → Buf (Elt Ideal) ℓ) (c : Dev nD)

/-! ## The arrays the call finds -/

def xs (x : FVec Ideal S4x8192x1024 .f32) : FVec Ideal S32768x1024 .f32 := shapeCast S32768x1024 x shapeCasts_S4x8192x1024_S32768x1024

def os (o : FVec Ideal S4x8192x512 .f32) : FVec Ideal S32768x512 .bf16 := shapeCast S32768x512 (truncf .bf16 o bitsLt_bf16_f32) shapeCasts_S4x8192x512_S32768x512

def ps (p : FVec Ideal S1x4x8192x256 .f32) : FVec Ideal S32768x256 .f32 :=
  shapeCast S32768x256 (shapeCast S4x8192x256 p shapeCasts_S1x4x8192x256_S4x8192x256) shapeCasts_S4x8192x256_S32768x256

def wns (w : FVec Ideal S1x1024x1024 .f32) : FVec Ideal S512x1024 .bf16 :=
  truncf .bf16 (extractStridedSlice S512x1024 ![0, 0] (shapeCast S1024x1024 w shapeCasts_S1x1024x1024_S1024x1024) slices_S1024x1024_S512x1024_0_0) bitsLt_bf16_f32

def wrs (w : FVec Ideal S1x1024x1024 .f32) : FVec Ideal S512x1024 .bf16 :=
  truncf .bf16 (extractStridedSlice S512x1024 ![512, 0] (shapeCast S1024x1024 w shapeCasts_S1x1024x1024_S1024x1024) slices_S1024x1024_S512x1024_512_0) bitsLt_bf16_f32

def wps (w : FVec Ideal S1x256x1024 .f32) : FVec Ideal S256x1024 .bf16 := truncf .bf16 (shapeCast S256x1024 w shapeCasts_S1x256x1024_S256x1024) bitsLt_bf16_f32

def wgs (w : FVec Ideal S1x1024x1024 .f32) : FVec Ideal S1024x1024 .bf16 := truncf .bf16 (shapeCast S1024x1024 w shapeCasts_S1x1024x1024_S1024x1024) bitsLt_bf16_f32

def gs (g : FVec Ideal S1x4x1024 .f32) : FVec Ideal S3x1024 .f32 :=
  shapeCast S3x1024 (extractStridedSlice S1x3x1024 ![0, 1, 0] g slices_S1x4x1024_S1x3x1024_0_1_0) shapeCasts_S1x3x1024_S3x1024

theorem V0 : V m c main_v2 = xs (m ((c : Thread nD τ).loc main_arg0)) := by
  simp only [V, hostOps0, List.flatten_cons, List.flatten_nil, List.append_nil, List.cons_append, List.nil_append, TRef.unary, TRef.binary, TRef.ternary, TRef.toBuf, TRef.ofBuf, cast_eq]
  after_results_simp
  rfl

theorem V1 : V m c main_v4 = os (m ((c : Thread nD τ).loc main_arg1)) := by
  simp only [V, hostOps0, List.flatten_cons, List.flatten_nil, List.append_nil, List.cons_append, List.nil_append, TRef.unary, TRef.binary, TRef.ternary, TRef.toBuf, TRef.ofBuf, cast_eq]
  after_results_simp
  rfl

theorem V2 : V m c main_v6 = os (m ((c : Thread nD τ).loc main_arg2)) := by
  simp only [V, hostOps0, List.flatten_cons, List.flatten_nil, List.append_nil, List.cons_append, List.nil_append, TRef.unary, TRef.binary, TRef.ternary, TRef.toBuf, TRef.ofBuf, cast_eq]
  after_results_simp
  rfl

theorem V3 : V m c main_v8 = ps (m ((c : Thread nD τ).loc main_arg3)) := by
  simp only [V, hostOps0, List.flatten_cons, List.flatten_nil, List.append_nil, List.cons_append, List.nil_append, TRef.unary, TRef.binary, TRef.ternary, TRef.toBuf, TRef.ofBuf, cast_eq]
  after_results_simp
  rfl

theorem V4 : V m c main_v17 = wns (m ((c : Thread nD τ).loc main_arg4)) := by
  simp only [V, hostOps0, List.flatten_cons, List.flatten_nil, List.append_nil, List.cons_append, List.nil_append, TRef.unary, TRef.binary, TRef.ternary, TRef.toBuf, TRef.ofBuf, cast_eq]
  after_results_simp
  rfl

theorem V5 : V m c main_v19 = wrs (m ((c : Thread nD τ).loc main_arg4)) := by
  simp only [V, hostOps0, List.flatten_cons, List.flatten_nil, List.append_nil, List.cons_append, List.nil_append, TRef.unary, TRef.binary, TRef.ternary, TRef.toBuf, TRef.ofBuf, cast_eq]
  after_results_simp
  rfl

theorem V6 : V m c main_v0 = (m ((c : Thread nD τ).loc main_arg5) : FVec Ideal S1x2x1024x5632 .f32) := by
  simp only [V, hostOps0, List.flatten_cons, List.flatten_nil, List.append_nil, List.cons_append, List.nil_append, TRef.unary, TRef.binary, TRef.ternary, TRef.toBuf, TRef.ofBuf, cast_eq]
  after_results_simp
  rfl

theorem V7 : V m c main_v1 = (m ((c : Thread nD τ).loc main_arg6) : FVec Ideal S1x2x2816x1024 .f32) := by
  simp only [V, hostOps0, List.flatten_cons, List.flatten_nil, List.append_nil, List.cons_append, List.nil_append, TRef.unary, TRef.binary, TRef.ternary, TRef.toBuf, TRef.ofBuf, cast_eq]
  after_results_simp
  rfl

theorem V8 : V m c main_v20 = wps (m ((c : Thread nD τ).loc main_arg7)) := by
  simp only [V, hostOps0, List.flatten_cons, List.flatten_nil, List.append_nil, List.cons_append, List.nil_append, TRef.unary, TRef.binary, TRef.ternary, TRef.toBuf, TRef.ofBuf, cast_eq]
  after_results_simp
  rfl

theorem V9 : V m c main_v21 = wgs (m ((c : Thread nD τ).loc main_arg8)) := by
  simp only [V, hostOps0, List.flatten_cons, List.flatten_nil, List.append_nil, List.cons_append, List.nil_append, TRef.unary, TRef.binary, TRef.ternary, TRef.toBuf, TRef.ofBuf, cast_eq]
  after_results_simp
  rfl

theorem V10 : V m c main_v13 = gs (m ((c : Thread nD τ).loc main_arg9)) := by
  simp only [V, hostOps0, List.flatten_cons, List.flatten_nil, List.append_nil, List.cons_append, List.nil_append, TRef.unary, TRef.binary, TRef.ternary, TRef.toBuf, TRef.ofBuf, cast_eq]
  after_results_simp
  rfl

theorem V11 : V m c main_v15 = gs (m ((c : Thread nD τ).loc main_arg10)) := by
  simp only [V, hostOps0, List.flatten_cons, List.flatten_nil, List.append_nil, List.cons_append, List.nil_append, TRef.unary, TRef.binary, TRef.ternary, TRef.toBuf, TRef.ofBuf, cast_eq]
  after_results_simp
  rfl

theorem xs_at (x : FVec Ideal S4x8192x1024 .f32) (R : Fin 32768) (j : Fin 1024) :
    xs x (ix2 R j) = x (ix3 (⟨R.val / 8192, by omega⟩ : Fin 4) (⟨R.val % 8192, by omega⟩ : Fin 8192) j) := by
  pointwise [xs]

theorem os_at (x : FVec Ideal S4x8192x512 .f32) (R : Fin 32768) (j : Fin 512) :
    os x (ix2 R j) = x (ix3 (⟨R.val / 8192, by omega⟩ : Fin 4) (⟨R.val % 8192, by omega⟩ : Fin 8192) j) := by
  pointwise [os]

theorem ps_at (x : FVec Ideal S1x4x8192x256 .f32) (R : Fin 32768) (j : Fin 256) :
    ps x (ix2 R j) = x (ix4 (0 : Fin 1) (⟨R.val / 8192, by omega⟩ : Fin 4) (⟨R.val % 8192, by omega⟩ : Fin 8192) j) := by
  pointwise [ps]

theorem wns_at (w : FVec Ideal S1x1024x1024 .f32) (i : Fin 512) (j : Fin 1024) : wns w (ix2 i j) = w (ix3 (0 : Fin 1) (⟨i.val, by omega⟩ : Fin 1024) j) := by
  pointwise [wns]

theorem wrs_at (w : FVec Ideal S1x1024x1024 .f32) (i : Fin 512) (j : Fin 1024) : wrs w (ix2 i j) = w (ix3 (0 : Fin 1) (⟨512 + i.val, by omega⟩ : Fin 1024) j) := by
  pointwise [wrs]

theorem wps_at (w : FVec Ideal S1x256x1024 .f32) (i : Fin 256) (j : Fin 1024) : wps w (ix2 i j) = w (ix3 (0 : Fin 1) i j) := by
  pointwise [wps]

theorem wgs_at (w : FVec Ideal S1x1024x1024 .f32) (i j : Fin 1024) : wgs w (ix2 i j) = w (ix3 (0 : Fin 1) i j) := by
  pointwise [wgs]

theorem gs_at (g : FVec Ideal S1x4x1024 .f32) (a : Fin 3) (j : Fin 1024) : gs g (ix2 a j) = g (ix3 (0 : Fin 1) (⟨1 + a.val, by omega⟩ : Fin 4) j) := by
  pointwise [gs]

/-! ## The windows' blocks -/

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 4) = 0 ∧ win0_6.index t (1 : Fin 4) = 1 ∧ win0_6.index t (2 : Fin 4) = 0 ∧ win0_6.index t (3 : Fin 4) = 0 := (by decide +kernel : ∀ t : Fin grid0.N, _)
theorem idx7 : ∀ t : Fin cfg0.N, win0_7.index t (0 : Fin 4) = 0 ∧ win0_7.index t (1 : Fin 4) = 1 ∧ win0_7.index t (2 : Fin 4) = 0 ∧ win0_7.index t (3 : Fin 4) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)
theorem idx10 : ∀ t : Fin cfg0.N, win0_10.index t (0 : Fin 2) = 0 ∧ win0_10.index t (1 : Fin 2) = 0 := (by decide +kernel : ∀ t : Fin grid0.N, _)
theorem idx11 : ∀ t : Fin cfg0.N, win0_11.index t (0 : Fin 2) = 0 ∧ win0_11.index t (1 : Fin 2) = 0 := (by decide +kernel : ∀ t : Fin grid0.N, _)
theorem idx12 : ∀ t : Fin cfg0.N, win0_12.index t (0 : Fin 2) = t.val ∧ win0_12.index t (1 : Fin 2) = 0 := (by decide +kernel : ∀ t : Fin grid0.N, _)

theorem lt_N (t : Fin cfg0.N) : t.val < 64 := t.isLt

/-- The array's row of a block's row. -/
def at_ (t : Fin cfg0.N) (r : Fin 512) : Fin 32768 := ⟨t.val * 512 + r.val, by have := lt_N t; omega⟩

theorem blk0 (t : Fin cfg0.N) (r : Fin 512) (j : Fin 1024) :
    (iblk m c 0 t : Vec Ideal S512x1024 .f32) (ix2 r j) = xs (m ((c : Thread nD τ).loc main_arg0)) (ix2 (at_ t r) j) := by
  show V m c main_v2 (((cfg0.win 0).blk t).view.emb (ix2 r j)) = _
  rw [V0]
  obtain ⟨e0, e1⟩ := idx0 t
  refine congrArg _ ?_
  funext a; apply Fin.ext
  match a with
  | ⟨0, _⟩ => show win0_0.index t (0 : Fin 2) * 512 + 1 * r.val = t.val * 512 + r.val; omega
  | ⟨1, _⟩ => show win0_0.index t (1 : Fin 2) * 1024 + 1 * j.val = j.val; omega

theorem blk1 (t : Fin cfg0.N) (r : Fin 512) (j : Fin 512) :
    (iblk m c 1 t : Vec Ideal S512x512 .bf16) (ix2 r j) = os (m ((c : Thread nD τ).loc main_arg1)) (ix2 (at_ t r) j) := by
  show V m c main_v4 (((cfg0.win 1).blk t).view.emb (ix2 r j)) = _
  rw [V1]
  obtain ⟨e0, e1⟩ := idx1 t
  refine congrArg _ ?_
  funext a; apply Fin.ext
  match a with
  | ⟨0, _⟩ => show win0_1.index t (0 : Fin 2) * 512 + 1 * r.val = t.val * 512 + r.val; omega
  | ⟨1, _⟩ => show win0_1.index t (1 : Fin 2) * 512 + 1 * j.val = j.val; omega

theorem blk2 (t : Fin cfg0.N) (r : Fin 512) (j : Fin 512) :
    (iblk m c 2 t : Vec Ideal S512x512 .bf16) (ix2 r j) = os (m ((c : Thread nD τ).loc main_arg2)) (ix2 (at_ t r) j) := by
  show V m c main_v6 (((cfg0.win 2).blk t).view.emb (ix2 r j)) = _
  rw [V2]
  obtain ⟨e0, e1⟩ := idx2 t
  refine congrArg _ ?_
  funext a; apply Fin.ext
  match a with
  | ⟨0, _⟩ => show win0_2.index t (0 : Fin 2) * 512 + 1 * r.val = t.val * 512 + r.val; omega
  | ⟨1, _⟩ => show win0_2.index t (1 : Fin 2) * 512 + 1 * j.val = j.val; omega

theorem blk3 (t : Fin cfg0.N) (r : Fin 512) (j : Fin 256) :
    (iblk m c 3 t : Vec Ideal S512x256 .f32) (ix2 r j) = ps (m ((c : Thread nD τ).loc main_arg3)) (ix2 (at_ t r) j) := by
  show V m c main_v8 (((cfg0.win 3).blk t).view.emb (ix2 r j)) = _
  rw [V3]
  obtain ⟨e0, e1⟩ := idx3 t
  refine congrArg _ ?_
  funext a; apply Fin.ext
  match a with
  | ⟨0, _⟩ => show win0_3.index t (0 : Fin 2) * 512 + 1 * r.val = t.val * 512 + r.val; omega
  | ⟨1, _⟩ => show win0_3.index t (1 : Fin 2) * 256 + 1 * j.val = j.val; omega

theorem blk4 (t : Fin cfg0.N) (r : Fin 512) (j : Fin 1024) :
    (iblk m c 4 t : Vec Ideal S512x1024 .bf16) (ix2 r j) = wns (m ((c : Thread nD τ).loc main_arg4)) (ix2 r j) := by
  show V m c main_v17 (((cfg0.win 4).blk t).view.emb (ix2 r j)) = _
  rw [V4]
  obtain ⟨e0, e1⟩ := idx4 t
  refine congrArg _ ?_
  funext a; apply Fin.ext
  match a with
  | ⟨0, _⟩ => show win0_4.index t (0 : Fin 2) * 512 + 1 * r.val = r.val; omega
  | ⟨1, _⟩ => show win0_4.index t (1 : Fin 2) * 1024 + 1 * j.val = j.val; omega

theorem blk5 (t : Fin cfg0.N) (r : Fin 512) (j : Fin 1024) :
    (iblk m c 5 t : Vec Ideal S512x1024 .bf16) (ix2 r j) = wrs (m ((c : Thread nD τ).loc main_arg4)) (ix2 r j) := by
  show V m c main_v19 (((cfg0.win 5).blk t).view.emb (ix2 r j)) = _
  rw [V5]
  obtain ⟨e0, e1⟩ := idx5 t
  refine congrArg _ ?_
  funext a; apply Fin.ext
  match a with
  | ⟨0, _⟩ => show win0_5.index t (0 : Fin 2) * 512 + 1 * r.val = r.val; omega
  | ⟨1, _⟩ => show win0_5.index t (1 : Fin 2) * 1024 + 1 * j.val = j.val; omega

theorem blk6 (t : Fin cfg0.N) (i : Fin 1024) (j : Fin 5632) :
    (iblk m c 6 t : Vec Ideal S1x1x1024x5632 .bf16) (ix4 (0 : Fin 1) (0 : Fin 1) i j) = (m ((c : Thread nD τ).loc main_arg5) : FVec Ideal S1x2x1024x5632 .f32) (ix4 (0 : Fin 1) (1 : Fin 2) i j) := by
  show V m c main_v0 (((cfg0.win 6).blk t).view.emb (ix4 (0 : Fin 1) (0 : Fin 1) i j)) = _
  rw [V6]
  obtain ⟨e0, e1, e2, e3⟩ := idx6 t
  refine congrArg (m ((c : Thread nD τ).loc main_arg5) : FVec Ideal S1x2x1024x5632 .f32) ?_
  funext a; apply Fin.ext
  match a with
  | ⟨0, _⟩ => show win0_6.index t (0 : Fin 4) * 1 + 1 * 0 = 0; omega
  | ⟨1, _⟩ => show win0_6.index t (1 : Fin 4) * 1 + 1 * 0 = 1; omega
  | ⟨2, _⟩ => show win0_6.index t (2 : Fin 4) * 1024 + 1 * i.val = i.val; omega
  | ⟨3, _⟩ => show win0_6.index t (3 : Fin 4) * 5632 + 1 * j.val = j.val; omega

theorem blk7 (t : Fin cfg0.N) (i : Fin 2816) (j : Fin 1024) :
    (iblk m c 7 t : Vec Ideal S1x1x2816x1024 .bf16) (ix4 (0 : Fin 1) (0 : Fin 1) i j) = (m ((c : Thread nD τ).loc main_arg6) : FVec Ideal S1x2x2816x1024 .f32) (ix4 (0 : Fin 1) (1 : Fin 2) i j) := by
  show V m c main_v1 (((cfg0.win 7).blk t).view.emb (ix4 (0 : Fin 1) (0 : Fin 1) i j)) = _
  rw [V7]
  obtain ⟨e0, e1, e2, e3⟩ := idx7 t
  refine congrArg (m ((c : Thread nD τ).loc main_arg6) : FVec Ideal S1x2x2816x1024 .f32) ?_
  funext a; apply Fin.ext
  match a with
  | ⟨0, _⟩ => show win0_7.index t (0 : Fin 4) * 1 + 1 * 0 = 0; omega
  | ⟨1, _⟩ => show win0_7.index t (1 : Fin 4) * 1 + 1 * 0 = 1; omega
  | ⟨2, _⟩ => show win0_7.index t (2 : Fin 4) * 2816 + 1 * i.val = i.val; omega
  | ⟨3, _⟩ => show win0_7.index t (3 : Fin 4) * 1024 + 1 * j.val = j.val; omega

theorem blk8 (t : Fin cfg0.N) (r : Fin 256) (j : Fin 1024) :
    (iblk m c 8 t : Vec Ideal S256x1024 .bf16) (ix2 r j) = wps (m ((c : Thread nD τ).loc main_arg7)) (ix2 r j) := by
  show V m c main_v20 (((cfg0.win 8).blk t).view.emb (ix2 r j)) = _
  rw [V8]
  obtain ⟨e0, e1⟩ := idx8 t
  refine congrArg _ ?_
  funext a; apply Fin.ext
  match a with
  | ⟨0, _⟩ => show win0_8.index t (0 : Fin 2) * 256 + 1 * r.val = r.val; omega
  | ⟨1, _⟩ => show win0_8.index t (1 : Fin 2) * 1024 + 1 * j.val = j.val; omega

theorem blk9 (t : Fin cfg0.N) (r : Fin 1024) (j : Fin 1024) :
    (iblk m c 9 t : Vec Ideal S1024x1024 .bf16) (ix2 r j) = wgs (m ((c : Thread nD τ).loc main_arg8)) (ix2 r j) := by
  show V m c main_v21 (((cfg0.win 9).blk t).view.emb (ix2 r j)) = _
  rw [V9]
  obtain ⟨e0, e1⟩ := idx9 t
  refine congrArg _ ?_
  funext a; apply Fin.ext
  match a with
  | ⟨0, _⟩ => show win0_9.index t (0 : Fin 2) * 1024 + 1 * r.val = r.val; omega
  | ⟨1, _⟩ => show win0_9.index t (1 : Fin 2) * 1024 + 1 * j.val = j.val; omega

theorem blk10 (t : Fin cfg0.N) (r : Fin 3) (j : Fin 1024) :
    (iblk m c 10 t : Vec Ideal S3x1024 .f32) (ix2 r j) = gs (m ((c : Thread nD τ).loc main_arg9)) (ix2 r j) := by
  show V m c main_v13 (((cfg0.win 10).blk t).view.emb (ix2 r j)) = _
  rw [V10]
  obtain ⟨e0, e1⟩ := idx10 t
  refine congrArg _ ?_
  funext a; apply Fin.ext
  match a with
  | ⟨0, _⟩ => show win0_10.index t (0 : Fin 2) * 3 + 1 * r.val = r.val; omega
  | ⟨1, _⟩ => show win0_10.index t (1 : Fin 2) * 1024 + 1 * j.val = j.val; omega

theorem blk11 (t : Fin cfg0.N) (r : Fin 3) (j : Fin 1024) :
    (iblk m c 11 t : Vec Ideal S3x1024 .f32) (ix2 r j) = gs (m ((c : Thread nD τ).loc main_arg10)) (ix2 r j) := by
  show V m c main_v15 (((cfg0.win 11).blk t).view.emb (ix2 r j)) = _
  rw [V11]
  obtain ⟨e0, e1⟩ := idx11 t
  refine congrArg _ ?_
  funext a; apply Fin.ext
  match a with
  | ⟨0, _⟩ => show win0_11.index t (0 : Fin 2) * 3 + 1 * r.val = r.val; omega
  | ⟨1, _⟩ => show win0_11.index t (1 : Fin 2) * 1024 + 1 * j.val = j.val; omega

theorem emb12 (t : Fin cfg0.N) (r : Fin 512) (j : Fin 1024) : ((cfg0.win 12).blk t).view.emb (ix2 r j : S512x1024.Idx) = (ix2 (at_ t r) j : S32768x1024.Idx) := by
  obtain ⟨e0, e1⟩ := idx12 t
  funext a; apply Fin.ext
  match a with
  | ⟨0, _⟩ => show win0_12.index t (0 : Fin 2) * 512 + 1 * r.val = t.val * 512 + r.val; omega
  | ⟨1, _⟩ => show win0_12.index t (1 : Fin 2) * 1024 + 1 * j.val = j.val; omega

/-! ## What a point writes back -/

variable (x : FVec Ideal S4x8192x1024 .f32) (on or : FVec Ideal S4x8192x512 .f32) (p : FVec Ideal S1x4x8192x256 .f32) (wo : FVec Ideal S1x1024x1024 .f32)
  (w13 : FVec Ideal S1x2x1024x5632 .f32) (w2 : FVec Ideal S1x2x2816x1024 .f32) (wp : FVec Ideal S1x256x1024 .f32) (wg : FVec Ideal S1x1024x1024 .f32) (g b : FVec Ideal S1x4x1024 .f32)

theorem cut_eq (t : Fin cfg0.N) (X : Vec Ideal S512x1024 .f32) (G : FVec Ideal S32768x1024 .f32) (h : ∀ (r : Fin 512) (j : Fin 1024), X (ix2 r j) = G (ix2 (at_ t r) j)) :
    (cfg0.win 12).cut (grid0.coords t) X = ((cfg0.win 12).blk t).view.read (Elt Ideal) G := by
  funext y
  have hy : (y : S512x1024.Idx) = ix2 (⟨(y 0).val, (y 0).isLt⟩ : Fin 512) (⟨(y 1).val, (y 1).isLt⟩ : Fin 1024) := by
    funext a
    match a with
    | ⟨0, _⟩ => rfl
    | ⟨1, _⟩ => rfl
  show X y = G (((cfg0.win 12).blk t).view.emb y)
  rw [hy, emb12]
  exact h _ _

theorem flush (h0 : m ((c : Thread nD τ).loc main_arg0) = x) (h1 : m ((c : Thread nD τ).loc main_arg1) = on) (h2 : m ((c : Thread nD τ).loc main_arg2) = or) (h3 : m ((c : Thread nD τ).loc main_arg3) = p) (h4 : m ((c : Thread nD τ).loc main_arg4) = wo) (h5 : m ((c : Thread nD τ).loc main_arg5) = w13) (h6 : m ((c : Thread nD τ).loc main_arg6) = w2) (h7 : m ((c : Thread nD τ).loc main_arg7) = wp) (h8 : m ((c : Thread nD τ).loc main_arg8) = wg) (h9 : m ((c : Thread nD τ).loc main_arg9) = g) (h10 : m ((c : Thread nD τ).loc main_arg10) = b) (t : Fin cfg0.N) :
    (dats m 0 c).flushed 12 t = ((cfg0.win 12).blk t).view.read (Elt Ideal) (TailRef.res x on or p wo w13 w2 wp wg g b) := by
  rw [flushed12]
  refine cut_eq t _ _ fun r j => ?_
  refine (TailBlock.out_at _ _ _ _ _ _ _ _ _ _ _ _ r j).trans ?_
  simp only [blk0, blk1, blk2, blk3, blk4, blk5, blk6, blk7, blk8, blk9, blk10, blk11, h0, h1, h2, h3, h4, h5, h6, h7, h8, h9, h10, xs_at, os_at, ps_at, wns_at, wrs_at, wps_at, wgs_at, gs_at]
  exact (TailRef.res_at x on or p wo w13 w2 wp wg g b (at_ t r) j).symm

/-- Every index of the result is in the block of its grid point. -/
theorem covered (i : S32768x1024.Idx) : ∃ t : Fin cfg0.N, (cfg0.win 12).flush t = true ∧ i ∈ ((cfg0.win 12).blk t).view.set := by
  have h0 : (i 0).val < 32768 := (i 0).isLt
  have h1 : (i 1).val < 1024 := (i 1).isLt
  obtain ⟨n, hn⟩ : ∃ n : ℕ, n = (i 0).val / 512 := ⟨_, rfl⟩
  have hnl : n < cfg0.N := by show n < 64; omega
  refine ⟨⟨n, hnl⟩, flush0_12 _, ?_⟩
  have e : ((cfg0.win 12).blk (⟨n, hnl⟩ : Fin cfg0.N)).view.emb (ix2 (⟨(i 0).val % 512, by omega⟩ : Fin 512) (⟨(i 1).val, h1⟩ : Fin 1024) : S512x1024.Idx) = i := by
    refine (emb12 ⟨n, hnl⟩ _ _).trans ?_
    funext a; apply Fin.ext
    match a with
    | ⟨0, _⟩ => show n * 512 + (i 0).val % 512 = (i 0).val; omega
    | ⟨1, _⟩ => rfl
  have h := ((cfg0.win 12).blk (⟨n, hnl⟩ : Fin cfg0.N)).view.emb_mem_set (ix2 (⟨(i 0).val % 512, by omega⟩ : Fin 512) (⟨(i 1).val, h1⟩ : Fin 1024) : S512x1024.Idx)
  rw [e] at h
  exact h

/-- The result's array after the run. -/
theorem final (h0 : m ((c : Thread nD τ).loc main_arg0) = x) (h1 : m ((c : Thread nD τ).loc main_arg1) = on) (h2 : m ((c : Thread nD τ).loc main_arg2) = or) (h3 : m ((c : Thread nD τ).loc main_arg3) = p) (h4 : m ((c : Thread nD τ).loc main_arg4) = wo) (h5 : m ((c : Thread nD τ).loc main_arg5) = w13) (h6 : m ((c : Thread nD τ).loc main_arg6) = w2) (h7 : m ((c : Thread nD τ).loc main_arg7) = wp) (h8 : m ((c : Thread nD τ).loc main_arg8) = wg) (h9 : m ((c : Thread nD τ).loc main_arg9) = g) (h10 : m ((c : Thread nD τ).loc main_arg10) = b) : (dats m 0 c).arrAt 12 cfg0.N = TailRef.res x on or p wo w13 w2 wp wg g b :=
  (dats m 0 c).arrAt_eq_of_cover 12 (TailRef.res x on or p wo w13 w2 wp wg g b) (fun t _ => flush m c x on or p wo w13 w2 wp wg g b h0 h1 h2 h3 h4 h5 h6 h7 h8 h9 h10 t) covered

end Cert.Proof.TailFinal

end
-- ==== Proof.InBlock.lean ====
/- Hand-written, untrusted: A BLOCK OF THE PROJECTION INTO THE MIXERS, entry by entry (`out3_at` to `out11_at`): sums of products of
   the block's rows of the residual stream with columns of the weights. -/
module

public import proofs.«01_k».proof.Proof.Gen.InIdeal.Value
public import Idealize.ShloMosaic.Lib.Pipeline.ValueKit
public import Idealize.ShloMosaic.Lib.Pointwise

@[expose] public section

noncomputable section

namespace Cert.Proof.InBlock

open Cert.InIdeal Cert.InIdeal.Gen Idealize.ShloMosaic Idealize.SL.Sem

/-- The scale of the queries: one eighth over the natural logarithm of two. -/
def scale : EReal := (((1 / 8) * (Real.log 2)⁻¹ : ℝ) : EReal)

theorem named_scale : (Named.named κ "scale" 0x3E38AA3B#32 : Ideal .f32) = scale := rfl

theorem rows_at (x : FVec Ideal S1x512x1024 .f32) (r : Fin 512) (i : Fin 1024) : k0_pay2 (F := Ideal) x (ix2 r i) = x (ix3 (0 : Fin 1) r i) := by
  pointwise [k0_pay2]

theorem dot1 (x : FVec Ideal S512x1024 .bf16) (w : FVec Ideal S1024x2816 .bf16) (r : Fin 512) (n : Fin 2816) :
    matmul dot_S512x1024_S1024x2816_S512x2816_1_0_0_1_n_n none x (shapeCast S1024x2816 w shapeCasts_S1024x2816_S1024x2816) (constant (F := Ideal) S512x2816 .f32 0x00000000#32) (ix2 r n)
      = ∑ i : Fin 1024, x (ix2 r i) * w (ix2 i n) := by
  pointwise

theorem nat_at (x : FVec Ideal S1x512x1024 .f32) (w : FVec Ideal S1024x2816 .bf16) (r : Fin 512) (n : Fin 2816) :
    k0_pay3 (F := Ideal) x w (ix2 r n) = ∑ i : Fin 1024, x (ix3 (0 : Fin 1) r i) * w (ix2 i n) := by
  unfold k0_pay3
  refine (dot1 _ _ r n).trans ?_
  simp only [rows_at]

theorem dot2 (x : FVec Ideal S512x1024 .bf16) (w : FVec Ideal S800x1024 .bf16) (n : Fin 800) (r : Fin 512) :
    matmul dot_S800x1024_S512x1024_S800x512_1_1_0_0_n_n none (shapeCast S800x1024 w shapeCasts_S800x1024_S800x1024) x (constant (F := Ideal) S800x512 .f32 0x00000000#32) (ix2 n r)
      = ∑ i : Fin 1024, w (ix2 n i) * x (ix2 r i) := by
  pointwise

theorem tr_at (x : FVec Ideal S1x512x1024 .f32) (w : FVec Ideal S800x1024 .bf16) (n : Fin 800) (r : Fin 512) :
    k0_pay17 (F := Ideal) (k0_pay2 x) w (ix2 n r) = ∑ i : Fin 1024, x (ix3 (0 : Fin 1) r i) * w (ix2 n i) := by
  unfold k0_pay17
  refine (dot2 _ _ n r).trans ?_
  simp only [rows_at, mul_comm]

theorem pay4_at (x : FVec Ideal S1x512x1024 .f32) (w : FVec Ideal S1024x2816 .bf16) (r : Fin 512) (n : Fin 128) :
    k0_pay4 (F := Ideal) x w (ix3 (0 : Fin 1) r n) = ∑ i : Fin 1024, x (ix3 (0 : Fin 1) r i) * w (ix2 i (⟨n.val, by omega⟩ : Fin 2816)) := by
  unfold k0_pay4
  have h := nat_at x w
  generalize k0_pay3 (F := Ideal) x w = z at h ⊢
  pointwise
  exact h _ _

theorem pay5_at (x : FVec Ideal S1x512x1024 .f32) (w : FVec Ideal S1024x2816 .bf16) (r : Fin 512) (n : Fin 128) :
    k0_pay5 (F := Ideal) x w (ix3 (0 : Fin 1) r n) = ∑ i : Fin 1024, x (ix3 (0 : Fin 1) r i) * w (ix2 i (⟨128 + n.val, by omega⟩ : Fin 2816)) := by
  unfold k0_pay5
  have h := nat_at x w
  generalize k0_pay3 (F := Ideal) x w = z at h ⊢
  pointwise
  exact h _ _

theorem pay6_at (x : FVec Ideal S1x512x1024 .f32) (w : FVec Ideal S1024x2816 .bf16) (r : Fin 512) (n : Fin 2048) :
    k0_pay6 (F := Ideal) x w (ix3 (0 : Fin 1) r n) = ∑ i : Fin 1024, x (ix3 (0 : Fin 1) r i) * w (ix2 i (⟨256 + n.val, by omega⟩ : Fin 2816)) := by
  unfold k0_pay6
  have h := nat_at x w
  generalize k0_pay3 (F := Ideal) x w = z at h ⊢
  pointwise
  exact h _ _

theorem pay18_at (x : FVec Ideal S1x512x1024 .f32) (w : FVec Ideal S800x1024 .bf16) (n : Fin 512) (r : Fin 512) :
    k0_pay18 (F := Ideal) (k0_pay2 x) w (ix3 (0 : Fin 1) n r) = (∑ i : Fin 1024, x (ix3 (0 : Fin 1) r i) * w (ix2 (⟨n.val, by omega⟩ : Fin 800) i)) * scale := by
  unfold k0_pay18
  rw [named_scale]
  have h := tr_at x w
  generalize k0_pay17 (F := Ideal) (k0_pay2 x) w = z at h ⊢
  generalize scale = s
  pointwise
  rw [← h]

theorem pay19_at (x : FVec Ideal S1x512x1024 .f32) (w : FVec Ideal S800x1024 .bf16) (n : Fin 128) (r : Fin 512) :
    k0_pay19 (F := Ideal) (k0_pay2 x) w (ix3 (0 : Fin 1) n r) = ∑ i : Fin 1024, x (ix3 (0 : Fin 1) r i) * w (ix2 (⟨512 + n.val, by omega⟩ : Fin 800) i) := by
  unfold k0_pay19
  have h := tr_at x w
  generalize k0_pay17 (F := Ideal) (k0_pay2 x) w = z at h ⊢
  pointwise
  exact h _ _

theorem pay20_at (x : FVec Ideal S1x512x1024 .f32) (w : FVec Ideal S800x1024 .bf16) (n : Fin 128) (r : Fin 512) :
    k0_pay20 (F := Ideal) (k0_pay2 x) w (ix3 (0 : Fin 1) n r) = ∑ i : Fin 1024, x (ix3 (0 : Fin 1) r i) * w (ix2 (⟨640 + n.val, by omega⟩ : Fin 800) i) := by
  unfold k0_pay20
  have h := tr_at x w
  generalize k0_pay17 (F := Ideal) (k0_pay2 x) w = z at h ⊢
  pointwise
  exact h _ _

variable (p : grid0.Coords) (x : Vec Ideal S1x512x1024 .f32) (w : Vec Ideal S1024x2816 .bf16) (v : Vec Ideal S800x1024 .bf16)

/-! ## What the block's stores leave -/

theorem out3_at (r : Fin 512) (n : Fin 128) :
    out0_3 (F := Ideal) p x w v (ix3 (0 : Fin 1) r n) = ∑ i : Fin 1024, x (ix3 (0 : Fin 1) r i) * w (ix2 i (⟨n.val, by omega⟩ : Fin 2816)) := by
  unfold out0_3
  simp (disch := decide) only [View.ld_unit_lit', View.canon_cons_unit_lit']
  exact pay4_at x w r n

theorem out4_at (r : Fin 512) (n : Fin 128) :
    out0_4 (F := Ideal) p x w v (ix3 (0 : Fin 1) r n) = ∑ i : Fin 1024, x (ix3 (0 : Fin 1) r i) * w (ix2 i (⟨128 + n.val, by omega⟩ : Fin 2816)) := by
  unfold out0_4
  simp (disch := decide) only [View.ld_unit_lit', View.canon_cons_unit_lit']
  exact pay5_at x w r n

theorem out5_at (r : Fin 512) (n : Fin 2048) :
    out0_5 (F := Ideal) p x w v (ix3 (0 : Fin 1) r n) = ∑ i : Fin 1024, x (ix3 (0 : Fin 1) r i) * w (ix2 i (⟨256 + n.val, by omega⟩ : Fin 2816)) := by
  unfold out0_5
  simp (disch := decide) only [View.ld_unit_lit', View.canon_cons_unit_lit']
  exact pay6_at x w r n

theorem out8_at (n : Fin 512) (r : Fin 512) :
    out0_8 (F := Ideal) p x w v (ix3 (0 : Fin 1) n r) = (∑ i : Fin 1024, x (ix3 (0 : Fin 1) r i) * v (ix2 (⟨n.val, by omega⟩ : Fin 800) i)) * scale := by
  unfold out0_8 k0_pay22
  simp (disch := decide) only [View.ld_unit_lit', View.canon_cons_unit_lit']
  exact pay18_at x v n r

theorem out9_at (n : Fin 128) (r : Fin 512) :
    out0_9 (F := Ideal) p x w v (ix3 (0 : Fin 1) n r) = ∑ i : Fin 1024, x (ix3 (0 : Fin 1) r i) * v (ix2 (⟨512 + n.val, by omega⟩ : Fin 800) i) := by
  unfold out0_9 k0_pay22
  simp (disch := decide) only [View.ld_unit_lit', View.canon_cons_unit_lit']
  exact pay19_at x v n r

theorem out10_at (n : Fin 128) (r : Fin 512) :
    out0_10 (F := Ideal) p x w v (ix3 (0 : Fin 1) n r) = ∑ i : Fin 1024, x (ix3 (0 : Fin 1) r i) * v (ix2 (⟨640 + n.val, by omega⟩ : Fin 800) i) := by
  unfold out0_10 k0_pay22
  simp (disch := decide) only [View.ld_unit_lit', View.canon_cons_unit_lit']
  exact pay20_at x v n r

/-! ## The padded keys and gates -/

theorem pay11_at (z : FVec Ideal S512x2816 .f32) (r : Fin 512) (n : Fin 128) : k0_pay11 (F := Ideal) z (ix4 (0 : Fin 1) (0 : Fin 1) r n) = z (ix2 r (⟨2304 + n.val, by omega⟩ : Fin 2816)) := by
  pointwise [k0_pay11]

theorem pay14_at (z : FVec Ideal S512x2816 .f32) (r : Fin 512) (n : Fin 128) : k0_pay14 (F := Ideal) z (ix4 (0 : Fin 1) (0 : Fin 1) r n) = z (ix2 r (⟨2432 + n.val, by omega⟩ : Fin 2816)) := by
  pointwise [k0_pay14]

theorem pay13_at (z : FVec Ideal S512x2816 .f32) (r : Fin 512) (n : Fin 128) : k0_pay13 (F := Ideal) z (ix4 (0 : Fin 1) (0 : Fin 1) r n) = z (ix2 r (⟨2560 + n.val, by omega⟩ : Fin 2816)) := by
  pointwise [k0_pay13]

theorem pay16_at (z : FVec Ideal S512x2816 .f32) (r : Fin 512) (n : Fin 128) : k0_pay16 (F := Ideal) z (ix4 (0 : Fin 1) (0 : Fin 1) r n) = z (ix2 r (⟨2688 + n.val, by omega⟩ : Fin 2816)) := by
  pointwise [k0_pay16]

theorem pay15_at (z : FVec Ideal S512x128 .bf16) (r : Fin 512) (n : Fin 128) : k0_pay15 (F := Ideal) z (ix4 (0 : Fin 1) (0 : Fin 1) r n) = z (ix2 r n) := by
  pointwise [k0_pay15]

theorem pay1_at (z : FVec Ideal S800x512 .f32) (r : Fin 512) (n : Fin 32) :
    k0_pay1 (F := Ideal) (extractStridedSlice S32x512 ![768, 0] z slices_S800x512_o768_0_S32x512) (ix3 (0 : Fin 1) n r) = z (ix2 (⟨768 + n.val, by omega⟩ : Fin 800) r) := by
  pointwise [k0_pay1]

theorem out11_at (n : Fin 32) (r : Fin 512) :
    out0_11 (F := Ideal) p x w v (ix3 (0 : Fin 1) n r) = ∑ i : Fin 1024, x (ix3 (0 : Fin 1) r i) * v (ix2 (⟨768 + n.val, by omega⟩ : Fin 800) i) := by
  unfold out0_11 k0_pay22 k0_pay21
  simp (disch := decide) only [View.ld_unit_lit', View.canon_cons_unit_lit']
  exact (pay1_at _ r n).trans (tr_at x v _ r)

/-- A stored piece read at an index that it holds. -/
theorem piece (X : Vec Ideal S1x1x512x128 .bf16) (o2 : EReal) (y : S1x1x512x128.Idx) (r : Fin 512) (n : Fin 128) (h2 : (y 2).val = r.val) (h3 : (y 3).val = n.val) (h : X (ix4 (0 : Fin 1) (0 : Fin 1) r n) = o2) : X y = o2 := by
  have hy : y = (ix4 (0 : Fin 1) (0 : Fin 1) r n : S1x1x512x128.Idx) := by
    funext a
    match a with
    | ⟨0, _⟩ => exact Fin.ext (by have := (y 0).isLt; have h1 : (y 0).val < 1 := this; show (y 0).val = 0; omega)
    | ⟨1, _⟩ => exact Fin.ext (by have := (y 1).isLt; have h1 : (y 1).val < 1 := this; show (y 1).val = 0; omega)
    | ⟨2, _⟩ => exact Fin.ext h2
    | ⟨3, _⟩ => exact Fin.ext h3
  rw [hy, h]

theorem out7_at (g : Fin 2) (r : Fin 512) (n : Fin 128) :
    out0_7 (F := Ideal) p x w v (ix4 (0 : Fin 1) g r n) = ∑ i : Fin 1024, x (ix3 (0 : Fin 1) r i) * w (ix2 i (⟨2560 + (g.val * 128 + n.val), by omega⟩ : Fin 2816)) := by
  unfold out0_7 k0_pay23
  simp (disch := decide) only [View.ld_unit_lit']
  refine View.canon_eq_of_allAt _ _ _ (cover0_7 (F := Ideal) _ _ _) ?_
  refine View.allAt_cons_unit _ _ _ _ _ (fun y hy => ?_) ?_
  · have h1 : 1 + (y 1).val = g.val := (hy 1).symm
    refine piece _ _ y r n (by have h : 0 + (y 2).val = r.val := (hy 2).symm; omega) (by have h : 0 + (y 3).val = n.val := (hy 3).symm; omega) ?_
    refine (pay16_at _ r n).trans ((nat_at x w r _).trans ?_)
    have e : (⟨2688 + n.val, by omega⟩ : Fin 2816) = ⟨2560 + (g.val * 128 + n.val), by omega⟩ := Fin.ext (by show 2688 + n.val = 2560 + (g.val * 128 + n.val); omega)
    rw [e]
  refine View.allAt_cons_unit _ _ _ _ _ (fun y hy => ?_) (View.allAt_nil _ _)
  have h1 : 0 + (y 1).val = g.val := (hy 1).symm
  have h1' : (y 1).val < 1 := (y 1).isLt
  refine piece _ _ y r n (by have h : 0 + (y 2).val = r.val := (hy 2).symm; omega) (by have h : 0 + (y 3).val = n.val := (hy 3).symm; omega) ?_
  refine (pay13_at _ r n).trans ((nat_at x w r _).trans ?_)
  have e : (⟨2560 + n.val, by omega⟩ : Fin 2816) = ⟨2560 + (g.val * 128 + n.val), by omega⟩ := Fin.ext (by show 2560 + n.val = 2560 + (g.val * 128 + n.val); omega)
  rw [e]

/-! ## The table of the tokens' own blocks -/

theorem row_at (r : Fin 512) (n : Fin 128) : k0_pay7 p (ix2 r n) = BitVec.ofNat 32 ((p 1).val * 512 + r.val) := by
  pointwise [k0_pay7]
  have hp : (p 1).val < 16 := (p 1).isLt
  show BitVec.ofNat 32 (p 1).val * 512#32 + BitVec.ofNat 32 r.val = _
  apply BitVec.eq_of_toNat_eq
  simp only [BitVec.toNat_add, BitVec.toNat_mul, BitVec.toNat_ofNat]
  omega

/-- The quotient rounded down of a small number by 64, as the kernel makes it. -/
def quotient (a : BitVec 32) : BitVec 32 :=
  Scalar.select
    (IntOp.andi
      (IntOp.cmpi CmpIPredicate.ne
        (IntOp.subi (BitVec.setWidth 32 (IntOp.cmpi CmpIPredicate.sgt a 0#32)) (BitVec.setWidth 32 (IntOp.cmpi CmpIPredicate.slt a 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector a 64#32) 0#32))
    (IntOp.subi (IntOp.divsi ArithUnit.vector a 64#32) 1#32) (IntOp.divsi ArithUnit.vector a 64#32)

theorem quotients : ∀ a : Fin 8192, quotient (BitVec.ofNat 32 a.val) = BitVec.ofNat 32 (a.val / 64) := by decide +kernel

def table : FVec Ideal S512x128 .bf16 :=
  k0_pay10 (F := Ideal) (k0_pay7 p) 64#32 (k0_pay8 p) (k0_pay9 p) (Scalar.extui (Scalar.cmpi .sgt 64#32 0#32)) (Scalar.cmpi .slt 64#32 0#32)

theorem table_word (r : Fin 512) (n : Fin 128) :
    table p (ix2 r n) = Scalar.select (IntOp.cmpi CmpIPredicate.eq (quotient (k0_pay7 p (ix2 r n))) (BitVec.ofNat 32 n.val)) (Ideal.ofBits FTy.f32 0xF149F2CA#32) 0 := by
  pointwise [table, k0_pay10, k0_pay9, k0_pay8, quotient]

theorem table_at (r : Fin 512) (n : Fin 128) : table p (ix2 r n) = Scalar.select (IntOp.cmpi CmpIPredicate.eq (BitVec.ofNat 32 (((p 1).val * 512 + r.val) / 64)) (BitVec.ofNat 32 n.val)) (Ideal.ofBits FTy.f32 0xF149F2CA#32) 0 := by
  have hp : (p 1).val < 16 := (p 1).isLt
  have hq := quotients ⟨(p 1).val * 512 + r.val, by omega⟩
  rw [table_word, row_at, hq]

theorem pay12_at (r : Fin 512) (n : Fin 128) :
    k0_pay12 (F := Ideal) (k0_pay7 p) 64#32 (k0_pay8 p) (k0_pay9 p) (Scalar.extui (Scalar.cmpi .sgt 64#32 0#32)) (Scalar.cmpi .slt 64#32 0#32) (ix4 (0 : Fin 1) (0 : Fin 1) r n) = table p (ix2 r n) := by
  unfold k0_pay12
  show shapeCast S1x1x512x128 (table p) _ _ = _
  generalize table p = z
  pointwise

/-- The entry of the first 256 columns' selected-block result: a sum of products, then the table. -/
theorem out6_lt (g : Fin 2) (r : Fin 512) (n : Fin 128) :
    out0_6 (F := Ideal) p x w v (ix4 (0 : Fin 1) g r (⟨n.val, by omega⟩ : Fin 256)) = ∑ i : Fin 1024, x (ix3 (0 : Fin 1) r i) * w (ix2 i (⟨2304 + (g.val * 128 + n.val), by omega⟩ : Fin 2816)) := by
  unfold out0_6 k0_pay23 k0_pay24 k0_pay25 k0_pay26
  simp (disch := decide) only [View.ld_unit_lit']
  refine View.canon_eq_of_allAt _ _ _ (cover0_6 (F := Ideal) _ _ _ _ _) ?_
  refine View.allAt_cons_unit _ _ _ _ _ (fun y hy => ?_) ?_
  · have h3 : 128 + (y 3).val = n.val := (hy 3).symm
    omega
  refine View.allAt_cons_unit _ _ _ _ _ (fun y hy => ?_) ?_
  · have h1 : 1 + (y 1).val = g.val := (hy 1).symm
    refine piece _ _ y r n (by have h : 0 + (y 2).val = r.val := (hy 2).symm; omega) (by have h : 0 + (y 3).val = n.val := (hy 3).symm; omega) ?_
    refine (pay14_at _ r n).trans ((nat_at x w r _).trans ?_)
    have e : (⟨2432 + n.val, by omega⟩ : Fin 2816) = ⟨2304 + (g.val * 128 + n.val), by omega⟩ := Fin.ext (by show 2432 + n.val = 2304 + (g.val * 128 + n.val); omega)
    rw [e]
  refine View.allAt_cons_unit _ _ _ _ _ (fun y hy => ?_) ?_
  · have h3 : 128 + (y 3).val = n.val := (hy 3).symm
    omega
  refine View.allAt_cons_unit _ _ _ _ _ (fun y hy => ?_) (View.allAt_nil _ _)
  have h1 : 0 + (y 1).val = g.val := (hy 1).symm
  have h1' : (y 1).val < 1 := (y 1).isLt
  refine piece _ _ y r n (by have h : 0 + (y 2).val = r.val := (hy 2).symm; omega) (by have h : 0 + (y 3).val = n.val := (hy 3).symm; omega) ?_
  refine (pay11_at _ r n).trans ((nat_at x w r _).trans ?_)
  have e : (⟨2304 + n.val, by omega⟩ : Fin 2816) = ⟨2304 + (g.val * 128 + n.val), by omega⟩ := Fin.ext (by show 2304 + n.val = 2304 + (g.val * 128 + n.val); omega)
  rw [e]

theorem out6_ge (g : Fin 2) (r : Fin 512) (n : Fin 128) : out0_6 (F := Ideal) p x w v (ix4 (0 : Fin 1) g r (⟨128 + n.val, by omega⟩ : Fin 256)) = table p (ix2 r n) := by
  unfold out0_6 k0_pay23 k0_pay24 k0_pay25 k0_pay26
  simp (disch := decide) only [View.ld_unit_lit']
  refine View.canon_eq_of_allAt _ _ _ (cover0_6 (F := Ideal) _ _ _ _ _) ?_
  refine View.allAt_cons_unit _ _ _ _ _ (fun y hy => ?_) ?_
  · refine piece _ _ y r n (by have h : 0 + (y 2).val = r.val := (hy 2).symm; omega) (by have h : 128 + (y 3).val = 128 + n.val := (hy 3).symm; omega) ?_
    exact pay15_at _ r n
  refine View.allAt_cons_unit _ _ _ _ _ (fun y hy => ?_) ?_
  · have h3 : 0 + (y 3).val = 128 + n.val := (hy 3).symm
    have h3' : (y 3).val < 128 := (y 3).isLt
    omega
  refine View.allAt_cons_unit _ _ _ _ _ (fun y hy => ?_) ?_
  · refine piece _ _ y r n (by have h : 0 + (y 2).val = r.val := (hy 2).symm; omega) (by have h : 128 + (y 3).val = 128 + n.val := (hy 3).symm; omega) ?_
    exact pay12_at p r n
  refine View.allAt_cons_unit _ _ _ _ _ (fun y hy => ?_) (View.allAt_nil _ _)
  have h3 : 0 + (y 3).val = 128 + n.val := (hy 3).symm
  have h3' : (y 3).val < 128 := (y 3).isLt
  omega

end Cert.Proof.InBlock

end
-- ==== Proof.InRef.lean ====
/- Hand-written, untrusted: WHAT THE REFERENCE OF THE PROJECTION INTO THE MIXERS COMPUTES, entry by entry: each of its nine results is a part of the
   product of the residual stream with the input weights, some by rows and some transposed, the queries scaled, some padded, one
   beside the table of the tokens' blocks. -/
module

public import proofs.«01_k».proof.Proof.Gen.InRefIdeal.Run
public import Idealize.ShloMosaic.Lib.Pointwise
public import Idealize.ShloMosaic.Lib.KernelVsHost
public import Idealize.ShloMosaic.Lib.Routing.Words

@[expose] public section

noncomputable section

namespace Cert.Proof.InRef

open Cert.InRefIdeal Cert.InRefIdeal.Gen Idealize.ShloMosaic Idealize.SL.Sem

/-- The product of the residual stream with the input weights. -/
def proj (x : FVec Ideal S4x8192x1024 .f32) (w : FVec Ideal S1x1024x3352 .f32) : FVec Ideal S4x8192x3352 .f32 :=
  Host.dotGeneral dot_S4x8192x1024_S1024x3352_S4x8192x3352_2_0_01_1_n_n none x (shapeCast S1024x3352 w shapeCasts_S1x1024x3352_S1024x3352)

/-- One entry of it. -/
def entry (x : FVec Ideal S4x8192x1024 .f32) (w : FVec Ideal S1x1024x3352 .f32) (b : Fin 4) (t : Fin 8192) (n : Fin 3352) : EReal :=
  ∑ i : Fin 1024, x (ix3 b t i) * w (ix3 (0 : Fin 1) i n)

theorem proj_at (x : FVec Ideal S4x8192x1024 .f32) (w : FVec Ideal S1x1024x3352 .f32) (b : Fin 4) (t : Fin 8192) (n : Fin 3352) :
    proj x w (ix3 b t n) = entry x w b t n := by
  unfold entry
  pointwise [proj]

/-- The keys and values of the three branches. -/
def kv (z : FVec Ideal S4x8192x3352 .f32) : FVec Ideal S4x8192x768 .f32 := extractStridedSlice S4x8192x768 ![0, 0, 512] z slices_S4x8192x3352_S4x8192x768_0_0_512

def first (z : FVec Ideal S4x8192x3352 .f32) : FVec Ideal S4x8192x128 .f32 := extractStridedSlice S4x8192x128 ![0, 0, 0] (kv z) slices_S4x8192x768_S4x8192x128_0_0_0

def second (z : FVec Ideal S4x8192x3352 .f32) : FVec Ideal S4x8192x128 .f32 := extractStridedSlice S4x8192x128 ![0, 0, 128] (kv z) slices_S4x8192x768_S4x8192x128_0_0_128

def third (z : FVec Ideal S4x8192x3352 .f32) : FVec Ideal S4x8192x2048 .f32 := extractStridedSlice S4x8192x2048 ![0, 0, 1304] z slices_S4x8192x3352_S4x8192x2048_0_0_1304

def queries (z : FVec Ideal S4x8192x3352 .f32) : FVec Ideal S4x8192x512 .f32 :=
  Host.divf (mulf (extractStridedSlice S4x8192x512 ![0, 0, 0] z slices_S4x8192x3352_S4x8192x512_0_0_0) (broadcastInDim S4x8192x512 ![] bcast_S_S4x8192x512 (constant S_ .f32 0x3E000000#32)))
    (broadcastInDim S4x8192x512 ![] bcast_S_S4x8192x512 (Host.log (constant S_ .f32 0x40000000#32)))

def fourth (z : FVec Ideal S4x8192x3352 .f32) : FVec Ideal S4x512x8192 .bf16 := truncf .bf16 (transpose S4x512x8192 [0, 2, 1] (queries z) transposes_S4x8192x512_S4x512x8192_0_2_1) bitsLt_bf16_f32

def fifth (z : FVec Ideal S4x8192x3352 .f32) : FVec Ideal S4x128x8192 .bf16 :=
  truncf .bf16 (transpose S4x128x8192 [0, 2, 1] (extractStridedSlice S4x8192x128 ![0, 0, 384] (kv z) slices_S4x8192x768_S4x8192x128_0_0_384) transposes_S4x8192x128_S4x128x8192_0_2_1) bitsLt_bf16_f32

def sixth (z : FVec Ideal S4x8192x3352 .f32) : FVec Ideal S4x128x8192 .bf16 :=
  truncf .bf16 (transpose S4x128x8192 [0, 2, 1] (extractStridedSlice S4x8192x128 ![0, 0, 640] (kv z) slices_S4x8192x768_S4x8192x128_0_0_640) transposes_S4x8192x128_S4x128x8192_0_2_1) bitsLt_bf16_f32

/-- Two groups of 64 columns brought before the tokens, each padded to 128 by zeros. -/
def grouped (u : FVec Ideal S4x8192x128 .f32) : FVec Ideal S4x2x8192x128 .f32 :=
  pad S4x2x8192x128 ![0, 0, 0, 0] ![0, 0, 0, 64] ![0, 0, 0, 0] (transpose S4x2x8192x64 [0, 2, 1, 3] (shapeCast S4x8192x2x64 u shapeCasts_S4x8192x128_S4x8192x2x64) transposes_S4x8192x2x64_S4x2x8192x64_0_2_1_3)
    (sitofp .f32 (constantI S_ 32 0#32)) pads_S4x2x8192x64_S4x2x8192x128_000_000_000_0640 h_S_

def third' (z : FVec Ideal S4x8192x3352 .f32) : FVec Ideal S4x8192x128 .f32 := extractStridedSlice S4x8192x128 ![0, 0, 256] (kv z) slices_S4x8192x768_S4x8192x128_0_0_256

def fifth' (z : FVec Ideal S4x8192x3352 .f32) : FVec Ideal S4x8192x128 .f32 := extractStridedSlice S4x8192x128 ![0, 0, 512] (kv z) slices_S4x8192x768_S4x8192x128_0_0_512

def window (z : FVec Ideal S4x8192x3352 .f32) : FVec Ideal S4x2x8192x128 .bf16 := truncf .bf16 (grouped (fifth' z)) bitsLt_bf16_f32

/-- The number of each token's block. -/
def block : IVec S8192 32 := Host.divsi (iotaInDim S8192 32 0) (broadcastInDim S8192 ![] bcast_S_S8192 (constantI S_ 32 64#32))

/-- The table of the tokens' own blocks. -/
def bias : FVec Ideal S8192x128 .f32 :=
  select (cmpi .eq (broadcastInDim S8192x128 ![0, 1] bcast_S8192x1_S8192x128_0_1 (broadcastInDim S8192x1 ![0] bcast_S8192_S8192x1_0 block))
      (broadcastInDim S8192x128 ![0, 1] bcast_S1x128_S8192x128_0_1 (broadcastInDim S1x128 ![1] bcast_S128_S1x128_1 (iotaInDim S128 32 0))))
    (broadcastInDim S8192x128 ![] bcast_S_S8192x128 (constant S_ .f32 0xF149F2CA#32)) (broadcastInDim S8192x128 ![] bcast_S_S8192x128 (constant S_ .f32 0x00000000#32))

def joined (k : FVec Ideal S4x2x8192x128 .f32) (a : FVec Ideal S8192x128 .f32) : FVec Ideal S4x2x8192x256 .bf16 :=
  truncf .bf16 (Cert.InRefIdeal.Value.fn_main_v44 (F := Ideal) k (broadcastInDim S4x2x8192x128 ![2, 3] bcast_S8192x128_S4x2x8192x128_2_3 a)) bitsLt_bf16_f32

def selected (z : FVec Ideal S4x8192x3352 .f32) : FVec Ideal S4x2x8192x256 .bf16 := joined (grouped (third' z)) bias

def gatesPadded (z : FVec Ideal S4x8192x3352 .f32) : FVec Ideal S4x8192x32 .f32 :=
  shapeCast S4x8192x32 (pad S4x8192x2x16 ![0, 0, 0, 0] ![0, 0, 0, 4] ![0, 0, 0, 0] (shapeCast S4x8192x2x12 (extractStridedSlice S4x8192x24 ![0, 0, 1280] z slices_S4x8192x3352_S4x8192x24_0_0_1280) shapeCasts_S4x8192x24_S4x8192x2x12)
    (sitofp .f32 (constantI S_ 32 0#32)) pads_S4x8192x2x12_S4x8192x2x16_000_000_000_040 h_S_) shapeCasts_S4x8192x2x16_S4x8192x32

def gates (z : FVec Ideal S4x8192x3352 .f32) : FVec Ideal S4x32x8192 .f32 := transpose S4x32x8192 [0, 2, 1] (gatesPadded z) transposes_S4x8192x32_S4x32x8192_0_2_1

variable (z : FVec Ideal S4x8192x3352 .f32) (b : Fin 4) (t : Fin 8192)

theorem first_at (n : Fin 128) : first z (ix3 b t n) = z (ix3 b t (⟨512 + n.val, by omega⟩ : Fin 3352)) := by
  pointwise [first, kv]

theorem second_at (n : Fin 128) : second z (ix3 b t n) = z (ix3 b t (⟨512 + (128 + n.val), by omega⟩ : Fin 3352)) := by
  pointwise [second, kv]

theorem third_at (n : Fin 2048) : third z (ix3 b t n) = z (ix3 b t (⟨1304 + n.val, by omega⟩ : Fin 3352)) := by
  pointwise [third]

theorem scaled (s : EReal) : Ideal.div (s * Ideal.ofBits FTy.f32 0x3E000000#32) (Ideal.log (Ideal.ofBits FTy.f32 0x40000000#32)) = s * (((1 / 8) * (Real.log 2)⁻¹ : ℝ) : EReal) := by
  have h8 : Ideal.ofBits FTy.f32 0x3E000000#32 = ((1 / 8 : ℝ) : EReal) := by
    simp [Ideal.ofBits, Ideal.ieee, -EReal.coe_mul]; norm_num
  have h2 : Ideal.ofBits FTy.f32 0x40000000#32 = ((2 : ℝ) : EReal) := by
    simp [Ideal.ofBits, Ideal.ieee, -EReal.coe_mul]; norm_num
  have hl : Real.log 2 ≠ 0 := (Real.log_pos (by norm_num)).ne'
  rw [h8, h2, Ideal.log_coe, if_neg (by norm_num), Ideal.div_coe hl, mul_assoc, ← EReal.coe_mul]
  congr 2
  ring

theorem queries_at (n : Fin 512) : queries z (ix3 b t n) = z (ix3 b t (⟨n.val, by omega⟩ : Fin 3352)) * (((1 / 8) * (Real.log 2)⁻¹ : ℝ) : EReal) := by
  rw [← scaled]
  pointwise [queries]

theorem fourth_at (n : Fin 512) : fourth z (ix3 b n t) = z (ix3 b t (⟨n.val, by omega⟩ : Fin 3352)) * (((1 / 8) * (Real.log 2)⁻¹ : ℝ) : EReal) := by
  rw [← queries_at]
  unfold fourth
  generalize queries z = q
  pointwise

theorem fifth_at (n : Fin 128) : fifth z (ix3 b n t) = z (ix3 b t (⟨512 + (384 + n.val), by omega⟩ : Fin 3352)) := by
  pointwise [fifth, kv]

theorem sixth_at (n : Fin 128) : sixth z (ix3 b n t) = z (ix3 b t (⟨512 + (640 + n.val), by omega⟩ : Fin 3352)) := by
  pointwise [sixth, kv]

theorem zero_word : (FloatOps.sitofp FTy.f32 0#32 : Ideal .f32) = 0 := sitofp_zero

theorem grouped_lt (u : FVec Ideal S4x8192x128 .f32) (g : Fin 2) (n : Fin 64) : grouped u (ix4 b g t (⟨n.val, by omega⟩ : Fin 128)) = u (ix3 b t (⟨g.val * 64 + n.val, by omega⟩ : Fin 128)) := by
  pointwise [grouped]

theorem grouped_ge (u : FVec Ideal S4x8192x128 .f32) (g : Fin 2) (n : Fin 64) : grouped u (ix4 b g t (⟨64 + n.val, by omega⟩ : Fin 128)) = 0 := by
  pointwise [grouped]
  exact zero_word

theorem joined_lt (k : FVec Ideal S4x2x8192x128 .f32) (a : FVec Ideal S8192x128 .f32) (g : Fin 2) (n : Fin 128) : joined k a (ix4 b g t (⟨n.val, by omega⟩ : Fin 256)) = k (ix4 b g t n) := by
  pointwise [joined, Cert.InRefIdeal.Value.fn_main_v44]

theorem joined_ge (k : FVec Ideal S4x2x8192x128 .f32) (a : FVec Ideal S8192x128 .f32) (g : Fin 2) (n : Fin 128) : joined k a (ix4 b g t (⟨128 + n.val, by omega⟩ : Fin 256)) = a (ix2 t n) := by
  pointwise [joined, Cert.InRefIdeal.Value.fn_main_v44]

theorem third'_at (n : Fin 128) : third' z (ix3 b t n) = z (ix3 b t (⟨512 + (256 + n.val), by omega⟩ : Fin 3352)) := by
  pointwise [third', kv]

theorem fifth'_at (n : Fin 128) : fifth' z (ix3 b t n) = z (ix3 b t (⟨512 + (512 + n.val), by omega⟩ : Fin 3352)) := by
  pointwise [fifth', kv]

theorem window_at (g : Fin 2) (n : Fin 128) : window z (ix4 b g t n) = grouped (fifth' z) (ix4 b g t n) := rfl

theorem gates_at (n : Fin 32) : gates z (ix3 b n t) = gatesPadded z (ix3 b t n) := by
  unfold gates
  generalize gatesPadded z = q
  pointwise

theorem gatesPadded_lt (g : Fin 2) (n : Fin 12) : gatesPadded z (ix3 b t (⟨g.val * 16 + n.val, by omega⟩ : Fin 32)) = z (ix3 b t (⟨1280 + (g.val * 12 + n.val), by omega⟩ : Fin 3352)) := by
  pointwise [gatesPadded]
  rw [dif_pos (by omega)]
  exact congrArg (fun k => z (ix3 b t k)) (Fin.ext (by show 1280 + (g.val * 12 + (g.val * 16 + n.val) % 16) = 1280 + (g.val * 12 + n.val); omega))

theorem gatesPadded_ge (g : Fin 2) (n : Fin 4) : gatesPadded z (ix3 b t (⟨g.val * 16 + (12 + n.val), by omega⟩ : Fin 32)) = 0 := by
  pointwise [gatesPadded]
  rw [dif_neg (by omega)]
  exact zero_word

/-- A choice by the equality of two small numbers' words is the choice by the numbers. -/
theorem chosen (a b : ℕ) (ha : a < 8192) (hb : b < 8192) (A B : EReal) : Scalar.select (IntOp.cmpi CmpIPredicate.eq (BitVec.ofNat 32 a) (BitVec.ofNat 32 b)) A B = if a = b then A else B := by
  have e : (BitVec.ofNat 32 a = BitVec.ofNat 32 b) ↔ a = b := by
    constructor
    · intro h
      have h' := congrArg BitVec.toNat h
      rw [BitVec.toNat_ofNat, BitVec.toNat_ofNat] at h'
      omega
    · rintro rfl; rfl
  by_cases h : a = b
  · subst h
    simp [Scalar.select, IntOp.cmpi]
  · have hf : (BitVec.ofNat 32 a == BitVec.ofNat 32 b) = false := by rw [beq_eq_false_iff_ne]; exact fun q => h (e.1 q)
    simp [Scalar.select, IntOp.cmpi, h, hf]

theorem bias_at (n : Fin 128) : bias (ix2 t n) = if t.val / 64 = n.val then Ideal.ofBits FTy.f32 0xF149F2CA#32 else 0 := by
  pointwise [bias, block]
  rw [Routing.divsi_word ArithUnit.host (a := t.val) (b := 64) (by omega) (by omega) (by omega)]
  exact chosen _ _ (by omega) (by omega) _ _

end Cert.Proof.InRef

end
-- ==== Proof.InFinal.lean ====
/- Hand-written, untrusted: THE RESULTS OF THE PROJECTION INTO THE MIXERS AFTER THE RUN (`final3` to `final10`): six of the reference's nine results
   on the arguments' launch contents. The two weight arrays the call finds are columns of the input weights joined in another
   order; a grid point's block is 512 tokens of one batch. -/
module

public import proofs.«01_k».proof.Proof.InBlock
public import proofs.«01_k».proof.Proof.InRef

@[expose] public section

noncomputable section

namespace Cert.Proof.InFinal

open Cert.InIdeal Cert.InIdeal.Gen Cert.InIdeal.Value Idealize.ShloMosaic Idealize.ShloMosaic.TcCoe Idealize.SL.Sem Idealize.ShloMosaic.StableHlo

variable (m : (ℓ : Loc nD τ sig) → Buf (Elt Ideal) ℓ) (c : Dev nD)

/-! ## The weights the call finds -/

def flat (w : FVec Ideal S1x1024x3352 .f32) : FVec Ideal S1024x3352 .f32 := shapeCast S1024x3352 w shapeCasts_S1x1024x3352_S1024x3352

/-- The columns of the six keys and values. -/
def kvw (w : FVec Ideal S1024x3352 .f32) : FVec Ideal S1024x6x128 .f32 :=
  shapeCast S1024x6x128 (extractStridedSlice S1024x768 ![0, 512] w slices_S1024x3352_S1024x768_0_512) shapeCasts_S1024x768_S1024x6x128

def part0 (u : FVec Ideal S1024x6x128 .f32) : FVec Ideal S1024x128 .f32 :=
  shapeCast S1024x128 (extractStridedSlice S1024x1x128 ![0, 0, 0] u slices_S1024x6x128_S1024x1x128_0_0_0) shapeCasts_S1024x1x128_S1024x128

def part1 (u : FVec Ideal S1024x6x128 .f32) : FVec Ideal S1024x128 .f32 :=
  shapeCast S1024x128 (extractStridedSlice S1024x1x128 ![0, 1, 0] u slices_S1024x6x128_S1024x1x128_0_1_0) shapeCasts_S1024x1x128_S1024x128

def part2 (u : FVec Ideal S1024x6x128 .f32) : FVec Ideal S1024x128 .f32 :=
  shapeCast S1024x128 (extractStridedSlice S1024x1x128 ![0, 2, 0] u slices_S1024x6x128_S1024x1x128_0_2_0) shapeCasts_S1024x1x128_S1024x128

def part3 (u : FVec Ideal S1024x6x128 .f32) : FVec Ideal S1024x128 .f32 :=
  shapeCast S1024x128 (extractStridedSlice S1024x1x128 ![0, 3, 0] u slices_S1024x6x128_S1024x1x128_0_3_0) shapeCasts_S1024x1x128_S1024x128

def part4 (u : FVec Ideal S1024x6x128 .f32) : FVec Ideal S1024x128 .f32 :=
  shapeCast S1024x128 (extractStridedSlice S1024x1x128 ![0, 4, 0] u slices_S1024x6x128_S1024x1x128_0_4_0) shapeCasts_S1024x1x128_S1024x128

def part5 (u : FVec Ideal S1024x6x128 .f32) : FVec Ideal S1024x128 .f32 :=
  shapeCast S1024x128 (extractStridedSlice S1024x1x128 ![0, 5, 0] u slices_S1024x6x128_S1024x1x128_0_5_0) shapeCasts_S1024x1x128_S1024x128

/-- Two groups of 64 columns, each padded to 128. -/
def padded (u : FVec Ideal S1024x128 .f32) : FVec Ideal S1024x256 .f32 :=
  shapeCast S1024x256 (pad S1024x2x128 ![0, 0, 0] ![0, 0, 64] ![0, 0, 0] (shapeCast S1024x2x64 u shapeCasts_S1024x128_S1024x2x64) (sitofp .f32 (constantI S_ 32 0#32)) pads_S1024x2x64_S1024x2x128_000_000_0640 h_S_)
    shapeCasts_S1024x2x128_S1024x256

/-- The gates' columns, padded. -/
def gates (w : FVec Ideal S1024x3352 .f32) : FVec Ideal S1024x32 .f32 :=
  shapeCast S1024x32 (pad S1024x2x16 ![0, 0, 0] ![0, 0, 4] ![0, 0, 0] (shapeCast S1024x2x12 (extractStridedSlice S1024x24 ![0, 1280] w slices_S1024x3352_S1024x24_0_1280) shapeCasts_S1024x24_S1024x2x12)
    (sitofp .f32 (constantI S_ 32 0#32)) pads_S1024x2x12_S1024x2x16_000_000_040 h_S_) shapeCasts_S1024x2x16_S1024x32

def rets (w : FVec Ideal S1024x3352 .f32) : FVec Ideal S1024x2048 .f32 := extractStridedSlice S1024x2048 ![0, 1304] w slices_S1024x3352_S1024x2048_0_1304

def qs (w : FVec Ideal S1024x3352 .f32) : FVec Ideal S1024x512 .f32 := extractStridedSlice S1024x512 ![0, 0] w slices_S1024x3352_S1024x512_0_0

def cat5 (a b : FVec Ideal S1024x128 .f32) (r : FVec Ideal S1024x2048 .f32) (d e : FVec Ideal S1024x256 .f32) : FVec Ideal S1024x2816 .bf16 :=
  truncf .bf16 (concatenate S1024x2816 1 [⟨S1024x128, a⟩, ⟨S1024x128, b⟩, ⟨S1024x2048, r⟩, ⟨S1024x256, d⟩, ⟨S1024x256, e⟩] concatenates_S1024x128_S1024x128_S1024x2048_S1024x256_S1024x256_S1024x2816_d1) bitsLt_bf16_f32

def cat4 (q : FVec Ideal S1024x512 .f32) (a b : FVec Ideal S1024x128 .f32) (d : FVec Ideal S1024x32 .f32) : FVec Ideal S800x1024 .bf16 :=
  truncf .bf16 (transpose S800x1024 [1, 0] (concatenate S1024x800 1 [⟨S1024x512, q⟩, ⟨S1024x128, a⟩, ⟨S1024x128, b⟩, ⟨S1024x32, d⟩] concatenates_S1024x512_S1024x128_S1024x128_S1024x32_S1024x800_d1) transposes_S1024x800_S800x1024_1_0) bitsLt_bf16_f32

/-- The weights of the products by rows. -/
def wn (w : FVec Ideal S1x1024x3352 .f32) : FVec Ideal S1024x2816 .bf16 :=
  cat5 (part0 (kvw (flat w))) (part1 (kvw (flat w))) (rets (flat w)) (padded (part2 (kvw (flat w)))) (padded (part4 (kvw (flat w))))

/-- The weights of the transposed products. -/
def wt (w : FVec Ideal S1x1024x3352 .f32) : FVec Ideal S800x1024 .bf16 :=
  cat4 (qs (flat w)) (part3 (kvw (flat w))) (part5 (kvw (flat w))) (gates (flat w))

theorem V1 : V m c main_v29 = wn (m ((c : Thread nD τ).loc main_arg1)) := by
  simp only [V, hostOps0, hostOps0_1, hostOps0_2, hostOps0_3, hostOps0_4, hostOps0_5, hostOps0_6, List.flatten_cons, List.flatten_nil, List.append_nil, List.cons_append, List.nil_append, TRef.unary, TRef.binary, TRef.ternary, TRef.toBuf, TRef.ofBuf, cast_eq]
  after_results_simp
  rfl

theorem V2 : V m c main_v31 = wt (m ((c : Thread nD τ).loc main_arg1)) := by
  simp only [V, hostOps0, hostOps0_1, hostOps0_2, hostOps0_3, hostOps0_4, hostOps0_5, hostOps0_6, List.flatten_cons, List.flatten_nil, List.append_nil, List.cons_append, List.nil_append, TRef.unary, TRef.binary, TRef.ternary, TRef.toBuf, TRef.ofBuf, cast_eq]
  after_results_simp
  rfl

theorem V0 : V m c main_arg0 = m ((c : Thread nD τ).loc main_arg0) := V_main_arg0 m c

theorem flat_at (w : FVec Ideal S1x1024x3352 .f32) (i : Fin 1024) (n : Fin 3352) : flat w (ix2 i n) = w (ix3 (0 : Fin 1) i n) := by
  pointwise [flat]

theorem kvw_at (w : FVec Ideal S1024x3352 .f32) (i : Fin 1024) (j : Fin 6) (n : Fin 128) : kvw w (ix3 i j n) = w (ix2 i (⟨512 + (j.val * 128 + n.val), by omega⟩ : Fin 3352)) := by
  pointwise [kvw]

theorem part0_at (u : FVec Ideal S1024x6x128 .f32) (i : Fin 1024) (n : Fin 128) : part0 u (ix2 i n) = u (ix3 i (0 : Fin 6) n) := by
  pointwise [part0]

theorem part1_at (u : FVec Ideal S1024x6x128 .f32) (i : Fin 1024) (n : Fin 128) : part1 u (ix2 i n) = u (ix3 i (1 : Fin 6) n) := by
  pointwise [part1]

theorem part2_at (u : FVec Ideal S1024x6x128 .f32) (i : Fin 1024) (n : Fin 128) : part2 u (ix2 i n) = u (ix3 i (2 : Fin 6) n) := by
  pointwise [part2]

theorem part3_at (u : FVec Ideal S1024x6x128 .f32) (i : Fin 1024) (n : Fin 128) : part3 u (ix2 i n) = u (ix3 i (3 : Fin 6) n) := by
  pointwise [part3]

theorem part4_at (u : FVec Ideal S1024x6x128 .f32) (i : Fin 1024) (n : Fin 128) : part4 u (ix2 i n) = u (ix3 i (4 : Fin 6) n) := by
  pointwise [part4]

theorem part5_at (u : FVec Ideal S1024x6x128 .f32) (i : Fin 1024) (n : Fin 128) : part5 u (ix2 i n) = u (ix3 i (5 : Fin 6) n) := by
  pointwise [part5]

theorem rets_at (w : FVec Ideal S1024x3352 .f32) (i : Fin 1024) (n : Fin 2048) : rets w (ix2 i n) = w (ix2 i (⟨1304 + n.val, by omega⟩ : Fin 3352)) := by
  pointwise [rets]

theorem qs_at (w : FVec Ideal S1024x3352 .f32) (i : Fin 1024) (n : Fin 512) : qs w (ix2 i n) = w (ix2 i (⟨n.val, by omega⟩ : Fin 3352)) := by
  pointwise [qs]

section
variable (a b : FVec Ideal S1024x128 .f32) (r : FVec Ideal S1024x2048 .f32) (d e : FVec Ideal S1024x256 .f32) (q : FVec Ideal S1024x512 .f32) (f : FVec Ideal S1024x32 .f32) (i : Fin 1024)

theorem cat5_0 (n : Fin 128) : cat5 a b r d e (ix2 i (⟨n.val, by omega⟩ : Fin 2816)) = a (ix2 i n) := by
  pointwise [cat5]

theorem cat5_1 (n : Fin 128) : cat5 a b r d e (ix2 i (⟨128 + n.val, by omega⟩ : Fin 2816)) = b (ix2 i n) := by
  pointwise [cat5]

theorem cat5_2 (n : Fin 2048) : cat5 a b r d e (ix2 i (⟨256 + n.val, by omega⟩ : Fin 2816)) = r (ix2 i n) := by
  pointwise [cat5]
  rw [dif_neg (by omega), dif_neg (by omega), dif_pos (by omega)]
  exact congrArg (fun k => r (ix2 i k)) (Fin.ext (by show 256 + n.val - 128 - 128 = n.val; omega))

theorem cat4_0 (n : Fin 512) : cat4 q a b f (ix2 (⟨n.val, by omega⟩ : Fin 800) i) = q (ix2 i n) := by
  pointwise [cat4]

theorem cat4_1 (n : Fin 128) : cat4 q a b f (ix2 (⟨512 + n.val, by omega⟩ : Fin 800) i) = a (ix2 i n) := by
  pointwise [cat4]

theorem cat4_2 (n : Fin 128) : cat4 q a b f (ix2 (⟨640 + n.val, by omega⟩ : Fin 800) i) = b (ix2 i n) := by
  pointwise [cat4]
  rw [dif_neg (by omega), dif_neg (by omega), dif_pos (by omega)]
  exact congrArg (fun k => b (ix2 i k)) (Fin.ext (by show 640 + n.val - 512 - 128 = n.val; omega))

end

theorem wn_0 (w : FVec Ideal S1x1024x3352 .f32) (i : Fin 1024) (n : Fin 128) : wn w (ix2 i (⟨n.val, by omega⟩ : Fin 2816)) = w (ix3 (0 : Fin 1) i (⟨512 + n.val, by omega⟩ : Fin 3352)) := by
  simp only [wn, cat5_0, part0_at, kvw_at, flat_at]
  exact congrArg (fun k => w (ix3 (0 : Fin 1) i k)) (Fin.ext (by show 512 + (0 * 128 + n.val) = 512 + n.val; omega))

theorem wn_1 (w : FVec Ideal S1x1024x3352 .f32) (i : Fin 1024) (n : Fin 128) : wn w (ix2 i (⟨128 + n.val, by omega⟩ : Fin 2816)) = w (ix3 (0 : Fin 1) i (⟨512 + (128 + n.val), by omega⟩ : Fin 3352)) := by
  simp only [wn, cat5_1, part1_at, kvw_at, flat_at]
  exact congrArg (fun k => w (ix3 (0 : Fin 1) i k)) (Fin.ext (by show 512 + (1 * 128 + n.val) = 512 + (128 + n.val); omega))

theorem wn_2 (w : FVec Ideal S1x1024x3352 .f32) (i : Fin 1024) (n : Fin 2048) : wn w (ix2 i (⟨256 + n.val, by omega⟩ : Fin 2816)) = w (ix3 (0 : Fin 1) i (⟨1304 + n.val, by omega⟩ : Fin 3352)) := by
  simp only [wn, cat5_2, rets_at, flat_at]

theorem wt_0 (w : FVec Ideal S1x1024x3352 .f32) (i : Fin 1024) (n : Fin 512) : wt w (ix2 (⟨n.val, by omega⟩ : Fin 800) i) = w (ix3 (0 : Fin 1) i (⟨n.val, by omega⟩ : Fin 3352)) := by
  simp only [wt, cat4_0, qs_at, flat_at]

theorem wt_1 (w : FVec Ideal S1x1024x3352 .f32) (i : Fin 1024) (n : Fin 128) : wt w (ix2 (⟨512 + n.val, by omega⟩ : Fin 800) i) = w (ix3 (0 : Fin 1) i (⟨512 + (384 + n.val), by omega⟩ : Fin 3352)) := by
  simp only [wt, cat4_1, part3_at, kvw_at, flat_at]
  exact congrArg (fun k => w (ix3 (0 : Fin 1) i k)) (Fin.ext (by show 512 + (3 * 128 + n.val) = 512 + (384 + n.val); omega))

theorem wt_2 (w : FVec Ideal S1x1024x3352 .f32) (i : Fin 1024) (n : Fin 128) : wt w (ix2 (⟨640 + n.val, by omega⟩ : Fin 800) i) = w (ix3 (0 : Fin 1) i (⟨512 + (640 + n.val), by omega⟩ : Fin 3352)) := by
  simp only [wt, cat4_2, part5_at, kvw_at, flat_at]
  exact congrArg (fun k => w (ix3 (0 : Fin 1) i k)) (Fin.ext (by show 512 + (5 * 128 + n.val) = 512 + (640 + n.val); omega))

/-! ## The windows' blocks -/

theorem idx0 : ∀ t : Fin cfg0.N, win0_0.index t (0 : Fin 3) = t.val / 16 ∧ win0_0.index t (1 : Fin 3) = t.val % 16 ∧ win0_0.index t (2 : Fin 3) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 3) = t.val / 16 ∧ win0_3.index t (1 : Fin 3) = t.val % 16 ∧ win0_3.index t (2 : Fin 3) = 0 := (by decide +kernel : ∀ t : Fin grid0.N, _)
theorem idx4 : ∀ t : Fin cfg0.N, win0_4.index t (0 : Fin 3) = t.val / 16 ∧ win0_4.index t (1 : Fin 3) = t.val % 16 ∧ win0_4.index t (2 : Fin 3) = 0 := (by decide +kernel : ∀ t : Fin grid0.N, _)
theorem idx5 : ∀ t : Fin cfg0.N, win0_5.index t (0 : Fin 3) = t.val / 16 ∧ win0_5.index t (1 : Fin 3) = t.val % 16 ∧ win0_5.index t (2 : Fin 3) = 0 := (by decide +kernel : ∀ t : Fin grid0.N, _)
theorem idx8 : ∀ t : Fin cfg0.N, win0_8.index t (0 : Fin 3) = t.val / 16 ∧ win0_8.index t (1 : Fin 3) = 0 ∧ win0_8.index t (2 : Fin 3) = t.val % 16 := (by decide +kernel : ∀ t : Fin grid0.N, _)
theorem idx9 : ∀ t : Fin cfg0.N, win0_9.index t (0 : Fin 3) = t.val / 16 ∧ win0_9.index t (1 : Fin 3) = 0 ∧ win0_9.index t (2 : Fin 3) = t.val % 16 := (by decide +kernel : ∀ t : Fin grid0.N, _)
theorem idx10 : ∀ t : Fin cfg0.N, win0_10.index t (0 : Fin 3) = t.val / 16 ∧ win0_10.index t (1 : Fin 3) = 0 ∧ win0_10.index t (2 : Fin 3) = t.val % 16 := (by decide +kernel : ∀ t : Fin grid0.N, _)

theorem lt_N (t : Fin cfg0.N) : t.val < 64 := t.isLt

/-- The batch of a grid point, and the token of a block's row. -/
def bat (t : Fin cfg0.N) : Fin 4 := ⟨t.val / 16, by have := lt_N t; omega⟩

def tok (t : Fin cfg0.N) (r : Fin 512) : Fin 8192 := ⟨t.val % 16 * 512 + r.val, by omega⟩

theorem blk0 (t : Fin cfg0.N) (r : Fin 512) (j : Fin 1024) :
    (iblk m c 0 t : Vec Ideal S1x512x1024 .f32) (ix3 (0 : Fin 1) r j) = (m ((c : Thread nD τ).loc main_arg0) : FVec Ideal S4x8192x1024 .f32) (ix3 (bat t) (tok t r) j) := by
  show V m c main_arg0 (((cfg0.win 0).blk t).view.emb (ix3 (0 : Fin 1) r j)) = _
  rw [V0]
  obtain ⟨e0, e1, e2⟩ := idx0 t
  refine congrArg (m ((c : Thread nD τ).loc main_arg0) : FVec Ideal S4x8192x1024 .f32) ?_
  funext a; apply Fin.ext
  match a with
  | ⟨0, _⟩ => show win0_0.index t (0 : Fin 3) * 1 + 1 * 0 = t.val / 16; omega
  | ⟨1, _⟩ => show win0_0.index t (1 : Fin 3) * 512 + 1 * r.val = t.val % 16 * 512 + r.val; omega
  | ⟨2, _⟩ => show win0_0.index t (2 : Fin 3) * 1024 + 1 * j.val = j.val; omega

theorem blk1 (t : Fin cfg0.N) (r : Fin 1024) (j : Fin 2816) :
    (iblk m c 1 t : Vec Ideal S1024x2816 .bf16) (ix2 r j) = wn (m ((c : Thread nD τ).loc main_arg1)) (ix2 r j) := by
  show V m c main_v29 (((cfg0.win 1).blk t).view.emb (ix2 r j)) = _
  rw [V1]
  obtain ⟨e0, e1⟩ := idx1 t
  refine congrArg _ ?_
  funext a; apply Fin.ext
  match a with
  | ⟨0, _⟩ => show win0_1.index t (0 : Fin 2) * 1024 + 1 * r.val = r.val; omega
  | ⟨1, _⟩ => show win0_1.index t (1 : Fin 2) * 2816 + 1 * j.val = j.val; omega

theorem blk2 (t : Fin cfg0.N) (r : Fin 800) (j : Fin 1024) :
    (iblk m c 2 t : Vec Ideal S800x1024 .bf16) (ix2 r j) = wt (m ((c : Thread nD τ).loc main_arg1)) (ix2 r j) := by
  show V m c main_v31 (((cfg0.win 2).blk t).view.emb (ix2 r j)) = _
  rw [V2]
  obtain ⟨e0, e1⟩ := idx2 t
  refine congrArg _ ?_
  funext a; apply Fin.ext
  match a with
  | ⟨0, _⟩ => show win0_2.index t (0 : Fin 2) * 800 + 1 * r.val = r.val; omega
  | ⟨1, _⟩ => show win0_2.index t (1 : Fin 2) * 1024 + 1 * j.val = j.val; omega

/-! ## Window 3 -/

theorem emb3 (t : Fin cfg0.N) (r : Fin 512) (n : Fin 128) : ((cfg0.win 3).blk t).view.emb (ix3 (0 : Fin 1) r n : S1x512x128.Idx) = (ix3 (bat t) (tok t r) n : S4x8192x128.Idx) := by
  obtain ⟨e0, e1, e2⟩ := idx3 t
  funext a; apply Fin.ext
  match a with
  | ⟨0, _⟩ => show win0_3.index t (0 : Fin 3) * 1 + 1 * 0 = t.val / 16; omega
  | ⟨1, _⟩ => show win0_3.index t (1 : Fin 3) * 512 + 1 * r.val = t.val % 16 * 512 + r.val; omega
  | ⟨2, _⟩ => show win0_3.index t (2 : Fin 3) * 128 + 1 * n.val = n.val; omega

theorem cut3 (t : Fin cfg0.N) (X : Vec Ideal S1x512x128 .f32) (G : FVec Ideal S4x8192x128 .f32) (h : ∀ (r : Fin 512) (n : Fin 128), X (ix3 (0 : Fin 1) r n) = G (ix3 (bat t) (tok t r) n)) :
    (cfg0.win 3).cut (grid0.coords t) X = ((cfg0.win 3).blk t).view.read (Elt Ideal) G := by
  funext y
  have hy : (y : S1x512x128.Idx) = ix3 (0 : Fin 1) (⟨(y 1).val, (y 1).isLt⟩ : Fin 512) (⟨(y 2).val, (y 2).isLt⟩ : Fin 128) := by
    funext a
    match a with
    | ⟨0, _⟩ => exact Fin.ext (by have := (y 0).isLt; have h1 : (y 0).val < 1 := this; show (y 0).val = 0; omega)
    | ⟨1, _⟩ => rfl
    | ⟨2, _⟩ => rfl
  show X y = G (((cfg0.win 3).blk t).view.emb y)
  rw [hy, emb3]
  exact h _ _

theorem covered3 (i : S4x8192x128.Idx) : ∃ t : Fin cfg0.N, (cfg0.win 3).flush t = true ∧ i ∈ ((cfg0.win 3).blk t).view.set := by
  have h0 : (i 0).val < 4 := (i 0).isLt
  have ht : (i 1).val < 8192 := (i 1).isLt
  have hn : (i 2).val < 128 := (i 2).isLt
  obtain ⟨k, hk⟩ : ∃ k : ℕ, k = (i 0).val * 16 + (i 1).val / 512 := ⟨_, rfl⟩
  have hkl : k < cfg0.N := by show k < 64; omega
  refine ⟨⟨k, hkl⟩, flush0_3 _, ?_⟩
  have e : ((cfg0.win 3).blk (⟨k, hkl⟩ : Fin cfg0.N)).view.emb (ix3 (0 : Fin 1) (⟨(i 1).val % 512, by omega⟩ : Fin 512) (⟨(i 2).val, hn⟩ : Fin 128) : S1x512x128.Idx) = i := by
    refine (emb3 ⟨k, hkl⟩ _ _).trans ?_
    funext a; apply Fin.ext
    match a with
    | ⟨0, _⟩ => show k / 16 = (i 0).val; omega
    | ⟨1, _⟩ => show k % 16 * 512 + (i 1).val % 512 = (i 1).val; omega
    | ⟨2, _⟩ => rfl
  have h := ((cfg0.win 3).blk (⟨k, hkl⟩ : Fin cfg0.N)).view.emb_mem_set (ix3 (0 : Fin 1) (⟨(i 1).val % 512, by omega⟩ : Fin 512) (⟨(i 2).val, hn⟩ : Fin 128) : S1x512x128.Idx)
  rw [e] at h
  exact h

theorem final3 (x : FVec Ideal S4x8192x1024 .f32) (w : FVec Ideal S1x1024x3352 .f32) (hx : m ((c : Thread nD τ).loc main_arg0) = x) (hw : m ((c : Thread nD τ).loc main_arg1) = w) :
    (dats m 0 c).arrAt 3 cfg0.N = InRef.first (InRef.proj x w) := by
  refine (dats m 0 c).arrAt_eq_of_cover 3 (InRef.first (InRef.proj x w)) (fun t _ => ?_) covered3
  rw [flushed3]
  refine cut3 t _ _ fun r n => ?_
  refine (InBlock.out3_at _ _ _ _ r n).trans ?_
  rw [InRef.first_at, InRef.proj_at]
  simp only [blk0, blk1, hx, hw, wn_0]
  rfl

/-! ## Window 4 -/

theorem emb4 (t : Fin cfg0.N) (r : Fin 512) (n : Fin 128) : ((cfg0.win 4).blk t).view.emb (ix3 (0 : Fin 1) r n : S1x512x128.Idx) = (ix3 (bat t) (tok t r) n : S4x8192x128.Idx) := by
  obtain ⟨e0, e1, e2⟩ := idx4 t
  funext a; apply Fin.ext
  match a with
  | ⟨0, _⟩ => show win0_4.index t (0 : Fin 3) * 1 + 1 * 0 = t.val / 16; omega
  | ⟨1, _⟩ => show win0_4.index t (1 : Fin 3) * 512 + 1 * r.val = t.val % 16 * 512 + r.val; omega
  | ⟨2, _⟩ => show win0_4.index t (2 : Fin 3) * 128 + 1 * n.val = n.val; omega

theorem cut4 (t : Fin cfg0.N) (X : Vec Ideal S1x512x128 .f32) (G : FVec Ideal S4x8192x128 .f32) (h : ∀ (r : Fin 512) (n : Fin 128), X (ix3 (0 : Fin 1) r n) = G (ix3 (bat t) (tok t r) n)) :
    (cfg0.win 4).cut (grid0.coords t) X = ((cfg0.win 4).blk t).view.read (Elt Ideal) G := by
  funext y
  have hy : (y : S1x512x128.Idx) = ix3 (0 : Fin 1) (⟨(y 1).val, (y 1).isLt⟩ : Fin 512) (⟨(y 2).val, (y 2).isLt⟩ : Fin 128) := by
    funext a
    match a with
    | ⟨0, _⟩ => exact Fin.ext (by have := (y 0).isLt; have h1 : (y 0).val < 1 := this; show (y 0).val = 0; omega)
    | ⟨1, _⟩ => rfl
    | ⟨2, _⟩ => rfl
  show X y = G (((cfg0.win 4).blk t).view.emb y)
  rw [hy, emb4]
  exact h _ _

theorem covered4 (i : S4x8192x128.Idx) : ∃ t : Fin cfg0.N, (cfg0.win 4).flush t = true ∧ i ∈ ((cfg0.win 4).blk t).view.set := by
  have h0 : (i 0).val < 4 := (i 0).isLt
  have ht : (i 1).val < 8192 := (i 1).isLt
  have hn : (i 2).val < 128 := (i 2).isLt
  obtain ⟨k, hk⟩ : ∃ k : ℕ, k = (i 0).val * 16 + (i 1).val / 512 := ⟨_, rfl⟩
  have hkl : k < cfg0.N := by show k < 64; omega
  refine ⟨⟨k, hkl⟩, flush0_4 _, ?_⟩
  have e : ((cfg0.win 4).blk (⟨k, hkl⟩ : Fin cfg0.N)).view.emb (ix3 (0 : Fin 1) (⟨(i 1).val % 512, by omega⟩ : Fin 512) (⟨(i 2).val, hn⟩ : Fin 128) : S1x512x128.Idx) = i := by
    refine (emb4 ⟨k, hkl⟩ _ _).trans ?_
    funext a; apply Fin.ext
    match a with
    | ⟨0, _⟩ => show k / 16 = (i 0).val; omega
    | ⟨1, _⟩ => show k % 16 * 512 + (i 1).val % 512 = (i 1).val; omega
    | ⟨2, _⟩ => rfl
  have h := ((cfg0.win 4).blk (⟨k, hkl⟩ : Fin cfg0.N)).view.emb_mem_set (ix3 (0 : Fin 1) (⟨(i 1).val % 512, by omega⟩ : Fin 512) (⟨(i 2).val, hn⟩ : Fin 128) : S1x512x128.Idx)
  rw [e] at h
  exact h

theorem final4 (x : FVec Ideal S4x8192x1024 .f32) (w : FVec Ideal S1x1024x3352 .f32) (hx : m ((c : Thread nD τ).loc main_arg0) = x) (hw : m ((c : Thread nD τ).loc main_arg1) = w) :
    (dats m 0 c).arrAt 4 cfg0.N = InRef.second (InRef.proj x w) := by
  refine (dats m 0 c).arrAt_eq_of_cover 4 (InRef.second (InRef.proj x w)) (fun t _ => ?_) covered4
  rw [flushed4]
  refine cut4 t _ _ fun r n => ?_
  refine (InBlock.out4_at _ _ _ _ r n).trans ?_
  rw [InRef.second_at, InRef.proj_at]
  simp only [blk0, blk1, hx, hw, wn_1]
  rfl

/-! ## Window 5 -/

theorem emb5 (t : Fin cfg0.N) (r : Fin 512) (n : Fin 2048) : ((cfg0.win 5).blk t).view.emb (ix3 (0 : Fin 1) r n : S1x512x2048.Idx) = (ix3 (bat t) (tok t r) n : S4x8192x2048.Idx) := by
  obtain ⟨e0, e1, e2⟩ := idx5 t
  funext a; apply Fin.ext
  match a with
  | ⟨0, _⟩ => show win0_5.index t (0 : Fin 3) * 1 + 1 * 0 = t.val / 16; omega
  | ⟨1, _⟩ => show win0_5.index t (1 : Fin 3) * 512 + 1 * r.val = t.val % 16 * 512 + r.val; omega
  | ⟨2, _⟩ => show win0_5.index t (2 : Fin 3) * 2048 + 1 * n.val = n.val; omega

theorem cut5 (t : Fin cfg0.N) (X : Vec Ideal S1x512x2048 .f32) (G : FVec Ideal S4x8192x2048 .f32) (h : ∀ (r : Fin 512) (n : Fin 2048), X (ix3 (0 : Fin 1) r n) = G (ix3 (bat t) (tok t r) n)) :
    (cfg0.win 5).cut (grid0.coords t) X = ((cfg0.win 5).blk t).view.read (Elt Ideal) G := by
  funext y
  have hy : (y : S1x512x2048.Idx) = ix3 (0 : Fin 1) (⟨(y 1).val, (y 1).isLt⟩ : Fin 512) (⟨(y 2).val, (y 2).isLt⟩ : Fin 2048) := by
    funext a
    match a with
    | ⟨0, _⟩ => exact Fin.ext (by have := (y 0).isLt; have h1 : (y 0).val < 1 := this; show (y 0).val = 0; omega)
    | ⟨1, _⟩ => rfl
    | ⟨2, _⟩ => rfl
  show X y = G (((cfg0.win 5).blk t).view.emb y)
  rw [hy, emb5]
  exact h _ _

theorem covered5 (i : S4x8192x2048.Idx) : ∃ t : Fin cfg0.N, (cfg0.win 5).flush t = true ∧ i ∈ ((cfg0.win 5).blk t).view.set := by
  have h0 : (i 0).val < 4 := (i 0).isLt
  have ht : (i 1).val < 8192 := (i 1).isLt
  have hn : (i 2).val < 2048 := (i 2).isLt
  obtain ⟨k, hk⟩ : ∃ k : ℕ, k = (i 0).val * 16 + (i 1).val / 512 := ⟨_, rfl⟩
  have hkl : k < cfg0.N := by show k < 64; omega
  refine ⟨⟨k, hkl⟩, flush0_5 _, ?_⟩
  have e : ((cfg0.win 5).blk (⟨k, hkl⟩ : Fin cfg0.N)).view.emb (ix3 (0 : Fin 1) (⟨(i 1).val % 512, by omega⟩ : Fin 512) (⟨(i 2).val, hn⟩ : Fin 2048) : S1x512x2048.Idx) = i := by
    refine (emb5 ⟨k, hkl⟩ _ _).trans ?_
    funext a; apply Fin.ext
    match a with
    | ⟨0, _⟩ => show k / 16 = (i 0).val; omega
    | ⟨1, _⟩ => show k % 16 * 512 + (i 1).val % 512 = (i 1).val; omega
    | ⟨2, _⟩ => rfl
  have h := ((cfg0.win 5).blk (⟨k, hkl⟩ : Fin cfg0.N)).view.emb_mem_set (ix3 (0 : Fin 1) (⟨(i 1).val % 512, by omega⟩ : Fin 512) (⟨(i 2).val, hn⟩ : Fin 2048) : S1x512x2048.Idx)
  rw [e] at h
  exact h

theorem final5 (x : FVec Ideal S4x8192x1024 .f32) (w : FVec Ideal S1x1024x3352 .f32) (hx : m ((c : Thread nD τ).loc main_arg0) = x) (hw : m ((c : Thread nD τ).loc main_arg1) = w) :
    (dats m 0 c).arrAt 5 cfg0.N = InRef.third (InRef.proj x w) := by
  refine (dats m 0 c).arrAt_eq_of_cover 5 (InRef.third (InRef.proj x w)) (fun t _ => ?_) covered5
  rw [flushed5]
  refine cut5 t _ _ fun r n => ?_
  refine (InBlock.out5_at _ _ _ _ r n).trans ?_
  rw [InRef.third_at, InRef.proj_at]
  simp only [blk0, blk1, hx, hw, wn_2]
  rfl

/-! ## Window 8 -/

theorem emb8 (t : Fin cfg0.N) (r : Fin 512) (n : Fin 512) : ((cfg0.win 8).blk t).view.emb (ix3 (0 : Fin 1) n r : S1x512x512.Idx) = (ix3 (bat t) n (tok t r) : S4x512x8192.Idx) := by
  obtain ⟨e0, e1, e2⟩ := idx8 t
  funext a; apply Fin.ext
  match a with
  | ⟨0, _⟩ => show win0_8.index t (0 : Fin 3) * 1 + 1 * 0 = t.val / 16; omega
  | ⟨1, _⟩ => show win0_8.index t (1 : Fin 3) * 512 + 1 * n.val = n.val; omega
  | ⟨2, _⟩ => show win0_8.index t (2 : Fin 3) * 512 + 1 * r.val = t.val % 16 * 512 + r.val; omega

theorem cut8 (t : Fin cfg0.N) (X : Vec Ideal S1x512x512 .bf16) (G : FVec Ideal S4x512x8192 .bf16) (h : ∀ (r : Fin 512) (n : Fin 512), X (ix3 (0 : Fin 1) n r) = G (ix3 (bat t) n (tok t r))) :
    (cfg0.win 8).cut (grid0.coords t) X = ((cfg0.win 8).blk t).view.read (Elt Ideal) G := by
  funext y
  have hy : (y : S1x512x512.Idx) = ix3 (0 : Fin 1) (⟨(y 1).val, (y 1).isLt⟩ : Fin 512) (⟨(y 2).val, (y 2).isLt⟩ : Fin 512) := by
    funext a
    match a with
    | ⟨0, _⟩ => exact Fin.ext (by have := (y 0).isLt; have h1 : (y 0).val < 1 := this; show (y 0).val = 0; omega)
    | ⟨1, _⟩ => rfl
    | ⟨2, _⟩ => rfl
  show X y = G (((cfg0.win 8).blk t).view.emb y)
  rw [hy, emb8]
  exact h _ _

theorem covered8 (i : S4x512x8192.Idx) : ∃ t : Fin cfg0.N, (cfg0.win 8).flush t = true ∧ i ∈ ((cfg0.win 8).blk t).view.set := by
  have h0 : (i 0).val < 4 := (i 0).isLt
  have ht : (i 2).val < 8192 := (i 2).isLt
  have hn : (i 1).val < 512 := (i 1).isLt
  obtain ⟨k, hk⟩ : ∃ k : ℕ, k = (i 0).val * 16 + (i 2).val / 512 := ⟨_, rfl⟩
  have hkl : k < cfg0.N := by show k < 64; omega
  refine ⟨⟨k, hkl⟩, flush0_8 _, ?_⟩
  have e : ((cfg0.win 8).blk (⟨k, hkl⟩ : Fin cfg0.N)).view.emb (ix3 (0 : Fin 1) (⟨(i 1).val, hn⟩ : Fin 512) (⟨(i 2).val % 512, by omega⟩ : Fin 512) : S1x512x512.Idx) = i := by
    refine (emb8 ⟨k, hkl⟩ _ _).trans ?_
    funext a; apply Fin.ext
    match a with
    | ⟨0, _⟩ => show k / 16 = (i 0).val; omega
    | ⟨1, _⟩ => rfl
    | ⟨2, _⟩ => show k % 16 * 512 + (i 2).val % 512 = (i 2).val; omega
  have h := ((cfg0.win 8).blk (⟨k, hkl⟩ : Fin cfg0.N)).view.emb_mem_set (ix3 (0 : Fin 1) (⟨(i 1).val, hn⟩ : Fin 512) (⟨(i 2).val % 512, by omega⟩ : Fin 512) : S1x512x512.Idx)
  rw [e] at h
  exact h

theorem final8 (x : FVec Ideal S4x8192x1024 .f32) (w : FVec Ideal S1x1024x3352 .f32) (hx : m ((c : Thread nD τ).loc main_arg0) = x) (hw : m ((c : Thread nD τ).loc main_arg1) = w) :
    (dats m 0 c).arrAt 8 cfg0.N = InRef.fourth (InRef.proj x w) := by
  refine (dats m 0 c).arrAt_eq_of_cover 8 (InRef.fourth (InRef.proj x w)) (fun t _ => ?_) covered8
  rw [flushed8]
  refine cut8 t _ _ fun r n => ?_
  refine (InBlock.out8_at _ _ _ _ n r).trans ?_
  rw [InRef.fourth_at, InRef.proj_at]
  simp only [blk0, blk2, hx, hw, wt_0]
  rfl

/-! ## Window 9 -/

theorem emb9 (t : Fin cfg0.N) (r : Fin 512) (n : Fin 128) : ((cfg0.win 9).blk t).view.emb (ix3 (0 : Fin 1) n r : S1x128x512.Idx) = (ix3 (bat t) n (tok t r) : S4x128x8192.Idx) := by
  obtain ⟨e0, e1, e2⟩ := idx9 t
  funext a; apply Fin.ext
  match a with
  | ⟨0, _⟩ => show win0_9.index t (0 : Fin 3) * 1 + 1 * 0 = t.val / 16; omega
  | ⟨1, _⟩ => show win0_9.index t (1 : Fin 3) * 128 + 1 * n.val = n.val; omega
  | ⟨2, _⟩ => show win0_9.index t (2 : Fin 3) * 512 + 1 * r.val = t.val % 16 * 512 + r.val; omega

theorem cut9 (t : Fin cfg0.N) (X : Vec Ideal S1x128x512 .bf16) (G : FVec Ideal S4x128x8192 .bf16) (h : ∀ (r : Fin 512) (n : Fin 128), X (ix3 (0 : Fin 1) n r) = G (ix3 (bat t) n (tok t r))) :
    (cfg0.win 9).cut (grid0.coords t) X = ((cfg0.win 9).blk t).view.read (Elt Ideal) G := by
  funext y
  have hy : (y : S1x128x512.Idx) = ix3 (0 : Fin 1) (⟨(y 1).val, (y 1).isLt⟩ : Fin 128) (⟨(y 2).val, (y 2).isLt⟩ : Fin 512) := by
    funext a
    match a with
    | ⟨0, _⟩ => exact Fin.ext (by have := (y 0).isLt; have h1 : (y 0).val < 1 := this; show (y 0).val = 0; omega)
    | ⟨1, _⟩ => rfl
    | ⟨2, _⟩ => rfl
  show X y = G (((cfg0.win 9).blk t).view.emb y)
  rw [hy, emb9]
  exact h _ _

theorem covered9 (i : S4x128x8192.Idx) : ∃ t : Fin cfg0.N, (cfg0.win 9).flush t = true ∧ i ∈ ((cfg0.win 9).blk t).view.set := by
  have h0 : (i 0).val < 4 := (i 0).isLt
  have ht : (i 2).val < 8192 := (i 2).isLt
  have hn : (i 1).val < 128 := (i 1).isLt
  obtain ⟨k, hk⟩ : ∃ k : ℕ, k = (i 0).val * 16 + (i 2).val / 512 := ⟨_, rfl⟩
  have hkl : k < cfg0.N := by show k < 64; omega
  refine ⟨⟨k, hkl⟩, flush0_9 _, ?_⟩
  have e : ((cfg0.win 9).blk (⟨k, hkl⟩ : Fin cfg0.N)).view.emb (ix3 (0 : Fin 1) (⟨(i 1).val, hn⟩ : Fin 128) (⟨(i 2).val % 512, by omega⟩ : Fin 512) : S1x128x512.Idx) = i := by
    refine (emb9 ⟨k, hkl⟩ _ _).trans ?_
    funext a; apply Fin.ext
    match a with
    | ⟨0, _⟩ => show k / 16 = (i 0).val; omega
    | ⟨1, _⟩ => rfl
    | ⟨2, _⟩ => show k % 16 * 512 + (i 2).val % 512 = (i 2).val; omega
  have h := ((cfg0.win 9).blk (⟨k, hkl⟩ : Fin cfg0.N)).view.emb_mem_set (ix3 (0 : Fin 1) (⟨(i 1).val, hn⟩ : Fin 128) (⟨(i 2).val % 512, by omega⟩ : Fin 512) : S1x128x512.Idx)
  rw [e] at h
  exact h

theorem final9 (x : FVec Ideal S4x8192x1024 .f32) (w : FVec Ideal S1x1024x3352 .f32) (hx : m ((c : Thread nD τ).loc main_arg0) = x) (hw : m ((c : Thread nD τ).loc main_arg1) = w) :
    (dats m 0 c).arrAt 9 cfg0.N = InRef.fifth (InRef.proj x w) := by
  refine (dats m 0 c).arrAt_eq_of_cover 9 (InRef.fifth (InRef.proj x w)) (fun t _ => ?_) covered9
  rw [flushed9]
  refine cut9 t _ _ fun r n => ?_
  refine (InBlock.out9_at _ _ _ _ n r).trans ?_
  rw [InRef.fifth_at, InRef.proj_at]
  simp only [blk0, blk2, hx, hw, wt_1]
  rfl

/-! ## Window 10 -/

theorem emb10 (t : Fin cfg0.N) (r : Fin 512) (n : Fin 128) : ((cfg0.win 10).blk t).view.emb (ix3 (0 : Fin 1) n r : S1x128x512.Idx) = (ix3 (bat t) n (tok t r) : S4x128x8192.Idx) := by
  obtain ⟨e0, e1, e2⟩ := idx10 t
  funext a; apply Fin.ext
  match a with
  | ⟨0, _⟩ => show win0_10.index t (0 : Fin 3) * 1 + 1 * 0 = t.val / 16; omega
  | ⟨1, _⟩ => show win0_10.index t (1 : Fin 3) * 128 + 1 * n.val = n.val; omega
  | ⟨2, _⟩ => show win0_10.index t (2 : Fin 3) * 512 + 1 * r.val = t.val % 16 * 512 + r.val; omega

theorem cut10 (t : Fin cfg0.N) (X : Vec Ideal S1x128x512 .bf16) (G : FVec Ideal S4x128x8192 .bf16) (h : ∀ (r : Fin 512) (n : Fin 128), X (ix3 (0 : Fin 1) n r) = G (ix3 (bat t) n (tok t r))) :
    (cfg0.win 10).cut (grid0.coords t) X = ((cfg0.win 10).blk t).view.read (Elt Ideal) G := by
  funext y
  have hy : (y : S1x128x512.Idx) = ix3 (0 : Fin 1) (⟨(y 1).val, (y 1).isLt⟩ : Fin 128) (⟨(y 2).val, (y 2).isLt⟩ : Fin 512) := by
    funext a
    match a with
    | ⟨0, _⟩ => exact Fin.ext (by have := (y 0).isLt; have h1 : (y 0).val < 1 := this; show (y 0).val = 0; omega)
    | ⟨1, _⟩ => rfl
    | ⟨2, _⟩ => rfl
  show X y = G (((cfg0.win 10).blk t).view.emb y)
  rw [hy, emb10]
  exact h _ _

theorem covered10 (i : S4x128x8192.Idx) : ∃ t : Fin cfg0.N, (cfg0.win 10).flush t = true ∧ i ∈ ((cfg0.win 10).blk t).view.set := by
  have h0 : (i 0).val < 4 := (i 0).isLt
  have ht : (i 2).val < 8192 := (i 2).isLt
  have hn : (i 1).val < 128 := (i 1).isLt
  obtain ⟨k, hk⟩ : ∃ k : ℕ, k = (i 0).val * 16 + (i 2).val / 512 := ⟨_, rfl⟩
  have hkl : k < cfg0.N := by show k < 64; omega
  refine ⟨⟨k, hkl⟩, flush0_10 _, ?_⟩
  have e : ((cfg0.win 10).blk (⟨k, hkl⟩ : Fin cfg0.N)).view.emb (ix3 (0 : Fin 1) (⟨(i 1).val, hn⟩ : Fin 128) (⟨(i 2).val % 512, by omega⟩ : Fin 512) : S1x128x512.Idx) = i := by
    refine (emb10 ⟨k, hkl⟩ _ _).trans ?_
    funext a; apply Fin.ext
    match a with
    | ⟨0, _⟩ => show k / 16 = (i 0).val; omega
    | ⟨1, _⟩ => rfl
    | ⟨2, _⟩ => show k % 16 * 512 + (i 2).val % 512 = (i 2).val; omega
  have h := ((cfg0.win 10).blk (⟨k, hkl⟩ : Fin cfg0.N)).view.emb_mem_set (ix3 (0 : Fin 1) (⟨(i 1).val, hn⟩ : Fin 128) (⟨(i 2).val % 512, by omega⟩ : Fin 512) : S1x128x512.Idx)
  rw [e] at h
  exact h

theorem final10 (x : FVec Ideal S4x8192x1024 .f32) (w : FVec Ideal S1x1024x3352 .f32) (hx : m ((c : Thread nD τ).loc main_arg0) = x) (hw : m ((c : Thread nD τ).loc main_arg1) = w) :
    (dats m 0 c).arrAt 10 cfg0.N = InRef.sixth (InRef.proj x w) := by
  refine (dats m 0 c).arrAt_eq_of_cover 10 (InRef.sixth (InRef.proj x w)) (fun t _ => ?_) covered10
  rw [flushed10]
  refine cut10 t _ _ fun r n => ?_
  refine (InBlock.out10_at _ _ _ _ n r).trans ?_
  rw [InRef.sixth_at, InRef.proj_at]
  simp only [blk0, blk2, hx, hw, wt_2]
  rfl

end Cert.Proof.InFinal

end
-- ==== Proof.InPad.lean ====
/- Hand-written, untrusted: THE PADDED RESULTS OF THE PROJECTION INTO THE MIXERS AFTER THE RUN (`final6`, `final7`, `final11`): the keys of the
   selected-block branch beside the table of the tokens' blocks, the keys of the sliding window, the gates. -/
module

public import proofs.«01_k».proof.Proof.InFinal
public import Idealize.ShloMosaic.Lib.KernelVsHost

@[expose] public section

noncomputable section

namespace Cert.Proof.InFinal

open Cert.InIdeal Cert.InIdeal.Gen Cert.InIdeal.Value Idealize.ShloMosaic Idealize.ShloMosaic.TcCoe Idealize.SL.Sem Idealize.ShloMosaic.StableHlo

variable (m : (ℓ : Loc nD τ sig) → Buf (Elt Ideal) ℓ) (c : Dev nD)

/-! ## The padded weights -/

theorem zero_word : (FloatOps.sitofp FTy.f32 0#32 : Ideal .f32) = 0 := sitofp_zero

theorem padded_lt (u : FVec Ideal S1024x128 .f32) (i : Fin 1024) (g : Fin 2) (n : Fin 64) : padded u (ix2 i (⟨g.val * 128 + n.val, by omega⟩ : Fin 256)) = u (ix2 i (⟨g.val * 64 + n.val, by omega⟩ : Fin 128)) := by
  pointwise [padded]
  rw [dif_pos (by omega)]
  exact congrArg (fun k => u (ix2 i k)) (Fin.ext (by show g.val * 64 + (g.val * 128 + n.val) % 128 = g.val * 64 + n.val; omega))

theorem padded_ge (u : FVec Ideal S1024x128 .f32) (i : Fin 1024) (g : Fin 2) (n : Fin 64) : padded u (ix2 i (⟨g.val * 128 + (64 + n.val), by omega⟩ : Fin 256)) = 0 := by
  pointwise [padded]
  rw [dif_neg (by omega)]
  exact zero_word

theorem gates_lt (w : FVec Ideal S1024x3352 .f32) (i : Fin 1024) (g : Fin 2) (n : Fin 12) : gates w (ix2 i (⟨g.val * 16 + n.val, by omega⟩ : Fin 32)) = w (ix2 i (⟨1280 + (g.val * 12 + n.val), by omega⟩ : Fin 3352)) := by
  pointwise [gates]
  rw [dif_pos (by omega)]
  exact congrArg (fun k => w (ix2 i k)) (Fin.ext (by show 1280 + (g.val * 12 + (g.val * 16 + n.val) % 16) = 1280 + (g.val * 12 + n.val); omega))

theorem gates_ge (w : FVec Ideal S1024x3352 .f32) (i : Fin 1024) (g : Fin 2) (n : Fin 4) : gates w (ix2 i (⟨g.val * 16 + (12 + n.val), by omega⟩ : Fin 32)) = 0 := by
  pointwise [gates]
  rw [dif_neg (by omega)]
  exact zero_word

section
variable (a b : FVec Ideal S1024x128 .f32) (r : FVec Ideal S1024x2048 .f32) (d e : FVec Ideal S1024x256 .f32) (q : FVec Ideal S1024x512 .f32) (f : FVec Ideal S1024x32 .f32) (i : Fin 1024)

theorem cat5_3 (n : Fin 256) : cat5 a b r d e (ix2 i (⟨2304 + n.val, by omega⟩ : Fin 2816)) = d (ix2 i n) := by
  pointwise [cat5]
  rw [dif_neg (by omega), dif_neg (by omega), dif_neg (by omega), dif_pos (by omega)]
  exact congrArg (fun k => d (ix2 i k)) (Fin.ext (by show 2304 + n.val - 128 - 128 - 2048 = n.val; omega))

theorem cat5_4 (n : Fin 256) : cat5 a b r d e (ix2 i (⟨2560 + n.val, by omega⟩ : Fin 2816)) = e (ix2 i n) := by
  pointwise [cat5]
  rw [dif_neg (by omega), dif_neg (by omega), dif_neg (by omega), dif_neg (by omega)]
  exact congrArg (fun k => e (ix2 i k)) (Fin.ext (by show 2560 + n.val - 128 - 128 - 2048 - 256 = n.val; omega))

theorem cat4_3 (n : Fin 32) : cat4 q a b f (ix2 (⟨768 + n.val, by omega⟩ : Fin 800) i) = f (ix2 i n) := by
  pointwise [cat4]
  rw [dif_neg (by omega), dif_neg (by omega), dif_neg (by omega)]
  exact congrArg (fun k => f (ix2 i k)) (Fin.ext (by show 768 + n.val - 512 - 128 - 128 = n.val; omega))

end

theorem wn_3_lt (w : FVec Ideal S1x1024x3352 .f32) (i : Fin 1024) (g : Fin 2) (n : Fin 64) : wn w (ix2 i (⟨2304 + (g.val * 128 + n.val), by omega⟩ : Fin 2816)) = w (ix3 (0 : Fin 1) i (⟨512 + (256 + (g.val * 64 + n.val)), by omega⟩ : Fin 3352)) := by
  refine (cat5_3 _ _ _ _ _ i (⟨g.val * 128 + n.val, by omega⟩ : Fin 256)).trans ((padded_lt _ i g n).trans ((part2_at _ i _).trans ((kvw_at _ i _ _).trans ((flat_at _ _ _).trans ?_))))
  exact congrArg (fun k => w (ix3 (0 : Fin 1) i k)) (Fin.ext (by show 512 + (2 * 128 + (g.val * 64 + n.val)) = 512 + (256 + (g.val * 64 + n.val)); omega))

theorem wn_3_ge (w : FVec Ideal S1x1024x3352 .f32) (i : Fin 1024) (g : Fin 2) (n : Fin 64) : wn w (ix2 i (⟨2304 + (g.val * 128 + (64 + n.val)), by omega⟩ : Fin 2816)) = 0 :=
  (cat5_3 _ _ _ _ _ i (⟨g.val * 128 + (64 + n.val), by omega⟩ : Fin 256)).trans (padded_ge _ i g n)

theorem wn_4_lt (w : FVec Ideal S1x1024x3352 .f32) (i : Fin 1024) (g : Fin 2) (n : Fin 64) : wn w (ix2 i (⟨2560 + (g.val * 128 + n.val), by omega⟩ : Fin 2816)) = w (ix3 (0 : Fin 1) i (⟨512 + (512 + (g.val * 64 + n.val)), by omega⟩ : Fin 3352)) := by
  refine (cat5_4 _ _ _ _ _ i (⟨g.val * 128 + n.val, by omega⟩ : Fin 256)).trans ((padded_lt _ i g n).trans ((part4_at _ i _).trans ((kvw_at _ i _ _).trans ((flat_at _ _ _).trans ?_))))
  exact congrArg (fun k => w (ix3 (0 : Fin 1) i k)) (Fin.ext (by show 512 + (4 * 128 + (g.val * 64 + n.val)) = 512 + (512 + (g.val * 64 + n.val)); omega))

theorem wn_4_ge (w : FVec Ideal S1x1024x3352 .f32) (i : Fin 1024) (g : Fin 2) (n : Fin 64) : wn w (ix2 i (⟨2560 + (g.val * 128 + (64 + n.val)), by omega⟩ : Fin 2816)) = 0 :=
  (cat5_4 _ _ _ _ _ i (⟨g.val * 128 + (64 + n.val), by omega⟩ : Fin 256)).trans (padded_ge _ i g n)

theorem wt_3_lt (w : FVec Ideal S1x1024x3352 .f32) (i : Fin 1024) (g : Fin 2) (n : Fin 12) : wt w (ix2 (⟨768 + (g.val * 16 + n.val), by omega⟩ : Fin 800) i) = w (ix3 (0 : Fin 1) i (⟨1280 + (g.val * 12 + n.val), by omega⟩ : Fin 3352)) :=
  (cat4_3 _ _ _ _ i (⟨g.val * 16 + n.val, by omega⟩ : Fin 32)).trans ((gates_lt _ i g n).trans (flat_at _ _ _))

theorem wt_3_ge (w : FVec Ideal S1x1024x3352 .f32) (i : Fin 1024) (g : Fin 2) (n : Fin 4) : wt w (ix2 (⟨768 + (g.val * 16 + (12 + n.val)), by omega⟩ : Fin 800) i) = 0 :=
  (cat4_3 _ _ _ _ i (⟨g.val * 16 + (12 + n.val), by omega⟩ : Fin 32)).trans (gates_ge _ i g n)

theorem idx6 : ∀ t : Fin cfg0.N, win0_6.index t (0 : Fin 4) = t.val / 16 ∧ win0_6.index t (1 : Fin 4) = 0 ∧ win0_6.index t (2 : Fin 4) = t.val % 16 ∧ win0_6.index t (3 : Fin 4) = 0 := (by decide +kernel : ∀ t : Fin grid0.N, _)
theorem idx7 : ∀ t : Fin cfg0.N, win0_7.index t (0 : Fin 4) = t.val / 16 ∧ win0_7.index t (1 : Fin 4) = 0 ∧ win0_7.index t (2 : Fin 4) = t.val % 16 ∧ win0_7.index t (3 : Fin 4) = 0 := (by decide +kernel : ∀ t : Fin grid0.N, _)
theorem idx11 : ∀ t : Fin cfg0.N, win0_11.index t (0 : Fin 3) = t.val / 16 ∧ win0_11.index t (1 : Fin 3) = 0 ∧ win0_11.index t (2 : Fin 3) = t.val % 16 := (by decide +kernel : ∀ t : Fin grid0.N, _)
theorem point1 : ∀ t : Fin cfg0.N, (grid0.coords t 1).val = t.val % 16 := (by decide +kernel : ∀ t : Fin grid0.N, _)

theorem split128 (n : Fin 128) : n.val < 64 ∨ ∃ k : Fin 64, n = (⟨64 + k.val, by omega⟩ : Fin 128) := by
  rcases lt_or_ge n.val 64 with h | h
  · exact Or.inl h
  · exact Or.inr ⟨⟨n.val - 64, by omega⟩, Fin.ext (by show n.val = 64 + (n.val - 64); omega)⟩

theorem split256 (n : Fin 256) : n.val < 128 ∨ ∃ k : Fin 128, n = (⟨128 + k.val, by omega⟩ : Fin 256) := by
  rcases lt_or_ge n.val 128 with h | h
  · exact Or.inl h
  · exact Or.inr ⟨⟨n.val - 128, by omega⟩, Fin.ext (by show n.val = 128 + (n.val - 128); omega)⟩

/-- The padded keys: a sum of products in the first 64 columns of a group, zero in the others. -/
theorem keys3 (x : FVec Ideal S4x8192x1024 .f32) (w : FVec Ideal S1x1024x3352 .f32) (b : Fin 4) (t : Fin 8192) (g : Fin 2) (n : Fin 128) :
    ∑ i : Fin 1024, x (ix3 b t i) * wn w (ix2 i (⟨2304 + (g.val * 128 + n.val), by omega⟩ : Fin 2816)) = InRef.grouped (InRef.third' (InRef.proj x w)) (ix4 b g t n) := by
  rcases split128 n with h | ⟨k, rfl⟩
  · have e := InRef.grouped_lt b t (InRef.third' (InRef.proj x w)) g ⟨n.val, h⟩
    refine Eq.trans ?_ e.symm
    rw [InRef.third'_at, InRef.proj_at]
    exact Finset.sum_congr rfl fun i _ => congrArg _ (wn_3_lt w i g ⟨n.val, h⟩)
  · rw [InRef.grouped_ge]
    refine Finset.sum_eq_zero fun i _ => ?_
    rw [wn_3_ge w i g k, mul_zero]

/-- The padded keys: a sum of products in the first 64 columns of a group, zero in the others. -/
theorem keys4 (x : FVec Ideal S4x8192x1024 .f32) (w : FVec Ideal S1x1024x3352 .f32) (b : Fin 4) (t : Fin 8192) (g : Fin 2) (n : Fin 128) :
    ∑ i : Fin 1024, x (ix3 b t i) * wn w (ix2 i (⟨2560 + (g.val * 128 + n.val), by omega⟩ : Fin 2816)) = InRef.grouped (InRef.fifth' (InRef.proj x w)) (ix4 b g t n) := by
  rcases split128 n with h | ⟨k, rfl⟩
  · have e := InRef.grouped_lt b t (InRef.fifth' (InRef.proj x w)) g ⟨n.val, h⟩
    refine Eq.trans ?_ e.symm
    rw [InRef.fifth'_at, InRef.proj_at]
    exact Finset.sum_congr rfl fun i _ => congrArg _ (wn_4_lt w i g ⟨n.val, h⟩)
  · rw [InRef.grouped_ge]
    refine Finset.sum_eq_zero fun i _ => ?_
    rw [wn_4_ge w i g k, mul_zero]

theorem split32 (n : Fin 32) : (∃ (g : Fin 2) (k : Fin 12), n = (⟨g.val * 16 + k.val, by omega⟩ : Fin 32)) ∨ (∃ (g : Fin 2) (k : Fin 4), n = (⟨g.val * 16 + (12 + k.val), by omega⟩ : Fin 32)) := by
  rcases lt_or_ge (n.val % 16) 12 with h | h
  · exact Or.inl ⟨⟨n.val / 16, by omega⟩, ⟨n.val % 16, h⟩, Fin.ext (by show n.val = n.val / 16 * 16 + n.val % 16; omega)⟩
  · exact Or.inr ⟨⟨n.val / 16, by omega⟩, ⟨n.val % 16 - 12, by omega⟩, Fin.ext (by show n.val = n.val / 16 * 16 + (12 + (n.val % 16 - 12)); omega)⟩

/-- The padded gates: a sum of products in the first twelve rows of a group, zero in the others. -/
theorem gates3 (x : FVec Ideal S4x8192x1024 .f32) (w : FVec Ideal S1x1024x3352 .f32) (b : Fin 4) (t : Fin 8192) (n : Fin 32) :
    ∑ i : Fin 1024, x (ix3 b t i) * wt w (ix2 (⟨768 + n.val, by omega⟩ : Fin 800) i) = InRef.gatesPadded (InRef.proj x w) (ix3 b t n) := by
  rcases split32 n with ⟨g, k, rfl⟩ | ⟨g, k, rfl⟩
  · rw [InRef.gatesPadded_lt, InRef.proj_at]
    exact Finset.sum_congr rfl fun i _ => congrArg _ (wt_3_lt w i g k)
  · rw [InRef.gatesPadded_ge]
    refine Finset.sum_eq_zero fun i _ => ?_
    rw [wt_3_ge w i g k, mul_zero]

/-! ## Window 6 -/

theorem emb6 (t : Fin cfg0.N) (g : Fin 2) (r : Fin 512) (n : Fin 256) : ((cfg0.win 6).blk t).view.emb (ix4 (0 : Fin 1) g r n : S1x2x512x256.Idx) = (ix4 (bat t) g (tok t r) n : S4x2x8192x256.Idx) := by
  obtain ⟨e0, e1, e2, e3⟩ := idx6 t
  funext a; apply Fin.ext
  match a with
  | ⟨0, _⟩ => show win0_6.index t (0 : Fin 4) * 1 + 1 * 0 = t.val / 16; omega
  | ⟨1, _⟩ => show win0_6.index t (1 : Fin 4) * 2 + 1 * g.val = g.val; omega
  | ⟨2, _⟩ => show win0_6.index t (2 : Fin 4) * 512 + 1 * r.val = t.val % 16 * 512 + r.val; omega
  | ⟨3, _⟩ => show win0_6.index t (3 : Fin 4) * 256 + 1 * n.val = n.val; omega

theorem cut6 (t : Fin cfg0.N) (X : Vec Ideal S1x2x512x256 .bf16) (G : FVec Ideal S4x2x8192x256 .bf16) (h : ∀ (g : Fin 2) (r : Fin 512) (n : Fin 256), X (ix4 (0 : Fin 1) g r n) = G (ix4 (bat t) g (tok t r) n)) :
    (cfg0.win 6).cut (grid0.coords t) X = ((cfg0.win 6).blk t).view.read (Elt Ideal) G := by
  funext y
  have hy : (y : S1x2x512x256.Idx) = ix4 (0 : Fin 1) (⟨(y 1).val, (y 1).isLt⟩ : Fin 2) (⟨(y 2).val, (y 2).isLt⟩ : Fin 512) (⟨(y 3).val, (y 3).isLt⟩ : Fin 256) := by
    funext a
    match a with
    | ⟨0, _⟩ => exact Fin.ext (by have := (y 0).isLt; have h1 : (y 0).val < 1 := this; show (y 0).val = 0; omega)
    | ⟨1, _⟩ => rfl
    | ⟨2, _⟩ => rfl
    | ⟨3, _⟩ => rfl
  show X y = G (((cfg0.win 6).blk t).view.emb y)
  rw [hy, emb6]
  exact h _ _ _

theorem covered6 (i : S4x2x8192x256.Idx) : ∃ t : Fin cfg0.N, (cfg0.win 6).flush t = true ∧ i ∈ ((cfg0.win 6).blk t).view.set := by
  have h0 : (i 0).val < 4 := (i 0).isLt
  have hg : (i 1).val < 2 := (i 1).isLt
  have ht : (i 2).val < 8192 := (i 2).isLt
  have hn : (i 3).val < 256 := (i 3).isLt
  obtain ⟨k, hk⟩ : ∃ k : ℕ, k = (i 0).val * 16 + (i 2).val / 512 := ⟨_, rfl⟩
  have hkl : k < cfg0.N := by show k < 64; omega
  refine ⟨⟨k, hkl⟩, flush0_6 _, ?_⟩
  have e : ((cfg0.win 6).blk (⟨k, hkl⟩ : Fin cfg0.N)).view.emb (ix4 (0 : Fin 1) (⟨(i 1).val, hg⟩ : Fin 2) (⟨(i 2).val % 512, by omega⟩ : Fin 512) (⟨(i 3).val, hn⟩ : Fin 256) : S1x2x512x256.Idx) = i := by
    refine (emb6 ⟨k, hkl⟩ _ _ _).trans ?_
    funext a; apply Fin.ext
    match a with
    | ⟨0, _⟩ => show k / 16 = (i 0).val; omega
    | ⟨1, _⟩ => rfl
    | ⟨2, _⟩ => show k % 16 * 512 + (i 2).val % 512 = (i 2).val; omega
    | ⟨3, _⟩ => rfl
  have h := ((cfg0.win 6).blk (⟨k, hkl⟩ : Fin cfg0.N)).view.emb_mem_set (ix4 (0 : Fin 1) (⟨(i 1).val, hg⟩ : Fin 2) (⟨(i 2).val % 512, by omega⟩ : Fin 512) (⟨(i 3).val, hn⟩ : Fin 256) : S1x2x512x256.Idx)
  rw [e] at h
  exact h

theorem final6 (x : FVec Ideal S4x8192x1024 .f32) (w : FVec Ideal S1x1024x3352 .f32) (hx : m ((c : Thread nD τ).loc main_arg0) = x) (hw : m ((c : Thread nD τ).loc main_arg1) = w) :
    (dats m 0 c).arrAt 6 cfg0.N = InRef.selected (InRef.proj x w) := by
  refine (dats m 0 c).arrAt_eq_of_cover 6 (InRef.selected (InRef.proj x w)) (fun t _ => ?_) covered6
  rw [flushed6]
  refine cut6 t _ _ fun g r n => ?_
  rcases split256 n with h | ⟨k, rfl⟩
  · refine (InBlock.out6_lt _ _ _ _ g r ⟨n.val, h⟩).trans ?_
    refine Eq.trans ?_ (InRef.joined_lt (bat t) (tok t r) _ _ g ⟨n.val, h⟩).symm
    simp only [blk0, blk1, hx, hw]
    exact keys3 x w (bat t) (tok t r) g ⟨n.val, h⟩
  · refine (InBlock.out6_ge _ _ _ _ g r k).trans ?_
    refine Eq.trans ?_ (InRef.joined_ge (bat t) (tok t r) _ _ g k).symm
    rw [InBlock.table_at, InRef.bias_at, point1 t]
    exact InRef.chosen _ _ (by omega) (by omega) _ _

/-! ## Window 7 -/

theorem emb7 (t : Fin cfg0.N) (g : Fin 2) (r : Fin 512) (n : Fin 128) : ((cfg0.win 7).blk t).view.emb (ix4 (0 : Fin 1) g r n : S1x2x512x128.Idx) = (ix4 (bat t) g (tok t r) n : S4x2x8192x128.Idx) := by
  obtain ⟨e0, e1, e2, e3⟩ := idx7 t
  funext a; apply Fin.ext
  match a with
  | ⟨0, _⟩ => show win0_7.index t (0 : Fin 4) * 1 + 1 * 0 = t.val / 16; omega
  | ⟨1, _⟩ => show win0_7.index t (1 : Fin 4) * 2 + 1 * g.val = g.val; omega
  | ⟨2, _⟩ => show win0_7.index t (2 : Fin 4) * 512 + 1 * r.val = t.val % 16 * 512 + r.val; omega
  | ⟨3, _⟩ => show win0_7.index t (3 : Fin 4) * 128 + 1 * n.val = n.val; omega

theorem cut7 (t : Fin cfg0.N) (X : Vec Ideal S1x2x512x128 .bf16) (G : FVec Ideal S4x2x8192x128 .bf16) (h : ∀ (g : Fin 2) (r : Fin 512) (n : Fin 128), X (ix4 (0 : Fin 1) g r n) = G (ix4 (bat t) g (tok t r) n)) :
    (cfg0.win 7).cut (grid0.coords t) X = ((cfg0.win 7).blk t).view.read (Elt Ideal) G := by
  funext y
  have hy : (y : S1x2x512x128.Idx) = ix4 (0 : Fin 1) (⟨(y 1).val, (y 1).isLt⟩ : Fin 2) (⟨(y 2).val, (y 2).isLt⟩ : Fin 512) (⟨(y 3).val, (y 3).isLt⟩ : Fin 128) := by
    funext a
    match a with
    | ⟨0, _⟩ => exact Fin.ext (by have := (y 0).isLt; have h1 : (y 0).val < 1 := this; show (y 0).val = 0; omega)
    | ⟨1, _⟩ => rfl
    | ⟨2, _⟩ => rfl
    | ⟨3, _⟩ => rfl
  show X y = G (((cfg0.win 7).blk t).view.emb y)
  rw [hy, emb7]
  exact h _ _ _

theorem covered7 (i : S4x2x8192x128.Idx) : ∃ t : Fin cfg0.N, (cfg0.win 7).flush t = true ∧ i ∈ ((cfg0.win 7).blk t).view.set := by
  have h0 : (i 0).val < 4 := (i 0).isLt
  have hg : (i 1).val < 2 := (i 1).isLt
  have ht : (i 2).val < 8192 := (i 2).isLt
  have hn : (i 3).val < 128 := (i 3).isLt
  obtain ⟨k, hk⟩ : ∃ k : ℕ, k = (i 0).val * 16 + (i 2).val / 512 := ⟨_, rfl⟩
  have hkl : k < cfg0.N := by show k < 64; omega
  refine ⟨⟨k, hkl⟩, flush0_7 _, ?_⟩
  have e : ((cfg0.win 7).blk (⟨k, hkl⟩ : Fin cfg0.N)).view.emb (ix4 (0 : Fin 1) (⟨(i 1).val, hg⟩ : Fin 2) (⟨(i 2).val % 512, by omega⟩ : Fin 512) (⟨(i 3).val, hn⟩ : Fin 128) : S1x2x512x128.Idx) = i := by
    refine (emb7 ⟨k, hkl⟩ _ _ _).trans ?_
    funext a; apply Fin.ext
    match a with
    | ⟨0, _⟩ => show k / 16 = (i 0).val; omega
    | ⟨1, _⟩ => rfl
    | ⟨2, _⟩ => show k % 16 * 512 + (i 2).val % 512 = (i 2).val; omega
    | ⟨3, _⟩ => rfl
  have h := ((cfg0.win 7).blk (⟨k, hkl⟩ : Fin cfg0.N)).view.emb_mem_set (ix4 (0 : Fin 1) (⟨(i 1).val, hg⟩ : Fin 2) (⟨(i 2).val % 512, by omega⟩ : Fin 512) (⟨(i 3).val, hn⟩ : Fin 128) : S1x2x512x128.Idx)
  rw [e] at h
  exact h

theorem final7 (x : FVec Ideal S4x8192x1024 .f32) (w : FVec Ideal S1x1024x3352 .f32) (hx : m ((c : Thread nD τ).loc main_arg0) = x) (hw : m ((c : Thread nD τ).loc main_arg1) = w) :
    (dats m 0 c).arrAt 7 cfg0.N = InRef.window (InRef.proj x w) := by
  refine (dats m 0 c).arrAt_eq_of_cover 7 (InRef.window (InRef.proj x w)) (fun t _ => ?_) covered7
  rw [flushed7]
  refine cut7 t _ _ fun g r n => ?_
  refine (InBlock.out7_at _ _ _ _ g r n).trans ?_
  refine Eq.trans ?_ (InRef.window_at _ _ _ g n).symm
  simp only [blk0, blk1, hx, hw]
  exact keys4 x w (bat t) (tok t r) g n

/-! ## Window 11 -/

theorem emb11 (t : Fin cfg0.N) (r : Fin 512) (n : Fin 32) : ((cfg0.win 11).blk t).view.emb (ix3 (0 : Fin 1) n r : S1x32x512.Idx) = (ix3 (bat t) n (tok t r) : S4x32x8192.Idx) := by
  obtain ⟨e0, e1, e2⟩ := idx11 t
  funext a; apply Fin.ext
  match a with
  | ⟨0, _⟩ => show win0_11.index t (0 : Fin 3) * 1 + 1 * 0 = t.val / 16; omega
  | ⟨1, _⟩ => show win0_11.index t (1 : Fin 3) * 32 + 1 * n.val = n.val; omega
  | ⟨2, _⟩ => show win0_11.index t (2 : Fin 3) * 512 + 1 * r.val = t.val % 16 * 512 + r.val; omega

theorem cut11 (t : Fin cfg0.N) (X : Vec Ideal S1x32x512 .f32) (G : FVec Ideal S4x32x8192 .f32) (h : ∀ (r : Fin 512) (n : Fin 32), X (ix3 (0 : Fin 1) n r) = G (ix3 (bat t) n (tok t r))) :
    (cfg0.win 11).cut (grid0.coords t) X = ((cfg0.win 11).blk t).view.read (Elt Ideal) G := by
  funext y
  have hy : (y : S1x32x512.Idx) = ix3 (0 : Fin 1) (⟨(y 1).val, (y 1).isLt⟩ : Fin 32) (⟨(y 2).val, (y 2).isLt⟩ : Fin 512) := by
    funext a
    match a with
    | ⟨0, _⟩ => exact Fin.ext (by have := (y 0).isLt; have h1 : (y 0).val < 1 := this; show (y 0).val = 0; omega)
    | ⟨1, _⟩ => rfl
    | ⟨2, _⟩ => rfl
  show X y = G (((cfg0.win 11).blk t).view.emb y)
  rw [hy, emb11]
  exact h _ _

theorem covered11 (i : S4x32x8192.Idx) : ∃ t : Fin cfg0.N, (cfg0.win 11).flush t = true ∧ i ∈ ((cfg0.win 11).blk t).view.set := by
  have h0 : (i 0).val < 4 := (i 0).isLt
  have ht : (i 2).val < 8192 := (i 2).isLt
  have hn : (i 1).val < 32 := (i 1).isLt
  obtain ⟨k, hk⟩ : ∃ k : ℕ, k = (i 0).val * 16 + (i 2).val / 512 := ⟨_, rfl⟩
  have hkl : k < cfg0.N := by show k < 64; omega
  refine ⟨⟨k, hkl⟩, flush0_11 _, ?_⟩
  have e : ((cfg0.win 11).blk (⟨k, hkl⟩ : Fin cfg0.N)).view.emb (ix3 (0 : Fin 1) (⟨(i 1).val, hn⟩ : Fin 32) (⟨(i 2).val % 512, by omega⟩ : Fin 512) : S1x32x512.Idx) = i := by
    refine (emb11 ⟨k, hkl⟩ _ _).trans ?_
    funext a; apply Fin.ext
    match a with
    | ⟨0, _⟩ => show k / 16 = (i 0).val; omega
    | ⟨1, _⟩ => rfl
    | ⟨2, _⟩ => show k % 16 * 512 + (i 2).val % 512 = (i 2).val; omega
  have h := ((cfg0.win 11).blk (⟨k, hkl⟩ : Fin cfg0.N)).view.emb_mem_set (ix3 (0 : Fin 1) (⟨(i 1).val, hn⟩ : Fin 32) (⟨(i 2).val % 512, by omega⟩ : Fin 512) : S1x32x512.Idx)
  rw [e] at h
  exact h

theorem final11 (x : FVec Ideal S4x8192x1024 .f32) (w : FVec Ideal S1x1024x3352 .f32) (hx : m ((c : Thread nD τ).loc main_arg0) = x) (hw : m ((c : Thread nD τ).loc main_arg1) = w) :
    (dats m 0 c).arrAt 11 cfg0.N = InRef.gates (InRef.proj x w) := by
  refine (dats m 0 c).arrAt_eq_of_cover 11 (InRef.gates (InRef.proj x w)) (fun t _ => ?_) covered11
  rw [flushed11]
  refine cut11 t _ _ fun r n => ?_
  refine (InBlock.out11_at _ _ _ _ n r).trans ?_
  rw [InRef.gates_at]
  simp only [blk0, blk2, hx, hw]
  exact gates3 x w (bat t) (tok t r) n

end Cert.Proof.InFinal

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.FrameK
public import proofs.«01_k».proof.Proof.FrameI
public import proofs.«01_k».proof.Proof.ValueI
public import proofs.«01_k».proof.Proof.Ref
public import proofs.«01_k».proof.Proof.Final
public import proofs.«01_k».proof.Proof.Pre
public import proofs.«01_k».proof.Proof.Gen.Tail.Frame
public import proofs.«01_k».proof.Proof.Gen.TailIdeal.Frame
public import proofs.«01_k».proof.Proof.Gen.TailIdeal.Value
public import proofs.«01_k».proof.Proof.Gen.TailRefIdeal.Run
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.Gen.In
public import proofs.«01_k».proof.Proof.Gen.In.Frame
public import proofs.«01_k».proof.Proof.Gen.InIdeal
public import proofs.«01_k».proof.Proof.Gen.InIdeal.Value
public import proofs.«01_k».proof.Proof.Gen.InRefIdeal
public import proofs.«01_k».proof.Proof.Gen.InRefIdeal.Run
public import proofs.«01_k».proof.Proof.FfnFinal
public import proofs.«01_k».proof.Proof.TailFinal
public import proofs.«01_k».proof.Proof.InPad
public import Idealize.ShloMosaic.Adequacy
public import Idealize.ShloMosaic.Init

@[expose] public section

noncomputable section

namespace Cert.Proof

open Idealize.ShloMosaic Idealize.SL.Sem

theorem frame_ri (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xF149F2CA#32 ⊥ rfl

theorem algebraic : Cert.algebraic_KernelIdeal_ReferenceIdeal_pre_finite_scores := fun m g m' g' hpre hargs => by
  refine ⟨fun c => (FrameI.dats m 0 c).arrAt 5 64, ?_, ?_⟩
  · exact (θ_run _ _ _).mono (fun r h c => ⟨(h c).1, (h c).2.2⟩) (ValueI.run_blocks m g)
  · refine (θ_run _ _ _).mono (fun r h c => ⟨(h c).1.trans ?_, (h c).2⟩) (Cert.ReferenceIdeal.Value.run (F := Ideal) m' g')
    obtain ⟨h0, h1, h2⟩ := hargs c
    obtain ⟨hq, hk⟩ := Pre.reals _ _ _ (hpre c)
    refine Eq.trans ?_ (Final.final _ _ _ m c _ _ rfl rfl rfl hq hk).symm
    rw [Ref.res_eq, h0, h1, h2]

theorem frame_ffn : Cert.quiescent_FfnRefIdeal := fun m ρ _ =>
  (θ_run Cert.FfnRefIdeal.defs _ _).mono (fun r h => ⟨fun c => (h c).2, sem_eq_zero_of_no_sems (by decide) r.2⟩) (Cert.FfnRefIdeal.Value.run (F := Ideal) m ρ)

theorem algebraic_ffn : Cert.algebraic_FfnIdeal_FfnRefIdeal := fun m g m' g' _ hargs => by
  refine ⟨fun c => (Cert.FfnIdeal.Gen.dats m 0 c).arrAt 5 64, ?_, ?_⟩
  · exact Cert.FfnIdeal.Value.run_blocks m g
  · refine (θ_run _ _ _).mono (fun r h c => ⟨(h c).1.trans ?_, (h c).2⟩) (Cert.FfnRefIdeal.Value.run (F := Ideal) m' g')
    obtain ⟨h0, h1, h2, h3, h4⟩ := hargs c
    refine Eq.trans ?_ (FfnFinal.final m c _ _ _ _ _ rfl rfl rfl rfl rfl).symm
    rw [FfnRef.res_eq, h0, h1, h2, h3, h4]

theorem frame_tail : Cert.quiescent_TailRefIdeal := fun m ρ _ =>
  (θ_run Cert.TailRefIdeal.defs _ _).mono (fun r h => ⟨fun c => (h c).2, sem_eq_zero_of_no_sems (by decide) r.2⟩) (Cert.TailRefIdeal.Value.run (F := Ideal) m ρ)

theorem algebraic_tail : Cert.algebraic_TailIdeal_TailRefIdeal := fun m g m' g' _ hargs => by
  refine ⟨fun c => (Cert.TailIdeal.Gen.dats m 0 c).arrAt 12 64, ?_, ?_⟩
  · exact Cert.TailIdeal.Value.run_blocks m g
  · refine (θ_run _ _ _).mono (fun r h c => ⟨(h c).1.trans ?_, (h c).2⟩) (Cert.TailRefIdeal.Value.run (F := Ideal) m' g')
    obtain ⟨h0, h1, h2, h3, h4, h5, h6, h7, h8, h9, h10⟩ := hargs c
    refine Eq.trans ?_ (TailFinal.final m c _ _ _ _ _ _ _ _ _ _ _ rfl rfl rfl rfl rfl rfl rfl rfl rfl rfl rfl).symm
    refine (TailRef.v120_eq (Idealize.ShloMosaic.StableHlo.launchContents m' c)).trans ?_
    show TailRef.res (m' ((c.tc : Thread Cert.TailRefIdeal.nD Cert.TailRefIdeal.τ).loc Cert.TailRefIdeal.main_arg0)) (m' ((c.tc : Thread Cert.TailRefIdeal.nD Cert.TailRefIdeal.τ).loc Cert.TailRefIdeal.main_arg1)) (m' ((c.tc : Thread Cert.TailRefIdeal.nD Cert.TailRefIdeal.τ).loc Cert.TailRefIdeal.main_arg2)) (m' ((c.tc : Thread Cert.TailRefIdeal.nD Cert.TailRefIdeal.τ).loc Cert.TailRefIdeal.main_arg3)) (m' ((c.tc : Thread Cert.TailRefIdeal.nD Cert.TailRefIdeal.τ).loc Cert.TailRefIdeal.main_arg4)) (m' ((c.tc : Thread Cert.TailRefIdeal.nD Cert.TailRefIdeal.τ).loc Cert.TailRefIdeal.main_arg5)) (m' ((c.tc : Thread Cert.TailRefIdeal.nD Cert.TailRefIdeal.τ).loc Cert.TailRefIdeal.main_arg6)) (m' ((c.tc : Thread Cert.TailRefIdeal.nD Cert.TailRefIdeal.τ).loc Cert.TailRefIdeal.main_arg7)) (m' ((c.tc : Thread Cert.TailRefIdeal.nD Cert.TailRefIdeal.τ).loc Cert.TailRefIdeal.main_arg8)) (m' ((c.tc : Thread Cert.TailRefIdeal.nD Cert.TailRefIdeal.τ).loc Cert.TailRefIdeal.main_arg9)) (m' ((c.tc : Thread Cert.TailRefIdeal.nD Cert.TailRefIdeal.τ).loc Cert.TailRefIdeal.main_arg10)) = _
    rw [h0, h1, h2, h3, h4, h5, h6, h7, h8, h9, h10]

theorem frame_in : Cert.quiescent_InRefIdeal := fun m ρ _ =>
  (θ_run Cert.InRefIdeal.defs _ _).mono (fun r h => ⟨fun c => (h c).2.2.2.2.2.2.2.2.2, sem_eq_zero_of_no_sems (by decide) r.2⟩) (Cert.InRefIdeal.Value.run (F := Ideal) m ρ)

theorem preserves_in : Cert.preserves_In_InIdeal :=
  IdealRules.named_const.statement Cert.InIdeal.κ "scale" .f32 0x3E38AA3B#32 (((1 / 8) * (Real.log 2)⁻¹ : ℝ) : EReal) rfl

set_option maxHeartbeats 2000000 in
theorem algebraic_in : Cert.algebraic_InIdeal_InRefIdeal := fun m g m' g' _ hargs => by
  refine ⟨fun c => (Cert.InIdeal.Gen.dats m 0 c).arrAt 3 64, fun c => (Cert.InIdeal.Gen.dats m 0 c).arrAt 4 64, fun c => (Cert.InIdeal.Gen.dats m 0 c).arrAt 5 64, fun c => (Cert.InIdeal.Gen.dats m 0 c).arrAt 6 64, fun c => (Cert.InIdeal.Gen.dats m 0 c).arrAt 7 64, fun c => (Cert.InIdeal.Gen.dats m 0 c).arrAt 8 64, fun c => (Cert.InIdeal.Gen.dats m 0 c).arrAt 9 64, fun c => (Cert.InIdeal.Gen.dats m 0 c).arrAt 10 64, fun c => (Cert.InIdeal.Gen.dats m 0 c).arrAt 11 64, ?_, ?_⟩
  · exact Cert.InIdeal.Value.run_blocks m g
  · refine (θ_run _ _ _).mono (fun r h c => ?_) (Cert.InRefIdeal.Value.run (F := Ideal) m' g')
    obtain ⟨h3, h4, h5, h6, h7, h8, h9, h10, h11, ha, hb⟩ := h c
    obtain ⟨hx, hw⟩ := hargs c
    rw [hx, hw] at h3 h4 h5 h6 h7 h8 h9 h10 h11
    exact ⟨h3.trans (InFinal.final3 m c _ _ rfl rfl).symm,
      h4.trans (InFinal.final4 m c _ _ rfl rfl).symm,
      h5.trans (InFinal.final5 m c _ _ rfl rfl).symm,
      h6.trans (InFinal.final6 m c _ _ rfl rfl).symm,
      h7.trans (InFinal.final7 m c _ _ rfl rfl).symm,
      h8.trans (InFinal.final8 m c _ _ rfl rfl).symm,
      h9.trans (InFinal.final9 m c _ _ rfl rfl).symm,
      h10.trans (InFinal.final10 m c _ _ rfl rfl).symm,
      h11.trans (InFinal.final11 m c _ _ rfl rfl).symm, ha, hb⟩

theorem claim : Cert.Claim :=
  ⟨Cert.Kernel.Gen.facts, Cert.KernelIdeal.Gen.facts, Cert.ReferenceIdeal.Gen.facts, Cert.Tail.Gen.facts, Cert.TailIdeal.Gen.facts, Cert.TailRefIdeal.Gen.facts,
    Cert.Ffn.Gen.facts, Cert.FfnIdeal.Gen.facts, Cert.FfnRefIdeal.Gen.facts,
    Cert.In.Gen.facts, Cert.InIdeal.Gen.facts, Cert.InRefIdeal.Gen.facts, Pre.facts,
    fun m ρ _ => FrameK.frame m ρ, fun m ρ _ => FrameI.frame m ρ, fun m ρ _ => FrameI.frame m ρ,
    fun m ρ _ => frame_ri m ρ, fun m ρ _ => frame_ri m ρ,
    fun m ρ _ => Cert.Tail.Gen.frame m ρ, fun m ρ _ => Cert.TailIdeal.Gen.frame m ρ, frame_tail,
    fun m ρ _ => Cert.Ffn.Gen.frame m ρ, fun m ρ _ => Cert.FfnIdeal.Gen.frame m ρ, frame_ffn,
    fun m ρ _ => Cert.In.Gen.frame m ρ, fun m ρ _ => Cert.InIdeal.Gen.frame m ρ, frame_in,
    preserves, algebraic, trivial, algebraic_tail, trivial, algebraic_ffn, preserves_in, algebraic_in⟩

end Cert.Proof

end
